-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores [hPre_finite_scores : Cert.Pre_finite_scores.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scores [hPre_finite_scores : Cert.Pre_finite_scores.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_scores [hKernel3Ideal : Cert.Kernel3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_scores [hReference3Ideal : Cert.Reference3Ideal.Facts] [hPre_finite_scores : Cert.Pre_finite_scores.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v292) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)) (v5 : (c : Dev Cert.Kernel2Ideal.nD) → Buf (Elt Ideal) ((c.tc : Thread Cert.Kernel2Ideal.nD Cert.Kernel2Ideal.τ).loc Cert.Kernel2Ideal.main_v3_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_v3_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_v40) = v3 c
          ∧ r.2.mem ((c.tc : Thread Cert.Reference2Ideal.nD Cert.Reference2Ideal.τ).loc Cert.Reference2Ideal.main_v27) = v4 c
          ∧ r.2.mem ((c.tc : Thread Cert.Reference2Ideal.nD Cert.Reference2Ideal.τ).loc Cert.Reference2Ideal.main_v28) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_scores [hKernel3Ideal : Cert.Kernel3Ideal.Facts] [hReference3Ideal : Cert.Reference3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)) (v4 : (c : Dev Cert.Kernel5Ideal.nD) → Buf (Elt Ideal) ((c.tc : Thread Cert.Kernel5Ideal.nD Cert.Kernel5Ideal.τ).loc Cert.Kernel5Ideal.main_v4_4)) (v5 : (c : Dev Cert.Kernel5Ideal.nD) → Buf (Elt Ideal) ((c.tc : Thread Cert.Kernel5Ideal.nD Cert.Kernel5Ideal.τ).loc Cert.Kernel5Ideal.main_v4_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_v4_4) = v4 c
          ∧ r.2.mem ((c.tc : Thread Cert.Kernel5Ideal.nD Cert.Kernel5Ideal.τ).loc Cert.Kernel5Ideal.main_v4_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_v43) = v2 c
          ∧ r.2.mem ((c.tc : Thread Cert.Reference5Ideal.nD Cert.Reference5Ideal.τ).loc Cert.Reference5Ideal.main_v44) = v3 c
          ∧ r.2.mem ((c.tc : Thread Cert.Reference5Ideal.nD Cert.Reference5Ideal.τ).loc Cert.Reference5Ideal.main_v31) = v4 c
          ∧ r.2.mem ((c.tc : Thread Cert.Reference5Ideal.nD Cert.Reference5Ideal.τ).loc Cert.Reference5Ideal.main_v32) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)) →
    ∃ (v0 : (c : Dev Cert.Kernel7Ideal.nD) → Buf (Elt Ideal) ((c.tc : Thread Cert.Kernel7Ideal.nD Cert.Kernel7Ideal.τ).loc Cert.Kernel7Ideal.main_v13)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v279) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_scores (hKernel3Ideal := hKernel3Ideal) (hPre_finite_scores := hPre_finite_scores)
    ∧ quiescent_Reference3Ideal (hReference3Ideal := hReference3Ideal)
    ∧ quiescent_Reference3Ideal_pre_finite_scores (hReference3Ideal := hReference3Ideal) (hPre_finite_scores := hPre_finite_scores)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_scores (hKernel3Ideal := hKernel3Ideal) (hReference3Ideal := hReference3Ideal) (hPre_finite_scores := hPre_finite_scores)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S16x256x512 : Shape := ⟨3, ![16, 256, 512]⟩
abbrev S_ : Shape := ⟨0, ![]⟩

class Facts : Prop where
  bcast_S_S16x256x512 : S_.BroadcastsInDim S16x256x512 (![] : Fin 0 → Fin S16x256x512.rank)
  reducesTo_S16x256x512_S_d0_1_2 : S16x256x512.ReducesTo [0, 1, 2] S_
  h_S_ : 0 < S_.numel

variable [Facts]

def fn {F : FTy → Type} [FloatOps F] (main_arg0 : FVec F S16x256x512 .f32) (main_arg1 : FVec F S16x256x512 .f32) (main_arg2 : FVec F S16x256x512 .f32) : IVec S_ 1 :=
  let main_cst : FVec F S_ .f32 := constant S_ .f32 0xFF800000#32
  let main_v0 : FVec F S16x256x512 .f32 := broadcastInDim S16x256x512 ![] bcast_S_S16x256x512 main_cst
  let main_v1 : IVec S16x256x512 1 := cmpf .ogt main_arg0 main_v0
  let main_cst_0 : FVec F S_ .f32 := constant S_ .f32 0x7F800000#32
  let main_v2 : FVec F S16x256x512 .f32 := broadcastInDim S16x256x512 ![] bcast_S_S16x256x512 main_cst_0
  let main_v3 : IVec S16x256x512 1 := cmpf .olt main_arg0 main_v2
  let main_v4 : IVec S16x256x512 1 := andi main_v1 main_v3
  let main_c : IVec S_ 1 := constantI S_ 1 1#1
  let main_v5 : IVec S_ 1 := (fun x v => Host.reduce IntOp.andi x v reducesTo_S16x256x512_S_d0_1_2 h_S_) main_v4 main_c
  let main_cst_1 : FVec F S_ .f32 := constant S_ .f32 0xFF800000#32
  let main_v6 : FVec F S16x256x512 .f32 := broadcastInDim S16x256x512 ![] bcast_S_S16x256x512 main_cst_1
  let main_v7 : IVec S16x256x512 1 := cmpf .ogt main_arg1 main_v6
  let main_cst_2 : FVec F S_ .f32 := constant S_ .f32 0x7F800000#32
  let main_v8 : FVec F S16x256x512 .f32 := broadcastInDim S16x256x512 ![] bcast_S_S16x256x512 main_cst_2
  let main_v9 : IVec S16x256x512 1 := cmpf .olt main_arg1 main_v8
  let main_v10 : IVec S16x256x512 1 := andi main_v7 main_v9
  let main_c_3 : IVec S_ 1 := constantI S_ 1 1#1
  let main_v11 : IVec S_ 1 := (fun x v => Host.reduce IntOp.andi x v reducesTo_S16x256x512_S_d0_1_2 h_S_) main_v10 main_c_3
  let main_v12 : IVec S_ 1 := andi main_v5 main_v11
  main_v12
-- ==== Kernel.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S31x256 : Shape := ⟨2, ![31, 256]⟩
abbrev S256 : Shape := ⟨1, ![256]⟩
abbrev S16x6x1024 : Shape := ⟨3, ![16, 6, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256 : Shape := ⟨2, ![1, 256]⟩
abbrev S1x512x1024 : Shape := ⟨3, ![1, 512, 1024]⟩
abbrev S1x2048x256 : Shape := ⟨3, ![1, 2048, 256]⟩
abbrev S1x512x512 : Shape := ⟨3, ![1, 512, 512]⟩
abbrev S1x512x256 : Shape := ⟨3, ![1, 512, 256]⟩
abbrev S1x6x1024 : Shape := ⟨3, ![1, 6, 1024]⟩
abbrev S2x512x256 : Shape := ⟨3, ![2, 512, 256]⟩
abbrev S31x8x256 : Shape := ⟨3, ![31, 8, 256]⟩
abbrev S8x256 : Shape := ⟨2, ![8, 256]⟩
abbrev S1x8x256 : Shape := ⟨3, ![1, 8, 256]⟩
abbrev S128x256 : Shape := ⟨2, ![128, 256]⟩
abbrev S128 : Shape := ⟨1, ![128]⟩
abbrev S128x1 : Shape := ⟨2, ![128, 1]⟩
abbrev S1x128x256 : Shape := ⟨3, ![1, 128, 256]⟩
abbrev S512x1024 : Shape := ⟨2, ![512, 1024]⟩
abbrev S512x256 : Shape := ⟨2, ![512, 256]⟩
abbrev S512x512 : Shape := ⟨2, ![512, 512]⟩
abbrev S1x256x1024 : Shape := ⟨3, ![1, 256, 1024]⟩
abbrev S256x1024 : Shape := ⟨2, ![256, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 28
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x512, .f32⟩
  | .hbm, ⟨3, _⟩ => ⟨S16x2048x256, .f32⟩
  | .hbm, ⟨4, _⟩ => ⟨S31x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S16x6x1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x4096, .f32⟩
  | .hbm, ⟨13, _⟩ => ⟨S4096x1024, .f32⟩
  | .hbm, ⟨14, _⟩ => ⟨S16x2048x512, .bf16⟩
  | .hbm, ⟨15, _⟩ => ⟨S16x2048x256, .bf16⟩
  | .hbm, ⟨16, _⟩ => ⟨S1x1024, .f32⟩
  | .hbm, ⟨17, _⟩ => ⟨S1x1024, .f32⟩
  | .hbm, ⟨18, _⟩ => ⟨S1024x1024, .bf16⟩
  | .hbm, ⟨19, _⟩ => ⟨S1x1024x1024, .bf16⟩
  | .hbm, ⟨20, _⟩ => ⟨S1024x4096, .bf16⟩
  | .hbm, ⟨21, _⟩ => ⟨S1x1024x4096, .bf16⟩
  | .hbm, ⟨22, _⟩ => ⟨S4096x1024, .bf16⟩
  | .hbm, ⟨23, _⟩ => ⟨S1x4096x1024, .bf16⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x2048x256, .f32⟩
  | .local _ .vmem, ⟨3, _⟩ => ⟨S1x2048x256, .f32⟩
  | .local _ .vmem, ⟨4, _⟩ => ⟨S1x512x512, .bf16⟩
  | .local _ .vmem, ⟨5, _⟩ => ⟨S1x512x512, .bf16⟩
  | .local _ .vmem, ⟨6, _⟩ => ⟨S1x512x256, .bf16⟩
  | .local _ .vmem, ⟨7, _⟩ => ⟨S1x512x256, .bf16⟩
  | .local _ .vmem, ⟨8, _⟩ => ⟨S31x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S1x1024, .f32⟩
  | .local _ .vmem, ⟨16, _⟩ => ⟨S1x1024x1024, .bf16⟩
  | .local _ .vmem, ⟨17, _⟩ => ⟨S1x1024x4096, .bf16⟩
  | .local _ .vmem, ⟨18, _⟩ => ⟨S1x4096x1024, .bf16⟩
  | .local _ .vmem, ⟨19, _⟩ => ⟨S1x512x1024, .f32⟩
  | .local _ .vmem, ⟨20, _⟩ => ⟨S1x512x1024, .f32⟩
  | .local _ .vmem, ⟨21, _⟩ => ⟨S2x512x256, .bf16⟩
  | .local _ .vmem, ⟨22, _⟩ => ⟨S31x8x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_129 : BitVec 32 := 0#32
  let v203 : BitVec 1 := Scalar.cmpi .eq v1 c0_i32_129
  let v204 : BitVec 32 := Scalar.extui v203
  let c0_i32_130 : BitVec 32 := 0#32
  let v205 : BitVec 1 := Scalar.cmpi .ne v204 c0_i32_130
  v205

def k0_mult1 : BitVec 32 :=
  let c_m16_i32_3166 : BitVec 32 := 4294967280#32
  let c0_i32_3167 : BitVec 32 := 0#32
  let v8035 : BitVec 32 := Scalar.maxsi c_m16_i32_3166 c0_i32_3167
  v8035
def k0_off1 (c_m16_i32_3166 : BitVec 32) : Fin 3 → Nat :=
  let c0_3168 : Index := 0#32
  let c0_i32_3167 : BitVec 32 := 0#32
  let v8035 : BitVec 32 := Scalar.maxsi c_m16_i32_3166 c0_i32_3167
  let v8036 : BitVec 32 := v8035
  let v8037 : Index := Scalar.indexCast v8036
  let c0_3169 : Index := 0#32
  ![0, v8037.toNat, 0]
def k0_mult2 : BitVec 32 :=
  let c_m8_i32 : BitVec 32 := 4294967288#32
  let c0_i32_3170 : BitVec 32 := 0#32
  let v8041 : BitVec 32 := Scalar.maxsi c_m8_i32 c0_i32_3170
  v8041
def k0_mult3 : BitVec 32 :=
  let c0_i32_3174 : BitVec 32 := 0#32
  c0_i32_3174
def k0_mult4 : BitVec 32 :=
  let c8_i32_3177 : BitVec 32 := 8#32
  c8_i32_3177
def k0_mult5 : BitVec 32 :=
  let c16_i32_3180 : BitVec 32 := 16#32
  c16_i32_3180
def k0_mult6 : BitVec 32 :=
  let c24_i32_3183 : BitVec 32 := 24#32
  c24_i32_3183
def k0_mult7 : BitVec 32 :=
  let c32_i32_3186 : BitVec 32 := 32#32
  c32_i32_3186
def k0_mult8 : BitVec 32 :=
  let c40_i32_3189 : BitVec 32 := 40#32
  c40_i32_3189
def k0_mult9 : BitVec 32 :=
  let c16_i32_3348 : BitVec 32 := 16#32
  c16_i32_3348
def k0_mult10 : BitVec 32 :=
  let c24_i32_3351 : BitVec 32 := 24#32
  c24_i32_3351
def k0_mult11 : BitVec 32 :=
  let c32_i32_3354 : BitVec 32 := 32#32
  c32_i32_3354
def k0_mult12 : BitVec 32 :=
  let c40_i32_3357 : BitVec 32 := 40#32
  c40_i32_3357
def k0_mult13 : BitVec 32 :=
  let c48_i32_3360 : BitVec 32 := 48#32
  c48_i32_3360
def k0_mult14 : BitVec 32 :=
  let c56_i32_3363 : BitVec 32 := 56#32
  c56_i32_3363
def k0_mult15 : BitVec 32 :=
  let c64_i32 : BitVec 32 := 64#32
  c64_i32
def k0_mult16 : BitVec 32 :=
  let c72_i32 : BitVec 32 := 72#32
  c72_i32
def k0_mult17 : BitVec 32 :=
  let c48_i32_3526 : BitVec 32 := 48#32
  c48_i32_3526
def k0_mult18 : BitVec 32 :=
  let c56_i32_3529 : BitVec 32 := 56#32
  c56_i32_3529
def k0_mult19 : BitVec 32 :=
  let c64_i32_3532 : BitVec 32 := 64#32
  c64_i32_3532
def k0_mult20 : BitVec 32 :=
  let c72_i32_3535 : BitVec 32 := 72#32
  c72_i32_3535
def k0_mult21 : BitVec 32 :=
  let c80_i32_3538 : BitVec 32 := 80#32
  c80_i32_3538
def k0_mult22 : BitVec 32 :=
  let c88_i32 : BitVec 32 := 88#32
  c88_i32
def k0_mult23 : BitVec 32 :=
  let c96_i32 : BitVec 32 := 96#32
  c96_i32
def k0_mult24 : BitVec 32 :=
  let c104_i32 : BitVec 32 := 104#32
  c104_i32
def k0_mult25 : BitVec 32 :=
  let c80_i32_3703 : BitVec 32 := 80#32
  c80_i32_3703
def k0_mult26 : BitVec 32 :=
  let c88_i32_3706 : BitVec 32 := 88#32
  c88_i32_3706
def k0_mult27 : BitVec 32 :=
  let c96_i32_3709 : BitVec 32 := 96#32
  c96_i32_3709
def k0_mult28 : BitVec 32 :=
  let c104_i32_3712 : BitVec 32 := 104#32
  c104_i32_3712
def k0_mult29 : BitVec 32 :=
  let c112_i32_3715 : BitVec 32 := 112#32
  c112_i32_3715
def k0_mult30 : BitVec 32 :=
  let c120_i32 : BitVec 32 := 120#32
  c120_i32
def k0_mult31 : BitVec 32 :=
  let c128_i32 : BitVec 32 := 128#32
  c128_i32
def k0_mult32 : BitVec 32 :=
  let c136_i32 : BitVec 32 := 136#32
  c136_i32
def k0_mult33 : BitVec 32 :=
  let c112_i32_3895 : BitVec 32 := 112#32
  c112_i32_3895
def k0_mult34 : BitVec 32 :=
  let c120_i32_3898 : BitVec 32 := 120#32
  c120_i32_3898
def k0_mult35 : BitVec 32 :=
  let c128_i32_3901 : BitVec 32 := 128#32
  c128_i32_3901
def k0_mult36 : BitVec 32 :=
  let c136_i32_3904 : BitVec 32 := 136#32
  c136_i32_3904
def k0_mult37 : BitVec 32 :=
  let c144_i32_3907 : BitVec 32 := 144#32
  c144_i32_3907
def k0_mult38 : BitVec 32 :=
  let c152_i32 : BitVec 32 := 152#32
  c152_i32
def k0_mult39 : BitVec 32 :=
  let c160_i32 : BitVec 32 := 160#32
  c160_i32
def k0_mult40 : BitVec 32 :=
  let c168_i32 : BitVec 32 := 168#32
  c168_i32
def k0_mult41 : BitVec 32 :=
  let c144_i32_4072 : BitVec 32 := 144#32
  c144_i32_4072
def k0_mult42 : BitVec 32 :=
  let c152_i32_4075 : BitVec 32 := 152#32
  c152_i32_4075
def k0_mult43 : BitVec 32 :=
  let c160_i32_4078 : BitVec 32 := 160#32
  c160_i32_4078
def k0_mult44 : BitVec 32 :=
  let c168_i32_4081 : BitVec 32 := 168#32
  c168_i32_4081
def k0_mult45 : BitVec 32 :=
  let c176_i32_4084 : BitVec 32 := 176#32
  c176_i32_4084
def k0_mult46 : BitVec 32 :=
  let c184_i32 : BitVec 32 := 184#32
  c184_i32
def k0_mult47 : BitVec 32 :=
  let c192_i32 : BitVec 32 := 192#32
  c192_i32
def k0_mult48 : BitVec 32 :=
  let c200_i32 : BitVec 32 := 200#32
  c200_i32
def k0_mult49 : BitVec 32 :=
  let c176_i32_4249 : BitVec 32 := 176#32
  c176_i32_4249
def k0_mult50 : BitVec 32 :=
  let c184_i32_4252 : BitVec 32 := 184#32
  c184_i32_4252
def k0_mult51 : BitVec 32 :=
  let c192_i32_4255 : BitVec 32 := 192#32
  c192_i32_4255
def k0_mult52 : BitVec 32 :=
  let c200_i32_4258 : BitVec 32 := 200#32
  c200_i32_4258
def k0_mult53 : BitVec 32 :=
  let c208_i32_4261 : BitVec 32 := 208#32
  c208_i32_4261
def k0_mult54 : BitVec 32 :=
  let c216_i32 : BitVec 32 := 216#32
  c216_i32
def k0_mult55 : BitVec 32 :=
  let c224_i32 : BitVec 32 := 224#32
  c224_i32
def k0_mult56 : BitVec 32 :=
  let c232_i32 : BitVec 32 := 232#32
  c232_i32
def k0_mult57 : BitVec 32 :=
  let c208_i32_4426 : BitVec 32 := 208#32
  c208_i32_4426
def k0_mult58 : BitVec 32 :=
  let c216_i32_4429 : BitVec 32 := 216#32
  c216_i32_4429
def k0_mult59 : BitVec 32 :=
  let c224_i32_4432 : BitVec 32 := 224#32
  c224_i32_4432
def k0_mult60 : BitVec 32 :=
  let c232_i32_4435 : BitVec 32 := 232#32
  c232_i32_4435
def k0_mult61 : BitVec 32 :=
  let c240_i32_4438 : BitVec 32 := 240#32
  c240_i32_4438
def k0_mult62 : BitVec 32 :=
  let c248_i32 : BitVec 32 := 248#32
  c248_i32
def k0_mult63 : BitVec 32 :=
  let c256_i32 : BitVec 32 := 256#32
  c256_i32
def k0_mult64 : BitVec 32 :=
  let c264_i32 : BitVec 32 := 264#32
  c264_i32
def k0_mult65 : BitVec 32 :=
  let c240_i32_4618 : BitVec 32 := 240#32
  c240_i32_4618
def k0_mult66 : BitVec 32 :=
  let c248_i32_4621 : BitVec 32 := 248#32
  c248_i32_4621
def k0_mult67 : BitVec 32 :=
  let c256_i32_4624 : BitVec 32 := 256#32
  c256_i32_4624
def k0_mult68 : BitVec 32 :=
  let c264_i32_4627 : BitVec 32 := 264#32
  c264_i32_4627
def k0_mult69 : BitVec 32 :=
  let c272_i32_4630 : BitVec 32 := 272#32
  c272_i32_4630
def k0_mult70 : BitVec 32 :=
  let c280_i32 : BitVec 32 := 280#32
  c280_i32
def k0_mult71 : BitVec 32 :=
  let c288_i32 : BitVec 32 := 288#32
  c288_i32
def k0_mult72 : BitVec 32 :=
  let c296_i32 : BitVec 32 := 296#32
  c296_i32
def k0_mult73 : BitVec 32 :=
  let c272_i32_4795 : BitVec 32 := 272#32
  c272_i32_4795
def k0_mult74 : BitVec 32 :=
  let c280_i32_4798 : BitVec 32 := 280#32
  c280_i32_4798
def k0_mult75 : BitVec 32 :=
  let c288_i32_4801 : BitVec 32 := 288#32
  c288_i32_4801
def k0_mult76 : BitVec 32 :=
  let c296_i32_4804 : BitVec 32 := 296#32
  c296_i32_4804
def k0_mult77 : BitVec 32 :=
  let c304_i32_4807 : BitVec 32 := 304#32
  c304_i32_4807
def k0_mult78 : BitVec 32 :=
  let c312_i32 : BitVec 32 := 312#32
  c312_i32
def k0_mult79 : BitVec 32 :=
  let c320_i32 : BitVec 32 := 320#32
  c320_i32
def k0_mult80 : BitVec 32 :=
  let c328_i32 : BitVec 32 := 328#32
  c328_i32
def k0_mult81 : BitVec 32 :=
  let c304_i32_4972 : BitVec 32 := 304#32
  c304_i32_4972
def k0_mult82 : BitVec 32 :=
  let c312_i32_4975 : BitVec 32 := 312#32
  c312_i32_4975
def k0_mult83 : BitVec 32 :=
  let c320_i32_4978 : BitVec 32 := 320#32
  c320_i32_4978
def k0_mult84 : BitVec 32 :=
  let c328_i32_4981 : BitVec 32 := 328#32
  c328_i32_4981
def k0_mult85 : BitVec 32 :=
  let c336_i32_4984 : BitVec 32 := 336#32
  c336_i32_4984
def k0_mult86 : BitVec 32 :=
  let c344_i32 : BitVec 32 := 344#32
  c344_i32
def k0_mult87 : BitVec 32 :=
  let c352_i32 : BitVec 32 := 352#32
  c352_i32
def k0_mult88 : BitVec 32 :=
  let c360_i32 : BitVec 32 := 360#32
  c360_i32
def k0_mult89 : BitVec 32 :=
  let c336_i32_5149 : BitVec 32 := 336#32
  c336_i32_5149
def k0_mult90 : BitVec 32 :=
  let c344_i32_5152 : BitVec 32 := 344#32
  c344_i32_5152
def k0_mult91 : BitVec 32 :=
  let c352_i32_5155 : BitVec 32 := 352#32
  c352_i32_5155
def k0_mult92 : BitVec 32 :=
  let c360_i32_5158 : BitVec 32 := 360#32
  c360_i32_5158
def k0_mult93 : BitVec 32 :=
  let c368_i32_5161 : BitVec 32 := 368#32
  c368_i32_5161
def k0_mult94 : BitVec 32 :=
  let c376_i32 : BitVec 32 := 376#32
  c376_i32
def k0_mult95 : BitVec 32 :=
  let c384_i32 : BitVec 32 := 384#32
  c384_i32
def k0_mult96 : BitVec 32 :=
  let c392_i32 : BitVec 32 := 392#32
  c392_i32
def k0_mult97 : BitVec 32 :=
  let c368_i32_5341 : BitVec 32 := 368#32
  c368_i32_5341
def k0_mult98 : BitVec 32 :=
  let c376_i32_5344 : BitVec 32 := 376#32
  c376_i32_5344
def k0_mult99 : BitVec 32 :=
  let c384_i32_5347 : BitVec 32 := 384#32
  c384_i32_5347
def k0_mult100 : BitVec 32 :=
  let c392_i32_5350 : BitVec 32 := 392#32
  c392_i32_5350
def k0_mult101 : BitVec 32 :=
  let c400_i32_5353 : BitVec 32 := 400#32
  c400_i32_5353
def k0_mult102 : BitVec 32 :=
  let c408_i32 : BitVec 32 := 408#32
  c408_i32
def k0_mult103 : BitVec 32 :=
  let c416_i32 : BitVec 32 := 416#32
  c416_i32
def k0_mult104 : BitVec 32 :=
  let c424_i32 : BitVec 32 := 424#32
  c424_i32
def k0_mult105 : BitVec 32 :=
  let c400_i32_5518 : BitVec 32 := 400#32
  c400_i32_5518
def k0_mult106 : BitVec 32 :=
  let c408_i32_5521 : BitVec 32 := 408#32
  c408_i32_5521
def k0_mult107 : BitVec 32 :=
  let c416_i32_5524 : BitVec 32 := 416#32
  c416_i32_5524
def k0_mult108 : BitVec 32 :=
  let c424_i32_5527 : BitVec 32 := 424#32
  c424_i32_5527
def k0_mult109 : BitVec 32 :=
  let c432_i32_5530 : BitVec 32 := 432#32
  c432_i32_5530
def k0_mult110 : BitVec 32 :=
  let c440_i32 : BitVec 32 := 440#32
  c440_i32
def k0_mult111 : BitVec 32 :=
  let c448_i32 : BitVec 32 := 448#32
  c448_i32
def k0_mult112 : BitVec 32 :=
  let c456_i32 : BitVec 32 := 456#32
  c456_i32
def k0_mult113 : BitVec 32 :=
  let c432_i32_5695 : BitVec 32 := 432#32
  c432_i32_5695
def k0_mult114 : BitVec 32 :=
  let c440_i32_5698 : BitVec 32 := 440#32
  c440_i32_5698
def k0_mult115 : BitVec 32 :=
  let c448_i32_5701 : BitVec 32 := 448#32
  c448_i32_5701
def k0_mult116 : BitVec 32 :=
  let c456_i32_5704 : BitVec 32 := 456#32
  c456_i32_5704
def k0_mult117 : BitVec 32 :=
  let c464_i32_5707 : BitVec 32 := 464#32
  c464_i32_5707
def k0_mult118 : BitVec 32 :=
  let c472_i32 : BitVec 32 := 472#32
  c472_i32
def k0_mult119 : BitVec 32 :=
  let c480_i32 : BitVec 32 := 480#32
  c480_i32
def k0_mult120 : BitVec 32 :=
  let c488_i32 : BitVec 32 := 488#32
  c488_i32
def k0_mult121 : BitVec 32 :=
  let c464_i32_5872 : BitVec 32 := 464#32
  c464_i32_5872
def k0_mult122 : BitVec 32 :=
  let c472_i32_5875 : BitVec 32 := 472#32
  c472_i32_5875
def k0_mult123 : BitVec 32 :=
  let c480_i32_5878 : BitVec 32 := 480#32
  c480_i32_5878
def k0_mult124 : BitVec 32 :=
  let c488_i32_5881 : BitVec 32 := 488#32
  c488_i32_5881
def k0_mult125 : BitVec 32 :=
  let c496_i32 : BitVec 32 := 496#32
  c496_i32
def k0_mult126 : BitVec 32 :=
  let c504_i32 : BitVec 32 := 504#32
  c504_i32
def k0_mult127 : BitVec 32 :=
  let c512_i32_5888 : BitVec 32 := 512#32
  let c2040_i32_5889 : BitVec 32 := 2040#32
  let v15089 : BitVec 32 := Scalar.minsi c512_i32_5888 c2040_i32_5889
  v15089
def k0_off2 (c512_i32_5888 : BitVec 32) : Fin 3 → Nat :=
  let c0_5890 : Index := 0#32
  let c2040_i32_5889 : BitVec 32 := 2040#32
  let v15089 : BitVec 32 := Scalar.minsi c512_i32_5888 c2040_i32_5889
  let v15090 : BitVec 32 := v15089
  let v15091 : Index := Scalar.indexCast v15090
  let c0_5891 : Index := 0#32
  ![0, v15091.toNat, 0]
def k0_mult128 : BitVec 32 :=
  let c520_i32 : BitVec 32 := 520#32
  let c2040_i32_5892 : BitVec 32 := 2040#32
  let v15095 : BitVec 32 := Scalar.minsi c520_i32 c2040_i32_5892
  v15095
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v208 : Index := Scalar.indexCast v11
  let c0_134 : Index := 0#32
  let c0_135 : Index := 0#32
  ![v208.toNat, 0, 0]
def k0_mult129 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32 : BitVec 32 := 512#32
  let v338 : BitVec 32 := Scalar.muli v334 c512_i32
  let c_m16_i32 : BitVec 32 := 4294967280#32
  let v339 : BitVec 32 := Scalar.addi v338 c_m16_i32
  let c0_i32_221 : BitVec 32 := 0#32
  let v340 : BitVec 32 := Scalar.addi v339 c0_i32_221
  let c0_i32_222 : BitVec 32 := 0#32
  let v341 : BitVec 32 := Scalar.maxsi v340 c0_i32_222
  v341
def k0_off4 (i : grid0.Coords) (c0_i32_221 : BitVec 32) : Fin 3 → Nat :=
  let c0_223 : Index := 0#32
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32 : BitVec 32 := 512#32
  let v338 : BitVec 32 := Scalar.muli v334 c512_i32
  let c_m16_i32 : BitVec 32 := 4294967280#32
  let v339 : BitVec 32 := Scalar.addi v338 c_m16_i32
  let v340 : BitVec 32 := Scalar.addi v339 c0_i32_221
  let c0_i32_222 : BitVec 32 := 0#32
  let v341 : BitVec 32 := Scalar.maxsi v340 c0_i32_222
  let v342 : BitVec 32 := v341
  let v343 : Index := Scalar.indexCast v342
  let c0_224 : Index := 0#32
  ![0, v343.toNat, 0]
def k0_mult130 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32 : BitVec 32 := 512#32
  let v338 : BitVec 32 := Scalar.muli v334 c512_i32
  let c_m16_i32 : BitVec 32 := 4294967280#32
  let v339 : BitVec 32 := Scalar.addi v338 c_m16_i32
  let c8_i32 : BitVec 32 := 8#32
  let v347 : BitVec 32 := Scalar.addi v339 c8_i32
  let c0_i32_225 : BitVec 32 := 0#32
  let v348 : BitVec 32 := Scalar.maxsi v347 c0_i32_225
  v348
def k0_mult131 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32 : BitVec 32 := 512#32
  let v338 : BitVec 32 := Scalar.muli v334 c512_i32
  let c_m16_i32 : BitVec 32 := 4294967280#32
  let v339 : BitVec 32 := Scalar.addi v338 c_m16_i32
  let c16_i32 : BitVec 32 := 16#32
  let v354 : BitVec 32 := Scalar.addi v339 c16_i32
  v354
def k0_off5 (i : grid0.Coords) (c_m16_i32 : BitVec 32) (c16_i32 : BitVec 32) : Fin 3 → Nat :=
  let c0_228 : Index := 0#32
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32 : BitVec 32 := 512#32
  let v338 : BitVec 32 := Scalar.muli v334 c512_i32
  let v339 : BitVec 32 := Scalar.addi v338 c_m16_i32
  let v354 : BitVec 32 := Scalar.addi v339 c16_i32
  let v355 : BitVec 32 := v354
  let v356 : Index := Scalar.indexCast v355
  let c0_229 : Index := 0#32
  ![0, v356.toNat, 0]
def k0_off5_at (r : Fin 124) : BitVec 32 × BitVec 32 :=
  if r.val < 62 then
    if r.val < 31 then
      if r.val < 15 then
        if r.val < 7 then
          if r.val < 3 then
            if r.val < 1 then
              (4294967280#32, 16#32)
            else
              if r.val < 2 then
                (4294967280#32, 24#32)
              else
                (4294967280#32, 32#32)
          else
            if r.val < 5 then
              if r.val < 4 then
                (4294967280#32, 40#32)
              else
                (4294967280#32, 48#32)
            else
              if r.val < 6 then
                (4294967280#32, 56#32)
              else
                (16#32, 0#32)
        else
          if r.val < 11 then
            if r.val < 9 then
              if r.val < 8 then
                (16#32, 8#32)
              else
                (16#32, 16#32)
            else
              if r.val < 10 then
                (16#32, 24#32)
              else
                (16#32, 32#32)
          else
            if r.val < 13 then
              if r.val < 12 then
                (16#32, 40#32)
              else
                (16#32, 48#32)
            else
              if r.val < 14 then
                (16#32, 56#32)
              else
                (48#32, 0#32)
      else
        if r.val < 23 then
          if r.val < 19 then
            if r.val < 17 then
              if r.val < 16 then
                (48#32, 8#32)
              else
                (48#32, 16#32)
            else
              if r.val < 18 then
                (48#32, 24#32)
              else
                (48#32, 32#32)
          else
            if r.val < 21 then
              if r.val < 20 then
                (48#32, 40#32)
              else
                (48#32, 48#32)
            else
              if r.val < 22 then
                (48#32, 56#32)
              else
                (80#32, 0#32)
        else
          if r.val < 27 then
            if r.val < 25 then
              if r.val < 24 then
                (80#32, 8#32)
              else
                (80#32, 16#32)
            else
              if r.val < 26 then
                (80#32, 24#32)
              else
                (80#32, 32#32)
          else
            if r.val < 29 then
              if r.val < 28 then
                (80#32, 40#32)
              else
                (80#32, 48#32)
            else
              if r.val < 30 then
                (80#32, 56#32)
              else
                (112#32, 0#32)
    else
      if r.val < 46 then
        if r.val < 38 then
          if r.val < 34 then
            if r.val < 32 then
              (112#32, 8#32)
            else
              if r.val < 33 then
                (112#32, 16#32)
              else
                (112#32, 24#32)
          else
            if r.val < 36 then
              if r.val < 35 then
                (112#32, 32#32)
              else
                (112#32, 40#32)
            else
              if r.val < 37 then
                (112#32, 48#32)
              else
                (112#32, 56#32)
        else
          if r.val < 42 then
            if r.val < 40 then
              if r.val < 39 then
                (144#32, 0#32)
              else
                (144#32, 8#32)
            else
              if r.val < 41 then
                (144#32, 16#32)
              else
                (144#32, 24#32)
          else
            if r.val < 44 then
              if r.val < 43 then
                (144#32, 32#32)
              else
                (144#32, 40#32)
            else
              if r.val < 45 then
                (144#32, 48#32)
              else
                (144#32, 56#32)
      else
        if r.val < 54 then
          if r.val < 50 then
            if r.val < 48 then
              if r.val < 47 then
                (176#32, 0#32)
              else
                (176#32, 8#32)
            else
              if r.val < 49 then
                (176#32, 16#32)
              else
                (176#32, 24#32)
          else
            if r.val < 52 then
              if r.val < 51 then
                (176#32, 32#32)
              else
                (176#32, 40#32)
            else
              if r.val < 53 then
                (176#32, 48#32)
              else
                (176#32, 56#32)
        else
          if r.val < 58 then
            if r.val < 56 then
              if r.val < 55 then
                (208#32, 0#32)
              else
                (208#32, 8#32)
            else
              if r.val < 57 then
                (208#32, 16#32)
              else
                (208#32, 24#32)
          else
            if r.val < 60 then
              if r.val < 59 then
                (208#32, 32#32)
              else
                (208#32, 40#32)
            else
              if r.val < 61 then
                (208#32, 48#32)
              else
                (208#32, 56#32)
  else
    if r.val < 93 then
      if r.val < 77 then
        if r.val < 69 then
          if r.val < 65 then
            if r.val < 63 then
              (240#32, 0#32)
            else
              if r.val < 64 then
                (240#32, 8#32)
              else
                (240#32, 16#32)
          else
            if r.val < 67 then
              if r.val < 66 then
                (240#32, 24#32)
              else
                (240#32, 32#32)
            else
              if r.val < 68 then
                (240#32, 40#32)
              else
                (240#32, 48#32)
        else
          if r.val < 73 then
            if r.val < 71 then
              if r.val < 70 then
                (240#32, 56#32)
              else
                (272#32, 0#32)
            else
              if r.val < 72 then
                (272#32, 8#32)
              else
                (272#32, 16#32)
          else
            if r.val < 75 then
              if r.val < 74 then
                (272#32, 24#32)
              else
                (272#32, 32#32)
            else
              if r.val < 76 then
                (272#32, 40#32)
              else
                (272#32, 48#32)
      else
        if r.val < 85 then
          if r.val < 81 then
            if r.val < 79 then
              if r.val < 78 then
                (272#32, 56#32)
              else
                (304#32, 0#32)
            else
              if r.val < 80 then
                (304#32, 8#32)
              else
                (304#32, 16#32)
          else
            if r.val < 83 then
              if r.val < 82 then
                (304#32, 24#32)
              else
                (304#32, 32#32)
            else
              if r.val < 84 then
                (304#32, 40#32)
              else
                (304#32, 48#32)
        else
          if r.val < 89 then
            if r.val < 87 then
              if r.val < 86 then
                (304#32, 56#32)
              else
                (336#32, 0#32)
            else
              if r.val < 88 then
                (336#32, 8#32)
              else
                (336#32, 16#32)
          else
            if r.val < 91 then
              if r.val < 90 then
                (336#32, 24#32)
              else
                (336#32, 32#32)
            else
              if r.val < 92 then
                (336#32, 40#32)
              else
                (336#32, 48#32)
    else
      if r.val < 108 then
        if r.val < 100 then
          if r.val < 96 then
            if r.val < 94 then
              (336#32, 56#32)
            else
              if r.val < 95 then
                (368#32, 0#32)
              else
                (368#32, 8#32)
          else
            if r.val < 98 then
              if r.val < 97 then
                (368#32, 16#32)
              else
                (368#32, 24#32)
            else
              if r.val < 99 then
                (368#32, 32#32)
              else
                (368#32, 40#32)
        else
          if r.val < 104 then
            if r.val < 102 then
              if r.val < 101 then
                (368#32, 48#32)
              else
                (368#32, 56#32)
            else
              if r.val < 103 then
                (400#32, 0#32)
              else
                (400#32, 8#32)
          else
            if r.val < 106 then
              if r.val < 105 then
                (400#32, 16#32)
              else
                (400#32, 24#32)
            else
              if r.val < 107 then
                (400#32, 32#32)
              else
                (400#32, 40#32)
      else
        if r.val < 116 then
          if r.val < 112 then
            if r.val < 110 then
              if r.val < 109 then
                (400#32, 48#32)
              else
                (400#32, 56#32)
            else
              if r.val < 111 then
                (432#32, 0#32)
              else
                (432#32, 8#32)
          else
            if r.val < 114 then
              if r.val < 113 then
                (432#32, 16#32)
              else
                (432#32, 24#32)
            else
              if r.val < 115 then
                (432#32, 32#32)
              else
                (432#32, 40#32)
        else
          if r.val < 120 then
            if r.val < 118 then
              if r.val < 117 then
                (432#32, 48#32)
              else
                (432#32, 56#32)
            else
              if r.val < 119 then
                (464#32, 0#32)
              else
                (464#32, 8#32)
          else
            if r.val < 122 then
              if r.val < 121 then
                (464#32, 16#32)
              else
                (464#32, 24#32)
            else
              if r.val < 123 then
                (464#32, 32#32)
              else
                (464#32, 40#32)
def k0_mult132 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32 : BitVec 32 := 512#32
  let v338 : BitVec 32 := Scalar.muli v334 c512_i32
  let c_m16_i32 : BitVec 32 := 4294967280#32
  let v339 : BitVec 32 := Scalar.addi v338 c_m16_i32
  let c24_i32 : BitVec 32 := 24#32
  let v359 : BitVec 32 := Scalar.addi v339 c24_i32
  v359
def k0_mult133 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32 : BitVec 32 := 512#32
  let v338 : BitVec 32 := Scalar.muli v334 c512_i32
  let c_m16_i32 : BitVec 32 := 4294967280#32
  let v339 : BitVec 32 := Scalar.addi v338 c_m16_i32
  let c32_i32 : BitVec 32 := 32#32
  let v364 : BitVec 32 := Scalar.addi v339 c32_i32
  v364
def k0_mult134 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32 : BitVec 32 := 512#32
  let v338 : BitVec 32 := Scalar.muli v334 c512_i32
  let c_m16_i32 : BitVec 32 := 4294967280#32
  let v339 : BitVec 32 := Scalar.addi v338 c_m16_i32
  let c40_i32 : BitVec 32 := 40#32
  let v369 : BitVec 32 := Scalar.addi v339 c40_i32
  v369
def k0_mult135 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32 : BitVec 32 := 512#32
  let v338 : BitVec 32 := Scalar.muli v334 c512_i32
  let c_m16_i32 : BitVec 32 := 4294967280#32
  let v339 : BitVec 32 := Scalar.addi v338 c_m16_i32
  let c48_i32 : BitVec 32 := 48#32
  let v374 : BitVec 32 := Scalar.addi v339 c48_i32
  v374
def k0_mult136 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32 : BitVec 32 := 512#32
  let v338 : BitVec 32 := Scalar.muli v334 c512_i32
  let c_m16_i32 : BitVec 32 := 4294967280#32
  let v339 : BitVec 32 := Scalar.addi v338 c_m16_i32
  let c56_i32 : BitVec 32 := 56#32
  let v379 : BitVec 32 := Scalar.addi v339 c56_i32
  v379
def k0_mult137 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_393 : BitVec 32 := 512#32
  let v813 : BitVec 32 := Scalar.muli v334 c512_i32_393
  let c16_i32_394 : BitVec 32 := 16#32
  let v814 : BitVec 32 := Scalar.addi v813 c16_i32_394
  let c0_i32_395 : BitVec 32 := 0#32
  let v815 : BitVec 32 := Scalar.addi v814 c0_i32_395
  v815
def k0_mult138 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_393 : BitVec 32 := 512#32
  let v813 : BitVec 32 := Scalar.muli v334 c512_i32_393
  let c16_i32_394 : BitVec 32 := 16#32
  let v814 : BitVec 32 := Scalar.addi v813 c16_i32_394
  let c8_i32_398 : BitVec 32 := 8#32
  let v820 : BitVec 32 := Scalar.addi v814 c8_i32_398
  v820
def k0_mult139 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_393 : BitVec 32 := 512#32
  let v813 : BitVec 32 := Scalar.muli v334 c512_i32_393
  let c16_i32_394 : BitVec 32 := 16#32
  let v814 : BitVec 32 := Scalar.addi v813 c16_i32_394
  let c16_i32_401 : BitVec 32 := 16#32
  let v825 : BitVec 32 := Scalar.addi v814 c16_i32_401
  v825
def k0_mult140 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_393 : BitVec 32 := 512#32
  let v813 : BitVec 32 := Scalar.muli v334 c512_i32_393
  let c16_i32_394 : BitVec 32 := 16#32
  let v814 : BitVec 32 := Scalar.addi v813 c16_i32_394
  let c24_i32_404 : BitVec 32 := 24#32
  let v830 : BitVec 32 := Scalar.addi v814 c24_i32_404
  v830
def k0_mult141 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_393 : BitVec 32 := 512#32
  let v813 : BitVec 32 := Scalar.muli v334 c512_i32_393
  let c16_i32_394 : BitVec 32 := 16#32
  let v814 : BitVec 32 := Scalar.addi v813 c16_i32_394
  let c32_i32_407 : BitVec 32 := 32#32
  let v835 : BitVec 32 := Scalar.addi v814 c32_i32_407
  v835
def k0_mult142 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_393 : BitVec 32 := 512#32
  let v813 : BitVec 32 := Scalar.muli v334 c512_i32_393
  let c16_i32_394 : BitVec 32 := 16#32
  let v814 : BitVec 32 := Scalar.addi v813 c16_i32_394
  let c40_i32_410 : BitVec 32 := 40#32
  let v840 : BitVec 32 := Scalar.addi v814 c40_i32_410
  v840
def k0_mult143 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_393 : BitVec 32 := 512#32
  let v813 : BitVec 32 := Scalar.muli v334 c512_i32_393
  let c16_i32_394 : BitVec 32 := 16#32
  let v814 : BitVec 32 := Scalar.addi v813 c16_i32_394
  let c48_i32_413 : BitVec 32 := 48#32
  let v845 : BitVec 32 := Scalar.addi v814 c48_i32_413
  v845
def k0_mult144 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_393 : BitVec 32 := 512#32
  let v813 : BitVec 32 := Scalar.muli v334 c512_i32_393
  let c16_i32_394 : BitVec 32 := 16#32
  let v814 : BitVec 32 := Scalar.addi v813 c16_i32_394
  let c56_i32_416 : BitVec 32 := 56#32
  let v850 : BitVec 32 := Scalar.addi v814 c56_i32_416
  v850
def k0_mult145 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_575 : BitVec 32 := 512#32
  let v1284 : BitVec 32 := Scalar.muli v334 c512_i32_575
  let c48_i32_576 : BitVec 32 := 48#32
  let v1285 : BitVec 32 := Scalar.addi v1284 c48_i32_576
  let c0_i32_577 : BitVec 32 := 0#32
  let v1286 : BitVec 32 := Scalar.addi v1285 c0_i32_577
  v1286
def k0_mult146 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_575 : BitVec 32 := 512#32
  let v1284 : BitVec 32 := Scalar.muli v334 c512_i32_575
  let c48_i32_576 : BitVec 32 := 48#32
  let v1285 : BitVec 32 := Scalar.addi v1284 c48_i32_576
  let c8_i32_580 : BitVec 32 := 8#32
  let v1291 : BitVec 32 := Scalar.addi v1285 c8_i32_580
  v1291
def k0_mult147 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_575 : BitVec 32 := 512#32
  let v1284 : BitVec 32 := Scalar.muli v334 c512_i32_575
  let c48_i32_576 : BitVec 32 := 48#32
  let v1285 : BitVec 32 := Scalar.addi v1284 c48_i32_576
  let c16_i32_583 : BitVec 32 := 16#32
  let v1296 : BitVec 32 := Scalar.addi v1285 c16_i32_583
  v1296
def k0_mult148 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_575 : BitVec 32 := 512#32
  let v1284 : BitVec 32 := Scalar.muli v334 c512_i32_575
  let c48_i32_576 : BitVec 32 := 48#32
  let v1285 : BitVec 32 := Scalar.addi v1284 c48_i32_576
  let c24_i32_586 : BitVec 32 := 24#32
  let v1301 : BitVec 32 := Scalar.addi v1285 c24_i32_586
  v1301
def k0_mult149 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_575 : BitVec 32 := 512#32
  let v1284 : BitVec 32 := Scalar.muli v334 c512_i32_575
  let c48_i32_576 : BitVec 32 := 48#32
  let v1285 : BitVec 32 := Scalar.addi v1284 c48_i32_576
  let c32_i32_589 : BitVec 32 := 32#32
  let v1306 : BitVec 32 := Scalar.addi v1285 c32_i32_589
  v1306
def k0_mult150 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_575 : BitVec 32 := 512#32
  let v1284 : BitVec 32 := Scalar.muli v334 c512_i32_575
  let c48_i32_576 : BitVec 32 := 48#32
  let v1285 : BitVec 32 := Scalar.addi v1284 c48_i32_576
  let c40_i32_592 : BitVec 32 := 40#32
  let v1311 : BitVec 32 := Scalar.addi v1285 c40_i32_592
  v1311
def k0_mult151 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_575 : BitVec 32 := 512#32
  let v1284 : BitVec 32 := Scalar.muli v334 c512_i32_575
  let c48_i32_576 : BitVec 32 := 48#32
  let v1285 : BitVec 32 := Scalar.addi v1284 c48_i32_576
  let c48_i32_595 : BitVec 32 := 48#32
  let v1316 : BitVec 32 := Scalar.addi v1285 c48_i32_595
  v1316
def k0_mult152 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_575 : BitVec 32 := 512#32
  let v1284 : BitVec 32 := Scalar.muli v334 c512_i32_575
  let c48_i32_576 : BitVec 32 := 48#32
  let v1285 : BitVec 32 := Scalar.addi v1284 c48_i32_576
  let c56_i32_598 : BitVec 32 := 56#32
  let v1321 : BitVec 32 := Scalar.addi v1285 c56_i32_598
  v1321
def k0_mult153 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_757 : BitVec 32 := 512#32
  let v1755 : BitVec 32 := Scalar.muli v334 c512_i32_757
  let c80_i32 : BitVec 32 := 80#32
  let v1756 : BitVec 32 := Scalar.addi v1755 c80_i32
  let c0_i32_758 : BitVec 32 := 0#32
  let v1757 : BitVec 32 := Scalar.addi v1756 c0_i32_758
  v1757
def k0_mult154 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_757 : BitVec 32 := 512#32
  let v1755 : BitVec 32 := Scalar.muli v334 c512_i32_757
  let c80_i32 : BitVec 32 := 80#32
  let v1756 : BitVec 32 := Scalar.addi v1755 c80_i32
  let c8_i32_761 : BitVec 32 := 8#32
  let v1762 : BitVec 32 := Scalar.addi v1756 c8_i32_761
  v1762
def k0_mult155 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_757 : BitVec 32 := 512#32
  let v1755 : BitVec 32 := Scalar.muli v334 c512_i32_757
  let c80_i32 : BitVec 32 := 80#32
  let v1756 : BitVec 32 := Scalar.addi v1755 c80_i32
  let c16_i32_764 : BitVec 32 := 16#32
  let v1767 : BitVec 32 := Scalar.addi v1756 c16_i32_764
  v1767
def k0_mult156 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_757 : BitVec 32 := 512#32
  let v1755 : BitVec 32 := Scalar.muli v334 c512_i32_757
  let c80_i32 : BitVec 32 := 80#32
  let v1756 : BitVec 32 := Scalar.addi v1755 c80_i32
  let c24_i32_767 : BitVec 32 := 24#32
  let v1772 : BitVec 32 := Scalar.addi v1756 c24_i32_767
  v1772
def k0_mult157 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_757 : BitVec 32 := 512#32
  let v1755 : BitVec 32 := Scalar.muli v334 c512_i32_757
  let c80_i32 : BitVec 32 := 80#32
  let v1756 : BitVec 32 := Scalar.addi v1755 c80_i32
  let c32_i32_770 : BitVec 32 := 32#32
  let v1777 : BitVec 32 := Scalar.addi v1756 c32_i32_770
  v1777
def k0_mult158 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_757 : BitVec 32 := 512#32
  let v1755 : BitVec 32 := Scalar.muli v334 c512_i32_757
  let c80_i32 : BitVec 32 := 80#32
  let v1756 : BitVec 32 := Scalar.addi v1755 c80_i32
  let c40_i32_773 : BitVec 32 := 40#32
  let v1782 : BitVec 32 := Scalar.addi v1756 c40_i32_773
  v1782
def k0_mult159 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_757 : BitVec 32 := 512#32
  let v1755 : BitVec 32 := Scalar.muli v334 c512_i32_757
  let c80_i32 : BitVec 32 := 80#32
  let v1756 : BitVec 32 := Scalar.addi v1755 c80_i32
  let c48_i32_776 : BitVec 32 := 48#32
  let v1787 : BitVec 32 := Scalar.addi v1756 c48_i32_776
  v1787
def k0_mult160 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_757 : BitVec 32 := 512#32
  let v1755 : BitVec 32 := Scalar.muli v334 c512_i32_757
  let c80_i32 : BitVec 32 := 80#32
  let v1756 : BitVec 32 := Scalar.addi v1755 c80_i32
  let c56_i32_779 : BitVec 32 := 56#32
  let v1792 : BitVec 32 := Scalar.addi v1756 c56_i32_779
  v1792
def k0_off6 (i : grid0.Coords) : Fin 3 → Nat :=
  let c1_i32_211 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v323 : BitVec 32 := Scalar.subi c1_i32_211 v11
  let v2260 : Index := Scalar.indexCast v323
  let c0_950 : Index := 0#32
  let c0_951 : Index := 0#32
  ![v2260.toNat, 0, 0]
def k0_mult161 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_952 : BitVec 32 := 512#32
  let v2264 : BitVec 32 := Scalar.muli v334 c512_i32_952
  let c112_i32 : BitVec 32 := 112#32
  let v2265 : BitVec 32 := Scalar.addi v2264 c112_i32
  let c0_i32_953 : BitVec 32 := 0#32
  let v2266 : BitVec 32 := Scalar.addi v2265 c0_i32_953
  v2266
def k0_mult162 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_952 : BitVec 32 := 512#32
  let v2264 : BitVec 32 := Scalar.muli v334 c512_i32_952
  let c112_i32 : BitVec 32 := 112#32
  let v2265 : BitVec 32 := Scalar.addi v2264 c112_i32
  let c8_i32_956 : BitVec 32 := 8#32
  let v2271 : BitVec 32 := Scalar.addi v2265 c8_i32_956
  v2271
def k0_mult163 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_952 : BitVec 32 := 512#32
  let v2264 : BitVec 32 := Scalar.muli v334 c512_i32_952
  let c112_i32 : BitVec 32 := 112#32
  let v2265 : BitVec 32 := Scalar.addi v2264 c112_i32
  let c16_i32_959 : BitVec 32 := 16#32
  let v2276 : BitVec 32 := Scalar.addi v2265 c16_i32_959
  v2276
def k0_mult164 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_952 : BitVec 32 := 512#32
  let v2264 : BitVec 32 := Scalar.muli v334 c512_i32_952
  let c112_i32 : BitVec 32 := 112#32
  let v2265 : BitVec 32 := Scalar.addi v2264 c112_i32
  let c24_i32_962 : BitVec 32 := 24#32
  let v2281 : BitVec 32 := Scalar.addi v2265 c24_i32_962
  v2281
def k0_mult165 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_952 : BitVec 32 := 512#32
  let v2264 : BitVec 32 := Scalar.muli v334 c512_i32_952
  let c112_i32 : BitVec 32 := 112#32
  let v2265 : BitVec 32 := Scalar.addi v2264 c112_i32
  let c32_i32_965 : BitVec 32 := 32#32
  let v2286 : BitVec 32 := Scalar.addi v2265 c32_i32_965
  v2286
def k0_mult166 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_952 : BitVec 32 := 512#32
  let v2264 : BitVec 32 := Scalar.muli v334 c512_i32_952
  let c112_i32 : BitVec 32 := 112#32
  let v2265 : BitVec 32 := Scalar.addi v2264 c112_i32
  let c40_i32_968 : BitVec 32 := 40#32
  let v2291 : BitVec 32 := Scalar.addi v2265 c40_i32_968
  v2291
def k0_mult167 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_952 : BitVec 32 := 512#32
  let v2264 : BitVec 32 := Scalar.muli v334 c512_i32_952
  let c112_i32 : BitVec 32 := 112#32
  let v2265 : BitVec 32 := Scalar.addi v2264 c112_i32
  let c48_i32_971 : BitVec 32 := 48#32
  let v2296 : BitVec 32 := Scalar.addi v2265 c48_i32_971
  v2296
def k0_mult168 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_952 : BitVec 32 := 512#32
  let v2264 : BitVec 32 := Scalar.muli v334 c512_i32_952
  let c112_i32 : BitVec 32 := 112#32
  let v2265 : BitVec 32 := Scalar.addi v2264 c112_i32
  let c56_i32_974 : BitVec 32 := 56#32
  let v2301 : BitVec 32 := Scalar.addi v2265 c56_i32_974
  v2301
def k0_mult169 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1133 : BitVec 32 := 512#32
  let v2735 : BitVec 32 := Scalar.muli v334 c512_i32_1133
  let c144_i32 : BitVec 32 := 144#32
  let v2736 : BitVec 32 := Scalar.addi v2735 c144_i32
  let c0_i32_1134 : BitVec 32 := 0#32
  let v2737 : BitVec 32 := Scalar.addi v2736 c0_i32_1134
  v2737
def k0_mult170 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1133 : BitVec 32 := 512#32
  let v2735 : BitVec 32 := Scalar.muli v334 c512_i32_1133
  let c144_i32 : BitVec 32 := 144#32
  let v2736 : BitVec 32 := Scalar.addi v2735 c144_i32
  let c8_i32_1137 : BitVec 32 := 8#32
  let v2742 : BitVec 32 := Scalar.addi v2736 c8_i32_1137
  v2742
def k0_mult171 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1133 : BitVec 32 := 512#32
  let v2735 : BitVec 32 := Scalar.muli v334 c512_i32_1133
  let c144_i32 : BitVec 32 := 144#32
  let v2736 : BitVec 32 := Scalar.addi v2735 c144_i32
  let c16_i32_1140 : BitVec 32 := 16#32
  let v2747 : BitVec 32 := Scalar.addi v2736 c16_i32_1140
  v2747
def k0_mult172 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1133 : BitVec 32 := 512#32
  let v2735 : BitVec 32 := Scalar.muli v334 c512_i32_1133
  let c144_i32 : BitVec 32 := 144#32
  let v2736 : BitVec 32 := Scalar.addi v2735 c144_i32
  let c24_i32_1143 : BitVec 32 := 24#32
  let v2752 : BitVec 32 := Scalar.addi v2736 c24_i32_1143
  v2752
def k0_mult173 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1133 : BitVec 32 := 512#32
  let v2735 : BitVec 32 := Scalar.muli v334 c512_i32_1133
  let c144_i32 : BitVec 32 := 144#32
  let v2736 : BitVec 32 := Scalar.addi v2735 c144_i32
  let c32_i32_1146 : BitVec 32 := 32#32
  let v2757 : BitVec 32 := Scalar.addi v2736 c32_i32_1146
  v2757
def k0_mult174 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1133 : BitVec 32 := 512#32
  let v2735 : BitVec 32 := Scalar.muli v334 c512_i32_1133
  let c144_i32 : BitVec 32 := 144#32
  let v2736 : BitVec 32 := Scalar.addi v2735 c144_i32
  let c40_i32_1149 : BitVec 32 := 40#32
  let v2762 : BitVec 32 := Scalar.addi v2736 c40_i32_1149
  v2762
def k0_mult175 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1133 : BitVec 32 := 512#32
  let v2735 : BitVec 32 := Scalar.muli v334 c512_i32_1133
  let c144_i32 : BitVec 32 := 144#32
  let v2736 : BitVec 32 := Scalar.addi v2735 c144_i32
  let c48_i32_1152 : BitVec 32 := 48#32
  let v2767 : BitVec 32 := Scalar.addi v2736 c48_i32_1152
  v2767
def k0_mult176 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1133 : BitVec 32 := 512#32
  let v2735 : BitVec 32 := Scalar.muli v334 c512_i32_1133
  let c144_i32 : BitVec 32 := 144#32
  let v2736 : BitVec 32 := Scalar.addi v2735 c144_i32
  let c56_i32_1155 : BitVec 32 := 56#32
  let v2772 : BitVec 32 := Scalar.addi v2736 c56_i32_1155
  v2772
def k0_mult177 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1314 : BitVec 32 := 512#32
  let v3206 : BitVec 32 := Scalar.muli v334 c512_i32_1314
  let c176_i32 : BitVec 32 := 176#32
  let v3207 : BitVec 32 := Scalar.addi v3206 c176_i32
  let c0_i32_1315 : BitVec 32 := 0#32
  let v3208 : BitVec 32 := Scalar.addi v3207 c0_i32_1315
  v3208
def k0_mult178 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1314 : BitVec 32 := 512#32
  let v3206 : BitVec 32 := Scalar.muli v334 c512_i32_1314
  let c176_i32 : BitVec 32 := 176#32
  let v3207 : BitVec 32 := Scalar.addi v3206 c176_i32
  let c8_i32_1318 : BitVec 32 := 8#32
  let v3213 : BitVec 32 := Scalar.addi v3207 c8_i32_1318
  v3213
def k0_mult179 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1314 : BitVec 32 := 512#32
  let v3206 : BitVec 32 := Scalar.muli v334 c512_i32_1314
  let c176_i32 : BitVec 32 := 176#32
  let v3207 : BitVec 32 := Scalar.addi v3206 c176_i32
  let c16_i32_1321 : BitVec 32 := 16#32
  let v3218 : BitVec 32 := Scalar.addi v3207 c16_i32_1321
  v3218
def k0_mult180 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1314 : BitVec 32 := 512#32
  let v3206 : BitVec 32 := Scalar.muli v334 c512_i32_1314
  let c176_i32 : BitVec 32 := 176#32
  let v3207 : BitVec 32 := Scalar.addi v3206 c176_i32
  let c24_i32_1324 : BitVec 32 := 24#32
  let v3223 : BitVec 32 := Scalar.addi v3207 c24_i32_1324
  v3223
def k0_mult181 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1314 : BitVec 32 := 512#32
  let v3206 : BitVec 32 := Scalar.muli v334 c512_i32_1314
  let c176_i32 : BitVec 32 := 176#32
  let v3207 : BitVec 32 := Scalar.addi v3206 c176_i32
  let c32_i32_1327 : BitVec 32 := 32#32
  let v3228 : BitVec 32 := Scalar.addi v3207 c32_i32_1327
  v3228
def k0_mult182 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1314 : BitVec 32 := 512#32
  let v3206 : BitVec 32 := Scalar.muli v334 c512_i32_1314
  let c176_i32 : BitVec 32 := 176#32
  let v3207 : BitVec 32 := Scalar.addi v3206 c176_i32
  let c40_i32_1330 : BitVec 32 := 40#32
  let v3233 : BitVec 32 := Scalar.addi v3207 c40_i32_1330
  v3233
def k0_mult183 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1314 : BitVec 32 := 512#32
  let v3206 : BitVec 32 := Scalar.muli v334 c512_i32_1314
  let c176_i32 : BitVec 32 := 176#32
  let v3207 : BitVec 32 := Scalar.addi v3206 c176_i32
  let c48_i32_1333 : BitVec 32 := 48#32
  let v3238 : BitVec 32 := Scalar.addi v3207 c48_i32_1333
  v3238
def k0_mult184 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1314 : BitVec 32 := 512#32
  let v3206 : BitVec 32 := Scalar.muli v334 c512_i32_1314
  let c176_i32 : BitVec 32 := 176#32
  let v3207 : BitVec 32 := Scalar.addi v3206 c176_i32
  let c56_i32_1336 : BitVec 32 := 56#32
  let v3243 : BitVec 32 := Scalar.addi v3207 c56_i32_1336
  v3243
def k0_mult185 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1495 : BitVec 32 := 512#32
  let v3677 : BitVec 32 := Scalar.muli v334 c512_i32_1495
  let c208_i32 : BitVec 32 := 208#32
  let v3678 : BitVec 32 := Scalar.addi v3677 c208_i32
  let c0_i32_1496 : BitVec 32 := 0#32
  let v3679 : BitVec 32 := Scalar.addi v3678 c0_i32_1496
  v3679
def k0_mult186 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1495 : BitVec 32 := 512#32
  let v3677 : BitVec 32 := Scalar.muli v334 c512_i32_1495
  let c208_i32 : BitVec 32 := 208#32
  let v3678 : BitVec 32 := Scalar.addi v3677 c208_i32
  let c8_i32_1499 : BitVec 32 := 8#32
  let v3684 : BitVec 32 := Scalar.addi v3678 c8_i32_1499
  v3684
def k0_mult187 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1495 : BitVec 32 := 512#32
  let v3677 : BitVec 32 := Scalar.muli v334 c512_i32_1495
  let c208_i32 : BitVec 32 := 208#32
  let v3678 : BitVec 32 := Scalar.addi v3677 c208_i32
  let c16_i32_1502 : BitVec 32 := 16#32
  let v3689 : BitVec 32 := Scalar.addi v3678 c16_i32_1502
  v3689
def k0_mult188 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1495 : BitVec 32 := 512#32
  let v3677 : BitVec 32 := Scalar.muli v334 c512_i32_1495
  let c208_i32 : BitVec 32 := 208#32
  let v3678 : BitVec 32 := Scalar.addi v3677 c208_i32
  let c24_i32_1505 : BitVec 32 := 24#32
  let v3694 : BitVec 32 := Scalar.addi v3678 c24_i32_1505
  v3694
def k0_mult189 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1495 : BitVec 32 := 512#32
  let v3677 : BitVec 32 := Scalar.muli v334 c512_i32_1495
  let c208_i32 : BitVec 32 := 208#32
  let v3678 : BitVec 32 := Scalar.addi v3677 c208_i32
  let c32_i32_1508 : BitVec 32 := 32#32
  let v3699 : BitVec 32 := Scalar.addi v3678 c32_i32_1508
  v3699
def k0_mult190 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1495 : BitVec 32 := 512#32
  let v3677 : BitVec 32 := Scalar.muli v334 c512_i32_1495
  let c208_i32 : BitVec 32 := 208#32
  let v3678 : BitVec 32 := Scalar.addi v3677 c208_i32
  let c40_i32_1511 : BitVec 32 := 40#32
  let v3704 : BitVec 32 := Scalar.addi v3678 c40_i32_1511
  v3704
def k0_mult191 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1495 : BitVec 32 := 512#32
  let v3677 : BitVec 32 := Scalar.muli v334 c512_i32_1495
  let c208_i32 : BitVec 32 := 208#32
  let v3678 : BitVec 32 := Scalar.addi v3677 c208_i32
  let c48_i32_1514 : BitVec 32 := 48#32
  let v3709 : BitVec 32 := Scalar.addi v3678 c48_i32_1514
  v3709
def k0_mult192 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1495 : BitVec 32 := 512#32
  let v3677 : BitVec 32 := Scalar.muli v334 c512_i32_1495
  let c208_i32 : BitVec 32 := 208#32
  let v3678 : BitVec 32 := Scalar.addi v3677 c208_i32
  let c56_i32_1517 : BitVec 32 := 56#32
  let v3714 : BitVec 32 := Scalar.addi v3678 c56_i32_1517
  v3714
def k0_off7 (i : grid0.Coords) : Fin 3 → Nat :=
  let c1_i32_211 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v323 : BitVec 32 := Scalar.subi c1_i32_211 v11
  let v4182 : Index := Scalar.indexCast v323
  let c128 : Index := 128#32
  let c0_1688 : Index := 0#32
  ![v4182.toNat, 128, 0]
def k0_mult193 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1689 : BitVec 32 := 512#32
  let v4186 : BitVec 32 := Scalar.muli v334 c512_i32_1689
  let c240_i32 : BitVec 32 := 240#32
  let v4187 : BitVec 32 := Scalar.addi v4186 c240_i32
  let c0_i32_1690 : BitVec 32 := 0#32
  let v4188 : BitVec 32 := Scalar.addi v4187 c0_i32_1690
  v4188
def k0_mult194 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1689 : BitVec 32 := 512#32
  let v4186 : BitVec 32 := Scalar.muli v334 c512_i32_1689
  let c240_i32 : BitVec 32 := 240#32
  let v4187 : BitVec 32 := Scalar.addi v4186 c240_i32
  let c8_i32_1693 : BitVec 32 := 8#32
  let v4193 : BitVec 32 := Scalar.addi v4187 c8_i32_1693
  v4193
def k0_mult195 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1689 : BitVec 32 := 512#32
  let v4186 : BitVec 32 := Scalar.muli v334 c512_i32_1689
  let c240_i32 : BitVec 32 := 240#32
  let v4187 : BitVec 32 := Scalar.addi v4186 c240_i32
  let c16_i32_1696 : BitVec 32 := 16#32
  let v4198 : BitVec 32 := Scalar.addi v4187 c16_i32_1696
  v4198
def k0_mult196 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1689 : BitVec 32 := 512#32
  let v4186 : BitVec 32 := Scalar.muli v334 c512_i32_1689
  let c240_i32 : BitVec 32 := 240#32
  let v4187 : BitVec 32 := Scalar.addi v4186 c240_i32
  let c24_i32_1699 : BitVec 32 := 24#32
  let v4203 : BitVec 32 := Scalar.addi v4187 c24_i32_1699
  v4203
def k0_mult197 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1689 : BitVec 32 := 512#32
  let v4186 : BitVec 32 := Scalar.muli v334 c512_i32_1689
  let c240_i32 : BitVec 32 := 240#32
  let v4187 : BitVec 32 := Scalar.addi v4186 c240_i32
  let c32_i32_1702 : BitVec 32 := 32#32
  let v4208 : BitVec 32 := Scalar.addi v4187 c32_i32_1702
  v4208
def k0_mult198 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1689 : BitVec 32 := 512#32
  let v4186 : BitVec 32 := Scalar.muli v334 c512_i32_1689
  let c240_i32 : BitVec 32 := 240#32
  let v4187 : BitVec 32 := Scalar.addi v4186 c240_i32
  let c40_i32_1705 : BitVec 32 := 40#32
  let v4213 : BitVec 32 := Scalar.addi v4187 c40_i32_1705
  v4213
def k0_mult199 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1689 : BitVec 32 := 512#32
  let v4186 : BitVec 32 := Scalar.muli v334 c512_i32_1689
  let c240_i32 : BitVec 32 := 240#32
  let v4187 : BitVec 32 := Scalar.addi v4186 c240_i32
  let c48_i32_1708 : BitVec 32 := 48#32
  let v4218 : BitVec 32 := Scalar.addi v4187 c48_i32_1708
  v4218
def k0_mult200 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1689 : BitVec 32 := 512#32
  let v4186 : BitVec 32 := Scalar.muli v334 c512_i32_1689
  let c240_i32 : BitVec 32 := 240#32
  let v4187 : BitVec 32 := Scalar.addi v4186 c240_i32
  let c56_i32_1711 : BitVec 32 := 56#32
  let v4223 : BitVec 32 := Scalar.addi v4187 c56_i32_1711
  v4223
def k0_mult201 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1870 : BitVec 32 := 512#32
  let v4657 : BitVec 32 := Scalar.muli v334 c512_i32_1870
  let c272_i32 : BitVec 32 := 272#32
  let v4658 : BitVec 32 := Scalar.addi v4657 c272_i32
  let c0_i32_1871 : BitVec 32 := 0#32
  let v4659 : BitVec 32 := Scalar.addi v4658 c0_i32_1871
  v4659
def k0_mult202 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1870 : BitVec 32 := 512#32
  let v4657 : BitVec 32 := Scalar.muli v334 c512_i32_1870
  let c272_i32 : BitVec 32 := 272#32
  let v4658 : BitVec 32 := Scalar.addi v4657 c272_i32
  let c8_i32_1874 : BitVec 32 := 8#32
  let v4664 : BitVec 32 := Scalar.addi v4658 c8_i32_1874
  v4664
def k0_mult203 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1870 : BitVec 32 := 512#32
  let v4657 : BitVec 32 := Scalar.muli v334 c512_i32_1870
  let c272_i32 : BitVec 32 := 272#32
  let v4658 : BitVec 32 := Scalar.addi v4657 c272_i32
  let c16_i32_1877 : BitVec 32 := 16#32
  let v4669 : BitVec 32 := Scalar.addi v4658 c16_i32_1877
  v4669
def k0_mult204 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1870 : BitVec 32 := 512#32
  let v4657 : BitVec 32 := Scalar.muli v334 c512_i32_1870
  let c272_i32 : BitVec 32 := 272#32
  let v4658 : BitVec 32 := Scalar.addi v4657 c272_i32
  let c24_i32_1880 : BitVec 32 := 24#32
  let v4674 : BitVec 32 := Scalar.addi v4658 c24_i32_1880
  v4674
def k0_mult205 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1870 : BitVec 32 := 512#32
  let v4657 : BitVec 32 := Scalar.muli v334 c512_i32_1870
  let c272_i32 : BitVec 32 := 272#32
  let v4658 : BitVec 32 := Scalar.addi v4657 c272_i32
  let c32_i32_1883 : BitVec 32 := 32#32
  let v4679 : BitVec 32 := Scalar.addi v4658 c32_i32_1883
  v4679
def k0_mult206 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1870 : BitVec 32 := 512#32
  let v4657 : BitVec 32 := Scalar.muli v334 c512_i32_1870
  let c272_i32 : BitVec 32 := 272#32
  let v4658 : BitVec 32 := Scalar.addi v4657 c272_i32
  let c40_i32_1886 : BitVec 32 := 40#32
  let v4684 : BitVec 32 := Scalar.addi v4658 c40_i32_1886
  v4684
def k0_mult207 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1870 : BitVec 32 := 512#32
  let v4657 : BitVec 32 := Scalar.muli v334 c512_i32_1870
  let c272_i32 : BitVec 32 := 272#32
  let v4658 : BitVec 32 := Scalar.addi v4657 c272_i32
  let c48_i32_1889 : BitVec 32 := 48#32
  let v4689 : BitVec 32 := Scalar.addi v4658 c48_i32_1889
  v4689
def k0_mult208 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_1870 : BitVec 32 := 512#32
  let v4657 : BitVec 32 := Scalar.muli v334 c512_i32_1870
  let c272_i32 : BitVec 32 := 272#32
  let v4658 : BitVec 32 := Scalar.addi v4657 c272_i32
  let c56_i32_1892 : BitVec 32 := 56#32
  let v4694 : BitVec 32 := Scalar.addi v4658 c56_i32_1892
  v4694
def k0_mult209 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2051 : BitVec 32 := 512#32
  let v5128 : BitVec 32 := Scalar.muli v334 c512_i32_2051
  let c304_i32 : BitVec 32 := 304#32
  let v5129 : BitVec 32 := Scalar.addi v5128 c304_i32
  let c0_i32_2052 : BitVec 32 := 0#32
  let v5130 : BitVec 32 := Scalar.addi v5129 c0_i32_2052
  v5130
def k0_mult210 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2051 : BitVec 32 := 512#32
  let v5128 : BitVec 32 := Scalar.muli v334 c512_i32_2051
  let c304_i32 : BitVec 32 := 304#32
  let v5129 : BitVec 32 := Scalar.addi v5128 c304_i32
  let c8_i32_2055 : BitVec 32 := 8#32
  let v5135 : BitVec 32 := Scalar.addi v5129 c8_i32_2055
  v5135
def k0_mult211 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2051 : BitVec 32 := 512#32
  let v5128 : BitVec 32 := Scalar.muli v334 c512_i32_2051
  let c304_i32 : BitVec 32 := 304#32
  let v5129 : BitVec 32 := Scalar.addi v5128 c304_i32
  let c16_i32_2058 : BitVec 32 := 16#32
  let v5140 : BitVec 32 := Scalar.addi v5129 c16_i32_2058
  v5140
def k0_mult212 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2051 : BitVec 32 := 512#32
  let v5128 : BitVec 32 := Scalar.muli v334 c512_i32_2051
  let c304_i32 : BitVec 32 := 304#32
  let v5129 : BitVec 32 := Scalar.addi v5128 c304_i32
  let c24_i32_2061 : BitVec 32 := 24#32
  let v5145 : BitVec 32 := Scalar.addi v5129 c24_i32_2061
  v5145
def k0_mult213 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2051 : BitVec 32 := 512#32
  let v5128 : BitVec 32 := Scalar.muli v334 c512_i32_2051
  let c304_i32 : BitVec 32 := 304#32
  let v5129 : BitVec 32 := Scalar.addi v5128 c304_i32
  let c32_i32_2064 : BitVec 32 := 32#32
  let v5150 : BitVec 32 := Scalar.addi v5129 c32_i32_2064
  v5150
def k0_mult214 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2051 : BitVec 32 := 512#32
  let v5128 : BitVec 32 := Scalar.muli v334 c512_i32_2051
  let c304_i32 : BitVec 32 := 304#32
  let v5129 : BitVec 32 := Scalar.addi v5128 c304_i32
  let c40_i32_2067 : BitVec 32 := 40#32
  let v5155 : BitVec 32 := Scalar.addi v5129 c40_i32_2067
  v5155
def k0_mult215 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2051 : BitVec 32 := 512#32
  let v5128 : BitVec 32 := Scalar.muli v334 c512_i32_2051
  let c304_i32 : BitVec 32 := 304#32
  let v5129 : BitVec 32 := Scalar.addi v5128 c304_i32
  let c48_i32_2070 : BitVec 32 := 48#32
  let v5160 : BitVec 32 := Scalar.addi v5129 c48_i32_2070
  v5160
def k0_mult216 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2051 : BitVec 32 := 512#32
  let v5128 : BitVec 32 := Scalar.muli v334 c512_i32_2051
  let c304_i32 : BitVec 32 := 304#32
  let v5129 : BitVec 32 := Scalar.addi v5128 c304_i32
  let c56_i32_2073 : BitVec 32 := 56#32
  let v5165 : BitVec 32 := Scalar.addi v5129 c56_i32_2073
  v5165
def k0_mult217 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2232 : BitVec 32 := 512#32
  let v5599 : BitVec 32 := Scalar.muli v334 c512_i32_2232
  let c336_i32 : BitVec 32 := 336#32
  let v5600 : BitVec 32 := Scalar.addi v5599 c336_i32
  let c0_i32_2233 : BitVec 32 := 0#32
  let v5601 : BitVec 32 := Scalar.addi v5600 c0_i32_2233
  v5601
def k0_mult218 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2232 : BitVec 32 := 512#32
  let v5599 : BitVec 32 := Scalar.muli v334 c512_i32_2232
  let c336_i32 : BitVec 32 := 336#32
  let v5600 : BitVec 32 := Scalar.addi v5599 c336_i32
  let c8_i32_2236 : BitVec 32 := 8#32
  let v5606 : BitVec 32 := Scalar.addi v5600 c8_i32_2236
  v5606
def k0_mult219 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2232 : BitVec 32 := 512#32
  let v5599 : BitVec 32 := Scalar.muli v334 c512_i32_2232
  let c336_i32 : BitVec 32 := 336#32
  let v5600 : BitVec 32 := Scalar.addi v5599 c336_i32
  let c16_i32_2239 : BitVec 32 := 16#32
  let v5611 : BitVec 32 := Scalar.addi v5600 c16_i32_2239
  v5611
def k0_mult220 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2232 : BitVec 32 := 512#32
  let v5599 : BitVec 32 := Scalar.muli v334 c512_i32_2232
  let c336_i32 : BitVec 32 := 336#32
  let v5600 : BitVec 32 := Scalar.addi v5599 c336_i32
  let c24_i32_2242 : BitVec 32 := 24#32
  let v5616 : BitVec 32 := Scalar.addi v5600 c24_i32_2242
  v5616
def k0_mult221 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2232 : BitVec 32 := 512#32
  let v5599 : BitVec 32 := Scalar.muli v334 c512_i32_2232
  let c336_i32 : BitVec 32 := 336#32
  let v5600 : BitVec 32 := Scalar.addi v5599 c336_i32
  let c32_i32_2245 : BitVec 32 := 32#32
  let v5621 : BitVec 32 := Scalar.addi v5600 c32_i32_2245
  v5621
def k0_mult222 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2232 : BitVec 32 := 512#32
  let v5599 : BitVec 32 := Scalar.muli v334 c512_i32_2232
  let c336_i32 : BitVec 32 := 336#32
  let v5600 : BitVec 32 := Scalar.addi v5599 c336_i32
  let c40_i32_2248 : BitVec 32 := 40#32
  let v5626 : BitVec 32 := Scalar.addi v5600 c40_i32_2248
  v5626
def k0_mult223 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2232 : BitVec 32 := 512#32
  let v5599 : BitVec 32 := Scalar.muli v334 c512_i32_2232
  let c336_i32 : BitVec 32 := 336#32
  let v5600 : BitVec 32 := Scalar.addi v5599 c336_i32
  let c48_i32_2251 : BitVec 32 := 48#32
  let v5631 : BitVec 32 := Scalar.addi v5600 c48_i32_2251
  v5631
def k0_mult224 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2232 : BitVec 32 := 512#32
  let v5599 : BitVec 32 := Scalar.muli v334 c512_i32_2232
  let c336_i32 : BitVec 32 := 336#32
  let v5600 : BitVec 32 := Scalar.addi v5599 c336_i32
  let c56_i32_2254 : BitVec 32 := 56#32
  let v5636 : BitVec 32 := Scalar.addi v5600 c56_i32_2254
  v5636
def k0_off8 (i : grid0.Coords) : Fin 3 → Nat :=
  let c1_i32_211 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v323 : BitVec 32 := Scalar.subi c1_i32_211 v11
  let v6104 : Index := Scalar.indexCast v323
  let c256_2425 : Index := 256#32
  let c0_2426 : Index := 0#32
  ![v6104.toNat, 256, 0]
def k0_mult225 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2427 : BitVec 32 := 512#32
  let v6108 : BitVec 32 := Scalar.muli v334 c512_i32_2427
  let c368_i32 : BitVec 32 := 368#32
  let v6109 : BitVec 32 := Scalar.addi v6108 c368_i32
  let c0_i32_2428 : BitVec 32 := 0#32
  let v6110 : BitVec 32 := Scalar.addi v6109 c0_i32_2428
  v6110
def k0_mult226 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2427 : BitVec 32 := 512#32
  let v6108 : BitVec 32 := Scalar.muli v334 c512_i32_2427
  let c368_i32 : BitVec 32 := 368#32
  let v6109 : BitVec 32 := Scalar.addi v6108 c368_i32
  let c8_i32_2431 : BitVec 32 := 8#32
  let v6115 : BitVec 32 := Scalar.addi v6109 c8_i32_2431
  v6115
def k0_mult227 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2427 : BitVec 32 := 512#32
  let v6108 : BitVec 32 := Scalar.muli v334 c512_i32_2427
  let c368_i32 : BitVec 32 := 368#32
  let v6109 : BitVec 32 := Scalar.addi v6108 c368_i32
  let c16_i32_2434 : BitVec 32 := 16#32
  let v6120 : BitVec 32 := Scalar.addi v6109 c16_i32_2434
  v6120
def k0_mult228 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2427 : BitVec 32 := 512#32
  let v6108 : BitVec 32 := Scalar.muli v334 c512_i32_2427
  let c368_i32 : BitVec 32 := 368#32
  let v6109 : BitVec 32 := Scalar.addi v6108 c368_i32
  let c24_i32_2437 : BitVec 32 := 24#32
  let v6125 : BitVec 32 := Scalar.addi v6109 c24_i32_2437
  v6125
def k0_mult229 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2427 : BitVec 32 := 512#32
  let v6108 : BitVec 32 := Scalar.muli v334 c512_i32_2427
  let c368_i32 : BitVec 32 := 368#32
  let v6109 : BitVec 32 := Scalar.addi v6108 c368_i32
  let c32_i32_2440 : BitVec 32 := 32#32
  let v6130 : BitVec 32 := Scalar.addi v6109 c32_i32_2440
  v6130
def k0_mult230 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2427 : BitVec 32 := 512#32
  let v6108 : BitVec 32 := Scalar.muli v334 c512_i32_2427
  let c368_i32 : BitVec 32 := 368#32
  let v6109 : BitVec 32 := Scalar.addi v6108 c368_i32
  let c40_i32_2443 : BitVec 32 := 40#32
  let v6135 : BitVec 32 := Scalar.addi v6109 c40_i32_2443
  v6135
def k0_mult231 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2427 : BitVec 32 := 512#32
  let v6108 : BitVec 32 := Scalar.muli v334 c512_i32_2427
  let c368_i32 : BitVec 32 := 368#32
  let v6109 : BitVec 32 := Scalar.addi v6108 c368_i32
  let c48_i32_2446 : BitVec 32 := 48#32
  let v6140 : BitVec 32 := Scalar.addi v6109 c48_i32_2446
  v6140
def k0_mult232 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2427 : BitVec 32 := 512#32
  let v6108 : BitVec 32 := Scalar.muli v334 c512_i32_2427
  let c368_i32 : BitVec 32 := 368#32
  let v6109 : BitVec 32 := Scalar.addi v6108 c368_i32
  let c56_i32_2449 : BitVec 32 := 56#32
  let v6145 : BitVec 32 := Scalar.addi v6109 c56_i32_2449
  v6145
def k0_mult233 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2608 : BitVec 32 := 512#32
  let v6579 : BitVec 32 := Scalar.muli v334 c512_i32_2608
  let c400_i32 : BitVec 32 := 400#32
  let v6580 : BitVec 32 := Scalar.addi v6579 c400_i32
  let c0_i32_2609 : BitVec 32 := 0#32
  let v6581 : BitVec 32 := Scalar.addi v6580 c0_i32_2609
  v6581
def k0_mult234 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2608 : BitVec 32 := 512#32
  let v6579 : BitVec 32 := Scalar.muli v334 c512_i32_2608
  let c400_i32 : BitVec 32 := 400#32
  let v6580 : BitVec 32 := Scalar.addi v6579 c400_i32
  let c8_i32_2612 : BitVec 32 := 8#32
  let v6586 : BitVec 32 := Scalar.addi v6580 c8_i32_2612
  v6586
def k0_mult235 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2608 : BitVec 32 := 512#32
  let v6579 : BitVec 32 := Scalar.muli v334 c512_i32_2608
  let c400_i32 : BitVec 32 := 400#32
  let v6580 : BitVec 32 := Scalar.addi v6579 c400_i32
  let c16_i32_2615 : BitVec 32 := 16#32
  let v6591 : BitVec 32 := Scalar.addi v6580 c16_i32_2615
  v6591
def k0_mult236 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2608 : BitVec 32 := 512#32
  let v6579 : BitVec 32 := Scalar.muli v334 c512_i32_2608
  let c400_i32 : BitVec 32 := 400#32
  let v6580 : BitVec 32 := Scalar.addi v6579 c400_i32
  let c24_i32_2618 : BitVec 32 := 24#32
  let v6596 : BitVec 32 := Scalar.addi v6580 c24_i32_2618
  v6596
def k0_mult237 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2608 : BitVec 32 := 512#32
  let v6579 : BitVec 32 := Scalar.muli v334 c512_i32_2608
  let c400_i32 : BitVec 32 := 400#32
  let v6580 : BitVec 32 := Scalar.addi v6579 c400_i32
  let c32_i32_2621 : BitVec 32 := 32#32
  let v6601 : BitVec 32 := Scalar.addi v6580 c32_i32_2621
  v6601
def k0_mult238 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2608 : BitVec 32 := 512#32
  let v6579 : BitVec 32 := Scalar.muli v334 c512_i32_2608
  let c400_i32 : BitVec 32 := 400#32
  let v6580 : BitVec 32 := Scalar.addi v6579 c400_i32
  let c40_i32_2624 : BitVec 32 := 40#32
  let v6606 : BitVec 32 := Scalar.addi v6580 c40_i32_2624
  v6606
def k0_mult239 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2608 : BitVec 32 := 512#32
  let v6579 : BitVec 32 := Scalar.muli v334 c512_i32_2608
  let c400_i32 : BitVec 32 := 400#32
  let v6580 : BitVec 32 := Scalar.addi v6579 c400_i32
  let c48_i32_2627 : BitVec 32 := 48#32
  let v6611 : BitVec 32 := Scalar.addi v6580 c48_i32_2627
  v6611
def k0_mult240 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2608 : BitVec 32 := 512#32
  let v6579 : BitVec 32 := Scalar.muli v334 c512_i32_2608
  let c400_i32 : BitVec 32 := 400#32
  let v6580 : BitVec 32 := Scalar.addi v6579 c400_i32
  let c56_i32_2630 : BitVec 32 := 56#32
  let v6616 : BitVec 32 := Scalar.addi v6580 c56_i32_2630
  v6616
def k0_mult241 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2789 : BitVec 32 := 512#32
  let v7050 : BitVec 32 := Scalar.muli v334 c512_i32_2789
  let c432_i32 : BitVec 32 := 432#32
  let v7051 : BitVec 32 := Scalar.addi v7050 c432_i32
  let c0_i32_2790 : BitVec 32 := 0#32
  let v7052 : BitVec 32 := Scalar.addi v7051 c0_i32_2790
  v7052
def k0_mult242 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2789 : BitVec 32 := 512#32
  let v7050 : BitVec 32 := Scalar.muli v334 c512_i32_2789
  let c432_i32 : BitVec 32 := 432#32
  let v7051 : BitVec 32 := Scalar.addi v7050 c432_i32
  let c8_i32_2793 : BitVec 32 := 8#32
  let v7057 : BitVec 32 := Scalar.addi v7051 c8_i32_2793
  v7057
def k0_mult243 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2789 : BitVec 32 := 512#32
  let v7050 : BitVec 32 := Scalar.muli v334 c512_i32_2789
  let c432_i32 : BitVec 32 := 432#32
  let v7051 : BitVec 32 := Scalar.addi v7050 c432_i32
  let c16_i32_2796 : BitVec 32 := 16#32
  let v7062 : BitVec 32 := Scalar.addi v7051 c16_i32_2796
  v7062
def k0_mult244 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2789 : BitVec 32 := 512#32
  let v7050 : BitVec 32 := Scalar.muli v334 c512_i32_2789
  let c432_i32 : BitVec 32 := 432#32
  let v7051 : BitVec 32 := Scalar.addi v7050 c432_i32
  let c24_i32_2799 : BitVec 32 := 24#32
  let v7067 : BitVec 32 := Scalar.addi v7051 c24_i32_2799
  v7067
def k0_mult245 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2789 : BitVec 32 := 512#32
  let v7050 : BitVec 32 := Scalar.muli v334 c512_i32_2789
  let c432_i32 : BitVec 32 := 432#32
  let v7051 : BitVec 32 := Scalar.addi v7050 c432_i32
  let c32_i32_2802 : BitVec 32 := 32#32
  let v7072 : BitVec 32 := Scalar.addi v7051 c32_i32_2802
  v7072
def k0_mult246 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2789 : BitVec 32 := 512#32
  let v7050 : BitVec 32 := Scalar.muli v334 c512_i32_2789
  let c432_i32 : BitVec 32 := 432#32
  let v7051 : BitVec 32 := Scalar.addi v7050 c432_i32
  let c40_i32_2805 : BitVec 32 := 40#32
  let v7077 : BitVec 32 := Scalar.addi v7051 c40_i32_2805
  v7077
def k0_mult247 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2789 : BitVec 32 := 512#32
  let v7050 : BitVec 32 := Scalar.muli v334 c512_i32_2789
  let c432_i32 : BitVec 32 := 432#32
  let v7051 : BitVec 32 := Scalar.addi v7050 c432_i32
  let c48_i32_2808 : BitVec 32 := 48#32
  let v7082 : BitVec 32 := Scalar.addi v7051 c48_i32_2808
  v7082
def k0_mult248 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2789 : BitVec 32 := 512#32
  let v7050 : BitVec 32 := Scalar.muli v334 c512_i32_2789
  let c432_i32 : BitVec 32 := 432#32
  let v7051 : BitVec 32 := Scalar.addi v7050 c432_i32
  let c56_i32_2811 : BitVec 32 := 56#32
  let v7087 : BitVec 32 := Scalar.addi v7051 c56_i32_2811
  v7087
def k0_mult249 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2970 : BitVec 32 := 512#32
  let v7521 : BitVec 32 := Scalar.muli v334 c512_i32_2970
  let c464_i32 : BitVec 32 := 464#32
  let v7522 : BitVec 32 := Scalar.addi v7521 c464_i32
  let c0_i32_2971 : BitVec 32 := 0#32
  let v7523 : BitVec 32 := Scalar.addi v7522 c0_i32_2971
  v7523
def k0_mult250 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2970 : BitVec 32 := 512#32
  let v7521 : BitVec 32 := Scalar.muli v334 c512_i32_2970
  let c464_i32 : BitVec 32 := 464#32
  let v7522 : BitVec 32 := Scalar.addi v7521 c464_i32
  let c8_i32_2974 : BitVec 32 := 8#32
  let v7528 : BitVec 32 := Scalar.addi v7522 c8_i32_2974
  v7528
def k0_mult251 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2970 : BitVec 32 := 512#32
  let v7521 : BitVec 32 := Scalar.muli v334 c512_i32_2970
  let c464_i32 : BitVec 32 := 464#32
  let v7522 : BitVec 32 := Scalar.addi v7521 c464_i32
  let c16_i32_2977 : BitVec 32 := 16#32
  let v7533 : BitVec 32 := Scalar.addi v7522 c16_i32_2977
  v7533
def k0_mult252 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2970 : BitVec 32 := 512#32
  let v7521 : BitVec 32 := Scalar.muli v334 c512_i32_2970
  let c464_i32 : BitVec 32 := 464#32
  let v7522 : BitVec 32 := Scalar.addi v7521 c464_i32
  let c24_i32_2980 : BitVec 32 := 24#32
  let v7538 : BitVec 32 := Scalar.addi v7522 c24_i32_2980
  v7538
def k0_mult253 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2970 : BitVec 32 := 512#32
  let v7521 : BitVec 32 := Scalar.muli v334 c512_i32_2970
  let c464_i32 : BitVec 32 := 464#32
  let v7522 : BitVec 32 := Scalar.addi v7521 c464_i32
  let c32_i32_2983 : BitVec 32 := 32#32
  let v7543 : BitVec 32 := Scalar.addi v7522 c32_i32_2983
  v7543
def k0_mult254 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2970 : BitVec 32 := 512#32
  let v7521 : BitVec 32 := Scalar.muli v334 c512_i32_2970
  let c464_i32 : BitVec 32 := 464#32
  let v7522 : BitVec 32 := Scalar.addi v7521 c464_i32
  let c40_i32_2986 : BitVec 32 := 40#32
  let v7548 : BitVec 32 := Scalar.addi v7522 c40_i32_2986
  v7548
def k0_mult255 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2970 : BitVec 32 := 512#32
  let v7521 : BitVec 32 := Scalar.muli v334 c512_i32_2970
  let c464_i32 : BitVec 32 := 464#32
  let v7522 : BitVec 32 := Scalar.addi v7521 c464_i32
  let c48_i32_2989 : BitVec 32 := 48#32
  let v7553 : BitVec 32 := Scalar.addi v7522 c48_i32_2989
  let c2040_i32 : BitVec 32 := 2040#32
  let v7554 : BitVec 32 := Scalar.minsi v7553 c2040_i32
  v7554
def k0_off9 (i : grid0.Coords) (c48_i32_2989 : BitVec 32) : Fin 3 → Nat :=
  let c0_2990 : Index := 0#32
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2970 : BitVec 32 := 512#32
  let v7521 : BitVec 32 := Scalar.muli v334 c512_i32_2970
  let c464_i32 : BitVec 32 := 464#32
  let v7522 : BitVec 32 := Scalar.addi v7521 c464_i32
  let v7553 : BitVec 32 := Scalar.addi v7522 c48_i32_2989
  let c2040_i32 : BitVec 32 := 2040#32
  let v7554 : BitVec 32 := Scalar.minsi v7553 c2040_i32
  let v7555 : BitVec 32 := v7554
  let v7556 : Index := Scalar.indexCast v7555
  let c0_2991 : Index := 0#32
  ![0, v7556.toNat, 0]
def k0_mult256 (i : grid0.Coords) : BitVec 32 :=
  let arg1 : BitVec 32 := BitVec.ofNat 32 (i 1).val
  let c1_i32_212 : BitVec 32 := 1#32
  let v324 : BitVec 32 := Scalar.addi arg1 c1_i32_212
  let c4_i32_213 : BitVec 32 := 4#32
  let c0_i32_214 : BitVec 32 := 0#32
  let v325 : BitVec 1 := Scalar.cmpi .eq c4_i32_213 c0_i32_214
  let c1_i32_215 : BitVec 32 := 1#32
  let v326 : BitVec 32 := Scalar.select v325 c1_i32_215 c4_i32_213
  let v327 : BitVec 32 := Scalar.remsi v324 v326
  let c0_i32_217 : BitVec 32 := 0#32
  let v329 : BitVec 1 := Scalar.cmpi .slt v327 c0_i32_217
  let c0_i32_218 : BitVec 32 := 0#32
  let v330 : BitVec 1 := Scalar.cmpi .slt v326 c0_i32_218
  let v331 : BitVec 1 := Scalar.xori v329 v330
  let c0_i32_216 : BitVec 32 := 0#32
  let v328 : BitVec 1 := Scalar.cmpi .ne v327 c0_i32_216
  let v332 : BitVec 1 := Scalar.andi v331 v328
  let v333 : BitVec 32 := Scalar.addi v327 v326
  let v334 : BitVec 32 := Scalar.select v332 v333 v327
  let c512_i32_2970 : BitVec 32 := 512#32
  let v7521 : BitVec 32 := Scalar.muli v334 c512_i32_2970
  let c464_i32 : BitVec 32 := 464#32
  let v7522 : BitVec 32 := Scalar.addi v7521 c464_i32
  let c56_i32_2992 : BitVec 32 := 56#32
  let v7560 : BitVec 32 := Scalar.addi v7522 c56_i32_2992
  let c2040_i32_2993 : BitVec 32 := 2040#32
  let v7561 : BitVec 32 := Scalar.minsi v7560 c2040_i32_2993
  v7561
def k0_off10 (i : grid0.Coords) : Fin 3 → Nat :=
  let c1_i32_211 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v323 : BitVec 32 := Scalar.subi c1_i32_211 v11
  let v8030 : Index := Scalar.indexCast v323
  let c384 : Index := 384#32
  let c0_3164 : Index := 0#32
  ![v8030.toNat, 384, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi arg0 v17
  let c15_i32 : BitVec 32 := 15#32
  let v19 : BitVec 32 := Scalar.minsi v18 c15_i32
  let c0_i32_5 : BitVec 32 := 0#32
  let c0_i32_6 : BitVec 32 := 0#32
  let c0_i32_7 : BitVec 32 := 0#32
  ![v19.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S31x256 : Shape := ⟨2, ![31, 256]⟩
abbrev S256 : Shape := ⟨1, ![256]⟩
abbrev S16x6x1024 : Shape := ⟨3, ![16, 6, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S16x1x1024 : Shape := ⟨3, ![16, 1, 1024]⟩
abbrev S_ : Shape := ⟨0, ![]⟩
abbrev S16x2078x256 : Shape := ⟨3, ![16, 2078, 256]⟩
abbrev S1x256 : Shape := ⟨2, ![1, 256]⟩
abbrev S1x1x256 : Shape := ⟨3, ![1, 1, 256]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩

abbrev nBuf : Space → Nat
  | .hbm => 331
  | .vmem => 0
  | .smem => 0
  | _ => 0

abbrev hbmTy0_0 (i : Nat) : BufTy := match i % 128 with
  | 0 => ⟨S16x2048x1024, .f32⟩
  | 1 => ⟨S16x2048x256, .f32⟩
  | 2 => ⟨S16x2048x512, .f32⟩
  | 3 => ⟨S16x2048x256, .f32⟩
  | 4 => ⟨S31x256, .f32⟩
  | 5 => ⟨S256, .f32⟩
  | 6 => ⟨S256, .f32⟩
  | 7 => ⟨S256, .f32⟩
  | 8 => ⟨S16x6x1024, .f32⟩
  | 9 => ⟨S1024, .f32⟩
  | 10 => ⟨S1024, .f32⟩
  | 11 => ⟨S1024x1024, .f32⟩
  | 12 => ⟨S1024x4096, .f32⟩
  | 13 => ⟨S4096x1024, .f32⟩
  | 14 => ⟨S16x1x1024, .f32⟩
  | 15 => ⟨S16x1x1024, .f32⟩
  | 16 => ⟨S16x1x1024, .f32⟩
  | 17 => ⟨S16x1x1024, .f32⟩
  | 18 => ⟨S_, .i32⟩
  | 19 => ⟨S_, .f32⟩
  | 20 => ⟨S16x2078x256, .f32⟩
  | 21 => ⟨S1x256, .f32⟩
  | 22 => ⟨S256, .f32⟩
  | 23 => ⟨S16x2048x256, .f32⟩
  | 24 => ⟨S1x1x256, .f32⟩
  | 25 => ⟨S16x2048x256, .f32⟩
  | 26 => ⟨S16x2048x256, .f32⟩
  | 27 => ⟨S1x256, .f32⟩
  | 28 => ⟨S256, .f32⟩
  | 29 => ⟨S16x2048x256, .f32⟩
  | 30 => ⟨S1x1x256, .f32⟩
  | 31 => ⟨S16x2048x256, .f32⟩
  | 32 => ⟨S16x2048x256, .f32⟩
  | 33 => ⟨S16x2048x256, .f32⟩
  | 34 => ⟨S1x256, .f32⟩
  | 35 => ⟨S256, .f32⟩
  | 36 => ⟨S16x2048x256, .f32⟩
  | 37 => ⟨S1x1x256, .f32⟩
  | 38 => ⟨S16x2048x256, .f32⟩
  | 39 => ⟨S16x2048x256, .f32⟩
  | 40 => ⟨S16x2048x256, .f32⟩
  | 41 => ⟨S1x256, .f32⟩
  | 42 => ⟨S256, .f32⟩
  | 43 => ⟨S16x2048x256, .f32⟩
  | 44 => ⟨S1x1x256, .f32⟩
  | 45 => ⟨S16x2048x256, .f32⟩
  | 46 => ⟨S16x2048x256, .f32⟩
  | 47 => ⟨S16x2048x256, .f32⟩
  | 48 => ⟨S1x256, .f32⟩
  | 49 => ⟨S256, .f32⟩
  | 50 => ⟨S16x2048x256, .f32⟩
  | 51 => ⟨S1x1x256, .f32⟩
  | 52 => ⟨S16x2048x256, .f32⟩
  | 53 => ⟨S16x2048x256, .f32⟩
  | 54 => ⟨S16x2048x256, .f32⟩
  | 55 => ⟨S1x256, .f32⟩
  | 56 => ⟨S256, .f32⟩
  | 57 => ⟨S16x2048x256, .f32⟩
  | 58 => ⟨S1x1x256, .f32⟩
  | 59 => ⟨S16x2048x256, .f32⟩
  | 60 => ⟨S16x2048x256, .f32⟩
  | 61 => ⟨S16x2048x256, .f32⟩
  | 62 => ⟨S1x256, .f32⟩
  | 63 => ⟨S256, .f32⟩
  | 64 => ⟨S16x2048x256, .f32⟩
  | 65 => ⟨S1x1x256, .f32⟩
  | 66 => ⟨S16x2048x256, .f32⟩
  | 67 => ⟨S16x2048x256, .f32⟩
  | 68 => ⟨S16x2048x256, .f32⟩
  | 69 => ⟨S1x256, .f32⟩
  | 70 => ⟨S256, .f32⟩
  | 71 => ⟨S16x2048x256, .f32⟩
  | 72 => ⟨S1x1x256, .f32⟩
  | 73 => ⟨S16x2048x256, .f32⟩
  | 74 => ⟨S16x2048x256, .f32⟩
  | 75 => ⟨S16x2048x256, .f32⟩
  | 76 => ⟨S1x256, .f32⟩
  | 77 => ⟨S256, .f32⟩
  | 78 => ⟨S16x2048x256, .f32⟩
  | 79 => ⟨S1x1x256, .f32⟩
  | 80 => ⟨S16x2048x256, .f32⟩
  | 81 => ⟨S16x2048x256, .f32⟩
  | 82 => ⟨S16x2048x256, .f32⟩
  | 83 => ⟨S1x256, .f32⟩
  | 84 => ⟨S256, .f32⟩
  | 85 => ⟨S16x2048x256, .f32⟩
  | 86 => ⟨S1x1x256, .f32⟩
  | 87 => ⟨S16x2048x256, .f32⟩
  | 88 => ⟨S16x2048x256, .f32⟩
  | 89 => ⟨S16x2048x256, .f32⟩
  | 90 => ⟨S1x256, .f32⟩
  | 91 => ⟨S256, .f32⟩
  | 92 => ⟨S16x2048x256, .f32⟩
  | 93 => ⟨S1x1x256, .f32⟩
  | 94 => ⟨S16x2048x256, .f32⟩
  | 95 => ⟨S16x2048x256, .f32⟩
  | 96 => ⟨S16x2048x256, .f32⟩
  | 97 => ⟨S1x256, .f32⟩
  | 98 => ⟨S256, .f32⟩
  | 99 => ⟨S16x2048x256, .f32⟩
  | 100 => ⟨S1x1x256, .f32⟩
  | 101 => ⟨S16x2048x256, .f32⟩
  | 102 => ⟨S16x2048x256, .f32⟩
  | 103 => ⟨S16x2048x256, .f32⟩
  | 104 => ⟨S1x256, .f32⟩
  | 105 => ⟨S256, .f32⟩
  | 106 => ⟨S16x2048x256, .f32⟩
  | 107 => ⟨S1x1x256, .f32⟩
  | 108 => ⟨S16x2048x256, .f32⟩
  | 109 => ⟨S16x2048x256, .f32⟩
  | 110 => ⟨S16x2048x256, .f32⟩
  | 111 => ⟨S1x256, .f32⟩
  | 112 => ⟨S256, .f32⟩
  | 113 => ⟨S16x2048x256, .f32⟩
  | 114 => ⟨S1x1x256, .f32⟩
  | 115 => ⟨S16x2048x256, .f32⟩
  | 116 => ⟨S16x2048x256, .f32⟩
  | 117 => ⟨S16x2048x256, .f32⟩
  | 118 => ⟨S1x256, .f32⟩
  | 119 => ⟨S256, .f32⟩
  | 120 => ⟨S16x2048x256, .f32⟩
  | 121 => ⟨S1x1x256, .f32⟩
  | 122 => ⟨S16x2048x256, .f32⟩
  | 123 => ⟨S16x2048x256, .f32⟩
  | 124 => ⟨S16x2048x256, .f32⟩
  | 125 => ⟨S1x256, .f32⟩
  | 126 => ⟨S256, .f32⟩
  | 127 => ⟨S16x2048x256, .f32⟩
  | _ => ⟨S16x2048x1024, .f32⟩

abbrev hbmTy0_1 (i : Nat) : BufTy := match i % 128 with
  | 0 => ⟨S1x1x256, .f32⟩
  | 1 => ⟨S16x2048x256, .f32⟩
  | 2 => ⟨S16x2048x256, .f32⟩
  | 3 => ⟨S16x2048x256, .f32⟩
  | 4 => ⟨S1x256, .f32⟩
  | 5 => ⟨S256, .f32⟩
  | 6 => ⟨S16x2048x256, .f32⟩
  | 7 => ⟨S1x1x256, .f32⟩
  | 8 => ⟨S16x2048x256, .f32⟩
  | 9 => ⟨S16x2048x256, .f32⟩
  | 10 => ⟨S16x2048x256, .f32⟩
  | 11 => ⟨S1x256, .f32⟩
  | 12 => ⟨S256, .f32⟩
  | 13 => ⟨S16x2048x256, .f32⟩
  | 14 => ⟨S1x1x256, .f32⟩
  | 15 => ⟨S16x2048x256, .f32⟩
  | 16 => ⟨S16x2048x256, .f32⟩
  | 17 => ⟨S16x2048x256, .f32⟩
  | 18 => ⟨S1x256, .f32⟩
  | 19 => ⟨S256, .f32⟩
  | 20 => ⟨S16x2048x256, .f32⟩
  | 21 => ⟨S1x1x256, .f32⟩
  | 22 => ⟨S16x2048x256, .f32⟩
  | 23 => ⟨S16x2048x256, .f32⟩
  | 24 => ⟨S16x2048x256, .f32⟩
  | 25 => ⟨S1x256, .f32⟩
  | 26 => ⟨S256, .f32⟩
  | 27 => ⟨S16x2048x256, .f32⟩
  | 28 => ⟨S1x1x256, .f32⟩
  | 29 => ⟨S16x2048x256, .f32⟩
  | 30 => ⟨S16x2048x256, .f32⟩
  | 31 => ⟨S16x2048x256, .f32⟩
  | 32 => ⟨S1x256, .f32⟩
  | 33 => ⟨S256, .f32⟩
  | 34 => ⟨S16x2048x256, .f32⟩
  | 35 => ⟨S1x1x256, .f32⟩
  | 36 => ⟨S16x2048x256, .f32⟩
  | 37 => ⟨S16x2048x256, .f32⟩
  | 38 => ⟨S16x2048x256, .f32⟩
  | 39 => ⟨S1x256, .f32⟩
  | 40 => ⟨S256, .f32⟩
  | 41 => ⟨S16x2048x256, .f32⟩
  | 42 => ⟨S1x1x256, .f32⟩
  | 43 => ⟨S16x2048x256, .f32⟩
  | 44 => ⟨S16x2048x256, .f32⟩
  | 45 => ⟨S16x2048x256, .f32⟩
  | 46 => ⟨S1x256, .f32⟩
  | 47 => ⟨S256, .f32⟩
  | 48 => ⟨S16x2048x256, .f32⟩
  | 49 => ⟨S1x1x256, .f32⟩
  | 50 => ⟨S16x2048x256, .f32⟩
  | 51 => ⟨S16x2048x256, .f32⟩
  | 52 => ⟨S16x2048x256, .f32⟩
  | 53 => ⟨S1x256, .f32⟩
  | 54 => ⟨S256, .f32⟩
  | 55 => ⟨S16x2048x256, .f32⟩
  | 56 => ⟨S1x1x256, .f32⟩
  | 57 => ⟨S16x2048x256, .f32⟩
  | 58 => ⟨S16x2048x256, .f32⟩
  | 59 => ⟨S16x2048x256, .f32⟩
  | 60 => ⟨S1x256, .f32⟩
  | 61 => ⟨S256, .f32⟩
  | 62 => ⟨S16x2048x256, .f32⟩
  | 63 => ⟨S1x1x256, .f32⟩
  | 64 => ⟨S16x2048x256, .f32⟩
  | 65 => ⟨S16x2048x256, .f32⟩
  | 66 => ⟨S16x2048x256, .f32⟩
  | 67 => ⟨S1x256, .f32⟩
  | 68 => ⟨S256, .f32⟩
  | 69 => ⟨S16x2048x256, .f32⟩
  | 70 => ⟨S1x1x256, .f32⟩
  | 71 => ⟨S16x2048x256, .f32⟩
  | 72 => ⟨S16x2048x256, .f32⟩
  | 73 => ⟨S16x2048x256, .f32⟩
  | 74 => ⟨S1x256, .f32⟩
  | 75 => ⟨S256, .f32⟩
  | 76 => ⟨S16x2048x256, .f32⟩
  | 77 => ⟨S1x1x256, .f32⟩
  | 78 => ⟨S16x2048x256, .f32⟩
  | 79 => ⟨S16x2048x256, .f32⟩
  | 80 => ⟨S16x2048x256, .f32⟩
  | 81 => ⟨S1x256, .f32⟩
  | 82 => ⟨S256, .f32⟩
  | 83 => ⟨S16x2048x256, .f32⟩
  | 84 => ⟨S1x1x256, .f32⟩
  | 85 => ⟨S16x2048x256, .f32⟩
  | 86 => ⟨S16x2048x256, .f32⟩
  | 87 => ⟨S16x2048x256, .f32⟩
  | 88 => ⟨S1x256, .f32⟩
  | 89 => ⟨S256, .f32⟩
  | 90 => ⟨S16x2048x256, .f32⟩
  | 91 => ⟨S1x1x256, .f32⟩
  | 92 => ⟨S16x2048x256, .f32⟩
  | 93 => ⟨S16x2048x256, .f32⟩
  | 94 => ⟨S16x2048x256, .f32⟩
  | 95 => ⟨S1x256, .f32⟩
  | 96 => ⟨S256, .f32⟩
  | 97 => ⟨S16x2048x256, .f32⟩
  | 98 => ⟨S1x1x256, .f32⟩
  | 99 => ⟨S16x2048x256, .f32⟩
  | 100 => ⟨S16x2048x256, .f32⟩
  | 101 => ⟨S16x2048x256, .f32⟩
  | 102 => ⟨S1x256, .f32⟩
  | 103 => ⟨S256, .f32⟩
  | 104 => ⟨S16x2048x256, .f32⟩
  | 105 => ⟨S1x1x256, .f32⟩
  | 106 => ⟨S16x2048x256, .f32⟩
  | 107 => ⟨S16x2048x256, .f32⟩
  | 108 => ⟨S16x2048x256, .f32⟩
  | 109 => ⟨S1x1x256, .f32⟩
  | 110 => ⟨S16x2048x256, .f32⟩
  | 111 => ⟨S16x2048x256, .f32⟩
  | 112 => ⟨S_, .f32⟩
  | 113 => ⟨S16x2048, .f32⟩
  | 114 => ⟨S16x2048x1, .f32⟩
  | 115 => ⟨S_, .f32⟩
  | 116 => ⟨S16x2048x1, .f32⟩
  | 117 => ⟨S16x2048x1, .f32⟩
  | 118 => ⟨S16x2048x256, .f32⟩
  | 119 => ⟨S16x2048x256, .f32⟩
  | 120 => ⟨S16x2048x256, .f32⟩
  | 121 => ⟨S_, .f32⟩
  | 122 => ⟨S16x2048, .f32⟩
  | 123 => ⟨S16x2048x1, .f32⟩
  | 124 => ⟨S_, .f32⟩
  | 125 => ⟨S16x2048x1, .f32⟩
  | 126 => ⟨S16x2048x1, .f32⟩
  | 127 => ⟨S16x2048x256, .f32⟩
  | _ => ⟨S16x2048x1024, .f32⟩

abbrev hbmTy0_2 (i : Nat) : BufTy := match i % 128 with
  | 0 => ⟨S16x2048x256, .f32⟩
  | 1 => ⟨S_, .f32⟩
  | 2 => ⟨S16x2048x1, .f32⟩
  | 3 => ⟨S16x2048x1, .f32⟩
  | 4 => ⟨S16x2048x1, .f32⟩
  | 5 => ⟨S16x2048x256, .f32⟩
  | 6 => ⟨S16x2048x256, .f32⟩
  | 7 => ⟨S1x1x256, .f32⟩
  | 8 => ⟨S16x2048x256, .f32⟩
  | 9 => ⟨S16x2048x256, .f32⟩
  | 10 => ⟨S1x1x256, .f32⟩
  | 11 => ⟨S16x2048x256, .f32⟩
  | 12 => ⟨S16x2048x256, .f32⟩
  | 13 => ⟨S16x2048x256, .f32⟩
  | 14 => ⟨S16x2048x256, .f32⟩
  | 15 => ⟨S_, .f32⟩
  | 16 => ⟨S16x2048x256, .f32⟩
  | 17 => ⟨S16x2048x256, .f32⟩
  | 18 => ⟨S_, .f32⟩
  | 19 => ⟨S16x2048x256, .f32⟩
  | 20 => ⟨S16x2048x256, .f32⟩
  | 21 => ⟨S16x2048x256, .f32⟩
  | 22 => ⟨S16x2048x1024, .f32⟩
  | 23 => ⟨S16x2048x1024, .f32⟩
  | 24 => ⟨S16x2048x1024, .f32⟩
  | 25 => ⟨S16x2048x1024, .f32⟩
  | 26 => ⟨S16x2048x1024, .f32⟩
  | 27 => ⟨S16x2048x1024, .f32⟩
  | 28 => ⟨S_, .f32⟩
  | 29 => ⟨S16x2048, .f32⟩
  | 30 => ⟨S16x2048x1, .f32⟩
  | 31 => ⟨S_, .f32⟩
  | 32 => ⟨S16x2048x1, .f32⟩
  | 33 => ⟨S16x2048x1, .f32⟩
  | 34 => ⟨S_, .f32⟩
  | 35 => ⟨S16x2048x1, .f32⟩
  | 36 => ⟨S16x2048x1, .f32⟩
  | 37 => ⟨S16x2048x1, .f32⟩
  | 38 => ⟨S16x2048x1024, .f32⟩
  | 39 => ⟨S16x2048x1024, .f32⟩
  | 40 => ⟨S1x1x1024, .f32⟩
  | 41 => ⟨S16x2048x1024, .f32⟩
  | 42 => ⟨S16x2048x1024, .f32⟩
  | 43 => ⟨S_, .f32⟩
  | 44 => ⟨S16x1x1024, .f32⟩
  | 45 => ⟨S16x1x1024, .f32⟩
  | 46 => ⟨S16x2048x1024, .f32⟩
  | 47 => ⟨S16x2048x1024, .f32⟩
  | 48 => ⟨S16x2048x1024, .f32⟩
  | 49 => ⟨S16x2048x1024, .f32⟩
  | 50 => ⟨S16x2048x4096, .f32⟩
  | 51 => ⟨S_, .f32⟩
  | 52 => ⟨S16x2048x4096, .f32⟩
  | 53 => ⟨S16x2048x4096, .f32⟩
  | 54 => ⟨S16x2048x4096, .f32⟩
  | 55 => ⟨S16x2048x1024, .f32⟩
  | 56 => ⟨S16x2048x1024, .f32⟩
  | 57 => ⟨S16x2048x1024, .f32⟩
  | 58 => ⟨S16x2048x1024, .f32⟩
  | 59 => ⟨S16x2048x1024, .f32⟩
  | 60 => ⟨S_, .f32⟩
  | 61 => ⟨S16x2048, .f32⟩
  | 62 => ⟨S16x2048x1, .f32⟩
  | 63 => ⟨S_, .f32⟩
  | 64 => ⟨S16x2048x1, .f32⟩
  | 65 => ⟨S16x2048x1, .f32⟩
  | 66 => ⟨S_, .f32⟩
  | 67 => ⟨S16x2048x1, .f32⟩
  | 68 => ⟨S16x2048x1, .f32⟩
  | 69 => ⟨S16x2048x1, .f32⟩
  | 70 => ⟨S16x2048x1024, .f32⟩
  | 71 => ⟨S16x2048x1024, .f32⟩
  | 72 => ⟨S1x1x1024, .f32⟩
  | 73 => ⟨S16x2048x1024, .f32⟩
  | 74 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_cst : Ref sig .tc := ⟨.hbm, 240, rfl⟩
abbrev main_v224 : Ref sig .tc := ⟨.hbm, 241, rfl⟩
abbrev main_v225 : Ref sig .tc := ⟨.hbm, 242, rfl⟩
abbrev main_cst_0 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_cst_1 : Ref sig .tc := ⟨.hbm, 249, rfl⟩
abbrev main_v231 : Ref sig .tc := ⟨.hbm, 250, rfl⟩
abbrev main_v232 : Ref sig .tc := ⟨.hbm, 251, rfl⟩
abbrev main_cst_2 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_cst_3 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_call1_v0 : Ref sig .tc := ⟨.hbm, 269, rfl⟩
abbrev main_call1_v1 : Ref sig .tc := ⟨.hbm, 270, rfl⟩
abbrev main_call1_cst : Ref sig .tc := ⟨.hbm, 271, rfl⟩
abbrev main_call1_v2 : Ref sig .tc := ⟨.hbm, 272, rfl⟩
abbrev main_call1_v3 : Ref sig .tc := ⟨.hbm, 273, rfl⟩
abbrev main_call1_cst_0 : Ref sig .tc := ⟨.hbm, 274, rfl⟩
abbrev main_call1_v4 : Ref sig .tc := ⟨.hbm, 275, rfl⟩
abbrev main_call1_v5 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_cst_4 : Ref sig .tc := ⟨.hbm, 284, rfl⟩
abbrev main_v255 : Ref sig .tc := ⟨.hbm, 285, rfl⟩
abbrev main_v256 : Ref sig .tc := ⟨.hbm, 286, rfl⟩
abbrev main_cst_5 : Ref sig .tc := ⟨.hbm, 287, rfl⟩
abbrev main_v257 : Ref sig .tc := ⟨.hbm, 288, rfl⟩
abbrev main_v258 : Ref sig .tc := ⟨.hbm, 289, rfl⟩
abbrev main_cst_6 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_cst_7 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_call2_cst : Ref sig .tc := ⟨.hbm, 307, rfl⟩
abbrev main_call2_v0 : Ref sig .tc := ⟨.hbm, 308, rfl⟩
abbrev main_v274 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_cst_8 : Ref sig .tc := ⟨.hbm, 316, rfl⟩
abbrev main_v281 : Ref sig .tc := ⟨.hbm, 317, rfl⟩
abbrev main_v282 : Ref sig .tc := ⟨.hbm, 318, rfl⟩
abbrev main_cst_9 : Ref sig .tc := ⟨.hbm, 319, rfl⟩
abbrev main_v283 : Ref sig .tc := ⟨.hbm, 320, rfl⟩
abbrev main_v284 : Ref sig .tc := ⟨.hbm, 321, rfl⟩
abbrev main_cst_10 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x6x1024 : Shape := ⟨3, ![16, 6, 1024]⟩
abbrev S1024 : Shape := ⟨1, ![1024]⟩
abbrev S1024x2560 : Shape := ⟨2, ![1024, 2560]⟩
abbrev S1x1024 : Shape := ⟨2, ![1, 1024]⟩
abbrev S1x1024x2560 : Shape := ⟨3, ![1, 1024, 2560]⟩
abbrev S16x2048x256 : Shape := ⟨3, ![16, 2048, 256]⟩
abbrev S16x2048x512 : Shape := ⟨3, ![16, 2048, 512]⟩
abbrev S1x1024x1024 : Shape := ⟨3, ![1, 1024, 1024]⟩
abbrev S1x6x1024 : Shape := ⟨3, ![1, 6, 1024]⟩
abbrev S1x1024x256 : Shape := ⟨3, ![1, 1024, 256]⟩
abbrev S1x1024x512 : Shape := ⟨3, ![1, 1024, 512]⟩
abbrev S1024x1024 : Shape := ⟨2, ![1024, 1024]⟩
abbrev S1024x1 : Shape := ⟨2, ![1024, 1]⟩
abbrev S1x1x1024 : Shape := ⟨3, ![1, 1, 1024]⟩
abbrev S1024x256 : Shape := ⟨2, ![1024, 256]⟩
abbrev S1024x512 : Shape := ⟨2, ![1024, 512]⟩

abbrev nBuf : Space → Nat
  | .hbm => 13
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1024, .f32⟩
  | .hbm, ⟨3, _⟩ => ⟨S1024x2560, .f32⟩
  | .hbm, ⟨4, _⟩ => ⟨S1x1024, .f32⟩
  | .hbm, ⟨5, _⟩ => ⟨S1024x2560, .bf16⟩
  | .hbm, ⟨6, _⟩ => ⟨S1x1024x2560, .bf16⟩
  | .hbm, ⟨7, _⟩ => ⟨S16x2048x256, .f32⟩
  | .hbm, ⟨8, _⟩ => ⟨S16x2048x512, .bf16⟩
  | .hbm, ⟨9, _⟩ => ⟨S16x2048x512, .bf16⟩
  | .hbm, ⟨10, _⟩ => ⟨S16x2048x512, .bf16⟩
  | .hbm, ⟨11, _⟩ => ⟨S16x2048x256, .f32⟩
  | .hbm, ⟨12, _⟩ => ⟨S16x2048x256, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024x2560, .bf16⟩
  | .local _ .vmem, ⟨6, _⟩ => ⟨S1x1024x256, .f32⟩
  | .local _ .vmem, ⟨7, _⟩ => ⟨S1x1024x256, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x256, .f32⟩
  | .local _ .vmem, ⟨15, _⟩ => ⟨S1x1024x256, .f32⟩
  | .local _ .vmem, ⟨16, _⟩ => ⟨S1x1024x256, .f32⟩
  | .local _ .vmem, ⟨17, _⟩ => ⟨S1x1024x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S16x2048x1024 : Shape := ⟨3, ![16, 2048, 1024]⟩
abbrev S16x6x1024 : Shape := ⟨3, ![16, 6, 1024]⟩
abbrev S1024 : Shape := ⟨1, ![1024]⟩
abbrev S1024x2560 : Shape := ⟨2, ![1024, 2560]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2560 : Shape := ⟨3, ![16, 2048, 2560]⟩
abbrev S16x2048x256 : Shape := ⟨3, ![16, 2048, 256]⟩
abbrev S16x2048x512 : Shape := ⟨3, ![16, 2048, 512]⟩

abbrev nBuf : Space → Nat
  | .hbm => 52
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1024, .f32⟩
  | .hbm, ⟨3, _⟩ => ⟨S1024x2560, .f32⟩
  | .hbm, ⟨4, _⟩ => ⟨S16x1x1024, .f32⟩
  | .hbm, ⟨5, _⟩ => ⟨S16x1x1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x2560, .f32⟩
  | .hbm, ⟨30, _⟩ => ⟨S16x2048x256, .f32⟩
  | .hbm, ⟨31, _⟩ => ⟨S16x2048x256, .f32⟩
  | .hbm, ⟨32, _⟩ => ⟨S16x2048x512, .f32⟩
  | .hbm, ⟨33, _⟩ => ⟨S16x2048x512, .f32⟩
  | .hbm, ⟨34, _⟩ => ⟨S16x2048x512, .f32⟩
  | .hbm, ⟨35, _⟩ => ⟨S16x2048x256, .f32⟩
  | .hbm, ⟨36, _⟩ => ⟨S16x2048x256, .f32⟩
  | .hbm, ⟨37, _⟩ => ⟨S16x2048x256, .f32⟩
  | .hbm, ⟨38, _⟩ => ⟨S16x2048x256, .f32⟩
  | .hbm, ⟨39, _⟩ => ⟨S_, .f32⟩
  | .hbm, ⟨40, _⟩ => ⟨S16x2048x256, .f32⟩
  | .hbm, ⟨41, _⟩ => ⟨S16x2048x256, .f32⟩
  | .hbm, ⟨42, _⟩ => ⟨S_, .f32⟩
  | .hbm, ⟨43, _⟩ => ⟨S16x2048x256, .f32⟩
  | .hbm, ⟨44, _⟩ => ⟨S16x2048x256, .f32⟩
  | .hbm, ⟨45, _⟩ => ⟨S16x2048x256, .f32⟩
  | .hbm, ⟨46, _⟩ => ⟨S_, .f32⟩
  | .hbm, ⟨47, _⟩ => ⟨S16x2048x512, .f32⟩
  | .hbm, ⟨48, _⟩ => ⟨S16x2048x512, .f32⟩
  | .hbm, ⟨49, _⟩ => ⟨S16x2048x512, .bf16⟩
  | .hbm, ⟨50, _⟩ => ⟨S16x2048x512, .bf16⟩
  | .hbm, ⟨51, _⟩ => ⟨S16x2048x512, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel3.lean ====
abbrev S16x256x512 : Shape := ⟨3, ![16, 256, 512]⟩
abbrev S_ : Shape := ⟨0, ![]⟩
abbrev S1x256x256 : Shape := ⟨3, ![1, 256, 256]⟩
abbrev S1x256 : Shape := ⟨2, ![1, 256]⟩
abbrev S256x256 : Shape := ⟨2, ![256, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 13
  | .vmem => 8
  | .smem => 0
  | _ => 0

abbrev bufTy : (tb : Table) → Fin (tcTables nBuf tb) → BufTy
  | .hbm, ⟨0, _⟩ => ⟨S16x256x512, .f32⟩
  | .hbm, ⟨1, _⟩ => ⟨S16x256x512, .f32⟩
  | .hbm, ⟨2, _⟩ => ⟨S16x256x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16x256x512, .f32⟩
  | .hbm, ⟨8, _⟩ => ⟨S16x256x512, .f32⟩
  | .hbm, ⟨9, _⟩ => ⟨S16x256x512, .bf16⟩
  | .hbm, ⟨10, _⟩ => ⟨S16x256x512, .bf16⟩
  | .hbm, ⟨11, _⟩ => ⟨S16x256x512, .bf16⟩
  | .hbm, ⟨12, _⟩ => ⟨S16x256x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | _, _ => ⟨S16x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16x256x512 : Shape := ⟨3, ![16, 256, 512]⟩
abbrev S16x256x8x64 : Shape := ⟨4, ![16, 256, 8, 64]⟩
abbrev S16x8x256x64 : Shape := ⟨4, ![16, 8, 256, 64]⟩
abbrev S16x8x256x256 : Shape := ⟨4, ![16, 8, 256, 256]⟩
abbrev S_ : Shape := ⟨0, ![]⟩
abbrev S16x8x256 : Shape := ⟨3, ![16, 8, 256]⟩
abbrev S16x8x256x1 : Shape := ⟨4, ![16, 8, 256, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x256x512, .f32⟩
  | .hbm, ⟨1, _⟩ => ⟨S16x256x512, .f32⟩
  | .hbm, ⟨2, _⟩ => ⟨S16x256x512, .f32⟩
  | .hbm, ⟨3, _⟩ => ⟨S16x256x8x64, .f32⟩
  | .hbm, ⟨4, _⟩ => ⟨S16x8x256x64, .f32⟩
  | .hbm, ⟨5, _⟩ => ⟨S16x256x8x64, .f32⟩
  | .hbm, ⟨6, _⟩ => ⟨S16x8x256x64, .f32⟩
  | .hbm, ⟨7, _⟩ => ⟨S16x256x8x64, .f32⟩
  | .hbm, ⟨8, _⟩ => ⟨S16x8x256x64, .f32⟩
  | .hbm, ⟨9, _⟩ => ⟨S16x8x256x256, .f32⟩
  | .hbm, ⟨10, _⟩ => ⟨S_, .f32⟩
  | .hbm, ⟨11, _⟩ => ⟨S16x8x256x256, .f32⟩
  | .hbm, ⟨12, _⟩ => ⟨S16x8x256x256, .f32⟩
  | .hbm, ⟨13, _⟩ => ⟨S_, .f32⟩
  | .hbm, ⟨14, _⟩ => ⟨S16x8x256, .f32⟩
  | .hbm, ⟨15, _⟩ => ⟨S_, .f32⟩
  | .hbm, ⟨16, _⟩ => ⟨S16x8x256, .f32⟩
  | .hbm, ⟨17, _⟩ => ⟨S16x8x256, .f32⟩
  | .hbm, ⟨18, _⟩ => ⟨S16x8x256x1, .f32⟩
  | .hbm, ⟨19, _⟩ => ⟨S16x8x256x256, .f32⟩
  | .hbm, ⟨20, _⟩ => ⟨S16x8x256x256, .f32⟩
  | .hbm, ⟨21, _⟩ => ⟨S16x8x256x256, .f32⟩
  | .hbm, ⟨22, _⟩ => ⟨S_, .f32⟩
  | .hbm, ⟨23, _⟩ => ⟨S16x8x256, .f32⟩
  | .hbm, ⟨24, _⟩ => ⟨S16x8x256x1, .f32⟩
  | .hbm, ⟨25, _⟩ => ⟨S16x8x256x256, .f32⟩
  | .hbm, ⟨26, _⟩ => ⟨S16x8x256x256, .f32⟩
  | .hbm, ⟨27, _⟩ => ⟨S16x8x256x64, .f32⟩
  | .hbm, ⟨28, _⟩ => ⟨S16x256x8x64, .f32⟩
  | .hbm, ⟨29, _⟩ => ⟨S16x256x512, .f32⟩
  | .hbm, ⟨30, _⟩ => ⟨S16x256x512, .bf16⟩
  | _, _ => ⟨S16x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel4.lean ====
abbrev S16x256x1024 : Shape := ⟨3, ![16, 256, 1024]⟩
abbrev S16x256x256 : Shape := ⟨3, ![16, 256, 256]⟩
abbrev S16x256x512 : Shape := ⟨3, ![16, 256, 512]⟩
abbrev S6x1024 : Shape := ⟨2, ![6, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x6x1024 : Shape := ⟨3, ![1, 6, 1024]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1x256x256 : Shape := ⟨3, ![1, 256, 256]⟩
abbrev S1x256x512 : Shape := ⟨3, ![1, 256, 512]⟩
abbrev S256x1024 : Shape := ⟨2, ![256, 1024]⟩
abbrev S256x256 : Shape := ⟨2, ![256, 256]⟩
abbrev S256x512 : Shape := ⟨2, ![256, 512]⟩
abbrev S1x512x1024 : Shape := ⟨3, ![1, 512, 1024]⟩
abbrev S512x1024 : Shape := ⟨2, ![512, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 23
  | .vmem => 16
  | .smem => 0
  | _ => 0

abbrev bufTy : (tb : Table) → Fin (tcTables nBuf tb) → BufTy
  | .hbm, ⟨0, _⟩ => ⟨S16x256x1024, .f32⟩
  | .hbm, ⟨1, _⟩ => ⟨S16x256x256, .f32⟩
  | .hbm, ⟨2, _⟩ => ⟨S16x256x512, .f32⟩
  | .hbm, ⟨3, _⟩ => ⟨S16x256x256, .f32⟩
  | .hbm, ⟨4, _⟩ => ⟨S6x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x4096, .f32⟩
  | .hbm, ⟨9, _⟩ => ⟨S4096x1024, .f32⟩
  | .hbm, ⟨10, _⟩ => ⟨S16x256x256, .bf16⟩
  | .hbm, ⟨11, _⟩ => ⟨S16x256x512, .bf16⟩
  | .hbm, ⟨12, _⟩ => ⟨S16x256x256, .bf16⟩
  | .hbm, ⟨13, _⟩ => ⟨S1x6x1024, .f32⟩
  | .hbm, ⟨14, _⟩ => ⟨S1x1024, .f32⟩
  | .hbm, ⟨15, _⟩ => ⟨S1x1024, .f32⟩
  | .hbm, ⟨16, _⟩ => ⟨S1024x1024, .bf16⟩
  | .hbm, ⟨17, _⟩ => ⟨S1x1024x1024, .bf16⟩
  | .hbm, ⟨18, _⟩ => ⟨S1024x4096, .bf16⟩
  | .hbm, ⟨19, _⟩ => ⟨S1x1024x4096, .bf16⟩
  | .hbm, ⟨20, _⟩ => ⟨S4096x1024, .bf16⟩
  | .hbm, ⟨21, _⟩ => ⟨S1x4096x1024, .bf16⟩
  | .hbm, ⟨22, _⟩ => ⟨S16x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .bf16⟩
  | .local _ .vmem, ⟨3, _⟩ => ⟨S1x256x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x256, .bf16⟩
  | .local _ .vmem, ⟨7, _⟩ => ⟨S1x256x256, .bf16⟩
  | .local _ .vmem, ⟨8, _⟩ => ⟨S1x6x1024, .f32⟩
  | .local _ .vmem, ⟨9, _⟩ => ⟨S1x1024, .f32⟩
  | .local _ .vmem, ⟨10, _⟩ => ⟨S1x1024, .f32⟩
  | .local _ .vmem, ⟨11, _⟩ => ⟨S1x1024x1024, .bf16⟩
  | .local _ .vmem, ⟨12, _⟩ => ⟨S1x1024x4096, .bf16⟩
  | .local _ .vmem, ⟨13, _⟩ => ⟨S1x4096x1024, .bf16⟩
  | .local _ .vmem, ⟨14, _⟩ => ⟨S1x256x1024, .f32⟩
  | .local _ .vmem, ⟨15, _⟩ => ⟨S1x256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S16x256x1024 : Shape := ⟨3, ![16, 256, 1024]⟩
abbrev S16x256x256 : Shape := ⟨3, ![16, 256, 256]⟩
abbrev S16x256x512 : Shape := ⟨3, ![16, 256, 512]⟩
abbrev S6x1024 : Shape := ⟨2, ![6, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x4096 : Shape := ⟨3, ![16, 256, 4096]⟩

abbrev nBuf : Space → Nat
  | .hbm => 59
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x256x256, .f32⟩
  | .hbm, ⟨2, _⟩ => ⟨S16x256x512, .f32⟩
  | .hbm, ⟨3, _⟩ => ⟨S16x256x256, .f32⟩
  | .hbm, ⟨4, _⟩ => ⟨S6x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x4096, .f32⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S16x256x1024, .f32⟩
  | .hbm, ⟨13, _⟩ => ⟨S16x256x1024, .f32⟩
  | .hbm, ⟨14, _⟩ => ⟨S1x1x1024, .f32⟩
  | .hbm, ⟨15, _⟩ => ⟨S16x256x1024, .f32⟩
  | .hbm, ⟨16, _⟩ => ⟨S16x256x1024, .f32⟩
  | .hbm, ⟨17, _⟩ => ⟨S16x256x1024, .f32⟩
  | .hbm, ⟨18, _⟩ => ⟨S16x256x1024, .f32⟩
  | .hbm, ⟨19, _⟩ => ⟨S_, .f32⟩
  | .hbm, ⟨20, _⟩ => ⟨S16x256, .f32⟩
  | .hbm, ⟨21, _⟩ => ⟨S16x256x1, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S_, .f32⟩
  | .hbm, ⟨26, _⟩ => ⟨S16x256x1, .f32⟩
  | .hbm, ⟨27, _⟩ => ⟨S16x256x1, .f32⟩
  | .hbm, ⟨28, _⟩ => ⟨S16x256x1, .f32⟩
  | .hbm, ⟨29, _⟩ => ⟨S16x256x1024, .f32⟩
  | .hbm, ⟨30, _⟩ => ⟨S16x256x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1x1x1024, .f32⟩
  | .hbm, ⟨42, _⟩ => ⟨S16x256x1024, .f32⟩
  | .hbm, ⟨43, _⟩ => ⟨S16x256x1024, .f32⟩
  | .hbm, ⟨44, _⟩ => ⟨S1x1x1024, .f32⟩
  | .hbm, ⟨45, _⟩ => ⟨S16x256x1024, .f32⟩
  | .hbm, ⟨46, _⟩ => ⟨S16x256x1024, .f32⟩
  | .hbm, ⟨47, _⟩ => ⟨S1x1024, .f32⟩
  | .hbm, ⟨48, _⟩ => ⟨S1024, .f32⟩
  | .hbm, ⟨49, _⟩ => ⟨S16x256x4096, .f32⟩
  | .hbm, ⟨50, _⟩ => ⟨S_, .f32⟩
  | .hbm, ⟨51, _⟩ => ⟨S16x256x4096, .f32⟩
  | .hbm, ⟨52, _⟩ => ⟨S16x256x4096, .f32⟩
  | .hbm, ⟨53, _⟩ => ⟨S16x256x4096, .f32⟩
  | .hbm, ⟨54, _⟩ => ⟨S16x256x1024, .f32⟩
  | .hbm, ⟨55, _⟩ => ⟨S1x1x1024, .f32⟩
  | .hbm, ⟨56, _⟩ => ⟨S16x256x1024, .f32⟩
  | .hbm, ⟨57, _⟩ => ⟨S16x256x1024, .f32⟩
  | .hbm, ⟨58, _⟩ => ⟨S16x256x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_cst : Ref sig .tc := ⟨.hbm, 50, rfl⟩
abbrev main_call0_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel5.lean ====
abbrev S16x256x1024 : Shape := ⟨3, ![16, 256, 1024]⟩
abbrev S6x1024 : Shape := ⟨2, ![6, 1024]⟩
abbrev S1024 : Shape := ⟨1, ![1024]⟩
abbrev S1024x2560 : Shape := ⟨2, ![1024, 2560]⟩
abbrev S1x6x1024 : Shape := ⟨3, ![1, 6, 1024]⟩
abbrev S1x1024 : Shape := ⟨2, ![1, 1024]⟩
abbrev S1x1024x2560 : Shape := ⟨3, ![1, 1024, 2560]⟩
abbrev S16x256x256 : Shape := ⟨3, ![16, 256, 256]⟩
abbrev S16x256x512 : Shape := ⟨3, ![16, 256, 512]⟩
abbrev S1x256x1024 : Shape := ⟨3, ![1, 256, 1024]⟩
abbrev S1x256x256 : Shape := ⟨3, ![1, 256, 256]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1x1024x256 : Shape := ⟨3, ![1, 1024, 256]⟩
abbrev S1024x256 : Shape := ⟨2, ![1024, 256]⟩
abbrev S256x256 : Shape := ⟨2, ![256, 256]⟩
abbrev S1x1024x512 : Shape := ⟨3, ![1, 1024, 512]⟩
abbrev S1024x512 : Shape := ⟨2, ![1024, 512]⟩
abbrev S256x512 : Shape := ⟨2, ![256, 512]⟩

abbrev nBuf : Space → Nat
  | .hbm => 14
  | .vmem => 17
  | .smem => 0
  | _ => 0

abbrev bufTy : (tb : Table) → Fin (tcTables nBuf tb) → BufTy
  | .hbm, ⟨0, _⟩ => ⟨S16x256x1024, .f32⟩
  | .hbm, ⟨1, _⟩ => ⟨S6x1024, .f32⟩
  | .hbm, ⟨2, _⟩ => ⟨S1024, .f32⟩
  | .hbm, ⟨3, _⟩ => ⟨S1024x2560, .f32⟩
  | .hbm, ⟨4, _⟩ => ⟨S1x6x1024, .f32⟩
  | .hbm, ⟨5, _⟩ => ⟨S1x1024, .f32⟩
  | .hbm, ⟨6, _⟩ => ⟨S1024x2560, .bf16⟩
  | .hbm, ⟨7, _⟩ => ⟨S1x1024x2560, .bf16⟩
  | .hbm, ⟨8, _⟩ => ⟨S16x256x256, .f32⟩
  | .hbm, ⟨9, _⟩ => ⟨S16x256x512, .bf16⟩
  | .hbm, ⟨10, _⟩ => ⟨S16x256x512, .bf16⟩
  | .hbm, ⟨11, _⟩ => ⟨S16x256x512, .bf16⟩
  | .hbm, ⟨12, _⟩ => ⟨S16x256x256, .f32⟩
  | .hbm, ⟨13, _⟩ => ⟨S16x256x256, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x1024, .f32⟩
  | .local _ .vmem, ⟨4, _⟩ => ⟨S1x1024x2560, .bf16⟩
  | .local _ .vmem, ⟨5, _⟩ => ⟨S1x256x256, .f32⟩
  | .local _ .vmem, ⟨6, _⟩ => ⟨S1x256x256, .f32⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S16x256x1024 : Shape := ⟨3, ![16, 256, 1024]⟩
abbrev S6x1024 : Shape := ⟨2, ![6, 1024]⟩
abbrev S1024 : Shape := ⟨1, ![1024]⟩
abbrev S1024x2560 : Shape := ⟨2, ![1024, 2560]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1x1024 : Shape := ⟨2, ![1, 1024]⟩
abbrev S16x256x2560 : Shape := ⟨3, ![16, 256, 2560]⟩
abbrev S16x256x256 : Shape := ⟨3, ![16, 256, 256]⟩
abbrev S16x256x512 : Shape := ⟨3, ![16, 256, 512]⟩

abbrev nBuf : Space → Nat
  | .hbm => 56
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S6x1024, .f32⟩
  | .hbm, ⟨2, _⟩ => ⟨S1024, .f32⟩
  | .hbm, ⟨3, _⟩ => ⟨S1024x2560, .f32⟩
  | .hbm, ⟨4, _⟩ => ⟨S16x256x1024, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x1, .f32⟩
  | .hbm, ⟨15, _⟩ => ⟨S16x256x1024, .f32⟩
  | .hbm, ⟨16, _⟩ => ⟨S16x256x1024, .f32⟩
  | .hbm, ⟨17, _⟩ => ⟨S1x1x1024, .f32⟩
  | .hbm, ⟨18, _⟩ => ⟨S16x256x1024, .f32⟩
  | .hbm, ⟨19, _⟩ => ⟨S16x256x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1x1024, .f32⟩
  | .hbm, ⟨28, _⟩ => ⟨S16x256x1024, .f32⟩
  | .hbm, ⟨29, _⟩ => ⟨S16x256x1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | .hbm, ⟨33, _⟩ => ⟨S16x256x2560, .f32⟩
  | .hbm, ⟨34, _⟩ => ⟨S16x256x256, .f32⟩
  | .hbm, ⟨35, _⟩ => ⟨S16x256x256, .f32⟩
  | .hbm, ⟨36, _⟩ => ⟨S16x256x512, .f32⟩
  | .hbm, ⟨37, _⟩ => ⟨S16x256x512, .f32⟩
  | .hbm, ⟨38, _⟩ => ⟨S16x256x512, .f32⟩
  | .hbm, ⟨39, _⟩ => ⟨S16x256x256, .f32⟩
  | .hbm, ⟨40, _⟩ => ⟨S16x256x256, .f32⟩
  | .hbm, ⟨41, _⟩ => ⟨S16x256x256, .f32⟩
  | .hbm, ⟨42, _⟩ => ⟨S16x256x256, .f32⟩
  | .hbm, ⟨43, _⟩ => ⟨S_, .f32⟩
  | .hbm, ⟨44, _⟩ => ⟨S16x256x256, .f32⟩
  | .hbm, ⟨45, _⟩ => ⟨S16x256x256, .f32⟩
  | .hbm, ⟨46, _⟩ => ⟨S_, .f32⟩
  | .hbm, ⟨47, _⟩ => ⟨S16x256x256, .f32⟩
  | .hbm, ⟨48, _⟩ => ⟨S16x256x256, .f32⟩
  | .hbm, ⟨49, _⟩ => ⟨S16x256x256, .f32⟩
  | .hbm, ⟨50, _⟩ => ⟨S_, .f32⟩
  | .hbm, ⟨51, _⟩ => ⟨S16x256x512, .f32⟩
  | .hbm, ⟨52, _⟩ => ⟨S16x256x512, .f32⟩
  | .hbm, ⟨53, _⟩ => ⟨S16x256x512, .bf16⟩
  | .hbm, ⟨54, _⟩ => ⟨S16x256x512, .bf16⟩
  | .hbm, ⟨55, _⟩ => ⟨S16x256x512, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel6.lean ====
abbrev S24x1024 : Shape := ⟨2, ![24, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x24x6144 : Shape := ⟨3, ![2, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x24x6144, .f32⟩
  | .local _ .vmem, ⟨0, _⟩ => ⟨S24x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S24x1024 : Shape := ⟨2, ![24, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S24x6144 : Shape := ⟨2, ![24, 6144]⟩
abbrev S1x6144 : Shape := ⟨2, ![1, 6144]⟩
abbrev S6144 : Shape := ⟨1, ![6144]⟩
abbrev S1x24x6144 : Shape := ⟨3, ![1, 24, 6144]⟩
abbrev S2x24x6144 : Shape := ⟨3, ![2, 24, 6144]⟩

abbrev nBuf : Space → Nat
  | .hbm => 40
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S1x1024x6144, .f32⟩
  | .hbm, ⟨13, _⟩ => ⟨S1024x6144, .f32⟩
  | .hbm, ⟨14, _⟩ => ⟨S24x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S24x6144, .f32⟩
  | .hbm, ⟨19, _⟩ => ⟨S24x6144, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S_, .f32⟩
  | .hbm, ⟨26, _⟩ => ⟨S24x1024, .f32⟩
  | .hbm, ⟨27, _⟩ => ⟨S24x1024, .f32⟩
  | .hbm, ⟨28, _⟩ => ⟨S24x1024, .f32⟩
  | .hbm, ⟨29, _⟩ => ⟨S1x1024x6144, .f32⟩
  | .hbm, ⟨30, _⟩ => ⟨S1024x6144, .f32⟩
  | .hbm, ⟨31, _⟩ => ⟨S24x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S24x6144, .f32⟩
  | .hbm, ⟨36, _⟩ => ⟨S24x6144, .f32⟩
  | .hbm, ⟨37, _⟩ => ⟨S1x24x6144, .f32⟩
  | .hbm, ⟨38, _⟩ => ⟨S1x24x6144, .f32⟩
  | .hbm, ⟨39, _⟩ => ⟨S2x24x6144, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel7.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S31x256 : Shape := ⟨2, ![31, 256]⟩
abbrev S256 : Shape := ⟨1, ![256]⟩
abbrev S16x6x1024 : Shape := ⟨3, ![16, 6, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256 : Shape := ⟨2, ![1, 256]⟩
abbrev S1x512x1024 : Shape := ⟨3, ![1, 512, 1024]⟩
abbrev S1x2048x256 : Shape := ⟨3, ![1, 2048, 256]⟩
abbrev S1x512x512 : Shape := ⟨3, ![1, 512, 512]⟩
abbrev S1x512x256 : Shape := ⟨3, ![1, 512, 256]⟩
abbrev S1x6x1024 : Shape := ⟨3, ![1, 6, 1024]⟩
abbrev S2x512x256 : Shape := ⟨3, ![2, 512, 256]⟩
abbrev S31x8x256 : Shape := ⟨3, ![31, 8, 256]⟩
abbrev S8x256 : Shape := ⟨2, ![8, 256]⟩
abbrev S1x8x256 : Shape := ⟨3, ![1, 8, 256]⟩
abbrev S128x256 : Shape := ⟨2, ![128, 256]⟩
abbrev S128 : Shape := ⟨1, ![128]⟩
abbrev S128x1 : Shape := ⟨2, ![128, 1]⟩
abbrev S1x128x256 : Shape := ⟨3, ![1, 128, 256]⟩
abbrev S512x1024 : Shape := ⟨2, ![512, 1024]⟩
abbrev S512x256 : Shape := ⟨2, ![512, 256]⟩
abbrev S512x512 : Shape := ⟨2, ![512, 512]⟩
abbrev S1x256x1024 : Shape := ⟨3, ![1, 256, 1024]⟩
abbrev S256x1024 : Shape := ⟨2, ![256, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 28
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x512, .f32⟩
  | .hbm, ⟨3, _⟩ => ⟨S16x2048x256, .f32⟩
  | .hbm, ⟨4, _⟩ => ⟨S31x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S16x6x1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x4096, .f32⟩
  | .hbm, ⟨13, _⟩ => ⟨S4096x1024, .f32⟩
  | .hbm, ⟨14, _⟩ => ⟨S16x2048x512, .bf16⟩
  | .hbm, ⟨15, _⟩ => ⟨S16x2048x256, .bf16⟩
  | .hbm, ⟨16, _⟩ => ⟨S1x1024, .f32⟩
  | .hbm, ⟨17, _⟩ => ⟨S1x1024, .f32⟩
  | .hbm, ⟨18, _⟩ => ⟨S1024x1024, .bf16⟩
  | .hbm, ⟨19, _⟩ => ⟨S1x1024x1024, .bf16⟩
  | .hbm, ⟨20, _⟩ => ⟨S1024x4096, .bf16⟩
  | .hbm, ⟨21, _⟩ => ⟨S1x1024x4096, .bf16⟩
  | .hbm, ⟨22, _⟩ => ⟨S4096x1024, .bf16⟩
  | .hbm, ⟨23, _⟩ => ⟨S1x4096x1024, .bf16⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x2048x256, .f32⟩
  | .local _ .vmem, ⟨3, _⟩ => ⟨S1x2048x256, .f32⟩
  | .local _ .vmem, ⟨4, _⟩ => ⟨S1x512x512, .bf16⟩
  | .local _ .vmem, ⟨5, _⟩ => ⟨S1x512x512, .bf16⟩
  | .local _ .vmem, ⟨6, _⟩ => ⟨S1x512x256, .bf16⟩
  | .local _ .vmem, ⟨7, _⟩ => ⟨S1x512x256, .bf16⟩
  | .local _ .vmem, ⟨8, _⟩ => ⟨S31x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S1x1024, .f32⟩
  | .local _ .vmem, ⟨16, _⟩ => ⟨S1x1024x1024, .bf16⟩
  | .local _ .vmem, ⟨17, _⟩ => ⟨S1x1024x4096, .bf16⟩
  | .local _ .vmem, ⟨18, _⟩ => ⟨S1x4096x1024, .bf16⟩
  | .local _ .vmem, ⟨19, _⟩ => ⟨S1x512x1024, .f32⟩
  | .local _ .vmem, ⟨20, _⟩ => ⟨S1x512x1024, .f32⟩
  | .local _ .vmem, ⟨21, _⟩ => ⟨S2x512x256, .bf16⟩
  | .local _ .vmem, ⟨22, _⟩ => ⟨S31x8x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_129 : BitVec 32 := 0#32
  let v203 : BitVec 1 := Scalar.cmpi .eq v1 c0_i32_129
  let v204 : BitVec 32 := Scalar.extui v203
  let c0_i32_130 : BitVec 32 := 0#32
  let v205 : BitVec 1 := Scalar.cmpi .ne v204 c0_i32_130
  v205

def k0_mult1 : BitVec 32 :=
  let c_m16_i32_3161 : BitVec 32 := 4294967280#32
  let c0_i32_3162 : BitVec 32 := 0#32
  let v8021 : BitVec 32 := Scalar.maxsi c_m16_i32_3161 c0_i32_3162
  v8021
def k0_off1 (c_m16_i32_3161 : BitVec 32) : Fin 3 → Nat :=
  let c0_3163 : Index := 0#32
  let c0_i32_3162 : BitVec 32 := 0#32
  let v8021 : BitVec 32 := Scalar.maxsi c_m16_i32_3161 c0_i32_3162
  let v8022 : BitVec 32 := v8021
  let v8023 : Index := Scalar.indexCast v8022
  let c0_3164 : Index := 0#32
  ![0, v8023.toNat, 0]
def k0_mult2 : BitVec 32 :=
  let c_m8_i32 : BitVec 32 := 4294967288#32
  let c0_i32_3165 : BitVec 32 := 0#32
  let v8027 : BitVec 32 := Scalar.maxsi c_m8_i32 c0_i32_3165
  v8027
def k0_mult3 : BitVec 32 :=
  let c0_i32_3169 : BitVec 32 := 0#32
  c0_i32_3169
def k0_mult4 : BitVec 32 :=
  let c8_i32_3172 : BitVec 32 := 8#32
  c8_i32_3172
def k0_mult5 : BitVec 32 :=
  let c16_i32_3175 : BitVec 32 := 16#32
  c16_i32_3175
def k0_mult6 : BitVec 32 :=
  let c24_i32_3178 : BitVec 32 := 24#32
  c24_i32_3178
def k0_mult7 : BitVec 32 :=
  let c32_i32_3181 : BitVec 32 := 32#32
  c32_i32_3181
def k0_mult8 : BitVec 32 :=
  let c40_i32_3184 : BitVec 32 := 40#32
  c40_i32_3184
def k0_mult9 : BitVec 32 :=
  let c16_i32_3343 : BitVec 32 := 16#32
  c16_i32_3343
def k0_mult10 : BitVec 32 :=
  let c24_i32_3346 : BitVec 32 := 24#32
  c24_i32_3346
def k0_mult11 : BitVec 32 :=
  let c32_i32_3349 : BitVec 32 := 32#32
  c32_i32_3349
def k0_mult12 : BitVec 32 :=
  let c40_i32_3352 : BitVec 32 := 40#32
  c40_i32_3352
def k0_mult13 : BitVec 32 :=
  let c48_i32_3355 : BitVec 32 := 48#32
  c48_i32_3355
def k0_mult14 : BitVec 32 :=
  let c56_i32_3358 : BitVec 32 := 56#32
  c56_i32_3358
def k0_mult15 : BitVec 32 :=
  let c64_i32 : BitVec 32 := 64#32
  c64_i32
def k0_mult16 : BitVec 32 :=
  let c72_i32 : BitVec 32 := 72#32
  c72_i32
def k0_mult17 : BitVec 32 :=
  let c48_i32_3521 : BitVec 32 := 48#32
  c48_i32_3521
def k0_mult18 : BitVec 32 :=
  let c56_i32_3524 : BitVec 32 := 56#32
  c56_i32_3524
def k0_mult19 : BitVec 32 :=
  let c64_i32_3527 : BitVec 32 := 64#32
  c64_i32_3527
def k0_mult20 : BitVec 32 :=
  let c72_i32_3530 : BitVec 32 := 72#32
  c72_i32_3530
def k0_mult21 : BitVec 32 :=
  let c80_i32_3533 : BitVec 32 := 80#32
  c80_i32_3533
def k0_mult22 : BitVec 32 :=
  let c88_i32 : BitVec 32 := 88#32
  c88_i32
def k0_mult23 : BitVec 32 :=
  let c96_i32 : BitVec 32 := 96#32
  c96_i32
def k0_mult24 : BitVec 32 :=
  let c104_i32 : BitVec 32 := 104#32
  c104_i32
def k0_mult25 : BitVec 32 :=
  let c80_i32_3698 : BitVec 32 := 80#32
  c80_i32_3698
def k0_mult26 : BitVec 32 :=
  let c88_i32_3701 : BitVec 32 := 88#32
  c88_i32_3701
def k0_mult27 : BitVec 32 :=
  let c96_i32_3704 : BitVec 32 := 96#32
  c96_i32_3704
def k0_mult28 : BitVec 32 :=
  let c104_i32_3707 : BitVec 32 := 104#32
  c104_i32_3707
def k0_mult29 : BitVec 32 :=
  let c112_i32_3710 : BitVec 32 := 112#32
  c112_i32_3710
def k0_mult30 : BitVec 32 :=
  let c120_i32 : BitVec 32 := 120#32
  c120_i32
def k0_mult31 : BitVec 32 :=
  let c128_i32 : BitVec 32 := 128#32
  c128_i32
def k0_mult32 : BitVec 32 :=
  let c136_i32 : BitVec 32 := 136#32
  c136_i32
def k0_mult33 : BitVec 32 :=
  let c112_i32_3890 : BitVec 32 := 112#32
  c112_i32_3890
def k0_mult34 : BitVec 32 :=
  let c120_i32_3893 : BitVec 32 := 120#32
  c120_i32_3893
def k0_mult35 : BitVec 32 :=
  let c128_i32_3896 : BitVec 32 := 128#32
  c128_i32_3896
def k0_mult36 : BitVec 32 :=
  let c136_i32_3899 : BitVec 32 := 136#32
  c136_i32_3899
def k0_mult37 : BitVec 32 :=
  let c144_i32_3902 : BitVec 32 := 144#32
  c144_i32_3902
def k0_mult38 : BitVec 32 :=
  let c152_i32 : BitVec 32 := 152#32
  c152_i32
def k0_mult39 : BitVec 32 :=
  let c160_i32 : BitVec 32 := 160#32
  c160_i32
def k0_mult40 : BitVec 32 :=
  let c168_i32 : BitVec 32 := 168#32
  c168_i32
def k0_mult41 : BitVec 32 :=
  let c144_i32_4067 : BitVec 32 := 144#32
  c144_i32_4067
def k0_mult42 : BitVec 32 :=
  let c152_i32_4070 : BitVec 32 := 152#32
  c152_i32_4070
def k0_mult43 : BitVec 32 :=
  let c160_i32_4073 : BitVec 32 := 160#32
  c160_i32_4073
def k0_mult44 : BitVec 32 :=
  let c168_i32_4076 : BitVec 32 := 168#32
  c168_i32_4076
def k0_mult45 : BitVec 32 :=
  let c176_i32_4079 : BitVec 32 := 176#32
  c176_i32_4079
def k0_mult46 : BitVec 32 :=
  let c184_i32 : BitVec 32 := 184#32
  c184_i32
def k0_mult47 : BitVec 32 :=
  let c192_i32 : BitVec 32 := 192#32
  c192_i32
def k0_mult48 : BitVec 32 :=
  let c200_i32 : BitVec 32 := 200#32
  c200_i32
def k0_mult49 : BitVec 32 :=
  let c176_i32_4244 : BitVec 32 := 176#32
  c176_i32_4244
def k0_mult50 : BitVec 32 :=
  let c184_i32_4247 : BitVec 32 := 184#32
  c184_i32_4247
def k0_mult51 : BitVec 32 :=
  let c192_i32_4250 : BitVec 32 := 192#32
  c192_i32_4250
def k0_mult52 : BitVec 32 :=
  let c200_i32_4253 : BitVec 32 := 200#32
  c200_i32_4253
def k0_mult53 : BitVec 32 :=
  let c208_i32_4256 : BitVec 32 := 208#32
  c208_i32_4256
def k0_mult54 : BitVec 32 :=
  let c216_i32 : BitVec 32 := 216#32
  c216_i32
def k0_mult55 : BitVec 32 :=
  let c224_i32 : BitVec 32 := 224#32
  c224_i32
def k0_mult56 : BitVec 32 :=
  let c232_i32 : BitVec 32 := 232#32
  c232_i32
def k0_mult57 : BitVec 32 :=
  let c208_i32_4421 : BitVec 32 := 208#32
  c208_i32_4421
def k0_mult58 : BitVec 32 :=
  let c216_i32_4424 : BitVec 32 := 216#32
  c216_i32_4424
def k0_mult59 : BitVec 32 :=
  let c224_i32_4427 : BitVec 32 := 224#32
  c224_i32_4427
def k0_mult60 : BitVec 32 :=
  let c232_i32_4430 : BitVec 32 := 232#32
  c232_i32_4430
def k0_mult61 : BitVec 32 :=
  let c240_i32_4433 : BitVec 32 := 240#32
  c240_i32_4433
def k0_mult62 : BitVec 32 :=
  let c248_i32 : BitVec 32 := 248#32
  c248_i32
def k0_mult63 : BitVec 32 :=
  let c256_i32 : BitVec 32 := 256#32
  c256_i32
def k0_mult64 : BitVec 32 :=
  let c264_i32 : BitVec 32 := 264#32
  c264_i32
def k0_mult65 : BitVec 32 :=
  let c240_i32_4613 : BitVec 32 := 240#32
  c240_i32_4613
def k0_mult66 : BitVec 32 :=
  let c248_i32_4616 : BitVec 32 := 248#32
  c248_i32_4616
def k0_mult67 : BitVec 32 :=
  let c256_i32_4619 : BitVec 32 := 256#32
  c256_i32_4619
def k0_mult68 : BitVec 32 :=
  let c264_i32_4622 : BitVec 32 := 264#32
  c264_i32_4622
def k0_mult69 : BitVec 32 :=
  let c272_i32_4625 : BitVec 32 := 272#32
  c272_i32_4625
def k0_mult70 : BitVec 32 :=
  let c280_i32 : BitVec 32 := 280#32
  c280_i32
def k0_mult71 : BitVec 32 :=
  let c288_i32 : BitVec 32 := 288#32
  c288_i32
def k0_mult72 : BitVec 32 :=
  let c296_i32 : BitVec 32 := 296#32
  c296_i32
def k0_mult73 : BitVec 32 :=
  let c272_i32_4790 : BitVec 32 := 272#32
  c272_i32_4790
def k0_mult74 : BitVec 32 :=
  let c280_i32_4793 : BitVec 32 := 280#32
  c280_i32_4793
def k0_mult75 : BitVec 32 :=
  let c288_i32_4796 : BitVec 32 := 288#32
  c288_i32_4796
def k0_mult76 : BitVec 32 :=
  let c296_i32_4799 : BitVec 32 := 296#32
  c296_i32_4799
def k0_mult77 : BitVec 32 :=
  let c304_i32_4802 : BitVec 32 := 304#32
  c304_i32_4802
def k0_mult78 : BitVec 32 :=
  let c312_i32 : BitVec 32 := 312#32
  c312_i32
def k0_mult79 : BitVec 32 :=
  let c320_i32 : BitVec 32 := 320#32
  c320_i32
def k0_mult80 : BitVec 32 :=
  let c328_i32 : BitVec 32 := 328#32
  c328_i32
def k0_mult81 : BitVec 32 :=
  let c304_i32_4967 : BitVec 32 := 304#32
  c304_i32_4967
def k0_mult82 : BitVec 32 :=
  let c312_i32_4970 : BitVec 32 := 312#32
  c312_i32_4970
def k0_mult83 : BitVec 32 :=
  let c320_i32_4973 : BitVec 32 := 320#32
  c320_i32_4973
def k0_mult84 : BitVec 32 :=
  let c328_i32_4976 : BitVec 32 := 328#32
  c328_i32_4976
def k0_mult85 : BitVec 32 :=
  let c336_i32_4979 : BitVec 32 := 336#32
  c336_i32_4979
def k0_mult86 : BitVec 32 :=
  let c344_i32 : BitVec 32 := 344#32
  c344_i32
def k0_mult87 : BitVec 32 :=
  let c352_i32 : BitVec 32 := 352#32
  c352_i32
def k0_mult88 : BitVec 32 :=
  let c360_i32 : BitVec 32 := 360#32
  c360_i32
def k0_mult89 : BitVec 32 :=
  let c336_i32_5144 : BitVec 32 := 336#32
  c336_i32_5144
def k0_mult90 : BitVec 32 :=
  let c344_i32_5147 : BitVec 32 := 344#32
  c344_i32_5147
def k0_mult91 : BitVec 32 :=
  let c352_i32_5150 : BitVec 32 := 352#32
  c352_i32_5150
def k0_mult92 : BitVec 32 :=
  let c360_i32_5153 : BitVec 32 := 360#32
  c360_i32_5153
def k0_mult93 : BitVec 32 :=
  let c368_i32_5156 : BitVec 32 := 368#32
  c368_i32_5156
def k0_mult94 : BitVec 32 :=
  let c376_i32 : BitVec 32 := 376#32
  c376_i32
def k0_mult95 : BitVec 32 :=
  let c384_i32 : BitVec 32 := 384#32
  c384_i32
def k0_mult96 : BitVec 32 :=
  let c392_i32 : BitVec 32 := 392#32
  c392_i32
def k0_mult97 : BitVec 32 :=
  let c368_i32_5336 : BitVec 32 := 368#32
  c368_i32_5336
def k0_mult98 : BitVec 32 :=
  let c376_i32_5339 : BitVec 32 := 376#32
  c376_i32_5339
def k0_mult99 : BitVec 32 :=
  let c384_i32_5342 : BitVec 32 := 384#32
  c384_i32_5342
def k0_mult100 : BitVec 32 :=
  let c392_i32_5345 : BitVec 32 := 392#32
  c392_i32_5345
def k0_mult101 : BitVec 32 :=
  let c400_i32_5348 : BitVec 32 := 400#32
  c400_i32_5348
def k0_mult102 : BitVec 32 :=
  let c408_i32 : BitVec 32 := 408#32
  c408_i32
def k0_mult103 : BitVec 32 :=
  let c416_i32 : BitVec 32 := 416#32
  c416_i32
def k0_mult104 : BitVec 32 :=
  let c424_i32 : BitVec 32 := 424#32
  c424_i32
def k0_mult105 : BitVec 32 :=
  let c400_i32_5513 : BitVec 32 := 400#32
  c400_i32_5513
def k0_mult106 : BitVec 32 :=
  let c408_i32_5516 : BitVec 32 := 408#32
  c408_i32_5516
def k0_mult107 : BitVec 32 :=
  let c416_i32_5519 : BitVec 32 := 416#32
  c416_i32_5519
def k0_mult108 : BitVec 32 :=
  let c424_i32_5522 : BitVec 32 := 424#32
  c424_i32_5522
def k0_mult109 : BitVec 32 :=
  let c432_i32_5525 : BitVec 32 := 432#32
  c432_i32_5525
def k0_mult110 : BitVec 32 :=
  let c440_i32 : BitVec 32 := 440#32
  c440_i32
def k0_mult111 : BitVec 32 :=
  let c448_i32 : BitVec 32 := 448#32
  c448_i32
def k0_mult112 : BitVec 32 :=
  let c456_i32 : BitVec 32 := 456#32
  c456_i32
def k0_mult113 : BitVec 32 :=
  let c432_i32_5690 : BitVec 32 := 432#32
  c432_i32_5690
def k0_mult114 : BitVec 32 :=
  let c440_i32_5693 : BitVec 32 := 440#32
  c440_i32_5693
def k0_mult115 : BitVec 32 :=
  let c448_i32_5696 : BitVec 32 := 448#32
  c448_i32_5696
def k0_mult116 : BitVec 32 :=
  let c456_i32_5699 : BitVec 32 := 456#32
  c456_i32_5699
def k0_mult117 : BitVec 32 :=
  let c464_i32_5702 : BitVec 32 := 464#32
  c464_i32_5702
def k0_mult118 : BitVec 32 :=
  let c472_i32 : BitVec 32 := 472#32
  c472_i32
def k0_mult119 : BitVec 32 :=
  let c480_i32 : BitVec 32 := 480#32
  c480_i32
def k0_mult120 : BitVec 32 :=
  let c488_i32 : BitVec 32 := 488#32
  c488_i32
def k0_mult121 : BitVec 32 :=
  let c464_i32_5867 : BitVec 32 := 464#32
  c464_i32_5867
def k0_mult122 : BitVec 32 :=
  let c472_i32_5870 : BitVec 32 := 472#32
  c472_i32_5870
def k0_mult123 : BitVec 32 :=
  let c480_i32_5873 : BitVec 32 := 480#32
  c480_i32_5873
def k0_mult124 : BitVec 32 :=
  let c488_i32_5876 : BitVec 32 := 488#32
  c488_i32_5876
def k0_mult125 : BitVec 32 :=
  let c496_i32 : BitVec 32 := 496#32
  c496_i32
def k0_mult126 : BitVec 32 :=
  let c504_i32 : BitVec 32 := 504#32
  c504_i32
def k0_mult127 : BitVec 32 :=
  let c512_i32_5883 : BitVec 32 := 512#32
  let c2040_i32_5884 : BitVec 32 := 2040#32
  let v15075 : BitVec 32 := Scalar.minsi c512_i32_5883 c2040_i32_5884
  v15075
def k0_off2 (c512_i32_5883 : BitVec 32) : Fin 3 → Nat :=
  let c0_5885 : Index := 0#32
  let c2040_i32_5884 : BitVec 32 := 2040#32
  let v15075 : BitVec 32 := Scalar.minsi c512_i32_5883 c2040_i32_5884
  let v15076 : BitVec 32 := v15075
  let v15077 : Index := Scalar.indexCast v15076
  let c0_5886 : Index := 0#32
  ![0, v15077.toNat, 0]
def k0_mult128 : BitVec 32 :=
  let c520_i32 : BitVec 32 := 520#32
  let c2040_i32_5887 : BitVec 32 := 2040#32
  let v15081 : BitVec 32 := Scalar.minsi c520_i32 c2040_i32_5887
  v15081
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v208 : Index := Scalar.indexCast v11
  let c0_134 : Index := 0#32
  let c0_135 : Index := 0#32
  ![v208.toNat, 0, 0]
def k0_mult129 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32 : BitVec 32 := 512#32
  let v324 : BitVec 32 := Scalar.muli v320 c512_i32
  let c_m16_i32 : BitVec 32 := 4294967280#32
  let v325 : BitVec 32 := Scalar.addi v324 c_m16_i32
  let c0_i32_216 : BitVec 32 := 0#32
  let v326 : BitVec 32 := Scalar.addi v325 c0_i32_216
  let c0_i32_217 : BitVec 32 := 0#32
  let v327 : BitVec 32 := Scalar.maxsi v326 c0_i32_217
  v327
def k0_off4 (i : grid0.Coords) (c0_i32_216 : BitVec 32) : Fin 3 → Nat :=
  let c0_218 : Index := 0#32
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32 : BitVec 32 := 512#32
  let v324 : BitVec 32 := Scalar.muli v320 c512_i32
  let c_m16_i32 : BitVec 32 := 4294967280#32
  let v325 : BitVec 32 := Scalar.addi v324 c_m16_i32
  let v326 : BitVec 32 := Scalar.addi v325 c0_i32_216
  let c0_i32_217 : BitVec 32 := 0#32
  let v327 : BitVec 32 := Scalar.maxsi v326 c0_i32_217
  let v328 : BitVec 32 := v327
  let v329 : Index := Scalar.indexCast v328
  let c0_219 : Index := 0#32
  ![0, v329.toNat, 0]
def k0_mult130 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32 : BitVec 32 := 512#32
  let v324 : BitVec 32 := Scalar.muli v320 c512_i32
  let c_m16_i32 : BitVec 32 := 4294967280#32
  let v325 : BitVec 32 := Scalar.addi v324 c_m16_i32
  let c8_i32 : BitVec 32 := 8#32
  let v333 : BitVec 32 := Scalar.addi v325 c8_i32
  let c0_i32_220 : BitVec 32 := 0#32
  let v334 : BitVec 32 := Scalar.maxsi v333 c0_i32_220
  v334
def k0_mult131 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32 : BitVec 32 := 512#32
  let v324 : BitVec 32 := Scalar.muli v320 c512_i32
  let c_m16_i32 : BitVec 32 := 4294967280#32
  let v325 : BitVec 32 := Scalar.addi v324 c_m16_i32
  let c16_i32 : BitVec 32 := 16#32
  let v340 : BitVec 32 := Scalar.addi v325 c16_i32
  v340
def k0_off5 (i : grid0.Coords) (c_m16_i32 : BitVec 32) (c16_i32 : BitVec 32) : Fin 3 → Nat :=
  let c0_223 : Index := 0#32
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32 : BitVec 32 := 512#32
  let v324 : BitVec 32 := Scalar.muli v320 c512_i32
  let v325 : BitVec 32 := Scalar.addi v324 c_m16_i32
  let v340 : BitVec 32 := Scalar.addi v325 c16_i32
  let v341 : BitVec 32 := v340
  let v342 : Index := Scalar.indexCast v341
  let c0_224 : Index := 0#32
  ![0, v342.toNat, 0]
def k0_off5_at (r : Fin 124) : BitVec 32 × BitVec 32 :=
  if r.val < 62 then
    if r.val < 31 then
      if r.val < 15 then
        if r.val < 7 then
          if r.val < 3 then
            if r.val < 1 then
              (4294967280#32, 16#32)
            else
              if r.val < 2 then
                (4294967280#32, 24#32)
              else
                (4294967280#32, 32#32)
          else
            if r.val < 5 then
              if r.val < 4 then
                (4294967280#32, 40#32)
              else
                (4294967280#32, 48#32)
            else
              if r.val < 6 then
                (4294967280#32, 56#32)
              else
                (16#32, 0#32)
        else
          if r.val < 11 then
            if r.val < 9 then
              if r.val < 8 then
                (16#32, 8#32)
              else
                (16#32, 16#32)
            else
              if r.val < 10 then
                (16#32, 24#32)
              else
                (16#32, 32#32)
          else
            if r.val < 13 then
              if r.val < 12 then
                (16#32, 40#32)
              else
                (16#32, 48#32)
            else
              if r.val < 14 then
                (16#32, 56#32)
              else
                (48#32, 0#32)
      else
        if r.val < 23 then
          if r.val < 19 then
            if r.val < 17 then
              if r.val < 16 then
                (48#32, 8#32)
              else
                (48#32, 16#32)
            else
              if r.val < 18 then
                (48#32, 24#32)
              else
                (48#32, 32#32)
          else
            if r.val < 21 then
              if r.val < 20 then
                (48#32, 40#32)
              else
                (48#32, 48#32)
            else
              if r.val < 22 then
                (48#32, 56#32)
              else
                (80#32, 0#32)
        else
          if r.val < 27 then
            if r.val < 25 then
              if r.val < 24 then
                (80#32, 8#32)
              else
                (80#32, 16#32)
            else
              if r.val < 26 then
                (80#32, 24#32)
              else
                (80#32, 32#32)
          else
            if r.val < 29 then
              if r.val < 28 then
                (80#32, 40#32)
              else
                (80#32, 48#32)
            else
              if r.val < 30 then
                (80#32, 56#32)
              else
                (112#32, 0#32)
    else
      if r.val < 46 then
        if r.val < 38 then
          if r.val < 34 then
            if r.val < 32 then
              (112#32, 8#32)
            else
              if r.val < 33 then
                (112#32, 16#32)
              else
                (112#32, 24#32)
          else
            if r.val < 36 then
              if r.val < 35 then
                (112#32, 32#32)
              else
                (112#32, 40#32)
            else
              if r.val < 37 then
                (112#32, 48#32)
              else
                (112#32, 56#32)
        else
          if r.val < 42 then
            if r.val < 40 then
              if r.val < 39 then
                (144#32, 0#32)
              else
                (144#32, 8#32)
            else
              if r.val < 41 then
                (144#32, 16#32)
              else
                (144#32, 24#32)
          else
            if r.val < 44 then
              if r.val < 43 then
                (144#32, 32#32)
              else
                (144#32, 40#32)
            else
              if r.val < 45 then
                (144#32, 48#32)
              else
                (144#32, 56#32)
      else
        if r.val < 54 then
          if r.val < 50 then
            if r.val < 48 then
              if r.val < 47 then
                (176#32, 0#32)
              else
                (176#32, 8#32)
            else
              if r.val < 49 then
                (176#32, 16#32)
              else
                (176#32, 24#32)
          else
            if r.val < 52 then
              if r.val < 51 then
                (176#32, 32#32)
              else
                (176#32, 40#32)
            else
              if r.val < 53 then
                (176#32, 48#32)
              else
                (176#32, 56#32)
        else
          if r.val < 58 then
            if r.val < 56 then
              if r.val < 55 then
                (208#32, 0#32)
              else
                (208#32, 8#32)
            else
              if r.val < 57 then
                (208#32, 16#32)
              else
                (208#32, 24#32)
          else
            if r.val < 60 then
              if r.val < 59 then
                (208#32, 32#32)
              else
                (208#32, 40#32)
            else
              if r.val < 61 then
                (208#32, 48#32)
              else
                (208#32, 56#32)
  else
    if r.val < 93 then
      if r.val < 77 then
        if r.val < 69 then
          if r.val < 65 then
            if r.val < 63 then
              (240#32, 0#32)
            else
              if r.val < 64 then
                (240#32, 8#32)
              else
                (240#32, 16#32)
          else
            if r.val < 67 then
              if r.val < 66 then
                (240#32, 24#32)
              else
                (240#32, 32#32)
            else
              if r.val < 68 then
                (240#32, 40#32)
              else
                (240#32, 48#32)
        else
          if r.val < 73 then
            if r.val < 71 then
              if r.val < 70 then
                (240#32, 56#32)
              else
                (272#32, 0#32)
            else
              if r.val < 72 then
                (272#32, 8#32)
              else
                (272#32, 16#32)
          else
            if r.val < 75 then
              if r.val < 74 then
                (272#32, 24#32)
              else
                (272#32, 32#32)
            else
              if r.val < 76 then
                (272#32, 40#32)
              else
                (272#32, 48#32)
      else
        if r.val < 85 then
          if r.val < 81 then
            if r.val < 79 then
              if r.val < 78 then
                (272#32, 56#32)
              else
                (304#32, 0#32)
            else
              if r.val < 80 then
                (304#32, 8#32)
              else
                (304#32, 16#32)
          else
            if r.val < 83 then
              if r.val < 82 then
                (304#32, 24#32)
              else
                (304#32, 32#32)
            else
              if r.val < 84 then
                (304#32, 40#32)
              else
                (304#32, 48#32)
        else
          if r.val < 89 then
            if r.val < 87 then
              if r.val < 86 then
                (304#32, 56#32)
              else
                (336#32, 0#32)
            else
              if r.val < 88 then
                (336#32, 8#32)
              else
                (336#32, 16#32)
          else
            if r.val < 91 then
              if r.val < 90 then
                (336#32, 24#32)
              else
                (336#32, 32#32)
            else
              if r.val < 92 then
                (336#32, 40#32)
              else
                (336#32, 48#32)
    else
      if r.val < 108 then
        if r.val < 100 then
          if r.val < 96 then
            if r.val < 94 then
              (336#32, 56#32)
            else
              if r.val < 95 then
                (368#32, 0#32)
              else
                (368#32, 8#32)
          else
            if r.val < 98 then
              if r.val < 97 then
                (368#32, 16#32)
              else
                (368#32, 24#32)
            else
              if r.val < 99 then
                (368#32, 32#32)
              else
                (368#32, 40#32)
        else
          if r.val < 104 then
            if r.val < 102 then
              if r.val < 101 then
                (368#32, 48#32)
              else
                (368#32, 56#32)
            else
              if r.val < 103 then
                (400#32, 0#32)
              else
                (400#32, 8#32)
          else
            if r.val < 106 then
              if r.val < 105 then
                (400#32, 16#32)
              else
                (400#32, 24#32)
            else
              if r.val < 107 then
                (400#32, 32#32)
              else
                (400#32, 40#32)
      else
        if r.val < 116 then
          if r.val < 112 then
            if r.val < 110 then
              if r.val < 109 then
                (400#32, 48#32)
              else
                (400#32, 56#32)
            else
              if r.val < 111 then
                (432#32, 0#32)
              else
                (432#32, 8#32)
          else
            if r.val < 114 then
              if r.val < 113 then
                (432#32, 16#32)
              else
                (432#32, 24#32)
            else
              if r.val < 115 then
                (432#32, 32#32)
              else
                (432#32, 40#32)
        else
          if r.val < 120 then
            if r.val < 118 then
              if r.val < 117 then
                (432#32, 48#32)
              else
                (432#32, 56#32)
            else
              if r.val < 119 then
                (464#32, 0#32)
              else
                (464#32, 8#32)
          else
            if r.val < 122 then
              if r.val < 121 then
                (464#32, 16#32)
              else
                (464#32, 24#32)
            else
              if r.val < 123 then
                (464#32, 32#32)
              else
                (464#32, 40#32)
def k0_mult132 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32 : BitVec 32 := 512#32
  let v324 : BitVec 32 := Scalar.muli v320 c512_i32
  let c_m16_i32 : BitVec 32 := 4294967280#32
  let v325 : BitVec 32 := Scalar.addi v324 c_m16_i32
  let c24_i32 : BitVec 32 := 24#32
  let v345 : BitVec 32 := Scalar.addi v325 c24_i32
  v345
def k0_mult133 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32 : BitVec 32 := 512#32
  let v324 : BitVec 32 := Scalar.muli v320 c512_i32
  let c_m16_i32 : BitVec 32 := 4294967280#32
  let v325 : BitVec 32 := Scalar.addi v324 c_m16_i32
  let c32_i32 : BitVec 32 := 32#32
  let v350 : BitVec 32 := Scalar.addi v325 c32_i32
  v350
def k0_mult134 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32 : BitVec 32 := 512#32
  let v324 : BitVec 32 := Scalar.muli v320 c512_i32
  let c_m16_i32 : BitVec 32 := 4294967280#32
  let v325 : BitVec 32 := Scalar.addi v324 c_m16_i32
  let c40_i32 : BitVec 32 := 40#32
  let v355 : BitVec 32 := Scalar.addi v325 c40_i32
  v355
def k0_mult135 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32 : BitVec 32 := 512#32
  let v324 : BitVec 32 := Scalar.muli v320 c512_i32
  let c_m16_i32 : BitVec 32 := 4294967280#32
  let v325 : BitVec 32 := Scalar.addi v324 c_m16_i32
  let c48_i32 : BitVec 32 := 48#32
  let v360 : BitVec 32 := Scalar.addi v325 c48_i32
  v360
def k0_mult136 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32 : BitVec 32 := 512#32
  let v324 : BitVec 32 := Scalar.muli v320 c512_i32
  let c_m16_i32 : BitVec 32 := 4294967280#32
  let v325 : BitVec 32 := Scalar.addi v324 c_m16_i32
  let c56_i32 : BitVec 32 := 56#32
  let v365 : BitVec 32 := Scalar.addi v325 c56_i32
  v365
def k0_mult137 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_388 : BitVec 32 := 512#32
  let v799 : BitVec 32 := Scalar.muli v320 c512_i32_388
  let c16_i32_389 : BitVec 32 := 16#32
  let v800 : BitVec 32 := Scalar.addi v799 c16_i32_389
  let c0_i32_390 : BitVec 32 := 0#32
  let v801 : BitVec 32 := Scalar.addi v800 c0_i32_390
  v801
def k0_mult138 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_388 : BitVec 32 := 512#32
  let v799 : BitVec 32 := Scalar.muli v320 c512_i32_388
  let c16_i32_389 : BitVec 32 := 16#32
  let v800 : BitVec 32 := Scalar.addi v799 c16_i32_389
  let c8_i32_393 : BitVec 32 := 8#32
  let v806 : BitVec 32 := Scalar.addi v800 c8_i32_393
  v806
def k0_mult139 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_388 : BitVec 32 := 512#32
  let v799 : BitVec 32 := Scalar.muli v320 c512_i32_388
  let c16_i32_389 : BitVec 32 := 16#32
  let v800 : BitVec 32 := Scalar.addi v799 c16_i32_389
  let c16_i32_396 : BitVec 32 := 16#32
  let v811 : BitVec 32 := Scalar.addi v800 c16_i32_396
  v811
def k0_mult140 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_388 : BitVec 32 := 512#32
  let v799 : BitVec 32 := Scalar.muli v320 c512_i32_388
  let c16_i32_389 : BitVec 32 := 16#32
  let v800 : BitVec 32 := Scalar.addi v799 c16_i32_389
  let c24_i32_399 : BitVec 32 := 24#32
  let v816 : BitVec 32 := Scalar.addi v800 c24_i32_399
  v816
def k0_mult141 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_388 : BitVec 32 := 512#32
  let v799 : BitVec 32 := Scalar.muli v320 c512_i32_388
  let c16_i32_389 : BitVec 32 := 16#32
  let v800 : BitVec 32 := Scalar.addi v799 c16_i32_389
  let c32_i32_402 : BitVec 32 := 32#32
  let v821 : BitVec 32 := Scalar.addi v800 c32_i32_402
  v821
def k0_mult142 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_388 : BitVec 32 := 512#32
  let v799 : BitVec 32 := Scalar.muli v320 c512_i32_388
  let c16_i32_389 : BitVec 32 := 16#32
  let v800 : BitVec 32 := Scalar.addi v799 c16_i32_389
  let c40_i32_405 : BitVec 32 := 40#32
  let v826 : BitVec 32 := Scalar.addi v800 c40_i32_405
  v826
def k0_mult143 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_388 : BitVec 32 := 512#32
  let v799 : BitVec 32 := Scalar.muli v320 c512_i32_388
  let c16_i32_389 : BitVec 32 := 16#32
  let v800 : BitVec 32 := Scalar.addi v799 c16_i32_389
  let c48_i32_408 : BitVec 32 := 48#32
  let v831 : BitVec 32 := Scalar.addi v800 c48_i32_408
  v831
def k0_mult144 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_388 : BitVec 32 := 512#32
  let v799 : BitVec 32 := Scalar.muli v320 c512_i32_388
  let c16_i32_389 : BitVec 32 := 16#32
  let v800 : BitVec 32 := Scalar.addi v799 c16_i32_389
  let c56_i32_411 : BitVec 32 := 56#32
  let v836 : BitVec 32 := Scalar.addi v800 c56_i32_411
  v836
def k0_mult145 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_570 : BitVec 32 := 512#32
  let v1270 : BitVec 32 := Scalar.muli v320 c512_i32_570
  let c48_i32_571 : BitVec 32 := 48#32
  let v1271 : BitVec 32 := Scalar.addi v1270 c48_i32_571
  let c0_i32_572 : BitVec 32 := 0#32
  let v1272 : BitVec 32 := Scalar.addi v1271 c0_i32_572
  v1272
def k0_mult146 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_570 : BitVec 32 := 512#32
  let v1270 : BitVec 32 := Scalar.muli v320 c512_i32_570
  let c48_i32_571 : BitVec 32 := 48#32
  let v1271 : BitVec 32 := Scalar.addi v1270 c48_i32_571
  let c8_i32_575 : BitVec 32 := 8#32
  let v1277 : BitVec 32 := Scalar.addi v1271 c8_i32_575
  v1277
def k0_mult147 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_570 : BitVec 32 := 512#32
  let v1270 : BitVec 32 := Scalar.muli v320 c512_i32_570
  let c48_i32_571 : BitVec 32 := 48#32
  let v1271 : BitVec 32 := Scalar.addi v1270 c48_i32_571
  let c16_i32_578 : BitVec 32 := 16#32
  let v1282 : BitVec 32 := Scalar.addi v1271 c16_i32_578
  v1282
def k0_mult148 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_570 : BitVec 32 := 512#32
  let v1270 : BitVec 32 := Scalar.muli v320 c512_i32_570
  let c48_i32_571 : BitVec 32 := 48#32
  let v1271 : BitVec 32 := Scalar.addi v1270 c48_i32_571
  let c24_i32_581 : BitVec 32 := 24#32
  let v1287 : BitVec 32 := Scalar.addi v1271 c24_i32_581
  v1287
def k0_mult149 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_570 : BitVec 32 := 512#32
  let v1270 : BitVec 32 := Scalar.muli v320 c512_i32_570
  let c48_i32_571 : BitVec 32 := 48#32
  let v1271 : BitVec 32 := Scalar.addi v1270 c48_i32_571
  let c32_i32_584 : BitVec 32 := 32#32
  let v1292 : BitVec 32 := Scalar.addi v1271 c32_i32_584
  v1292
def k0_mult150 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_570 : BitVec 32 := 512#32
  let v1270 : BitVec 32 := Scalar.muli v320 c512_i32_570
  let c48_i32_571 : BitVec 32 := 48#32
  let v1271 : BitVec 32 := Scalar.addi v1270 c48_i32_571
  let c40_i32_587 : BitVec 32 := 40#32
  let v1297 : BitVec 32 := Scalar.addi v1271 c40_i32_587
  v1297
def k0_mult151 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_570 : BitVec 32 := 512#32
  let v1270 : BitVec 32 := Scalar.muli v320 c512_i32_570
  let c48_i32_571 : BitVec 32 := 48#32
  let v1271 : BitVec 32 := Scalar.addi v1270 c48_i32_571
  let c48_i32_590 : BitVec 32 := 48#32
  let v1302 : BitVec 32 := Scalar.addi v1271 c48_i32_590
  v1302
def k0_mult152 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_570 : BitVec 32 := 512#32
  let v1270 : BitVec 32 := Scalar.muli v320 c512_i32_570
  let c48_i32_571 : BitVec 32 := 48#32
  let v1271 : BitVec 32 := Scalar.addi v1270 c48_i32_571
  let c56_i32_593 : BitVec 32 := 56#32
  let v1307 : BitVec 32 := Scalar.addi v1271 c56_i32_593
  v1307
def k0_mult153 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_752 : BitVec 32 := 512#32
  let v1741 : BitVec 32 := Scalar.muli v320 c512_i32_752
  let c80_i32 : BitVec 32 := 80#32
  let v1742 : BitVec 32 := Scalar.addi v1741 c80_i32
  let c0_i32_753 : BitVec 32 := 0#32
  let v1743 : BitVec 32 := Scalar.addi v1742 c0_i32_753
  v1743
def k0_mult154 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_752 : BitVec 32 := 512#32
  let v1741 : BitVec 32 := Scalar.muli v320 c512_i32_752
  let c80_i32 : BitVec 32 := 80#32
  let v1742 : BitVec 32 := Scalar.addi v1741 c80_i32
  let c8_i32_756 : BitVec 32 := 8#32
  let v1748 : BitVec 32 := Scalar.addi v1742 c8_i32_756
  v1748
def k0_mult155 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_752 : BitVec 32 := 512#32
  let v1741 : BitVec 32 := Scalar.muli v320 c512_i32_752
  let c80_i32 : BitVec 32 := 80#32
  let v1742 : BitVec 32 := Scalar.addi v1741 c80_i32
  let c16_i32_759 : BitVec 32 := 16#32
  let v1753 : BitVec 32 := Scalar.addi v1742 c16_i32_759
  v1753
def k0_mult156 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_752 : BitVec 32 := 512#32
  let v1741 : BitVec 32 := Scalar.muli v320 c512_i32_752
  let c80_i32 : BitVec 32 := 80#32
  let v1742 : BitVec 32 := Scalar.addi v1741 c80_i32
  let c24_i32_762 : BitVec 32 := 24#32
  let v1758 : BitVec 32 := Scalar.addi v1742 c24_i32_762
  v1758
def k0_mult157 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_752 : BitVec 32 := 512#32
  let v1741 : BitVec 32 := Scalar.muli v320 c512_i32_752
  let c80_i32 : BitVec 32 := 80#32
  let v1742 : BitVec 32 := Scalar.addi v1741 c80_i32
  let c32_i32_765 : BitVec 32 := 32#32
  let v1763 : BitVec 32 := Scalar.addi v1742 c32_i32_765
  v1763
def k0_mult158 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_752 : BitVec 32 := 512#32
  let v1741 : BitVec 32 := Scalar.muli v320 c512_i32_752
  let c80_i32 : BitVec 32 := 80#32
  let v1742 : BitVec 32 := Scalar.addi v1741 c80_i32
  let c40_i32_768 : BitVec 32 := 40#32
  let v1768 : BitVec 32 := Scalar.addi v1742 c40_i32_768
  v1768
def k0_mult159 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_752 : BitVec 32 := 512#32
  let v1741 : BitVec 32 := Scalar.muli v320 c512_i32_752
  let c80_i32 : BitVec 32 := 80#32
  let v1742 : BitVec 32 := Scalar.addi v1741 c80_i32
  let c48_i32_771 : BitVec 32 := 48#32
  let v1773 : BitVec 32 := Scalar.addi v1742 c48_i32_771
  v1773
def k0_mult160 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_752 : BitVec 32 := 512#32
  let v1741 : BitVec 32 := Scalar.muli v320 c512_i32_752
  let c80_i32 : BitVec 32 := 80#32
  let v1742 : BitVec 32 := Scalar.addi v1741 c80_i32
  let c56_i32_774 : BitVec 32 := 56#32
  let v1778 : BitVec 32 := Scalar.addi v1742 c56_i32_774
  v1778
def k0_off6 (i : grid0.Coords) : Fin 3 → Nat :=
  let c1_i32_206 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v309 : BitVec 32 := Scalar.subi c1_i32_206 v11
  let v2246 : Index := Scalar.indexCast v309
  let c0_945 : Index := 0#32
  let c0_946 : Index := 0#32
  ![v2246.toNat, 0, 0]
def k0_mult161 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_947 : BitVec 32 := 512#32
  let v2250 : BitVec 32 := Scalar.muli v320 c512_i32_947
  let c112_i32 : BitVec 32 := 112#32
  let v2251 : BitVec 32 := Scalar.addi v2250 c112_i32
  let c0_i32_948 : BitVec 32 := 0#32
  let v2252 : BitVec 32 := Scalar.addi v2251 c0_i32_948
  v2252
def k0_mult162 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_947 : BitVec 32 := 512#32
  let v2250 : BitVec 32 := Scalar.muli v320 c512_i32_947
  let c112_i32 : BitVec 32 := 112#32
  let v2251 : BitVec 32 := Scalar.addi v2250 c112_i32
  let c8_i32_951 : BitVec 32 := 8#32
  let v2257 : BitVec 32 := Scalar.addi v2251 c8_i32_951
  v2257
def k0_mult163 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_947 : BitVec 32 := 512#32
  let v2250 : BitVec 32 := Scalar.muli v320 c512_i32_947
  let c112_i32 : BitVec 32 := 112#32
  let v2251 : BitVec 32 := Scalar.addi v2250 c112_i32
  let c16_i32_954 : BitVec 32 := 16#32
  let v2262 : BitVec 32 := Scalar.addi v2251 c16_i32_954
  v2262
def k0_mult164 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_947 : BitVec 32 := 512#32
  let v2250 : BitVec 32 := Scalar.muli v320 c512_i32_947
  let c112_i32 : BitVec 32 := 112#32
  let v2251 : BitVec 32 := Scalar.addi v2250 c112_i32
  let c24_i32_957 : BitVec 32 := 24#32
  let v2267 : BitVec 32 := Scalar.addi v2251 c24_i32_957
  v2267
def k0_mult165 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_947 : BitVec 32 := 512#32
  let v2250 : BitVec 32 := Scalar.muli v320 c512_i32_947
  let c112_i32 : BitVec 32 := 112#32
  let v2251 : BitVec 32 := Scalar.addi v2250 c112_i32
  let c32_i32_960 : BitVec 32 := 32#32
  let v2272 : BitVec 32 := Scalar.addi v2251 c32_i32_960
  v2272
def k0_mult166 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_947 : BitVec 32 := 512#32
  let v2250 : BitVec 32 := Scalar.muli v320 c512_i32_947
  let c112_i32 : BitVec 32 := 112#32
  let v2251 : BitVec 32 := Scalar.addi v2250 c112_i32
  let c40_i32_963 : BitVec 32 := 40#32
  let v2277 : BitVec 32 := Scalar.addi v2251 c40_i32_963
  v2277
def k0_mult167 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_947 : BitVec 32 := 512#32
  let v2250 : BitVec 32 := Scalar.muli v320 c512_i32_947
  let c112_i32 : BitVec 32 := 112#32
  let v2251 : BitVec 32 := Scalar.addi v2250 c112_i32
  let c48_i32_966 : BitVec 32 := 48#32
  let v2282 : BitVec 32 := Scalar.addi v2251 c48_i32_966
  v2282
def k0_mult168 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_947 : BitVec 32 := 512#32
  let v2250 : BitVec 32 := Scalar.muli v320 c512_i32_947
  let c112_i32 : BitVec 32 := 112#32
  let v2251 : BitVec 32 := Scalar.addi v2250 c112_i32
  let c56_i32_969 : BitVec 32 := 56#32
  let v2287 : BitVec 32 := Scalar.addi v2251 c56_i32_969
  v2287
def k0_mult169 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1128 : BitVec 32 := 512#32
  let v2721 : BitVec 32 := Scalar.muli v320 c512_i32_1128
  let c144_i32 : BitVec 32 := 144#32
  let v2722 : BitVec 32 := Scalar.addi v2721 c144_i32
  let c0_i32_1129 : BitVec 32 := 0#32
  let v2723 : BitVec 32 := Scalar.addi v2722 c0_i32_1129
  v2723
def k0_mult170 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1128 : BitVec 32 := 512#32
  let v2721 : BitVec 32 := Scalar.muli v320 c512_i32_1128
  let c144_i32 : BitVec 32 := 144#32
  let v2722 : BitVec 32 := Scalar.addi v2721 c144_i32
  let c8_i32_1132 : BitVec 32 := 8#32
  let v2728 : BitVec 32 := Scalar.addi v2722 c8_i32_1132
  v2728
def k0_mult171 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1128 : BitVec 32 := 512#32
  let v2721 : BitVec 32 := Scalar.muli v320 c512_i32_1128
  let c144_i32 : BitVec 32 := 144#32
  let v2722 : BitVec 32 := Scalar.addi v2721 c144_i32
  let c16_i32_1135 : BitVec 32 := 16#32
  let v2733 : BitVec 32 := Scalar.addi v2722 c16_i32_1135
  v2733
def k0_mult172 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1128 : BitVec 32 := 512#32
  let v2721 : BitVec 32 := Scalar.muli v320 c512_i32_1128
  let c144_i32 : BitVec 32 := 144#32
  let v2722 : BitVec 32 := Scalar.addi v2721 c144_i32
  let c24_i32_1138 : BitVec 32 := 24#32
  let v2738 : BitVec 32 := Scalar.addi v2722 c24_i32_1138
  v2738
def k0_mult173 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1128 : BitVec 32 := 512#32
  let v2721 : BitVec 32 := Scalar.muli v320 c512_i32_1128
  let c144_i32 : BitVec 32 := 144#32
  let v2722 : BitVec 32 := Scalar.addi v2721 c144_i32
  let c32_i32_1141 : BitVec 32 := 32#32
  let v2743 : BitVec 32 := Scalar.addi v2722 c32_i32_1141
  v2743
def k0_mult174 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1128 : BitVec 32 := 512#32
  let v2721 : BitVec 32 := Scalar.muli v320 c512_i32_1128
  let c144_i32 : BitVec 32 := 144#32
  let v2722 : BitVec 32 := Scalar.addi v2721 c144_i32
  let c40_i32_1144 : BitVec 32 := 40#32
  let v2748 : BitVec 32 := Scalar.addi v2722 c40_i32_1144
  v2748
def k0_mult175 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1128 : BitVec 32 := 512#32
  let v2721 : BitVec 32 := Scalar.muli v320 c512_i32_1128
  let c144_i32 : BitVec 32 := 144#32
  let v2722 : BitVec 32 := Scalar.addi v2721 c144_i32
  let c48_i32_1147 : BitVec 32 := 48#32
  let v2753 : BitVec 32 := Scalar.addi v2722 c48_i32_1147
  v2753
def k0_mult176 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1128 : BitVec 32 := 512#32
  let v2721 : BitVec 32 := Scalar.muli v320 c512_i32_1128
  let c144_i32 : BitVec 32 := 144#32
  let v2722 : BitVec 32 := Scalar.addi v2721 c144_i32
  let c56_i32_1150 : BitVec 32 := 56#32
  let v2758 : BitVec 32 := Scalar.addi v2722 c56_i32_1150
  v2758
def k0_mult177 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1309 : BitVec 32 := 512#32
  let v3192 : BitVec 32 := Scalar.muli v320 c512_i32_1309
  let c176_i32 : BitVec 32 := 176#32
  let v3193 : BitVec 32 := Scalar.addi v3192 c176_i32
  let c0_i32_1310 : BitVec 32 := 0#32
  let v3194 : BitVec 32 := Scalar.addi v3193 c0_i32_1310
  v3194
def k0_mult178 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1309 : BitVec 32 := 512#32
  let v3192 : BitVec 32 := Scalar.muli v320 c512_i32_1309
  let c176_i32 : BitVec 32 := 176#32
  let v3193 : BitVec 32 := Scalar.addi v3192 c176_i32
  let c8_i32_1313 : BitVec 32 := 8#32
  let v3199 : BitVec 32 := Scalar.addi v3193 c8_i32_1313
  v3199
def k0_mult179 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1309 : BitVec 32 := 512#32
  let v3192 : BitVec 32 := Scalar.muli v320 c512_i32_1309
  let c176_i32 : BitVec 32 := 176#32
  let v3193 : BitVec 32 := Scalar.addi v3192 c176_i32
  let c16_i32_1316 : BitVec 32 := 16#32
  let v3204 : BitVec 32 := Scalar.addi v3193 c16_i32_1316
  v3204
def k0_mult180 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1309 : BitVec 32 := 512#32
  let v3192 : BitVec 32 := Scalar.muli v320 c512_i32_1309
  let c176_i32 : BitVec 32 := 176#32
  let v3193 : BitVec 32 := Scalar.addi v3192 c176_i32
  let c24_i32_1319 : BitVec 32 := 24#32
  let v3209 : BitVec 32 := Scalar.addi v3193 c24_i32_1319
  v3209
def k0_mult181 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1309 : BitVec 32 := 512#32
  let v3192 : BitVec 32 := Scalar.muli v320 c512_i32_1309
  let c176_i32 : BitVec 32 := 176#32
  let v3193 : BitVec 32 := Scalar.addi v3192 c176_i32
  let c32_i32_1322 : BitVec 32 := 32#32
  let v3214 : BitVec 32 := Scalar.addi v3193 c32_i32_1322
  v3214
def k0_mult182 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1309 : BitVec 32 := 512#32
  let v3192 : BitVec 32 := Scalar.muli v320 c512_i32_1309
  let c176_i32 : BitVec 32 := 176#32
  let v3193 : BitVec 32 := Scalar.addi v3192 c176_i32
  let c40_i32_1325 : BitVec 32 := 40#32
  let v3219 : BitVec 32 := Scalar.addi v3193 c40_i32_1325
  v3219
def k0_mult183 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1309 : BitVec 32 := 512#32
  let v3192 : BitVec 32 := Scalar.muli v320 c512_i32_1309
  let c176_i32 : BitVec 32 := 176#32
  let v3193 : BitVec 32 := Scalar.addi v3192 c176_i32
  let c48_i32_1328 : BitVec 32 := 48#32
  let v3224 : BitVec 32 := Scalar.addi v3193 c48_i32_1328
  v3224
def k0_mult184 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1309 : BitVec 32 := 512#32
  let v3192 : BitVec 32 := Scalar.muli v320 c512_i32_1309
  let c176_i32 : BitVec 32 := 176#32
  let v3193 : BitVec 32 := Scalar.addi v3192 c176_i32
  let c56_i32_1331 : BitVec 32 := 56#32
  let v3229 : BitVec 32 := Scalar.addi v3193 c56_i32_1331
  v3229
def k0_mult185 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1490 : BitVec 32 := 512#32
  let v3663 : BitVec 32 := Scalar.muli v320 c512_i32_1490
  let c208_i32 : BitVec 32 := 208#32
  let v3664 : BitVec 32 := Scalar.addi v3663 c208_i32
  let c0_i32_1491 : BitVec 32 := 0#32
  let v3665 : BitVec 32 := Scalar.addi v3664 c0_i32_1491
  v3665
def k0_mult186 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1490 : BitVec 32 := 512#32
  let v3663 : BitVec 32 := Scalar.muli v320 c512_i32_1490
  let c208_i32 : BitVec 32 := 208#32
  let v3664 : BitVec 32 := Scalar.addi v3663 c208_i32
  let c8_i32_1494 : BitVec 32 := 8#32
  let v3670 : BitVec 32 := Scalar.addi v3664 c8_i32_1494
  v3670
def k0_mult187 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1490 : BitVec 32 := 512#32
  let v3663 : BitVec 32 := Scalar.muli v320 c512_i32_1490
  let c208_i32 : BitVec 32 := 208#32
  let v3664 : BitVec 32 := Scalar.addi v3663 c208_i32
  let c16_i32_1497 : BitVec 32 := 16#32
  let v3675 : BitVec 32 := Scalar.addi v3664 c16_i32_1497
  v3675
def k0_mult188 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1490 : BitVec 32 := 512#32
  let v3663 : BitVec 32 := Scalar.muli v320 c512_i32_1490
  let c208_i32 : BitVec 32 := 208#32
  let v3664 : BitVec 32 := Scalar.addi v3663 c208_i32
  let c24_i32_1500 : BitVec 32 := 24#32
  let v3680 : BitVec 32 := Scalar.addi v3664 c24_i32_1500
  v3680
def k0_mult189 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1490 : BitVec 32 := 512#32
  let v3663 : BitVec 32 := Scalar.muli v320 c512_i32_1490
  let c208_i32 : BitVec 32 := 208#32
  let v3664 : BitVec 32 := Scalar.addi v3663 c208_i32
  let c32_i32_1503 : BitVec 32 := 32#32
  let v3685 : BitVec 32 := Scalar.addi v3664 c32_i32_1503
  v3685
def k0_mult190 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1490 : BitVec 32 := 512#32
  let v3663 : BitVec 32 := Scalar.muli v320 c512_i32_1490
  let c208_i32 : BitVec 32 := 208#32
  let v3664 : BitVec 32 := Scalar.addi v3663 c208_i32
  let c40_i32_1506 : BitVec 32 := 40#32
  let v3690 : BitVec 32 := Scalar.addi v3664 c40_i32_1506
  v3690
def k0_mult191 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1490 : BitVec 32 := 512#32
  let v3663 : BitVec 32 := Scalar.muli v320 c512_i32_1490
  let c208_i32 : BitVec 32 := 208#32
  let v3664 : BitVec 32 := Scalar.addi v3663 c208_i32
  let c48_i32_1509 : BitVec 32 := 48#32
  let v3695 : BitVec 32 := Scalar.addi v3664 c48_i32_1509
  v3695
def k0_mult192 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1490 : BitVec 32 := 512#32
  let v3663 : BitVec 32 := Scalar.muli v320 c512_i32_1490
  let c208_i32 : BitVec 32 := 208#32
  let v3664 : BitVec 32 := Scalar.addi v3663 c208_i32
  let c56_i32_1512 : BitVec 32 := 56#32
  let v3700 : BitVec 32 := Scalar.addi v3664 c56_i32_1512
  v3700
def k0_off7 (i : grid0.Coords) : Fin 3 → Nat :=
  let c1_i32_206 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v309 : BitVec 32 := Scalar.subi c1_i32_206 v11
  let v4168 : Index := Scalar.indexCast v309
  let c128 : Index := 128#32
  let c0_1683 : Index := 0#32
  ![v4168.toNat, 128, 0]
def k0_mult193 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1684 : BitVec 32 := 512#32
  let v4172 : BitVec 32 := Scalar.muli v320 c512_i32_1684
  let c240_i32 : BitVec 32 := 240#32
  let v4173 : BitVec 32 := Scalar.addi v4172 c240_i32
  let c0_i32_1685 : BitVec 32 := 0#32
  let v4174 : BitVec 32 := Scalar.addi v4173 c0_i32_1685
  v4174
def k0_mult194 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1684 : BitVec 32 := 512#32
  let v4172 : BitVec 32 := Scalar.muli v320 c512_i32_1684
  let c240_i32 : BitVec 32 := 240#32
  let v4173 : BitVec 32 := Scalar.addi v4172 c240_i32
  let c8_i32_1688 : BitVec 32 := 8#32
  let v4179 : BitVec 32 := Scalar.addi v4173 c8_i32_1688
  v4179
def k0_mult195 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1684 : BitVec 32 := 512#32
  let v4172 : BitVec 32 := Scalar.muli v320 c512_i32_1684
  let c240_i32 : BitVec 32 := 240#32
  let v4173 : BitVec 32 := Scalar.addi v4172 c240_i32
  let c16_i32_1691 : BitVec 32 := 16#32
  let v4184 : BitVec 32 := Scalar.addi v4173 c16_i32_1691
  v4184
def k0_mult196 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1684 : BitVec 32 := 512#32
  let v4172 : BitVec 32 := Scalar.muli v320 c512_i32_1684
  let c240_i32 : BitVec 32 := 240#32
  let v4173 : BitVec 32 := Scalar.addi v4172 c240_i32
  let c24_i32_1694 : BitVec 32 := 24#32
  let v4189 : BitVec 32 := Scalar.addi v4173 c24_i32_1694
  v4189
def k0_mult197 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1684 : BitVec 32 := 512#32
  let v4172 : BitVec 32 := Scalar.muli v320 c512_i32_1684
  let c240_i32 : BitVec 32 := 240#32
  let v4173 : BitVec 32 := Scalar.addi v4172 c240_i32
  let c32_i32_1697 : BitVec 32 := 32#32
  let v4194 : BitVec 32 := Scalar.addi v4173 c32_i32_1697
  v4194
def k0_mult198 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1684 : BitVec 32 := 512#32
  let v4172 : BitVec 32 := Scalar.muli v320 c512_i32_1684
  let c240_i32 : BitVec 32 := 240#32
  let v4173 : BitVec 32 := Scalar.addi v4172 c240_i32
  let c40_i32_1700 : BitVec 32 := 40#32
  let v4199 : BitVec 32 := Scalar.addi v4173 c40_i32_1700
  v4199
def k0_mult199 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1684 : BitVec 32 := 512#32
  let v4172 : BitVec 32 := Scalar.muli v320 c512_i32_1684
  let c240_i32 : BitVec 32 := 240#32
  let v4173 : BitVec 32 := Scalar.addi v4172 c240_i32
  let c48_i32_1703 : BitVec 32 := 48#32
  let v4204 : BitVec 32 := Scalar.addi v4173 c48_i32_1703
  v4204
def k0_mult200 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1684 : BitVec 32 := 512#32
  let v4172 : BitVec 32 := Scalar.muli v320 c512_i32_1684
  let c240_i32 : BitVec 32 := 240#32
  let v4173 : BitVec 32 := Scalar.addi v4172 c240_i32
  let c56_i32_1706 : BitVec 32 := 56#32
  let v4209 : BitVec 32 := Scalar.addi v4173 c56_i32_1706
  v4209
def k0_mult201 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1865 : BitVec 32 := 512#32
  let v4643 : BitVec 32 := Scalar.muli v320 c512_i32_1865
  let c272_i32 : BitVec 32 := 272#32
  let v4644 : BitVec 32 := Scalar.addi v4643 c272_i32
  let c0_i32_1866 : BitVec 32 := 0#32
  let v4645 : BitVec 32 := Scalar.addi v4644 c0_i32_1866
  v4645
def k0_mult202 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1865 : BitVec 32 := 512#32
  let v4643 : BitVec 32 := Scalar.muli v320 c512_i32_1865
  let c272_i32 : BitVec 32 := 272#32
  let v4644 : BitVec 32 := Scalar.addi v4643 c272_i32
  let c8_i32_1869 : BitVec 32 := 8#32
  let v4650 : BitVec 32 := Scalar.addi v4644 c8_i32_1869
  v4650
def k0_mult203 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1865 : BitVec 32 := 512#32
  let v4643 : BitVec 32 := Scalar.muli v320 c512_i32_1865
  let c272_i32 : BitVec 32 := 272#32
  let v4644 : BitVec 32 := Scalar.addi v4643 c272_i32
  let c16_i32_1872 : BitVec 32 := 16#32
  let v4655 : BitVec 32 := Scalar.addi v4644 c16_i32_1872
  v4655
def k0_mult204 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1865 : BitVec 32 := 512#32
  let v4643 : BitVec 32 := Scalar.muli v320 c512_i32_1865
  let c272_i32 : BitVec 32 := 272#32
  let v4644 : BitVec 32 := Scalar.addi v4643 c272_i32
  let c24_i32_1875 : BitVec 32 := 24#32
  let v4660 : BitVec 32 := Scalar.addi v4644 c24_i32_1875
  v4660
def k0_mult205 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1865 : BitVec 32 := 512#32
  let v4643 : BitVec 32 := Scalar.muli v320 c512_i32_1865
  let c272_i32 : BitVec 32 := 272#32
  let v4644 : BitVec 32 := Scalar.addi v4643 c272_i32
  let c32_i32_1878 : BitVec 32 := 32#32
  let v4665 : BitVec 32 := Scalar.addi v4644 c32_i32_1878
  v4665
def k0_mult206 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1865 : BitVec 32 := 512#32
  let v4643 : BitVec 32 := Scalar.muli v320 c512_i32_1865
  let c272_i32 : BitVec 32 := 272#32
  let v4644 : BitVec 32 := Scalar.addi v4643 c272_i32
  let c40_i32_1881 : BitVec 32 := 40#32
  let v4670 : BitVec 32 := Scalar.addi v4644 c40_i32_1881
  v4670
def k0_mult207 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1865 : BitVec 32 := 512#32
  let v4643 : BitVec 32 := Scalar.muli v320 c512_i32_1865
  let c272_i32 : BitVec 32 := 272#32
  let v4644 : BitVec 32 := Scalar.addi v4643 c272_i32
  let c48_i32_1884 : BitVec 32 := 48#32
  let v4675 : BitVec 32 := Scalar.addi v4644 c48_i32_1884
  v4675
def k0_mult208 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_1865 : BitVec 32 := 512#32
  let v4643 : BitVec 32 := Scalar.muli v320 c512_i32_1865
  let c272_i32 : BitVec 32 := 272#32
  let v4644 : BitVec 32 := Scalar.addi v4643 c272_i32
  let c56_i32_1887 : BitVec 32 := 56#32
  let v4680 : BitVec 32 := Scalar.addi v4644 c56_i32_1887
  v4680
def k0_mult209 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2046 : BitVec 32 := 512#32
  let v5114 : BitVec 32 := Scalar.muli v320 c512_i32_2046
  let c304_i32 : BitVec 32 := 304#32
  let v5115 : BitVec 32 := Scalar.addi v5114 c304_i32
  let c0_i32_2047 : BitVec 32 := 0#32
  let v5116 : BitVec 32 := Scalar.addi v5115 c0_i32_2047
  v5116
def k0_mult210 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2046 : BitVec 32 := 512#32
  let v5114 : BitVec 32 := Scalar.muli v320 c512_i32_2046
  let c304_i32 : BitVec 32 := 304#32
  let v5115 : BitVec 32 := Scalar.addi v5114 c304_i32
  let c8_i32_2050 : BitVec 32 := 8#32
  let v5121 : BitVec 32 := Scalar.addi v5115 c8_i32_2050
  v5121
def k0_mult211 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2046 : BitVec 32 := 512#32
  let v5114 : BitVec 32 := Scalar.muli v320 c512_i32_2046
  let c304_i32 : BitVec 32 := 304#32
  let v5115 : BitVec 32 := Scalar.addi v5114 c304_i32
  let c16_i32_2053 : BitVec 32 := 16#32
  let v5126 : BitVec 32 := Scalar.addi v5115 c16_i32_2053
  v5126
def k0_mult212 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2046 : BitVec 32 := 512#32
  let v5114 : BitVec 32 := Scalar.muli v320 c512_i32_2046
  let c304_i32 : BitVec 32 := 304#32
  let v5115 : BitVec 32 := Scalar.addi v5114 c304_i32
  let c24_i32_2056 : BitVec 32 := 24#32
  let v5131 : BitVec 32 := Scalar.addi v5115 c24_i32_2056
  v5131
def k0_mult213 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2046 : BitVec 32 := 512#32
  let v5114 : BitVec 32 := Scalar.muli v320 c512_i32_2046
  let c304_i32 : BitVec 32 := 304#32
  let v5115 : BitVec 32 := Scalar.addi v5114 c304_i32
  let c32_i32_2059 : BitVec 32 := 32#32
  let v5136 : BitVec 32 := Scalar.addi v5115 c32_i32_2059
  v5136
def k0_mult214 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2046 : BitVec 32 := 512#32
  let v5114 : BitVec 32 := Scalar.muli v320 c512_i32_2046
  let c304_i32 : BitVec 32 := 304#32
  let v5115 : BitVec 32 := Scalar.addi v5114 c304_i32
  let c40_i32_2062 : BitVec 32 := 40#32
  let v5141 : BitVec 32 := Scalar.addi v5115 c40_i32_2062
  v5141
def k0_mult215 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2046 : BitVec 32 := 512#32
  let v5114 : BitVec 32 := Scalar.muli v320 c512_i32_2046
  let c304_i32 : BitVec 32 := 304#32
  let v5115 : BitVec 32 := Scalar.addi v5114 c304_i32
  let c48_i32_2065 : BitVec 32 := 48#32
  let v5146 : BitVec 32 := Scalar.addi v5115 c48_i32_2065
  v5146
def k0_mult216 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2046 : BitVec 32 := 512#32
  let v5114 : BitVec 32 := Scalar.muli v320 c512_i32_2046
  let c304_i32 : BitVec 32 := 304#32
  let v5115 : BitVec 32 := Scalar.addi v5114 c304_i32
  let c56_i32_2068 : BitVec 32 := 56#32
  let v5151 : BitVec 32 := Scalar.addi v5115 c56_i32_2068
  v5151
def k0_mult217 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2227 : BitVec 32 := 512#32
  let v5585 : BitVec 32 := Scalar.muli v320 c512_i32_2227
  let c336_i32 : BitVec 32 := 336#32
  let v5586 : BitVec 32 := Scalar.addi v5585 c336_i32
  let c0_i32_2228 : BitVec 32 := 0#32
  let v5587 : BitVec 32 := Scalar.addi v5586 c0_i32_2228
  v5587
def k0_mult218 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2227 : BitVec 32 := 512#32
  let v5585 : BitVec 32 := Scalar.muli v320 c512_i32_2227
  let c336_i32 : BitVec 32 := 336#32
  let v5586 : BitVec 32 := Scalar.addi v5585 c336_i32
  let c8_i32_2231 : BitVec 32 := 8#32
  let v5592 : BitVec 32 := Scalar.addi v5586 c8_i32_2231
  v5592
def k0_mult219 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2227 : BitVec 32 := 512#32
  let v5585 : BitVec 32 := Scalar.muli v320 c512_i32_2227
  let c336_i32 : BitVec 32 := 336#32
  let v5586 : BitVec 32 := Scalar.addi v5585 c336_i32
  let c16_i32_2234 : BitVec 32 := 16#32
  let v5597 : BitVec 32 := Scalar.addi v5586 c16_i32_2234
  v5597
def k0_mult220 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2227 : BitVec 32 := 512#32
  let v5585 : BitVec 32 := Scalar.muli v320 c512_i32_2227
  let c336_i32 : BitVec 32 := 336#32
  let v5586 : BitVec 32 := Scalar.addi v5585 c336_i32
  let c24_i32_2237 : BitVec 32 := 24#32
  let v5602 : BitVec 32 := Scalar.addi v5586 c24_i32_2237
  v5602
def k0_mult221 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2227 : BitVec 32 := 512#32
  let v5585 : BitVec 32 := Scalar.muli v320 c512_i32_2227
  let c336_i32 : BitVec 32 := 336#32
  let v5586 : BitVec 32 := Scalar.addi v5585 c336_i32
  let c32_i32_2240 : BitVec 32 := 32#32
  let v5607 : BitVec 32 := Scalar.addi v5586 c32_i32_2240
  v5607
def k0_mult222 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2227 : BitVec 32 := 512#32
  let v5585 : BitVec 32 := Scalar.muli v320 c512_i32_2227
  let c336_i32 : BitVec 32 := 336#32
  let v5586 : BitVec 32 := Scalar.addi v5585 c336_i32
  let c40_i32_2243 : BitVec 32 := 40#32
  let v5612 : BitVec 32 := Scalar.addi v5586 c40_i32_2243
  v5612
def k0_mult223 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2227 : BitVec 32 := 512#32
  let v5585 : BitVec 32 := Scalar.muli v320 c512_i32_2227
  let c336_i32 : BitVec 32 := 336#32
  let v5586 : BitVec 32 := Scalar.addi v5585 c336_i32
  let c48_i32_2246 : BitVec 32 := 48#32
  let v5617 : BitVec 32 := Scalar.addi v5586 c48_i32_2246
  v5617
def k0_mult224 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2227 : BitVec 32 := 512#32
  let v5585 : BitVec 32 := Scalar.muli v320 c512_i32_2227
  let c336_i32 : BitVec 32 := 336#32
  let v5586 : BitVec 32 := Scalar.addi v5585 c336_i32
  let c56_i32_2249 : BitVec 32 := 56#32
  let v5622 : BitVec 32 := Scalar.addi v5586 c56_i32_2249
  v5622
def k0_off8 (i : grid0.Coords) : Fin 3 → Nat :=
  let c1_i32_206 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v309 : BitVec 32 := Scalar.subi c1_i32_206 v11
  let v6090 : Index := Scalar.indexCast v309
  let c256_2420 : Index := 256#32
  let c0_2421 : Index := 0#32
  ![v6090.toNat, 256, 0]
def k0_mult225 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2422 : BitVec 32 := 512#32
  let v6094 : BitVec 32 := Scalar.muli v320 c512_i32_2422
  let c368_i32 : BitVec 32 := 368#32
  let v6095 : BitVec 32 := Scalar.addi v6094 c368_i32
  let c0_i32_2423 : BitVec 32 := 0#32
  let v6096 : BitVec 32 := Scalar.addi v6095 c0_i32_2423
  v6096
def k0_mult226 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2422 : BitVec 32 := 512#32
  let v6094 : BitVec 32 := Scalar.muli v320 c512_i32_2422
  let c368_i32 : BitVec 32 := 368#32
  let v6095 : BitVec 32 := Scalar.addi v6094 c368_i32
  let c8_i32_2426 : BitVec 32 := 8#32
  let v6101 : BitVec 32 := Scalar.addi v6095 c8_i32_2426
  v6101
def k0_mult227 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2422 : BitVec 32 := 512#32
  let v6094 : BitVec 32 := Scalar.muli v320 c512_i32_2422
  let c368_i32 : BitVec 32 := 368#32
  let v6095 : BitVec 32 := Scalar.addi v6094 c368_i32
  let c16_i32_2429 : BitVec 32 := 16#32
  let v6106 : BitVec 32 := Scalar.addi v6095 c16_i32_2429
  v6106
def k0_mult228 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2422 : BitVec 32 := 512#32
  let v6094 : BitVec 32 := Scalar.muli v320 c512_i32_2422
  let c368_i32 : BitVec 32 := 368#32
  let v6095 : BitVec 32 := Scalar.addi v6094 c368_i32
  let c24_i32_2432 : BitVec 32 := 24#32
  let v6111 : BitVec 32 := Scalar.addi v6095 c24_i32_2432
  v6111
def k0_mult229 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2422 : BitVec 32 := 512#32
  let v6094 : BitVec 32 := Scalar.muli v320 c512_i32_2422
  let c368_i32 : BitVec 32 := 368#32
  let v6095 : BitVec 32 := Scalar.addi v6094 c368_i32
  let c32_i32_2435 : BitVec 32 := 32#32
  let v6116 : BitVec 32 := Scalar.addi v6095 c32_i32_2435
  v6116
def k0_mult230 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2422 : BitVec 32 := 512#32
  let v6094 : BitVec 32 := Scalar.muli v320 c512_i32_2422
  let c368_i32 : BitVec 32 := 368#32
  let v6095 : BitVec 32 := Scalar.addi v6094 c368_i32
  let c40_i32_2438 : BitVec 32 := 40#32
  let v6121 : BitVec 32 := Scalar.addi v6095 c40_i32_2438
  v6121
def k0_mult231 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2422 : BitVec 32 := 512#32
  let v6094 : BitVec 32 := Scalar.muli v320 c512_i32_2422
  let c368_i32 : BitVec 32 := 368#32
  let v6095 : BitVec 32 := Scalar.addi v6094 c368_i32
  let c48_i32_2441 : BitVec 32 := 48#32
  let v6126 : BitVec 32 := Scalar.addi v6095 c48_i32_2441
  v6126
def k0_mult232 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2422 : BitVec 32 := 512#32
  let v6094 : BitVec 32 := Scalar.muli v320 c512_i32_2422
  let c368_i32 : BitVec 32 := 368#32
  let v6095 : BitVec 32 := Scalar.addi v6094 c368_i32
  let c56_i32_2444 : BitVec 32 := 56#32
  let v6131 : BitVec 32 := Scalar.addi v6095 c56_i32_2444
  v6131
def k0_mult233 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2603 : BitVec 32 := 512#32
  let v6565 : BitVec 32 := Scalar.muli v320 c512_i32_2603
  let c400_i32 : BitVec 32 := 400#32
  let v6566 : BitVec 32 := Scalar.addi v6565 c400_i32
  let c0_i32_2604 : BitVec 32 := 0#32
  let v6567 : BitVec 32 := Scalar.addi v6566 c0_i32_2604
  v6567
def k0_mult234 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2603 : BitVec 32 := 512#32
  let v6565 : BitVec 32 := Scalar.muli v320 c512_i32_2603
  let c400_i32 : BitVec 32 := 400#32
  let v6566 : BitVec 32 := Scalar.addi v6565 c400_i32
  let c8_i32_2607 : BitVec 32 := 8#32
  let v6572 : BitVec 32 := Scalar.addi v6566 c8_i32_2607
  v6572
def k0_mult235 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2603 : BitVec 32 := 512#32
  let v6565 : BitVec 32 := Scalar.muli v320 c512_i32_2603
  let c400_i32 : BitVec 32 := 400#32
  let v6566 : BitVec 32 := Scalar.addi v6565 c400_i32
  let c16_i32_2610 : BitVec 32 := 16#32
  let v6577 : BitVec 32 := Scalar.addi v6566 c16_i32_2610
  v6577
def k0_mult236 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2603 : BitVec 32 := 512#32
  let v6565 : BitVec 32 := Scalar.muli v320 c512_i32_2603
  let c400_i32 : BitVec 32 := 400#32
  let v6566 : BitVec 32 := Scalar.addi v6565 c400_i32
  let c24_i32_2613 : BitVec 32 := 24#32
  let v6582 : BitVec 32 := Scalar.addi v6566 c24_i32_2613
  v6582
def k0_mult237 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2603 : BitVec 32 := 512#32
  let v6565 : BitVec 32 := Scalar.muli v320 c512_i32_2603
  let c400_i32 : BitVec 32 := 400#32
  let v6566 : BitVec 32 := Scalar.addi v6565 c400_i32
  let c32_i32_2616 : BitVec 32 := 32#32
  let v6587 : BitVec 32 := Scalar.addi v6566 c32_i32_2616
  v6587
def k0_mult238 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2603 : BitVec 32 := 512#32
  let v6565 : BitVec 32 := Scalar.muli v320 c512_i32_2603
  let c400_i32 : BitVec 32 := 400#32
  let v6566 : BitVec 32 := Scalar.addi v6565 c400_i32
  let c40_i32_2619 : BitVec 32 := 40#32
  let v6592 : BitVec 32 := Scalar.addi v6566 c40_i32_2619
  v6592
def k0_mult239 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2603 : BitVec 32 := 512#32
  let v6565 : BitVec 32 := Scalar.muli v320 c512_i32_2603
  let c400_i32 : BitVec 32 := 400#32
  let v6566 : BitVec 32 := Scalar.addi v6565 c400_i32
  let c48_i32_2622 : BitVec 32 := 48#32
  let v6597 : BitVec 32 := Scalar.addi v6566 c48_i32_2622
  v6597
def k0_mult240 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2603 : BitVec 32 := 512#32
  let v6565 : BitVec 32 := Scalar.muli v320 c512_i32_2603
  let c400_i32 : BitVec 32 := 400#32
  let v6566 : BitVec 32 := Scalar.addi v6565 c400_i32
  let c56_i32_2625 : BitVec 32 := 56#32
  let v6602 : BitVec 32 := Scalar.addi v6566 c56_i32_2625
  v6602
def k0_mult241 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2784 : BitVec 32 := 512#32
  let v7036 : BitVec 32 := Scalar.muli v320 c512_i32_2784
  let c432_i32 : BitVec 32 := 432#32
  let v7037 : BitVec 32 := Scalar.addi v7036 c432_i32
  let c0_i32_2785 : BitVec 32 := 0#32
  let v7038 : BitVec 32 := Scalar.addi v7037 c0_i32_2785
  v7038
def k0_mult242 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2784 : BitVec 32 := 512#32
  let v7036 : BitVec 32 := Scalar.muli v320 c512_i32_2784
  let c432_i32 : BitVec 32 := 432#32
  let v7037 : BitVec 32 := Scalar.addi v7036 c432_i32
  let c8_i32_2788 : BitVec 32 := 8#32
  let v7043 : BitVec 32 := Scalar.addi v7037 c8_i32_2788
  v7043
def k0_mult243 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2784 : BitVec 32 := 512#32
  let v7036 : BitVec 32 := Scalar.muli v320 c512_i32_2784
  let c432_i32 : BitVec 32 := 432#32
  let v7037 : BitVec 32 := Scalar.addi v7036 c432_i32
  let c16_i32_2791 : BitVec 32 := 16#32
  let v7048 : BitVec 32 := Scalar.addi v7037 c16_i32_2791
  v7048
def k0_mult244 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2784 : BitVec 32 := 512#32
  let v7036 : BitVec 32 := Scalar.muli v320 c512_i32_2784
  let c432_i32 : BitVec 32 := 432#32
  let v7037 : BitVec 32 := Scalar.addi v7036 c432_i32
  let c24_i32_2794 : BitVec 32 := 24#32
  let v7053 : BitVec 32 := Scalar.addi v7037 c24_i32_2794
  v7053
def k0_mult245 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2784 : BitVec 32 := 512#32
  let v7036 : BitVec 32 := Scalar.muli v320 c512_i32_2784
  let c432_i32 : BitVec 32 := 432#32
  let v7037 : BitVec 32 := Scalar.addi v7036 c432_i32
  let c32_i32_2797 : BitVec 32 := 32#32
  let v7058 : BitVec 32 := Scalar.addi v7037 c32_i32_2797
  v7058
def k0_mult246 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2784 : BitVec 32 := 512#32
  let v7036 : BitVec 32 := Scalar.muli v320 c512_i32_2784
  let c432_i32 : BitVec 32 := 432#32
  let v7037 : BitVec 32 := Scalar.addi v7036 c432_i32
  let c40_i32_2800 : BitVec 32 := 40#32
  let v7063 : BitVec 32 := Scalar.addi v7037 c40_i32_2800
  v7063
def k0_mult247 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2784 : BitVec 32 := 512#32
  let v7036 : BitVec 32 := Scalar.muli v320 c512_i32_2784
  let c432_i32 : BitVec 32 := 432#32
  let v7037 : BitVec 32 := Scalar.addi v7036 c432_i32
  let c48_i32_2803 : BitVec 32 := 48#32
  let v7068 : BitVec 32 := Scalar.addi v7037 c48_i32_2803
  v7068
def k0_mult248 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2784 : BitVec 32 := 512#32
  let v7036 : BitVec 32 := Scalar.muli v320 c512_i32_2784
  let c432_i32 : BitVec 32 := 432#32
  let v7037 : BitVec 32 := Scalar.addi v7036 c432_i32
  let c56_i32_2806 : BitVec 32 := 56#32
  let v7073 : BitVec 32 := Scalar.addi v7037 c56_i32_2806
  v7073
def k0_mult249 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2965 : BitVec 32 := 512#32
  let v7507 : BitVec 32 := Scalar.muli v320 c512_i32_2965
  let c464_i32 : BitVec 32 := 464#32
  let v7508 : BitVec 32 := Scalar.addi v7507 c464_i32
  let c0_i32_2966 : BitVec 32 := 0#32
  let v7509 : BitVec 32 := Scalar.addi v7508 c0_i32_2966
  v7509
def k0_mult250 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2965 : BitVec 32 := 512#32
  let v7507 : BitVec 32 := Scalar.muli v320 c512_i32_2965
  let c464_i32 : BitVec 32 := 464#32
  let v7508 : BitVec 32 := Scalar.addi v7507 c464_i32
  let c8_i32_2969 : BitVec 32 := 8#32
  let v7514 : BitVec 32 := Scalar.addi v7508 c8_i32_2969
  v7514
def k0_mult251 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2965 : BitVec 32 := 512#32
  let v7507 : BitVec 32 := Scalar.muli v320 c512_i32_2965
  let c464_i32 : BitVec 32 := 464#32
  let v7508 : BitVec 32 := Scalar.addi v7507 c464_i32
  let c16_i32_2972 : BitVec 32 := 16#32
  let v7519 : BitVec 32 := Scalar.addi v7508 c16_i32_2972
  v7519
def k0_mult252 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2965 : BitVec 32 := 512#32
  let v7507 : BitVec 32 := Scalar.muli v320 c512_i32_2965
  let c464_i32 : BitVec 32 := 464#32
  let v7508 : BitVec 32 := Scalar.addi v7507 c464_i32
  let c24_i32_2975 : BitVec 32 := 24#32
  let v7524 : BitVec 32 := Scalar.addi v7508 c24_i32_2975
  v7524
def k0_mult253 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2965 : BitVec 32 := 512#32
  let v7507 : BitVec 32 := Scalar.muli v320 c512_i32_2965
  let c464_i32 : BitVec 32 := 464#32
  let v7508 : BitVec 32 := Scalar.addi v7507 c464_i32
  let c32_i32_2978 : BitVec 32 := 32#32
  let v7529 : BitVec 32 := Scalar.addi v7508 c32_i32_2978
  v7529
def k0_mult254 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2965 : BitVec 32 := 512#32
  let v7507 : BitVec 32 := Scalar.muli v320 c512_i32_2965
  let c464_i32 : BitVec 32 := 464#32
  let v7508 : BitVec 32 := Scalar.addi v7507 c464_i32
  let c40_i32_2981 : BitVec 32 := 40#32
  let v7534 : BitVec 32 := Scalar.addi v7508 c40_i32_2981
  v7534
def k0_mult255 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2965 : BitVec 32 := 512#32
  let v7507 : BitVec 32 := Scalar.muli v320 c512_i32_2965
  let c464_i32 : BitVec 32 := 464#32
  let v7508 : BitVec 32 := Scalar.addi v7507 c464_i32
  let c48_i32_2984 : BitVec 32 := 48#32
  let v7539 : BitVec 32 := Scalar.addi v7508 c48_i32_2984
  let c2040_i32 : BitVec 32 := 2040#32
  let v7540 : BitVec 32 := Scalar.minsi v7539 c2040_i32
  v7540
def k0_off9 (i : grid0.Coords) (c48_i32_2984 : BitVec 32) : Fin 3 → Nat :=
  let c0_2985 : Index := 0#32
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2965 : BitVec 32 := 512#32
  let v7507 : BitVec 32 := Scalar.muli v320 c512_i32_2965
  let c464_i32 : BitVec 32 := 464#32
  let v7508 : BitVec 32 := Scalar.addi v7507 c464_i32
  let v7539 : BitVec 32 := Scalar.addi v7508 c48_i32_2984
  let c2040_i32 : BitVec 32 := 2040#32
  let v7540 : BitVec 32 := Scalar.minsi v7539 c2040_i32
  let v7541 : BitVec 32 := v7540
  let v7542 : Index := Scalar.indexCast v7541
  let c0_2986 : Index := 0#32
  ![0, v7542.toNat, 0]
def k0_mult256 (i : grid0.Coords) : BitVec 32 :=
  let arg1 : BitVec 32 := BitVec.ofNat 32 (i 1).val
  let c1_i32_207 : BitVec 32 := 1#32
  let v310 : BitVec 32 := Scalar.addi arg1 c1_i32_207
  let c4_i32_208 : BitVec 32 := 4#32
  let c0_i32_209 : BitVec 32 := 0#32
  let v311 : BitVec 1 := Scalar.cmpi .eq c4_i32_208 c0_i32_209
  let c1_i32_210 : BitVec 32 := 1#32
  let v312 : BitVec 32 := Scalar.select v311 c1_i32_210 c4_i32_208
  let v313 : BitVec 32 := Scalar.remsi v310 v312
  let c0_i32_212 : BitVec 32 := 0#32
  let v315 : BitVec 1 := Scalar.cmpi .slt v313 c0_i32_212
  let c0_i32_213 : BitVec 32 := 0#32
  let v316 : BitVec 1 := Scalar.cmpi .slt v312 c0_i32_213
  let v317 : BitVec 1 := Scalar.xori v315 v316
  let c0_i32_211 : BitVec 32 := 0#32
  let v314 : BitVec 1 := Scalar.cmpi .ne v313 c0_i32_211
  let v318 : BitVec 1 := Scalar.andi v317 v314
  let v319 : BitVec 32 := Scalar.addi v313 v312
  let v320 : BitVec 32 := Scalar.select v318 v319 v313
  let c512_i32_2965 : BitVec 32 := 512#32
  let v7507 : BitVec 32 := Scalar.muli v320 c512_i32_2965
  let c464_i32 : BitVec 32 := 464#32
  let v7508 : BitVec 32 := Scalar.addi v7507 c464_i32
  let c56_i32_2987 : BitVec 32 := 56#32
  let v7546 : BitVec 32 := Scalar.addi v7508 c56_i32_2987
  let c2040_i32_2988 : BitVec 32 := 2040#32
  let v7547 : BitVec 32 := Scalar.minsi v7546 c2040_i32_2988
  v7547
def k0_off10 (i : grid0.Coords) : Fin 3 → Nat :=
  let c1_i32_206 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v309 : BitVec 32 := Scalar.subi c1_i32_206 v11
  let v8016 : Index := Scalar.indexCast v309
  let c384 : Index := 384#32
  let c0_3159 : Index := 0#32
  ![v8016.toNat, 384, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi arg0 v17
  let c15_i32 : BitVec 32 := 15#32
  let v19 : BitVec 32 := Scalar.minsi v18 c15_i32
  let c0_i32_5 : BitVec 32 := 0#32
  let c0_i32_6 : BitVec 32 := 0#32
  let c0_i32_7 : BitVec 32 := 0#32
  ![v19.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference7Ideal.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S31x256 : Shape := ⟨2, ![31, 256]⟩
abbrev S256 : Shape := ⟨1, ![256]⟩
abbrev S16x6x1024 : Shape := ⟨3, ![16, 6, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S16x1x1024 : Shape := ⟨3, ![16, 1, 1024]⟩
abbrev S_ : Shape := ⟨0, ![]⟩
abbrev S16x2078x256 : Shape := ⟨3, ![16, 2078, 256]⟩
abbrev S1x256 : Shape := ⟨2, ![1, 256]⟩
abbrev S1x1x256 : Shape := ⟨3, ![1, 1, 256]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩

abbrev nBuf : Space → Nat
  | .hbm => 315
  | .vmem => 0
  | .smem => 0
  | _ => 0

abbrev hbmTy0_0 (i : Nat) : BufTy := match i % 128 with
  | 0 => ⟨S16x2048x1024, .f32⟩
  | 1 => ⟨S16x2048x256, .f32⟩
  | 2 => ⟨S16x2048x512, .f32⟩
  | 3 => ⟨S16x2048x256, .f32⟩
  | 4 => ⟨S31x256, .f32⟩
  | 5 => ⟨S256, .f32⟩
  | 6 => ⟨S256, .f32⟩
  | 7 => ⟨S256, .f32⟩
  | 8 => ⟨S16x6x1024, .f32⟩
  | 9 => ⟨S1024, .f32⟩
  | 10 => ⟨S1024, .f32⟩
  | 11 => ⟨S1024x1024, .f32⟩
  | 12 => ⟨S1024x4096, .f32⟩
  | 13 => ⟨S4096x1024, .f32⟩
  | 14 => ⟨S16x1x1024, .f32⟩
  | 15 => ⟨S16x1x1024, .f32⟩
  | 16 => ⟨S16x1x1024, .f32⟩
  | 17 => ⟨S16x1x1024, .f32⟩
  | 18 => ⟨S_, .i32⟩
  | 19 => ⟨S_, .f32⟩
  | 20 => ⟨S16x2078x256, .f32⟩
  | 21 => ⟨S1x256, .f32⟩
  | 22 => ⟨S256, .f32⟩
  | 23 => ⟨S16x2048x256, .f32⟩
  | 24 => ⟨S1x1x256, .f32⟩
  | 25 => ⟨S16x2048x256, .f32⟩
  | 26 => ⟨S16x2048x256, .f32⟩
  | 27 => ⟨S1x256, .f32⟩
  | 28 => ⟨S256, .f32⟩
  | 29 => ⟨S16x2048x256, .f32⟩
  | 30 => ⟨S1x1x256, .f32⟩
  | 31 => ⟨S16x2048x256, .f32⟩
  | 32 => ⟨S16x2048x256, .f32⟩
  | 33 => ⟨S16x2048x256, .f32⟩
  | 34 => ⟨S1x256, .f32⟩
  | 35 => ⟨S256, .f32⟩
  | 36 => ⟨S16x2048x256, .f32⟩
  | 37 => ⟨S1x1x256, .f32⟩
  | 38 => ⟨S16x2048x256, .f32⟩
  | 39 => ⟨S16x2048x256, .f32⟩
  | 40 => ⟨S16x2048x256, .f32⟩
  | 41 => ⟨S1x256, .f32⟩
  | 42 => ⟨S256, .f32⟩
  | 43 => ⟨S16x2048x256, .f32⟩
  | 44 => ⟨S1x1x256, .f32⟩
  | 45 => ⟨S16x2048x256, .f32⟩
  | 46 => ⟨S16x2048x256, .f32⟩
  | 47 => ⟨S16x2048x256, .f32⟩
  | 48 => ⟨S1x256, .f32⟩
  | 49 => ⟨S256, .f32⟩
  | 50 => ⟨S16x2048x256, .f32⟩
  | 51 => ⟨S1x1x256, .f32⟩
  | 52 => ⟨S16x2048x256, .f32⟩
  | 53 => ⟨S16x2048x256, .f32⟩
  | 54 => ⟨S16x2048x256, .f32⟩
  | 55 => ⟨S1x256, .f32⟩
  | 56 => ⟨S256, .f32⟩
  | 57 => ⟨S16x2048x256, .f32⟩
  | 58 => ⟨S1x1x256, .f32⟩
  | 59 => ⟨S16x2048x256, .f32⟩
  | 60 => ⟨S16x2048x256, .f32⟩
  | 61 => ⟨S16x2048x256, .f32⟩
  | 62 => ⟨S1x256, .f32⟩
  | 63 => ⟨S256, .f32⟩
  | 64 => ⟨S16x2048x256, .f32⟩
  | 65 => ⟨S1x1x256, .f32⟩
  | 66 => ⟨S16x2048x256, .f32⟩
  | 67 => ⟨S16x2048x256, .f32⟩
  | 68 => ⟨S16x2048x256, .f32⟩
  | 69 => ⟨S1x256, .f32⟩
  | 70 => ⟨S256, .f32⟩
  | 71 => ⟨S16x2048x256, .f32⟩
  | 72 => ⟨S1x1x256, .f32⟩
  | 73 => ⟨S16x2048x256, .f32⟩
  | 74 => ⟨S16x2048x256, .f32⟩
  | 75 => ⟨S16x2048x256, .f32⟩
  | 76 => ⟨S1x256, .f32⟩
  | 77 => ⟨S256, .f32⟩
  | 78 => ⟨S16x2048x256, .f32⟩
  | 79 => ⟨S1x1x256, .f32⟩
  | 80 => ⟨S16x2048x256, .f32⟩
  | 81 => ⟨S16x2048x256, .f32⟩
  | 82 => ⟨S16x2048x256, .f32⟩
  | 83 => ⟨S1x256, .f32⟩
  | 84 => ⟨S256, .f32⟩
  | 85 => ⟨S16x2048x256, .f32⟩
  | 86 => ⟨S1x1x256, .f32⟩
  | 87 => ⟨S16x2048x256, .f32⟩
  | 88 => ⟨S16x2048x256, .f32⟩
  | 89 => ⟨S16x2048x256, .f32⟩
  | 90 => ⟨S1x256, .f32⟩
  | 91 => ⟨S256, .f32⟩
  | 92 => ⟨S16x2048x256, .f32⟩
  | 93 => ⟨S1x1x256, .f32⟩
  | 94 => ⟨S16x2048x256, .f32⟩
  | 95 => ⟨S16x2048x256, .f32⟩
  | 96 => ⟨S16x2048x256, .f32⟩
  | 97 => ⟨S1x256, .f32⟩
  | 98 => ⟨S256, .f32⟩
  | 99 => ⟨S16x2048x256, .f32⟩
  | 100 => ⟨S1x1x256, .f32⟩
  | 101 => ⟨S16x2048x256, .f32⟩
  | 102 => ⟨S16x2048x256, .f32⟩
  | 103 => ⟨S16x2048x256, .f32⟩
  | 104 => ⟨S1x256, .f32⟩
  | 105 => ⟨S256, .f32⟩
  | 106 => ⟨S16x2048x256, .f32⟩
  | 107 => ⟨S1x1x256, .f32⟩
  | 108 => ⟨S16x2048x256, .f32⟩
  | 109 => ⟨S16x2048x256, .f32⟩
  | 110 => ⟨S16x2048x256, .f32⟩
  | 111 => ⟨S1x256, .f32⟩
  | 112 => ⟨S256, .f32⟩
  | 113 => ⟨S16x2048x256, .f32⟩
  | 114 => ⟨S1x1x256, .f32⟩
  | 115 => ⟨S16x2048x256, .f32⟩
  | 116 => ⟨S16x2048x256, .f32⟩
  | 117 => ⟨S16x2048x256, .f32⟩
  | 118 => ⟨S1x256, .f32⟩
  | 119 => ⟨S256, .f32⟩
  | 120 => ⟨S16x2048x256, .f32⟩
  | 121 => ⟨S1x1x256, .f32⟩
  | 122 => ⟨S16x2048x256, .f32⟩
  | 123 => ⟨S16x2048x256, .f32⟩
  | 124 => ⟨S16x2048x256, .f32⟩
  | 125 => ⟨S1x256, .f32⟩
  | 126 => ⟨S256, .f32⟩
  | 127 => ⟨S16x2048x256, .f32⟩
  | _ => ⟨S16x2048x1024, .f32⟩

abbrev hbmTy0_1 (i : Nat) : BufTy := match i % 128 with
  | 0 => ⟨S1x1x256, .f32⟩
  | 1 => ⟨S16x2048x256, .f32⟩
  | 2 => ⟨S16x2048x256, .f32⟩
  | 3 => ⟨S16x2048x256, .f32⟩
  | 4 => ⟨S1x256, .f32⟩
  | 5 => ⟨S256, .f32⟩
  | 6 => ⟨S16x2048x256, .f32⟩
  | 7 => ⟨S1x1x256, .f32⟩
  | 8 => ⟨S16x2048x256, .f32⟩
  | 9 => ⟨S16x2048x256, .f32⟩
  | 10 => ⟨S16x2048x256, .f32⟩
  | 11 => ⟨S1x256, .f32⟩
  | 12 => ⟨S256, .f32⟩
  | 13 => ⟨S16x2048x256, .f32⟩
  | 14 => ⟨S1x1x256, .f32⟩
  | 15 => ⟨S16x2048x256, .f32⟩
  | 16 => ⟨S16x2048x256, .f32⟩
  | 17 => ⟨S16x2048x256, .f32⟩
  | 18 => ⟨S1x256, .f32⟩
  | 19 => ⟨S256, .f32⟩
  | 20 => ⟨S16x2048x256, .f32⟩
  | 21 => ⟨S1x1x256, .f32⟩
  | 22 => ⟨S16x2048x256, .f32⟩
  | 23 => ⟨S16x2048x256, .f32⟩
  | 24 => ⟨S16x2048x256, .f32⟩
  | 25 => ⟨S1x256, .f32⟩
  | 26 => ⟨S256, .f32⟩
  | 27 => ⟨S16x2048x256, .f32⟩
  | 28 => ⟨S1x1x256, .f32⟩
  | 29 => ⟨S16x2048x256, .f32⟩
  | 30 => ⟨S16x2048x256, .f32⟩
  | 31 => ⟨S16x2048x256, .f32⟩
  | 32 => ⟨S1x256, .f32⟩
  | 33 => ⟨S256, .f32⟩
  | 34 => ⟨S16x2048x256, .f32⟩
  | 35 => ⟨S1x1x256, .f32⟩
  | 36 => ⟨S16x2048x256, .f32⟩
  | 37 => ⟨S16x2048x256, .f32⟩
  | 38 => ⟨S16x2048x256, .f32⟩
  | 39 => ⟨S1x256, .f32⟩
  | 40 => ⟨S256, .f32⟩
  | 41 => ⟨S16x2048x256, .f32⟩
  | 42 => ⟨S1x1x256, .f32⟩
  | 43 => ⟨S16x2048x256, .f32⟩
  | 44 => ⟨S16x2048x256, .f32⟩
  | 45 => ⟨S16x2048x256, .f32⟩
  | 46 => ⟨S1x256, .f32⟩
  | 47 => ⟨S256, .f32⟩
  | 48 => ⟨S16x2048x256, .f32⟩
  | 49 => ⟨S1x1x256, .f32⟩
  | 50 => ⟨S16x2048x256, .f32⟩
  | 51 => ⟨S16x2048x256, .f32⟩
  | 52 => ⟨S16x2048x256, .f32⟩
  | 53 => ⟨S1x256, .f32⟩
  | 54 => ⟨S256, .f32⟩
  | 55 => ⟨S16x2048x256, .f32⟩
  | 56 => ⟨S1x1x256, .f32⟩
  | 57 => ⟨S16x2048x256, .f32⟩
  | 58 => ⟨S16x2048x256, .f32⟩
  | 59 => ⟨S16x2048x256, .f32⟩
  | 60 => ⟨S1x256, .f32⟩
  | 61 => ⟨S256, .f32⟩
  | 62 => ⟨S16x2048x256, .f32⟩
  | 63 => ⟨S1x1x256, .f32⟩
  | 64 => ⟨S16x2048x256, .f32⟩
  | 65 => ⟨S16x2048x256, .f32⟩
  | 66 => ⟨S16x2048x256, .f32⟩
  | 67 => ⟨S1x256, .f32⟩
  | 68 => ⟨S256, .f32⟩
  | 69 => ⟨S16x2048x256, .f32⟩
  | 70 => ⟨S1x1x256, .f32⟩
  | 71 => ⟨S16x2048x256, .f32⟩
  | 72 => ⟨S16x2048x256, .f32⟩
  | 73 => ⟨S16x2048x256, .f32⟩
  | 74 => ⟨S1x256, .f32⟩
  | 75 => ⟨S256, .f32⟩
  | 76 => ⟨S16x2048x256, .f32⟩
  | 77 => ⟨S1x1x256, .f32⟩
  | 78 => ⟨S16x2048x256, .f32⟩
  | 79 => ⟨S16x2048x256, .f32⟩
  | 80 => ⟨S16x2048x256, .f32⟩
  | 81 => ⟨S1x256, .f32⟩
  | 82 => ⟨S256, .f32⟩
  | 83 => ⟨S16x2048x256, .f32⟩
  | 84 => ⟨S1x1x256, .f32⟩
  | 85 => ⟨S16x2048x256, .f32⟩
  | 86 => ⟨S16x2048x256, .f32⟩
  | 87 => ⟨S16x2048x256, .f32⟩
  | 88 => ⟨S1x256, .f32⟩
  | 89 => ⟨S256, .f32⟩
  | 90 => ⟨S16x2048x256, .f32⟩
  | 91 => ⟨S1x1x256, .f32⟩
  | 92 => ⟨S16x2048x256, .f32⟩
  | 93 => ⟨S16x2048x256, .f32⟩
  | 94 => ⟨S16x2048x256, .f32⟩
  | 95 => ⟨S1x256, .f32⟩
  | 96 => ⟨S256, .f32⟩
  | 97 => ⟨S16x2048x256, .f32⟩
  | 98 => ⟨S1x1x256, .f32⟩
  | 99 => ⟨S16x2048x256, .f32⟩
  | 100 => ⟨S16x2048x256, .f32⟩
  | 101 => ⟨S16x2048x256, .f32⟩
  | 102 => ⟨S1x256, .f32⟩
  | 103 => ⟨S256, .f32⟩
  | 104 => ⟨S16x2048x256, .f32⟩
  | 105 => ⟨S1x1x256, .f32⟩
  | 106 => ⟨S16x2048x256, .f32⟩
  | 107 => ⟨S16x2048x256, .f32⟩
  | 108 => ⟨S16x2048x256, .f32⟩
  | 109 => ⟨S1x1x256, .f32⟩
  | 110 => ⟨S16x2048x256, .f32⟩
  | 111 => ⟨S16x2048x256, .f32⟩
  | 112 => ⟨S_, .f32⟩
  | 113 => ⟨S16x2048, .f32⟩
  | 114 => ⟨S16x2048x1, .f32⟩
  | 115 => ⟨S_, .f32⟩
  | 116 => ⟨S16x2048x1, .f32⟩
  | 117 => ⟨S16x2048x1, .f32⟩
  | 118 => ⟨S16x2048x256, .f32⟩
  | 119 => ⟨S16x2048x256, .f32⟩
  | 120 => ⟨S16x2048x256, .f32⟩
  | 121 => ⟨S_, .f32⟩
  | 122 => ⟨S16x2048, .f32⟩
  | 123 => ⟨S16x2048x1, .f32⟩
  | 124 => ⟨S_, .f32⟩
  | 125 => ⟨S16x2048x1, .f32⟩
  | 126 => ⟨S16x2048x1, .f32⟩
  | 127 => ⟨S16x2048x256, .f32⟩
  | _ => ⟨S16x2048x1024, .f32⟩

abbrev hbmTy0_2 (i : Nat) : BufTy := match i % 128 with
  | 0 => ⟨S16x2048x256, .f32⟩
  | 1 => ⟨S_, .f32⟩
  | 2 => ⟨S16x2048x1, .f32⟩
  | 3 => ⟨S16x2048x1, .f32⟩
  | 4 => ⟨S16x2048x1, .f32⟩
  | 5 => ⟨S16x2048x256, .f32⟩
  | 6 => ⟨S16x2048x256, .f32⟩
  | 7 => ⟨S1x1x256, .f32⟩
  | 8 => ⟨S16x2048x256, .f32⟩
  | 9 => ⟨S16x2048x256, .f32⟩
  | 10 => ⟨S1x1x256, .f32⟩
  | 11 => ⟨S16x2048x256, .f32⟩
  | 12 => ⟨S16x2048x256, .f32⟩
  | 13 => ⟨S16x2048x256, .f32⟩
  | 14 => ⟨S16x2048x256, .f32⟩
  | 15 => ⟨S_, .f32⟩
  | 16 => ⟨S16x2048x256, .f32⟩
  | 17 => ⟨S16x2048x256, .f32⟩
  | 18 => ⟨S_, .f32⟩
  | 19 => ⟨S16x2048x256, .f32⟩
  | 20 => ⟨S16x2048x256, .f32⟩
  | 21 => ⟨S16x2048x256, .f32⟩
  | 22 => ⟨S16x2048x1024, .f32⟩
  | 23 => ⟨S16x2048x1024, .f32⟩
  | 24 => ⟨S16x2048x1024, .f32⟩
  | 25 => ⟨S16x2048x1024, .f32⟩
  | 26 => ⟨S16x2048x1024, .f32⟩
  | 27 => ⟨S16x2048x1024, .f32⟩
  | 28 => ⟨S_, .f32⟩
  | 29 => ⟨S16x2048, .f32⟩
  | 30 => ⟨S16x2048x1, .f32⟩
  | 31 => ⟨S_, .f32⟩
  | 32 => ⟨S16x2048x1, .f32⟩
  | 33 => ⟨S16x2048x1, .f32⟩
  | 34 => ⟨S_, .f32⟩
  | 35 => ⟨S16x2048x1, .f32⟩
  | 36 => ⟨S16x2048x1, .f32⟩
  | 37 => ⟨S16x2048x1, .f32⟩
  | 38 => ⟨S16x2048x1024, .f32⟩
  | 39 => ⟨S16x2048x1024, .f32⟩
  | 40 => ⟨S1x1x1024, .f32⟩
  | 41 => ⟨S16x2048x1024, .f32⟩
  | 42 => ⟨S16x2048x1024, .f32⟩
  | 43 => ⟨S_, .f32⟩
  | 44 => ⟨S16x1x1024, .f32⟩
  | 45 => ⟨S16x1x1024, .f32⟩
  | 46 => ⟨S16x2048x1024, .f32⟩
  | 47 => ⟨S16x2048x1024, .f32⟩
  | 48 => ⟨S16x2048x1024, .f32⟩
  | 49 => ⟨S16x2048x1024, .f32⟩
  | 50 => ⟨S16x2048x4096, .f32⟩
  | 51 => ⟨S_, .f32⟩
  | 52 => ⟨S16x2048x4096, .f32⟩
  | 53 => ⟨S16x2048x4096, .f32⟩
  | 54 => ⟨S16x2048x4096, .f32⟩
  | 55 => ⟨S16x2048x1024, .f32⟩
  | 56 => ⟨S16x2048x1024, .f32⟩
  | 57 => ⟨S16x2048x1024, .f32⟩
  | 58 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_cst : Ref sig .tc := ⟨.hbm, 240, rfl⟩
abbrev main_v224 : Ref sig .tc := ⟨.hbm, 241, rfl⟩
abbrev main_v225 : Ref sig .tc := ⟨.hbm, 242, rfl⟩
abbrev main_cst_0 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_cst_1 : Ref sig .tc := ⟨.hbm, 249, rfl⟩
abbrev main_v231 : Ref sig .tc := ⟨.hbm, 250, rfl⟩
abbrev main_v232 : Ref sig .tc := ⟨.hbm, 251, rfl⟩
abbrev main_cst_2 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_cst_3 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_call1_v0 : Ref sig .tc := ⟨.hbm, 269, rfl⟩
abbrev main_call1_v1 : Ref sig .tc := ⟨.hbm, 270, rfl⟩
abbrev main_call1_cst : Ref sig .tc := ⟨.hbm, 271, rfl⟩
abbrev main_call1_v2 : Ref sig .tc := ⟨.hbm, 272, rfl⟩
abbrev main_call1_v3 : Ref sig .tc := ⟨.hbm, 273, rfl⟩
abbrev main_call1_cst_0 : Ref sig .tc := ⟨.hbm, 274, rfl⟩
abbrev main_call1_v4 : Ref sig .tc := ⟨.hbm, 275, rfl⟩
abbrev main_call1_v5 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_cst_4 : Ref sig .tc := ⟨.hbm, 284, rfl⟩
abbrev main_v255 : Ref sig .tc := ⟨.hbm, 285, rfl⟩
abbrev main_v256 : Ref sig .tc := ⟨.hbm, 286, rfl⟩
abbrev main_cst_5 : Ref sig .tc := ⟨.hbm, 287, rfl⟩
abbrev main_v257 : Ref sig .tc := ⟨.hbm, 288, rfl⟩
abbrev main_v258 : Ref sig .tc := ⟨.hbm, 289, rfl⟩
abbrev main_cst_6 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_cst_7 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_call2_cst : Ref sig .tc := ⟨.hbm, 307, rfl⟩
abbrev main_call2_v0 : Ref sig .tc := ⟨.hbm, 308, rfl⟩
abbrev main_v274 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩

abbrev nD : Nat := 1
abbrev τ : Topo := Topo.v7x

variable {F : FTy → Type} [FloatOps F]
-- ==== Proof.RunA.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off3_first : ∀ i : grid0.Coords, k0_cond1 i = 1#1 → k0_off3 i = ![0, 0, 0] := by decide +kernel
theorem off6_first : ∀ i : grid0.Coords, k0_cond1 i = 1#1 → k0_off6 i = ![1, 0, 0] := by decide +kernel
theorem off7_first : ∀ i : grid0.Coords, k0_cond1 i = 1#1 → k0_off7 i = ![1, 128, 0] := by decide +kernel
theorem off8_first : ∀ i : grid0.Coords, k0_cond1 i = 1#1 → k0_off8 i = ![1, 256, 0] := by decide +kernel
theorem off10_first : ∀ i : grid0.Coords, k0_cond1 i = 1#1 → k0_off10 i = ![1, 384, 0] := by decide +kernel

instance closedOff_off3 (i : grid0.Coords) [h : Fact (k0_cond1 i = 1#1)] : ClosedOff (k0_off3 i) :=
  ⟨![0, 0, 0], off3_first i h.out⟩
instance closedOff_off6 (i : grid0.Coords) [h : Fact (k0_cond1 i = 1#1)] : ClosedOff (k0_off6 i) :=
  ⟨![1, 0, 0], off6_first i h.out⟩
instance closedOff_off7 (i : grid0.Coords) [h : Fact (k0_cond1 i = 1#1)] : ClosedOff (k0_off7 i) :=
  ⟨![1, 128, 0], off7_first i h.out⟩
instance closedOff_off8 (i : grid0.Coords) [h : Fact (k0_cond1 i = 1#1)] : ClosedOff (k0_off8 i) :=
  ⟨![1, 256, 0], off8_first i h.out⟩
instance closedOff_off10 (i : grid0.Coords) [h : Fact (k0_cond1 i = 1#1)] : ClosedOff (k0_off10 i) :=
  ⟨![1, 384, 0], off10_first i h.out⟩

set_option maxHeartbeats 40000000 in
noncomputable def runA (c : Dev nD) (i : grid0.Coords) (arg2 : Memref sig .tc .vmem S1x512x1024 .f32) (harg2 : arg2.IsWhole) (arg3 : Memref sig .tc .vmem S1x2048x256 .f32) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x6x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x1024 .bf16) (harg13 : arg13.IsWhole) (arg14 : Memref sig .tc .vmem S1x1024x4096 .bf16) (harg14 : arg14.IsWhole) (arg15 : Memref sig .tc .vmem S1x4096x1024 .bf16) (harg15 : arg15.IsWhole) (arg16 : Memref sig .tc .vmem S1x512x1024 .f32) (harg16 : arg16.IsWhole) (arg17 : Memref sig .tc .vmem S2x512x256 .bf16) (harg17 : arg17.IsWhole) (arg18 : Memref sig .tc .vmem S31x8x256 .f32) (harg18 : arg18.IsWhole) (hc0 : k0_cond1 i = 1#1)
    (x2 : Vec F S1x512x1024 .f32) (x3 : Vec F S1x2048x256 .f32) (x4 : Vec F S1x512x512 .bf16) (x5 : Vec F S1x512x256 .bf16) (x6 : Vec F S31x256 .f32) (x7 : Vec F S1x256 .f32) (x8 : Vec F S1x256 .f32) (x9 : Vec F S1x256 .f32) (x10 : Vec F S1x6x1024 .f32) (x11 : Vec F S1x1024 .f32) (x12 : Vec F S1x1024 .f32) (x13 : Vec F S1x1024x1024 .bf16) (x14 : Vec F S1x1024x4096 .bf16) (x15 : Vec F S1x4096x1024 .bf16) (x17 : Vec F S2x512x256 .bf16) :
    Σ' (L16 : List (View.Piece (Elt F) S1x512x1024 .f32)), { L17 : List (View.Piece (Elt F) S2x512x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ owns (c : Thread nD τ) arg17 fullShare x17 ∗ (∃ d, owns (c : Thread nD τ) arg18 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L16) ∗ (arg17.view.loc (c : Thread nD τ) ↦[arg17.view.set]{fullShare} arg17.view.writes (Elt F) (harg17.unread x17) L17) ∗ (∃ d, owns (c : Thread nD τ) arg18 fullShare d)) -∗ K ⟨⟩))
          ⊢ wp frame (wpE (defs₀ (F := F)) Variants.none c none) E (cc0_conv_out_proj_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_conv_out_proj_mlp_eq_skeleton]; unfold cc0_conv_out_proj_mlp_skel
    simp only [k0_part366_eq_skeleton, k0_part367_eq_skeleton, k0_part368_eq_skeleton]; unfold k0_part366_skel k0_part367_skel k0_part368_skel
    simp only [k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton]
    unfold k0_part184_skel
    simp only [k0_part175_eq_skeleton, k0_part176_eq_skeleton, k0_part177_eq_skeleton]
    unfold k0_part175_skel k0_part176_skel k0_part177_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg17.eq_unread hf17
    haveI : Fact (k0_cond1 i = 1#1) := ⟨hc0⟩
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]; · iexists _; iexact H16
    isplitl [H17]; · iexact H17
    iexists _; iexists _; isplitr
    swap; · iexact H18
    ipureintro; rfl

end Cert.KernelIdeal.Gen

end
-- ==== Proof.Conv.lean ====
/- The convolution tile and the block of the output projection and feed-forward network, as functions of what the
   body reads: the body's own order of operations, for any floating point. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe

variable {F : FTy → Type} [FloatOps F]

/-- Eight rows of zeros. -/
def zeroTile : FVec F S8x256 .f32 := broadcast S8x256 (Scalar.ofBits .f32 0x00000000#32)

/-- Eight rows of the sequence, read at an offset. -/
def tile8 (X : Vec F S1x2048x256 .f32) (off : Fin 3 → ℕ) (h : ∀ a, off a + S1x8x256.size a ≤ S1x2048x256.size a) :
    FVec F S8x256 .f32 :=
  shapeCast S8x256 (View.ld X (Rect.unit (s := S1x2048x256) off S1x8x256.size h)) shapeCasts_S1x8x256_S8x256

/-- Rows `r … r + 7` of two tiles put one above the other. -/
def shifted (r : ℕ) (a b : FVec F S8x256 .f32) : FVec F S8x256 .f32 :=
  if r = 0 then a else
    select (cmpi .slt (iota .tc S8x256 32 [0] iota_S8x256_d0_w32) (broadcast S8x256 (BitVec.ofNat 32 (8 - r))))
      (dynamicRotate 0 (BitVec.ofNat 32 (8 - r)) none a rotates_S8x256_d0)
      (dynamicRotate 0 (BitVec.ofNat 32 (8 - r)) none b rotates_S8x256_d0)

/-- Output tile `j` of a block after its first `n` taps: tap `n`, counted from 0, is number `4 r + a = n + 1`, of weight
    `r + 8 a - 1`. -/
def taps (tl : ℕ → FVec F S8x256 .f32) (w : ℕ → FVec F S8x256 .f32) (bias : FVec F S8x256 .f32) (j : ℕ) (n : ℕ) :
    FVec F S8x256 .f32 :=
  Nat.rec bias (fun n acc => addf acc (mulf (w ((n + 1) / 4 + 8 * ((n + 1) % 4) - 1))
    (shifted ((n + 1) / 4) (tl (j + (n + 1) % 4)) (tl (j + (n + 1) % 4 + 1))))) n

/-- Output tile `j` of a block: the bias and the 31 taps. -/
def blockTile (tl : ℕ → FVec F S8x256 .f32) (w : ℕ → FVec F S8x256 .f32) (bias : FVec F S8x256 .f32) (j : ℕ) :
    FVec F S8x256 .f32 := taps tl w bias j 31

/-- Four blocks, one above the other. -/
def convRows (win : ℕ → ℕ → FVec F S8x256 .f32) (w : ℕ → FVec F S8x256 .f32) (bias : FVec F S8x256 .f32) :
    FVec F S128x256 .f32 :=
  concatenate S128x256 0 [⟨S8x256, blockTile (win 0) w bias 0⟩, ⟨S8x256, blockTile (win 0) w bias 1⟩,
    ⟨S8x256, blockTile (win 0) w bias 2⟩, ⟨S8x256, blockTile (win 0) w bias 3⟩, ⟨S8x256, blockTile (win 1) w bias 0⟩,
    ⟨S8x256, blockTile (win 1) w bias 1⟩, ⟨S8x256, blockTile (win 1) w bias 2⟩, ⟨S8x256, blockTile (win 1) w bias 3⟩,
    ⟨S8x256, blockTile (win 2) w bias 0⟩, ⟨S8x256, blockTile (win 2) w bias 1⟩, ⟨S8x256, blockTile (win 2) w bias 2⟩,
    ⟨S8x256, blockTile (win 2) w bias 3⟩, ⟨S8x256, blockTile (win 3) w bias 0⟩, ⟨S8x256, blockTile (win 3) w bias 1⟩,
    ⟨S8x256, blockTile (win 3) w bias 2⟩, ⟨S8x256, blockTile (win 3) w bias 3⟩]
    concatenates_S8x256_S8x256_S8x256_S8x256_S8x256_S8x256_S8x256_S8x256_S8x256_S8x256_S8x256_S8x256_S8x256_S8x256_S8x256_S8x256_S128x256_d0

/-- Rows less their mean. -/
def centred (v : FVec F S128x256 .f32) : FVec F S128x256 .f32 :=
  subf v (broadcastTo S128x256 (divf
    (shapeCast S128x1 (multiReduction .add [1] S128 v 0x00000000#32 reduces_S128x256_S128 (.inl rfl) rfl) shapeCasts_S128_S128x1)
    (broadcast S128x1 (Scalar.ofBits .f32 0x43800000#32))) broadcasts_S128x1_S128x256)

/-- Centred rows over the root of their mean square. -/
def scaled (v : FVec F S128x256 .f32) : FVec F S128x256 .f32 :=
  mulf v (broadcastTo S128x256 (rsqrt (addf (divf
    (shapeCast S128x1 (multiReduction .add [1] S128 (mulf v v) 0x00000000#32 reduces_S128x256_S128 (.inl rfl) rfl) shapeCasts_S128_S128x1)
    (broadcast S128x1 (Scalar.ofBits .f32 0x43800000#32))) (broadcast S128x1 (Scalar.ofBits .f32 0x358637BD#32))))
    broadcasts_S128x1_S128x256)

/-- A quarter of the convolution tile: four blocks, normed, with the gate. -/
def convQ (win : ℕ → ℕ → FVec F S8x256 .f32) (w : ℕ → FVec F S8x256 .f32) (bias : FVec F S8x256 .f32)
    (lg lb : Vec F S1x256 .f32) : FVec F S1x128x256 .bf16 :=
  k0_pay1 (scaled (centred (convRows win w bias))) lg lb

/-- The block of the output: the projection of the three mixers, the residual, and the feed-forward network, normed. -/
def mlpOut (ya : Vec F S1x512x256 .bf16) (x2 : Vec F S1x512x1024 .f32) (x4 : Vec F S1x512x512 .bf16)
    (x5 : Vec F S1x512x256 .bf16) (x10 : Vec F S1x6x1024 .f32) (x11 x12 : Vec F S1x1024 .f32)
    (x13 : Vec F S1x1024x1024 .bf16) (x14 : Vec F S1x1024x4096 .bf16) (x15 : Vec F S1x4096x1024 .bf16) :
    FVec F S1x512x1024 .f32 :=
  let v207 := k0_pay2870 (View.ld x2 (Rect.unit (s := S1x512x1024) ![0, 0, 0] S1x512x1024.size inb_S1x512x1024_S1x512x1024_0_0_0))
  let v210 := k0_pay2871 ya
  let v211 := View.ld x4 (Rect.unit (s := S1x512x512) ![0, 0, 0] S1x512x512.size inb_S1x512x512_S1x512x512_0_0_0)
  let v213 := View.ld x5 (Rect.unit (s := S1x512x256) ![0, 0, 0] S1x512x256.size inb_S1x512x256_S1x512x256_0_0_0)
  let v215 := View.ld x13 (Rect.unit (s := S1x1024x1024) ![0, 0, 0] S1x256x1024.size inb_S1x1024x1024_S1x256x1024_0_0_0)
  let v218 := View.ld x13 (Rect.unit (s := S1x1024x1024) ![0, 256, 0] S1x512x1024.size inb_S1x1024x1024_S1x512x1024_0_256_0)
  let v222 := View.ld x13 (Rect.unit (s := S1x1024x1024) ![0, 768, 0] S1x256x1024.size inb_S1x1024x1024_S1x256x1024_0_768_0)
  let v226 := View.ld x10 (Rect.unit (s := S1x6x1024) ![0, 2, 0] S1x1x1024.size inb_S1x6x1024_S1x1x1024_0_2_0)
  let v241 := View.ld x11 (Rect.unit (s := S1x1024) ![0, 0] S1x1024.size inb_S1x1024_S1x1024_0_0)
  let v245 := View.ld x10 (Rect.unit (s := S1x6x1024) ![0, 4, 0] S1x1x1024.size inb_S1x6x1024_S1x1x1024_0_4_0)
  let v251 := View.ld x10 (Rect.unit (s := S1x6x1024) ![0, 3, 0] S1x1x1024.size inb_S1x6x1024_S1x1x1024_0_3_0)
  let v301 := View.ld x10 (Rect.unit (s := S1x6x1024) ![0, 5, 0] S1x1x1024.size inb_S1x6x1024_S1x1x1024_0_5_0)
  let v316 := View.ld x12 (Rect.unit (s := S1x1024) ![0, 0] S1x1024.size inb_S1x1024_S1x1024_0_0)
  let v257 := View.ld x14 (Rect.unit (s := S1x1024x4096) ![0, 0, 0] S1x1024x1024.size inb_S1x1024x4096_S1x1024x1024_0_0_0)
  let v268 := View.ld x14 (Rect.unit (s := S1x1024x4096) ![0, 0, 1024] S1x1024x1024.size inb_S1x1024x4096_S1x1024x1024_0_0_1024)
  let v279 := View.ld x14 (Rect.unit (s := S1x1024x4096) ![0, 0, 2048] S1x1024x1024.size inb_S1x1024x4096_S1x1024x1024_0_0_2048)
  let v290 := View.ld x14 (Rect.unit (s := S1x1024x4096) ![0, 0, 3072] S1x1024x1024.size inb_S1x1024x4096_S1x1024x1024_0_0_3072)
  let v264 := View.ld x15 (Rect.unit (s := S1x4096x1024) ![0, 0, 0] S1x1024x1024.size inb_S1x4096x1024_S1x1024x1024_0_0_0)
  let v275 := View.ld x15 (Rect.unit (s := S1x4096x1024) ![0, 1024, 0] S1x1024x1024.size inb_S1x4096x1024_S1x1024x1024_0_1024_0)
  let v286 := View.ld x15 (Rect.unit (s := S1x4096x1024) ![0, 2048, 0] S1x1024x1024.size inb_S1x4096x1024_S1x1024x1024_0_2048_0)
  let v297 := View.ld x15 (Rect.unit (s := S1x4096x1024) ![0, 3072, 0] S1x1024x1024.size inb_S1x4096x1024_S1x1024x1024_0_3072_0)
  let v244 := k0_pay2873 v207 v210 v211 v213 v215 v218 v222 v226 v241
  k0_pay2877 (k0_pay2876 (k0_pay2872 v207 v210 v211 v213 v215 v218 v222 v226) (k0_pay2874 v244 v245 v251)
    (k0_pay2875 v244 v245 v251 v257 v264 v268 v275) v279 v286 v290 v297 v301) v316

/-- The tile the body reads at a grid point: row `512 t` of the sequence onwards, for this tile number `t`. -/
def tileNo (i : grid0.Coords) : ℕ := ((i 1).val + 1) % 4

theorem off4_eq : ∀ i : grid0.Coords, ∀ m : Fin 2,
    k0_off4 i (BitVec.ofNat 32 (8 * m.val)) = ![0, 512 * tileNo i + 8 * m.val - 16, 0] := by decide +kernel

theorem off9_eq : ∀ i : grid0.Coords, ∀ m : Fin 2,
    k0_off9 i (BitVec.ofNat 32 (48 + 8 * m.val)) = ![0, min (512 * tileNo i + 512 + 8 * m.val) 2040, 0] := by decide +kernel

theorem off5_eq : ∀ i : grid0.Coords, ∀ b : Fin 16, ∀ m : Fin 8, ¬ (b.val = 0 ∧ m.val < 2) →
    k0_off5 i (BitVec.ofNat 32 (4294967280 + 32 * b.val)) (BitVec.ofNat 32 (8 * m.val))
      = ![0, 512 * tileNo i + 32 * b.val + 8 * m.val - 16, 0] := by decide +kernel

theorem inb3 {off : Fin 3 → ℕ} {n : ℕ} (h : off = ![0, n, 0]) (hn : n ≤ 2040) :
    ∀ a, off a + S1x8x256.size a ≤ S1x2048x256.size a := by
  subst h
  intro a
  match a with
  | ⟨0, _⟩ => exact Nat.le_refl 1
  | ⟨1, _⟩ => exact Nat.add_le_add_right hn 8
  | ⟨2, _⟩ => exact Nat.le_refl 256

theorem tileNo_lt (i : grid0.Coords) : tileNo i < 4 := Nat.mod_lt _ (by omega)

/-- The tile's number as the body computes it. -/
def tileWord (i : grid0.Coords) : BitVec 32 :=
  let v324 : BitVec 32 := Scalar.addi (BitVec.ofNat 32 (i 1).val) 1#32
  let v325 : BitVec 1 := Scalar.cmpi .eq 4#32 0#32
  let v326 : BitVec 32 := Scalar.select v325 1#32 4#32
  let v327 : BitVec 32 := Scalar.remsi v324 v326
  let v328 : BitVec 1 := Scalar.cmpi .ne v327 0#32
  let v329 : BitVec 1 := Scalar.cmpi .slt v327 0#32
  let v330 : BitVec 1 := Scalar.cmpi .slt v326 0#32
  let v331 : BitVec 1 := Scalar.xori v329 v330
  let v332 : BitVec 1 := Scalar.andi v331 v328
  let v333 : BitVec 32 := Scalar.addi v327 v326
  Scalar.select v332 v333 v327

theorem tileWord_eq : ∀ i : grid0.Coords, tileWord i = BitVec.ofNat 32 (tileNo i) := by decide +kernel

theorem off4_inb (i : grid0.Coords) (m : ℕ) (hm : m < 2) :
    ∀ a, k0_off4 i (BitVec.ofNat 32 (8 * m)) a + S1x8x256.size a ≤ S1x2048x256.size a :=
  inb3 (off4_eq i ⟨m, hm⟩) (by have := tileNo_lt i; show 512 * tileNo i + 8 * m - 16 ≤ 2040; omega)

theorem off9_inb (i : grid0.Coords) (m : ℕ) (hm : m < 2) :
    ∀ a, k0_off9 i (BitVec.ofNat 32 (48 + 8 * m)) a + S1x8x256.size a ≤ S1x2048x256.size a :=
  inb3 (off9_eq i ⟨m, hm⟩) (Nat.min_le_right _ _)

theorem off5_inb (i : grid0.Coords) (b m : ℕ) (hb : b < 16) (hm : m < 8) (h0 : ¬ (b = 0 ∧ m < 2)) (h1 : ¬ (b = 15 ∧ 6 ≤ m)) :
    ∀ a, k0_off5 i (BitVec.ofNat 32 (4294967280 + 32 * b)) (BitVec.ofNat 32 (8 * m)) a + S1x8x256.size a ≤ S1x2048x256.size a :=
  inb3 (off5_eq i ⟨b, hb⟩ ⟨m, hm⟩ h0)
    (by have := tileNo_lt i; show 512 * tileNo i + 32 * b + 8 * m - 16 ≤ 2040; omega)

/-- The window of block `b`: eight tiles of eight rows, from sixteen rows above the block to sixteen below it, the rows
    off the sequence zero. This one for the tile the grid point `i` prepares. -/
def winB (i : grid0.Coords) (X : Vec F S1x2048x256 .f32) (b m : ℕ) : FVec F S8x256 .f32 :=
  if h0 : b = 0 ∧ m < 2 then
    Scalar.select (Scalar.cmpi .eq (tileWord i) 0#32) (zeroTile (F := F)) (tile8 X _ (off4_inb i m h0.2))
  else if h1 : b = 15 ∧ 6 ≤ m then
    if h2 : m - 6 < 2 then
      Scalar.select (Scalar.cmpi .eq (tileWord i) 3#32) (zeroTile (F := F)) (tile8 X _ (off9_inb i (m - 6) h2))
    else zeroTile
  else if h2 : b < 16 ∧ m < 8 then tile8 X _ (off5_inb i b m h2.1 h2.2 h0 h1)
  else zeroTile

theorem off1_eq : ∀ m : Fin 2, k0_off1 (BitVec.ofNat 32 (4294967280 + 8 * m.val)) = ![0, 0, 0] := by decide +kernel

theorem off2_eq : ∀ m : Fin 2, k0_off2 (BitVec.ofNat 32 (512 + 8 * m.val)) = ![0, 512 + 8 * m.val, 0] := by decide +kernel

theorem off1_inb (m : ℕ) (hm : m < 2) :
    ∀ a, k0_off1 (BitVec.ofNat 32 (4294967280 + 8 * m)) a + S1x8x256.size a ≤ S1x2048x256.size a :=
  inb3 (off1_eq ⟨m, hm⟩) (by omega)

theorem off2_inb (m : ℕ) (hm : m < 2) :
    ∀ a, k0_off2 (BitVec.ofNat 32 (512 + 8 * m)) a + S1x8x256.size a ≤ S1x2048x256.size a :=
  inb3 (off2_eq ⟨m, hm⟩) (by omega)

/-- The window of block `b` of the first tile, which the first grid point also prepares for itself. -/
def winA (X : Vec F S1x2048x256 .f32) (b m : ℕ) : FVec F S8x256 .f32 :=
  if h0 : b = 0 ∧ m < 2 then Scalar.select 1#1 (zeroTile (F := F)) (tile8 X _ (off1_inb m h0.2))
  else if h1 : b = 15 ∧ 6 ≤ m then
    if h2 : m - 6 < 2 then Scalar.select 0#1 (zeroTile (F := F)) (tile8 X _ (off2_inb (m - 6) h2))
    else zeroTile
  else if h2 : 32 * b + 8 * m - 16 ≤ 2040 then tile8 X ![0, 32 * b + 8 * m - 16, 0] (inb3 rfl h2)
  else zeroTile

end Cert.KernelIdeal.Gen

end
-- ==== Proof.RunB.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
noncomputable def runB (c : Dev nD) (i : grid0.Coords) (arg2 : Memref sig .tc .vmem S1x512x1024 .f32) (harg2 : arg2.IsWhole) (arg3 : Memref sig .tc .vmem S1x2048x256 .f32) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x6x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x1024 .bf16) (harg13 : arg13.IsWhole) (arg14 : Memref sig .tc .vmem S1x1024x4096 .bf16) (harg14 : arg14.IsWhole) (arg15 : Memref sig .tc .vmem S1x4096x1024 .bf16) (harg15 : arg15.IsWhole) (arg16 : Memref sig .tc .vmem S1x512x1024 .f32) (harg16 : arg16.IsWhole) (arg17 : Memref sig .tc .vmem S2x512x256 .bf16) (harg17 : arg17.IsWhole) (arg18 : Memref sig .tc .vmem S31x8x256 .f32) (harg18 : arg18.IsWhole) (hc0 : ¬ k0_cond1 i = 1#1)
    (x2 : Vec F S1x512x1024 .f32) (x3 : Vec F S1x2048x256 .f32) (x4 : Vec F S1x512x512 .bf16) (x5 : Vec F S1x512x256 .bf16) (x6 : Vec F S31x256 .f32) (x7 : Vec F S1x256 .f32) (x8 : Vec F S1x256 .f32) (x9 : Vec F S1x256 .f32) (x10 : Vec F S1x6x1024 .f32) (x11 : Vec F S1x1024 .f32) (x12 : Vec F S1x1024 .f32) (x13 : Vec F S1x1024x1024 .bf16) (x14 : Vec F S1x1024x4096 .bf16) (x15 : Vec F S1x4096x1024 .bf16) (x17 : Vec F S2x512x256 .bf16) :
    Σ' (L16 : List (View.Piece (Elt F) S1x512x1024 .f32)), { L17 : List (View.Piece (Elt F) S2x512x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ owns (c : Thread nD τ) arg17 fullShare x17 ∗ (∃ d, owns (c : Thread nD τ) arg18 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L16) ∗ (arg17.view.loc (c : Thread nD τ) ↦[arg17.view.set]{fullShare} arg17.view.writes (Elt F) (harg17.unread x17) L17) ∗ (∃ d, owns (c : Thread nD τ) arg18 fullShare d)) -∗ K ⟨⟩))
          ⊢ wp frame (wpE (defs₀ (F := F)) Variants.none c none) E (cc0_conv_out_proj_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_conv_out_proj_mlp_eq_skeleton]; unfold cc0_conv_out_proj_mlp_skel
    simp only [k0_part366_eq_skeleton, k0_part367_eq_skeleton, k0_part368_eq_skeleton]; unfold k0_part366_skel k0_part367_skel k0_part368_skel
    simp only [k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg17.eq_unread hf17
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]; · iexists _; iexact H16
    isplitl [H17]; · iexact H17
    iexists _; iexists _; isplitr
    swap; · iexact H18
    ipureintro; rfl

end Cert.KernelIdeal.Gen

end
-- ==== Proof.PiecesB.lean ====
/- What the body leaves in the output block and in the carried rows at every grid point but the first: the pieces the
   run found are the functions of Conv.lean. -/
module

public import proofs.«01_k».proof.Proof.RunB
public import proofs.«01_k».proof.Proof.Conv

@[expose] public section

set_option maxRecDepth 65536

noncomputable section

namespace Cert.KernelIdeal.Gen

open Idealize.ShloMosaic Idealize.ShloMosaic.TcCoe Idealize.ShloMosaic.Tactic

variable {F : FTy → Type} [FloatOps F]

theorem inb18 (k : ℕ) (hk : k < 31) : ∀ a, (![k, 0, 0] : Fin 3 → ℕ) a + S1x8x256.size a ≤ S31x8x256.size a := by
  intro a
  match a with
  | ⟨0, _⟩ => exact hk
  | ⟨1, _⟩ => exact Nat.le_refl 8
  | ⟨2, _⟩ => exact Nat.le_refl 256

/-- The weight of tap `k` on all eight rows of a tile, read back from the scratch `arg18` after the stores `L`. -/
def wTile (arg18 : Memref sig .tc .vmem S31x8x256 .f32) (L : List (View.Piece (Elt F) S31x8x256 .f32)) (k : ℕ) :
    FVec F S8x256 .f32 :=
  if hk : k < 31 then
    shapeCast S8x256 (arg18.view.readCov L (Rect.unit (s := S31x8x256) ![k, 0, 0] S1x8x256.size (inb18 k hk)).toLoadRect)
      shapeCasts_S1x8x256_S8x256
  else zeroTile

variable  (c : Dev nD) (i : grid0.Coords) (arg2 : Memref sig .tc .vmem S1x512x1024 .f32) (harg2 : arg2.IsWhole) (arg3 : Memref sig .tc .vmem S1x2048x256 .f32) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x6x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x1024 .bf16) (harg13 : arg13.IsWhole) (arg14 : Memref sig .tc .vmem S1x1024x4096 .bf16) (harg14 : arg14.IsWhole) (arg15 : Memref sig .tc .vmem S1x4096x1024 .bf16) (harg15 : arg15.IsWhole) (arg16 : Memref sig .tc .vmem S1x512x1024 .f32) (harg16 : arg16.IsWhole) (arg17 : Memref sig .tc .vmem S2x512x256 .bf16) (harg17 : arg17.IsWhole) (arg18 : Memref sig .tc .vmem S31x8x256 .f32) (harg18 : arg18.IsWhole) (hc0 : ¬ k0_cond1 i = 1#1)
    (x2 : Vec F S1x512x1024 .f32) (x3 : Vec F S1x2048x256 .f32) (x4 : Vec F S1x512x512 .bf16) (x5 : Vec F S1x512x256 .bf16) (x6 : Vec F S31x256 .f32) (x7 : Vec F S1x256 .f32) (x8 : Vec F S1x256 .f32) (x9 : Vec F S1x256 .f32) (x10 : Vec F S1x6x1024 .f32) (x11 : Vec F S1x1024 .f32) (x12 : Vec F S1x1024 .f32) (x13 : Vec F S1x1024x1024 .bf16) (x14 : Vec F S1x1024x4096 .bf16) (x15 : Vec F S1x4096x1024 .bf16) (x17 : Vec F S2x512x256 .bf16)

/-- The output block. -/
theorem runB_out : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).1 = [⟨Rect.unit (s := S1x512x1024) ![0, 0, 0] S1x512x1024.size inb_S1x512x1024_S1x512x1024_0_0_0,
    mlpOut (View.ld (arg17.view.read (Elt F) (harg17.unread x17)) (Rect.unit (s := S2x512x256) (k0_off3 i) S1x512x256.size (k0_off3_inb i))) (arg2.view.read (Elt F) (harg2.unread x2)) (arg4.view.read (Elt F) (harg4.unread x4)) (arg5.view.read (Elt F) (harg5.unread x5)) (arg10.view.read (Elt F) (harg10.unread x10)) (arg11.view.read (Elt F) (harg11.unread x11)) (arg12.view.read (Elt F) (harg12.unread x12)) (arg13.view.read (Elt F) (harg13.unread x13)) (arg14.view.read (Elt F) (harg14.unread x14)) (arg15.view.read (Elt F) (harg15.unread x15))⟩] := by
  sl_kernel_rfl

/-- The carried rows. -/
theorem runB_rows : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).2.1 =
    [⟨Rect.unit (s := S2x512x256) (k0_off10 i) S1x128x256.size (k0_off10_inb i), convQ (fun b m => winB i (arg3.view.read (Elt F) (harg3.unread x3)) (12 + b) m) (wTile arg18 (runB.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩,
    ⟨Rect.unit (s := S2x512x256) (k0_off8 i) S1x128x256.size (k0_off8_inb i), convQ (fun b m => winB i (arg3.view.read (Elt F) (harg3.unread x3)) (8 + b) m) (wTile arg18 (runB.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩,
    ⟨Rect.unit (s := S2x512x256) (k0_off7 i) S1x128x256.size (k0_off7_inb i), convQ (fun b m => winB i (arg3.view.read (Elt F) (harg3.unread x3)) (4 + b) m) (wTile arg18 (runB.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩,
    ⟨Rect.unit (s := S2x512x256) (k0_off6 i) S1x128x256.size (k0_off6_inb i), convQ (fun b m => winB i (arg3.view.read (Elt F) (harg3.unread x3)) (0 + b) m) (wTile arg18 (runB.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩] := by
  sl_kernel_rfl

end Cert.KernelIdeal.Gen

end
-- ==== Proof.PiecesA.lean ====
/- What the body leaves in the output block and in the carried rows at the first grid point. -/
module

public import proofs.«01_k».proof.Proof.RunA
public import proofs.«01_k».proof.Proof.Conv
public import proofs.«01_k».proof.Proof.PiecesB

@[expose] public section

set_option maxRecDepth 65536

noncomputable section

namespace Cert.KernelIdeal.Gen

open Idealize.ShloMosaic Idealize.ShloMosaic.TcCoe Idealize.ShloMosaic.Tactic

variable {F : FTy → Type} [FloatOps F]

variable  (c : Dev nD) (i : grid0.Coords) (arg2 : Memref sig .tc .vmem S1x512x1024 .f32) (harg2 : arg2.IsWhole) (arg3 : Memref sig .tc .vmem S1x2048x256 .f32) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x6x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x1024 .bf16) (harg13 : arg13.IsWhole) (arg14 : Memref sig .tc .vmem S1x1024x4096 .bf16) (harg14 : arg14.IsWhole) (arg15 : Memref sig .tc .vmem S1x4096x1024 .bf16) (harg15 : arg15.IsWhole) (arg16 : Memref sig .tc .vmem S1x512x1024 .f32) (harg16 : arg16.IsWhole) (arg17 : Memref sig .tc .vmem S2x512x256 .bf16) (harg17 : arg17.IsWhole) (arg18 : Memref sig .tc .vmem S31x8x256 .f32) (harg18 : arg18.IsWhole) (hc0 : k0_cond1 i = 1#1)
    (x2 : Vec F S1x512x1024 .f32) (x3 : Vec F S1x2048x256 .f32) (x4 : Vec F S1x512x512 .bf16) (x5 : Vec F S1x512x256 .bf16) (x6 : Vec F S31x256 .f32) (x7 : Vec F S1x256 .f32) (x8 : Vec F S1x256 .f32) (x9 : Vec F S1x256 .f32) (x10 : Vec F S1x6x1024 .f32) (x11 : Vec F S1x1024 .f32) (x12 : Vec F S1x1024 .f32) (x13 : Vec F S1x1024x1024 .bf16) (x14 : Vec F S1x1024x4096 .bf16) (x15 : Vec F S1x4096x1024 .bf16) (x17 : Vec F S2x512x256 .bf16)

/-- The rows of the first tile, which the first grid point stores for itself. -/
theorem runA_first : runA.sl.H17_4 c i arg3 harg3 arg6 harg6 arg7 harg7 arg8 harg8 arg9 harg9 arg18 hc0 x3 x6 x7 x8 x9 =
    [⟨Rect.unit (s := S2x512x256) ![0, 384, 0] S1x128x256.size inb_S2x512x256_S1x128x256_0_384_0, convQ (fun b m => winA (arg3.view.read (Elt F) (harg3.unread x3)) (12 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩,
    ⟨Rect.unit (s := S2x512x256) ![0, 256, 0] S1x128x256.size inb_S2x512x256_S1x128x256_0_256_0, convQ (fun b m => winA (arg3.view.read (Elt F) (harg3.unread x3)) (8 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩,
    ⟨Rect.unit (s := S2x512x256) ![0, 128, 0] S1x128x256.size inb_S2x512x256_S1x128x256_0_128_0, convQ (fun b m => winA (arg3.view.read (Elt F) (harg3.unread x3)) (4 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩,
    ⟨Rect.unit (s := S2x512x256) ![0, 0, 0] S1x128x256.size inb_S2x512x256_S1x128x256_0_0_0, convQ (fun b m => winA (arg3.view.read (Elt F) (harg3.unread x3)) (0 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩] := by
  sl_kernel_rfl

/-- The output block. -/
theorem runA_out : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).1 = [⟨Rect.unit (s := S1x512x1024) ![0, 0, 0] S1x512x1024.size inb_S1x512x1024_S1x512x1024_0_0_0,
    mlpOut (arg17.view.readCov (runA.sl.H17_4 c i arg3 harg3 arg6 harg6 arg7 harg7 arg8 harg8 arg9 harg9 arg18 hc0 x3 x6 x7 x8 x9) (Rect.unit (s := S2x512x256) (k0_off3 i) S1x512x256.size (k0_off3_inb i)).toLoadRect) (arg2.view.read (Elt F) (harg2.unread x2)) (arg4.view.read (Elt F) (harg4.unread x4)) (arg5.view.read (Elt F) (harg5.unread x5)) (arg10.view.read (Elt F) (harg10.unread x10)) (arg11.view.read (Elt F) (harg11.unread x11)) (arg12.view.read (Elt F) (harg12.unread x12)) (arg13.view.read (Elt F) (harg13.unread x13)) (arg14.view.read (Elt F) (harg14.unread x14)) (arg15.view.read (Elt F) (harg15.unread x15))⟩] := by
  sl_kernel_rfl

/-- The carried rows. -/
theorem runA_rows : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).2.1 =
    ⟨Rect.unit (s := S2x512x256) (k0_off10 i) S1x128x256.size (k0_off10_inb i), convQ (fun b m => winB i (arg3.view.read (Elt F) (harg3.unread x3)) (12 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩ ::
    ⟨Rect.unit (s := S2x512x256) (k0_off8 i) S1x128x256.size (k0_off8_inb i), convQ (fun b m => winB i (arg3.view.read (Elt F) (harg3.unread x3)) (8 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩ ::
    ⟨Rect.unit (s := S2x512x256) (k0_off7 i) S1x128x256.size (k0_off7_inb i), convQ (fun b m => winB i (arg3.view.read (Elt F) (harg3.unread x3)) (4 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩ ::
    ⟨Rect.unit (s := S2x512x256) (k0_off6 i) S1x128x256.size (k0_off6_inb i), convQ (fun b m => winB i (arg3.view.read (Elt F) (harg3.unread x3)) (0 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩ ::
    runA.sl.H17_4 c i arg3 harg3 arg6 harg6 arg7 harg7 arg8 harg8 arg9 harg9 arg18 hc0 x3 x6 x7 x8 x9 := by
  sl_kernel_rfl

end Cert.KernelIdeal.Gen

end
-- ==== Proof.Rows.lean ====
/- The rows a tile of the convolution leaves in the scratch that carries them to the next grid point, one function of
   the row, whatever the order of the stores. -/
module

public import proofs.«01_k».proof.Proof.PiecesB
public import Idealize.ShloMosaic.Lib.Pipeline.Value
public import Idealize.ShloMosaic.Lib.Pointwise

@[expose] public section

set_option maxRecDepth 16384

noncomputable section

namespace Cert.KernelIdeal.Gen

open Idealize.ShloMosaic Idealize.ShloMosaic.TcCoe

variable {F : FTy → Type} [FloatOps F]

theorem inb6 (k : ℕ) (hk : k < 31) : ∀ a, (![k, 0] : Fin 2 → ℕ) a + S1x256.size a ≤ S31x256.size a := by
  intro a
  match a with
  | ⟨0, _⟩ => exact hk
  | ⟨1, _⟩ => exact Nat.le_refl 256

/-- The stores of the first `n` weights, each on eight equal rows. -/
def wPieces (X : Vec F S31x256 .f32) : (n : ℕ) → n ≤ 31 → List (View.Piece (Elt F) S31x8x256 .f32)
  | 0, _ => []
  | n + 1, h => ⟨Rect.unit (s := S31x8x256) ![n, 0, 0] S1x8x256.size (inb18 n h),
      k0_pay2867 (View.ld X (Rect.unit (s := S31x256) ![n, 0] S1x256.size (inb6 n h)))⟩ :: wPieces X n (by omega)

/-- Weight `k` on eight equal rows. -/
def wRow (X : Vec F S31x256 .f32) (k : ℕ) : FVec F S8x256 .f32 :=
  if hk : k < 31 then
    shapeCast S8x256 (k0_pay2867 (View.ld X (Rect.unit (s := S31x256) ![k, 0] S1x256.size (inb6 k hk)))) shapeCasts_S1x8x256_S8x256
  else zeroTile

/-- The scratch after those stores, as a function of the place. -/
def wAt (X : Vec F S31x256 .f32) (y : S31x8x256.Idx) : Elt F .f32 :=
  k0_pay2867 (View.ld X (Rect.unit (s := S31x256) ![(y 0).val, 0] S1x256.size (inb6 _ (y 0).isLt))) (ix3 0 (y 1) (y 2))

theorem wPieces_apply (X : Vec F S31x256 .f32) (n : ℕ) (h : n ≤ 31) :
    ∀ p ∈ wPieces X n h, ∀ x : p.1.shape.Idx, p.2 x = wAt X (p.1.emb x) := by
  induction n with
  | zero => intro p hp; exact absurd hp List.not_mem_nil
  | succ n ih =>
    intro p hp
    rcases List.mem_cons.mp hp with rfl | hp
    · intro x
      have hx : x = ix3 0 (x 1) (x 2) := funext fun a => match a with
        | ⟨0, _⟩ => Fin.ext (by have : (x 0).val < 1 := (x 0).isLt; show (x 0).val = 0; omega)
        | ⟨1, _⟩ => rfl
        | ⟨2, _⟩ => rfl
      have e : ∀ k : Fin 31, k.val = n → ∀ z z' : S1x8x256.Idx, z = z' →
          k0_pay2867 (View.ld X (Rect.unit (s := S31x256) ![n, 0] S1x256.size (inb6 n h))) z
            = k0_pay2867 (View.ld X (Rect.unit (s := S31x256) ![k.val, 0] S1x256.size (inb6 k.val k.isLt))) z' := by
        rintro ⟨k, hk⟩ rfl z z' rfl; rfl
      refine e ((Rect.unit (s := S31x8x256) ![n, 0, 0] S1x8x256.size (inb18 n h)).emb x 0) ?_ _ _ (hx.trans (funext fun a => match a with
        | ⟨0, _⟩ => rfl
        | ⟨1, _⟩ => Fin.ext ?_
        | ⟨2, _⟩ => Fin.ext ?_))
      · have : (x 0).val < 1 := (x 0).isLt
        show n + 1 * (x 0).val = n; omega
      · show (x 1).val = 0 + 1 * (x 1).val; omega
      · show (x 2).val = 0 + 1 * (x 2).val; omega
    · exact ih (by omega) p hp

theorem wPieces_cover (X : Vec F S31x256 .f32) (n : ℕ) (h : n ≤ 31) (y : S31x8x256.Idx) (hy : (y 0).val < n) :
    ∃ p ∈ wPieces X n h, y ∈ p.1.set := by
  induction n with
  | zero => omega
  | succ n ih =>
    by_cases e : (y 0).val = n
    · refine ⟨_, List.mem_cons_self, (Rect.mem_set_unit (inb := inb18 n h)).mpr fun a => ?_⟩
      match a with
      | ⟨0, _⟩ => exact ⟨e.ge, by show (y 0).val < n + 1; omega⟩
      | ⟨1, _⟩ => exact ⟨Nat.zero_le _, by show (y 1).val < 0 + 8; have : (y 1).val < 8 := (y 1).isLt; omega⟩
      | ⟨2, _⟩ => exact ⟨Nat.zero_le _, by show (y 2).val < 0 + 256; have : (y 2).val < 256 := (y 2).isLt; omega⟩
    · obtain ⟨p, hp, hm⟩ := ih (by omega) (by omega)
      exact ⟨p, List.mem_cons_of_mem _ hp, hm⟩

/-- What a load of weight `k` reads back. -/
theorem wTile_eq (arg18 : Memref sig .tc .vmem S31x8x256 .f32) (X : Vec F S31x256 .f32) :
    wTile arg18 (wPieces X 31 (Nat.le_refl _)) = wRow X := by
  funext k
  unfold wTile wRow
  refine dite_congr rfl (fun hk => ?_) fun _ => rfl
  refine congrArg (fun v => shapeCast S8x256 v shapeCasts_S1x8x256_S8x256) ?_
  rw [View.readCov_eq_canon']
  funext j
  have hj : (j 0).val < 1 := (j 0).isLt
  have hi : (((Rect.unit (s := S31x8x256) ![k, 0, 0] S1x8x256.size (inb18 k hk)).toLoadRect.idx j) 0).val = k := by
    show k + 1 * (j 0).val = k; omega
  rw [View.canon_apply_of_pieces (wAt X) _ (wPieces_apply X 31 _) _ (wPieces_cover X 31 _ _ (by rw [hi]; exact hk))]
  have e : ∀ k' : Fin 31, k'.val = k → ∀ z z' : S1x8x256.Idx, z = z' →
      k0_pay2867 (View.ld X (Rect.unit (s := S31x256) ![k'.val, 0] S1x256.size (inb6 k'.val k'.isLt))) z
        = k0_pay2867 (View.ld X (Rect.unit (s := S31x256) ![k, 0] S1x256.size (inb6 k hk))) z' := by
    rintro ⟨k', hk'⟩ rfl z z' rfl; rfl
  refine e ((Rect.unit (s := S31x8x256) ![k, 0, 0] S1x8x256.size (inb18 k hk)).toLoadRect.idx j 0) hi _ _ (funext fun a => Fin.ext ?_)
  match a with
  | ⟨0, _⟩ => show 0 = (j 0).val; omega
  | ⟨1, _⟩ => show 0 + 1 * (j 1).val = (j 1).val; omega
  | ⟨2, _⟩ => show 0 + 1 * (j 2).val = (j 2).val; omega

variable (win : ℕ → ℕ → FVec F S8x256 .f32) (w : ℕ → FVec F S8x256 .f32) (bias : FVec F S8x256 .f32) (lg lb : Vec F S1x256 .f32)

/-- The convolution tile of 512 rows: the four quarters. -/
def yaVec : Vec F S1x512x256 .bf16 := fun y =>
  convQ (fun b m => win (4 * ((y 1).val / 128) + b) m) w bias lg lb
    (ix3 0 (⟨(y 1).val % 128, Nat.mod_lt _ (by omega)⟩ : Fin 128) (y 2 : Fin 256))

/-- The place of a row in a slot, without the slot. -/
def inSlot (y : S2x512x256.Idx) : S1x512x256.Idx := ix3 0 (y 1 : Fin 512) (y 2 : Fin 256)

/-- The four stores of a tile. -/
def rowsL (o3 o2 o1 o0 : Fin 3 → ℕ) (h3 : ∀ a, o3 a + S1x128x256.size a ≤ S2x512x256.size a)
    (h2 : ∀ a, o2 a + S1x128x256.size a ≤ S2x512x256.size a) (h1 : ∀ a, o1 a + S1x128x256.size a ≤ S2x512x256.size a)
    (h0 : ∀ a, o0 a + S1x128x256.size a ≤ S2x512x256.size a) : List (View.Piece (Elt F) S2x512x256 .bf16) :=
  [⟨Rect.unit (s := S2x512x256) o3 S1x128x256.size h3, convQ (fun b m => win (12 + b) m) w bias lg lb⟩,
   ⟨Rect.unit (s := S2x512x256) o2 S1x128x256.size h2, convQ (fun b m => win (8 + b) m) w bias lg lb⟩,
   ⟨Rect.unit (s := S2x512x256) o1 S1x128x256.size h1, convQ (fun b m => win (4 + b) m) w bias lg lb⟩,
   ⟨Rect.unit (s := S2x512x256) o0 S1x128x256.size h0, convQ (fun b m => win (0 + b) m) w bias lg lb⟩]

/-- A quarter is the tile's rows `128 q …`. -/
theorem quarter_eq (s q : ℕ) (h : ∀ a, (![s, 128 * q, 0] : Fin 3 → ℕ) a + S1x128x256.size a ≤ S2x512x256.size a)
    (x : S1x128x256.Idx) :
    convQ (fun b m => win (4 * q + b) m) w bias lg lb x
        = yaVec win w bias lg lb (inSlot ((Rect.unit (s := S2x512x256) ![s, 128 * q, 0] S1x128x256.size h).emb x))
      ∧ (((Rect.unit (s := S2x512x256) ![s, 128 * q, 0] S1x128x256.size h).emb x) 0).val = s := by
  have hx0 : (x 0).val < 1 := (x 0).isLt
  have hx1 : (x 1).val < 128 := (x 1).isLt
  refine ⟨?_, by show s + 1 * (x 0).val = s; omega⟩
  have e : ∀ q', q' = q → ∀ z : S1x128x256.Idx, x = z →
      convQ (fun b m => win (4 * q + b) m) w bias lg lb x = convQ (fun b m => win (4 * q' + b) m) w bias lg lb z := by
    rintro q' rfl z rfl; rfl
  refine e _ ?_ _ (funext fun a => Fin.ext ?_)
  · show (128 * q + 1 * (x 1).val) / 128 = q; omega
  · match a with
    | ⟨0, _⟩ => show (x 0).val = 0; omega
    | ⟨1, _⟩ => show (x 1).val = (128 * q + 1 * (x 1).val) % 128; omega
    | ⟨2, _⟩ => show (x 2).val = 0 + 1 * (x 2).val; omega

variable {o3 o2 o1 o0 : Fin 3 → ℕ} (h3 : ∀ a, o3 a + S1x128x256.size a ≤ S2x512x256.size a)
    (h2 : ∀ a, o2 a + S1x128x256.size a ≤ S2x512x256.size a) (h1 : ∀ a, o1 a + S1x128x256.size a ≤ S2x512x256.size a)
    (h0 : ∀ a, o0 a + S1x128x256.size a ≤ S2x512x256.size a) {s : ℕ}
    (e3 : o3 = ![s, 384, 0]) (e2 : o2 = ![s, 256, 0]) (e1 : o1 = ![s, 128, 0]) (e0 : o0 = ![s, 0, 0])
include e3 e2 e1 e0

theorem rowsL_apply : ∀ p ∈ rowsL win w bias lg lb o3 o2 o1 o0 h3 h2 h1 h0, ∀ x : p.1.shape.Idx,
    p.2 x = yaVec win w bias lg lb (inSlot (p.1.emb x)) ∧ ((p.1.emb x) 0).val = s := by
  subst e3 e2 e1 e0
  intro p hp
  rcases List.mem_cons.mp hp with rfl | hp
  · exact quarter_eq win w bias lg lb s 3 h3
  rcases List.mem_cons.mp hp with rfl | hp
  · exact quarter_eq win w bias lg lb s 2 h2
  rcases List.mem_cons.mp hp with rfl | hp
  · exact quarter_eq win w bias lg lb s 1 h1
  rcases List.mem_cons.mp hp with rfl | hp
  · exact quarter_eq win w bias lg lb s 0 h0
  exact absurd hp List.not_mem_nil

theorem rowsL_cover (y : S2x512x256.Idx) (hy : (y 0).val = s) :
    ∃ p ∈ rowsL win w bias lg lb o3 o2 o1 o0 h3 h2 h1 h0, y ∈ p.1.set := by
  subst e3 e2 e1 e0
  have h1' : (y 1).val < 512 := (y 1).isLt
  have h2' : (y 2).val < 256 := (y 2).isLt
  have inside : ∀ q h, 128 * q ≤ (y 1).val → (y 1).val < 128 * q + 128 →
      y ∈ (Rect.unit (s := S2x512x256) ![s, 128 * q, 0] S1x128x256.size h).set := fun q h ha hb =>
    Rect.mem_set_unit.mpr fun a => match a with
      | ⟨0, _⟩ => ⟨hy.ge, by show (y 0).val < s + 1; omega⟩
      | ⟨1, _⟩ => ⟨ha, hb⟩
      | ⟨2, _⟩ => ⟨Nat.zero_le _, by show (y 2).val < 0 + 256; omega⟩
  rcases (by omega : (y 1).val < 128 ∨ (128 ≤ (y 1).val ∧ (y 1).val < 256) ∨ (256 ≤ (y 1).val ∧ (y 1).val < 384) ∨ 384 ≤ (y 1).val)
    with h | h | h | h
  · exact ⟨_, .tail _ (.tail _ (.tail _ (.head _))), inside 0 h0 (by omega) (by omega)⟩
  · exact ⟨_, .tail _ (.tail _ (.head _)), inside 1 h1 (by omega) (by omega)⟩
  · exact ⟨_, .tail _ (.head _), inside 2 h2 (by omega) (by omega)⟩
  · exact ⟨_, .head _, inside 3 h3 (by omega) (by omega)⟩

end Cert.KernelIdeal.Gen

end
-- ==== Proof.Body.lean ====
/- What the body leaves, as functions of what it reads: the output block and the carried rows, at the first grid point
   and at every other. -/
module

public import proofs.«01_k».proof.Proof.PiecesA
public import proofs.«01_k».proof.Proof.Rows
public import Idealize.ShloMosaic.Lib.Pipeline.FrameBody

@[expose] public section

set_option maxRecDepth 65536

noncomputable section

namespace Cert.KernelIdeal.Gen

open Idealize.ShloMosaic Idealize.ShloMosaic.TcCoe Idealize.ShloMosaic.Tactic

variable {F : FTy → Type} [FloatOps F]

/-- The slot of the scratch a grid point prepares. -/
def slotOf (i : grid0.Coords) : ℕ := k0_off6 i 0

theorem off6_slot : ∀ i : grid0.Coords, k0_off6 i = ![slotOf i, 0, 0] := by decide +kernel
theorem off7_slot : ∀ i : grid0.Coords, k0_off7 i = ![slotOf i, 128, 0] := by decide +kernel
theorem off8_slot : ∀ i : grid0.Coords, k0_off8 i = ![slotOf i, 256, 0] := by decide +kernel
theorem off10_slot : ∀ i : grid0.Coords, k0_off10 i = ![slotOf i, 384, 0] := by decide +kernel
theorem slot_first : ∀ i : grid0.Coords, k0_cond1 i = 1#1 → slotOf i = 1 := by decide +kernel
theorem off3_first' : ∀ i : grid0.Coords, k0_cond1 i = 1#1 → k0_off3 i = ![0, 0, 0] := by decide +kernel

/-- The one-row box of a parameter. -/
abbrev rowBox : Rect S1x256 := Rect.unit (s := S1x256) ![0, 0] S1x256.size inb_S1x256_S1x256_0_0

/-- The convolution tile of a window, from the parameters as the body reads them. -/
def yaOf (win : ℕ → ℕ → FVec F S8x256 .f32) (x6 : Vec F S31x256 .f32) (x7 x8 x9 : Vec F S1x256 .f32) : Vec F S1x512x256 .bf16 :=
  yaVec win (wRow x6) (k0_pay2868 (View.ld x7 rowBox)) (View.ld x8 rowBox) (View.ld x9 rowBox)

/-- A block of 512 rows of the scratch, read at a slot. -/
abbrev slotBox (off : Fin 3 → ℕ) (h : ∀ a, off a + S1x512x256.size a ≤ S2x512x256.size a) : Rect S2x512x256 :=
  Rect.unit (s := S2x512x256) off S1x512x256.size h

theorem inSlot_idx (off : Fin 3 → ℕ) (h) (s : ℕ) (e : off = ![s, 0, 0]) (y : (slotBox off h).shape.Idx) :
    inSlot ((slotBox off h).toLoadRect.idx y) = y ∧ (((slotBox off h).toLoadRect.idx y) 0).val = s := by
  subst e
  have h0 : (y 0).val < 1 := (y 0).isLt
  refine ⟨funext fun a => Fin.ext ?_, by show s + 1 * (y 0).val = s; omega⟩
  match a with
  | ⟨0, _⟩ => show 0 = (y 0).val; omega
  | ⟨1, _⟩ => show 0 + 1 * (y 1).val = (y 1).val; omega
  | ⟨2, _⟩ => show 0 + 1 * (y 2).val = (y 2).val; omega

theorem whole3 : (![0, 0, 0] : Fin 3 → Nat) = fun _ => 0 := funext fun a => by fin_cases a <;> rfl

theorem read_whole (arg16 : Memref sig .tc .vmem S1x512x1024 .f32) (f) (v : FVec F S1x512x1024 .f32) :
    arg16.view.read (Elt F) (arg16.view.writes (Elt F) f
      [⟨Rect.unit (s := S1x512x1024) ![0, 0, 0] S1x512x1024.size inb_S1x512x1024_S1x512x1024_0_0_0, v⟩]) = v := by
  funext y
  refine View.read_writes_apply_of_pieces _ f v _ (fun p hp x => ?_) y ⟨_, .head _, View.mem_set_unit_zero whole3 inb_S1x512x1024_S1x512x1024_0_0_0 y⟩
  obtain rfl := List.mem_singleton.mp hp
  refine congrArg v (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega

theorem runB_w (c : Dev nD) (arg6 : Memref sig .tc .vmem S31x256 .f32) (harg6 : arg6.IsWhole) (x6 : Vec F S31x256 .f32) :
    runB.sl.H18_31 c arg6 harg6 x6 = wPieces (arg6.view.read (Elt F) (harg6.unread x6)) 31 (Nat.le_refl _) := by
  sl_kernel_rfl

theorem runA_w (c : Dev nD) (arg6 : Memref sig .tc .vmem S31x256 .f32) (harg6 : arg6.IsWhole) (x6 : Vec F S31x256 .f32) :
    runA.sl.H18_31 c arg6 harg6 x6 = wPieces (arg6.view.read (Elt F) (harg6.unread x6)) 31 (Nat.le_refl _) := by
  sl_kernel_rfl

section Other

variable (c : Dev nD) (i : grid0.Coords) (arg2 : Memref sig .tc .vmem S1x512x1024 .f32) (harg2 : arg2.IsWhole) (arg3 : Memref sig .tc .vmem S1x2048x256 .f32) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x6x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x1024 .bf16) (harg13 : arg13.IsWhole) (arg14 : Memref sig .tc .vmem S1x1024x4096 .bf16) (harg14 : arg14.IsWhole) (arg15 : Memref sig .tc .vmem S1x4096x1024 .bf16) (harg15 : arg15.IsWhole) (arg16 : Memref sig .tc .vmem S1x512x1024 .f32) (harg16 : arg16.IsWhole) (arg17 : Memref sig .tc .vmem S2x512x256 .bf16) (harg17 : arg17.IsWhole) (arg18 : Memref sig .tc .vmem S31x8x256 .f32) (harg18 : arg18.IsWhole) (hc0 : ¬ k0_cond1 i = 1#1)
    (x2 : Vec F S1x512x1024 .f32) (x3 : Vec F S1x2048x256 .f32) (x4 : Vec F S1x512x512 .bf16) (x5 : Vec F S1x512x256 .bf16) (x6 : Vec F S31x256 .f32) (x7 : Vec F S1x256 .f32) (x8 : Vec F S1x256 .f32) (x9 : Vec F S1x256 .f32) (x10 : Vec F S1x6x1024 .f32) (x11 : Vec F S1x1024 .f32) (x12 : Vec F S1x1024 .f32) (x13 : Vec F S1x1024x1024 .bf16) (x14 : Vec F S1x1024x4096 .bf16) (x15 : Vec F S1x4096x1024 .bf16) (x17 : Vec F S2x512x256 .bf16)

/-- The output block. -/
theorem runB_o (f) : arg16.view.read (Elt F) (arg16.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).1)
    = mlpOut (View.ld x17 (slotBox (k0_off3 i) (k0_off3_inb i))) x2 x4 x5 x10 x11 x12 x13 x14 x15 := by
  have e := runB_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17
  simp only [harg2.read_unread, harg4.read_unread, harg5.read_unread, harg10.read_unread, harg11.read_unread, harg12.read_unread, harg13.read_unread, harg14.read_unread, harg15.read_unread, harg17.read_unread] at e
  rw [e]
  exact read_whole arg16 f _

/-- The rows prepared. -/
theorem runB_ya (y : S2x512x256.Idx) (hy : (y 0).val = slotOf i) :
    arg17.view.read (Elt F) (arg17.view.writes (Elt F) (harg17.unread x17) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).2.1) y
      = yaOf (winB i x3) x6 x7 x8 x9 (inSlot y) := by
  have e := runB_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17
  simp only [runB_w, wTile_eq, harg3.read_unread, harg6.read_unread, harg7.read_unread, harg8.read_unread, harg9.read_unread] at e
  rw [e]
  exact View.read_writes_apply_of_pieces _ _ (fun y => yaOf (winB i x3) x6 x7 x8 x9 (inSlot y)) (rowsL (winB i x3) (wRow x6) (k0_pay2868 (View.ld x7 rowBox)) (View.ld x8 rowBox) (View.ld x9 rowBox) _ _ _ _ (k0_off10_inb i) (k0_off8_inb i) (k0_off7_inb i) (k0_off6_inb i))
    (fun p hp x => (rowsL_apply _ _ _ _ _ _ _ _ _ (off10_slot i) (off8_slot i) (off7_slot i) (off6_slot i) p hp x).1) y
    (rowsL_cover _ _ _ _ _ _ _ _ _ (off10_slot i) (off8_slot i) (off7_slot i) (off6_slot i) y hy)

end Other

section First

variable (c : Dev nD) (i : grid0.Coords) (arg2 : Memref sig .tc .vmem S1x512x1024 .f32) (harg2 : arg2.IsWhole) (arg3 : Memref sig .tc .vmem S1x2048x256 .f32) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x6x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x1024 .bf16) (harg13 : arg13.IsWhole) (arg14 : Memref sig .tc .vmem S1x1024x4096 .bf16) (harg14 : arg14.IsWhole) (arg15 : Memref sig .tc .vmem S1x4096x1024 .bf16) (harg15 : arg15.IsWhole) (arg16 : Memref sig .tc .vmem S1x512x1024 .f32) (harg16 : arg16.IsWhole) (arg17 : Memref sig .tc .vmem S2x512x256 .bf16) (harg17 : arg17.IsWhole) (arg18 : Memref sig .tc .vmem S31x8x256 .f32) (harg18 : arg18.IsWhole) (hc0 : k0_cond1 i = 1#1)
    (x2 : Vec F S1x512x1024 .f32) (x3 : Vec F S1x2048x256 .f32) (x4 : Vec F S1x512x512 .bf16) (x5 : Vec F S1x512x256 .bf16) (x6 : Vec F S31x256 .f32) (x7 : Vec F S1x256 .f32) (x8 : Vec F S1x256 .f32) (x9 : Vec F S1x256 .f32) (x10 : Vec F S1x6x1024 .f32) (x11 : Vec F S1x1024 .f32) (x12 : Vec F S1x1024 .f32) (x13 : Vec F S1x1024x1024 .bf16) (x14 : Vec F S1x1024x4096 .bf16) (x15 : Vec F S1x4096x1024 .bf16) (x17 : Vec F S2x512x256 .bf16)

/-- The first tile's rows, as the first grid point reads them back. -/
theorem runA_own : arg17.view.readCov (runA.sl.H17_4 c i arg3 harg3 arg6 harg6 arg7 harg7 arg8 harg8 arg9 harg9 arg18 hc0 x3 x6 x7 x8 x9)
      (slotBox (k0_off3 i) (k0_off3_inb i)).toLoadRect = yaOf (winA x3) x6 x7 x8 x9 := by
  have e := runA_first c i arg3 harg3 arg6 harg6 arg7 harg7 arg8 harg8 arg9 harg9 arg18 hc0 x3 x6 x7 x8 x9
  simp only [runA_w, wTile_eq, harg3.read_unread, harg6.read_unread, harg7.read_unread, harg8.read_unread, harg9.read_unread] at e
  rw [e, View.readCov_eq_canon']
  funext y
  obtain ⟨e1, e2⟩ := inSlot_idx _ (k0_off3_inb i) 0 (off3_first' i hc0) y
  refine (View.canon_apply_of_pieces (fun y => yaOf (winA x3) x6 x7 x8 x9 (inSlot y)) (rowsL (winA x3) (wRow x6) (k0_pay2868 (View.ld x7 rowBox)) (View.ld x8 rowBox) (View.ld x9 rowBox) ![0, 384, 0] ![0, 256, 0] ![0, 128, 0] ![0, 0, 0] inb_S2x512x256_S1x128x256_0_384_0 inb_S2x512x256_S1x128x256_0_256_0 inb_S2x512x256_S1x128x256_0_128_0 inb_S2x512x256_S1x128x256_0_0_0)
    (fun p hp x => (rowsL_apply _ _ _ _ _ _ _ _ _ rfl rfl rfl rfl p hp x).1) _
    (rowsL_cover _ _ _ _ _ _ _ _ _ rfl rfl rfl rfl _ e2)).trans ?_
  exact congrArg (yaOf (winA x3) x6 x7 x8 x9) e1

/-- The output block. -/
theorem runA_o (f) : arg16.view.read (Elt F) (arg16.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).1)
    = mlpOut (yaOf (winA x3) x6 x7 x8 x9) x2 x4 x5 x10 x11 x12 x13 x14 x15 := by
  have e := runA_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17
  rw [runA_own c i arg3 harg3 arg6 harg6 arg7 harg7 arg8 harg8 arg9 harg9 arg17 arg18 hc0 x3 x6 x7 x8 x9] at e
  simp only [harg2.read_unread, harg4.read_unread, harg5.read_unread, harg10.read_unread, harg11.read_unread, harg12.read_unread, harg13.read_unread, harg14.read_unread, harg15.read_unread] at e
  rw [e]
  exact read_whole arg16 f _

/-- The rows prepared for the next grid point. -/
theorem runA_ya (y : S2x512x256.Idx) (hy : (y 0).val = slotOf i) :
    arg17.view.read (Elt F) (arg17.view.writes (Elt F) (harg17.unread x17) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).2.1) y
      = yaOf (winB i x3) x6 x7 x8 x9 (inSlot y) := by
  have e := runA_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17
  rw [runA_first c i arg3 harg3 arg6 harg6 arg7 harg7 arg8 harg8 arg9 harg9 arg18 hc0 x3 x6 x7 x8 x9] at e
  simp only [runA_w, wTile_eq, harg3.read_unread, harg6.read_unread, harg7.read_unread, harg8.read_unread, harg9.read_unread] at e
  have hs := slot_first i hc0
  have hB := rowsL_apply (winB i x3) (wRow x6) (k0_pay2868 (View.ld x7 rowBox)) (View.ld x8 rowBox) (View.ld x9 rowBox)
    (k0_off10_inb i) (k0_off8_inb i) (k0_off7_inb i) (k0_off6_inb i) (off10_slot i) (off8_slot i) (off7_slot i) (off6_slot i)
  have hA := rowsL_apply (winA x3) (wRow x6) (k0_pay2868 (View.ld x7 rowBox)) (View.ld x8 rowBox) (View.ld x9 rowBox)
    (s := 0) inb_S2x512x256_S1x128x256_0_384_0 inb_S2x512x256_S1x128x256_0_256_0 inb_S2x512x256_S1x128x256_0_128_0 inb_S2x512x256_S1x128x256_0_0_0 rfl rfl rfl rfl
  rw [e]
  refine (View.read_writes_apply_of_pieces _ _
    (fun y => if (y 0).val = 0 then yaOf (winA x3) x6 x7 x8 x9 (inSlot y) else yaOf (winB i x3) x6 x7 x8 x9 (inSlot y))
    (rowsL (winB i x3) (wRow x6) (k0_pay2868 (View.ld x7 rowBox)) (View.ld x8 rowBox) (View.ld x9 rowBox) _ _ _ _ (k0_off10_inb i) (k0_off8_inb i) (k0_off7_inb i) (k0_off6_inb i) ++ rowsL (winA x3) (wRow x6) (k0_pay2868 (View.ld x7 rowBox)) (View.ld x8 rowBox) (View.ld x9 rowBox) ![0, 384, 0] ![0, 256, 0] ![0, 128, 0] ![0, 0, 0] inb_S2x512x256_S1x128x256_0_384_0 inb_S2x512x256_S1x128x256_0_256_0 inb_S2x512x256_S1x128x256_0_128_0 inb_S2x512x256_S1x128x256_0_0_0) (fun p hp x => ?_) y ?_).trans (if_neg (by omega))
  · rcases List.mem_append.mp hp with hp | hp
    · exact (hB p hp x).1.trans (if_neg (by rw [(hB p hp x).2]; omega)).symm
    · exact (hA p hp x).1.trans (if_pos (hA p hp x).2).symm
  · obtain ⟨p, hp, hm⟩ := rowsL_cover (winB i x3) (wRow x6) (k0_pay2868 (View.ld x7 rowBox)) (View.ld x8 rowBox) (View.ld x9 rowBox)
      (k0_off10_inb i) (k0_off8_inb i) (k0_off7_inb i) (k0_off6_inb i) (off10_slot i) (off8_slot i) (off7_slot i) (off6_slot i) y hy
    exact ⟨p, List.mem_append_left _ hp, hm⟩

end First

end Cert.KernelIdeal.Gen

end
-- ==== Proof.Region.lean ====
/- The run of the kernel: what every grid point leaves in the output and in the scratch it carries to the next, and so
   that every execution ends with the argument arrays as they were and no semaphore raised. -/
module

public import proofs.«01_k».proof.Proof.Body
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond_iff : ∀ t : Fin grid0.N, k0_cond1 (grid0.coords t) = 1#1 ↔ t.val = 0 := by decide +kernel

theorem off3_next : ∀ t : Fin grid0.N, ∀ h : t.val + 1 < grid0.N,
    k0_off3 (grid0.coords ⟨t.val + 1, h⟩) = ![slotOf (grid0.coords t), 0, 0] := by decide +kernel

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S31x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x6x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024x4096 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x4096x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x1024 .f32 := win0_14.stage (cfg0.slots t 14)
abbrev hs0_14 (t : Fin cfg0.N) : (ms0_14 t).IsWhole := hstage0_14 ((cfg0.slots t 14).cast nbuf0_14)

/-- The scratch of the carried rows, and that of the weights. -/
abbrev scM0_0 : Memref sig .tc .vmem S2x512x256 .bf16 := Memref.whole cc0_scratch0
abbrev scM0_1 : Memref sig .tc .vmem S31x8x256 .f32 := Memref.whole cc0_scratch1

theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The tile a grid point prepares for the next. -/
def nextYA (c : Dev nD) (t : Fin cfg0.N) : Vec F S1x512x256 .bf16 :=
  yaOf (winB (grid0.coords t) (iblk m c 1 t)) (iblk m c 4 t) (iblk m c 5 t) (iblk m c 6 t) (iblk m c 7 t)

/-- The tile a grid point reads: its own at the first, at every other the one prepared for it. -/
def curYA (c : Dev nD) : (n : ℕ) → n < cfg0.N → Vec F S1x512x256 .bf16
  | 0, h => let t : Fin cfg0.N := ⟨0, h⟩
     yaOf (winA (iblk m c 1 t)) (iblk m c 4 t) (iblk m c 5 t) (iblk m c 6 t) (iblk m c 7 t)
  | n + 1, h => nextYA m c ⟨n, by omega⟩

/-- The output block a grid point leaves. -/
def outBlk (c : Dev nD) (t : Fin cfg0.N) : Vec F S1x512x1024 .f32 :=
  mlpOut (curYA m c t.val t.isLt) (iblk m c 0 t) (iblk m c 2 t) (iblk m c 3 t) (iblk m c 8 t) (iblk m c 9 t) (iblk m c 10 t) (iblk m c 11 t) (iblk m c 12 t) (iblk m c 13 t)

/-- The carried scratch after a grid point: the slot it prepared holds the next tile. -/
def Carries (c : Dev nD) (t : Fin cfg0.N) (d : Vec F S2x512x256 .bf16) : Prop :=
  ∀ y : S2x512x256.Idx, (y 0).val = slotOf (grid0.coords t) → d y = nextYA m c t (inSlot y)

/-- What the region owns between grid points. -/
def PhiS (c : Dev nD) : (n : ℕ) → n ≤ cfg0.N → sProp 𝕄
  | 0, _ => Pipeline.ΦA spec0 c
  | n + 1, hn => iprop(iprop((∃ d, ⌜Carries m c ⟨n, hn⟩ d⌝ ∗ owns (c : Thread nD τ) scM0_0 fullShare d)
      ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, ⌜Carries m c ⟨n, hn⟩ d⌝ ∗ owns (c : Thread nD τ) scM0_0 fullShare d)
      ∗ (∃ d, owns (c : Thread nD τ) scM0_1 fullShare d)) ∗ (∃ r, prngReg c r)) := rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

/-- The slot a later grid point reads holds the tile prepared for it. -/
theorem carried_read (c : Dev nD) (t : Fin cfg0.N) (n : ℕ) (hn : t.val = n + 1) (d : Vec F S2x512x256 .bf16)
    (hd : Carries m c ⟨n, by omega⟩ d) :
    View.ld d (slotBox (k0_off3 (grid0.coords t)) (k0_off3_inb (grid0.coords t))) = curYA m c t.val t.isLt := by
  obtain ⟨t, ht⟩ := t
  obtain rfl : t = n + 1 := hn
  funext y
  obtain ⟨e1, e2⟩ := inSlot_idx _ (k0_off3_inb (grid0.coords ⟨n + 1, ht⟩)) _ (off3_next ⟨n, (Nat.lt_succ_self n).trans ht⟩ ht) y
  exact (hd _ e2).trans (congrArg (nextYA m c ⟨n, _⟩) e1)

set_option maxHeartbeats 6400000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_succ]
  by_cases hz : t.val = 0
  · have hc : k0_cond1 (grid0.coords t) = 1#1 := (cond_iff t).mpr hz
    have hcur : mlpOut (yaOf (winA (iblk m c 1 t)) (iblk m c 4 t) (iblk m c 5 t) (iblk m c 6 t) (iblk m c 7 t)) (iblk m c 0 t) (iblk m c 2 t) (iblk m c 3 t) (iblk m c 8 t) (iblk m c 9 t) (iblk m c 10 t) (iblk m c 11 t) (iblk m c 12 t) (iblk m c 13 t) = outBlk m c t := by
      obtain ⟨n, hn⟩ := t
      obtain rfl : n = 0 := hz
      rfl
    rw [PhiS_castSucc m c t, PhiS_zero m c _ _ hz, PhiA0_eq]
    iintro ⟨⟨⟨⟨%d17, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) d17).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS0]; · iexact HS0
    isplitl [HS1]; · iexact HS1
    iintro ⟨H0, H1, H2, H3, H4, H5, H6, H7, H8, H9, H10, H11, H12, H13, ⟨%e14, H14⟩, HS0, HS1⟩
    isplitl [HS0 HS1 Hg]
    · isplitl [HS0 HS1]
      · isplitl [HS0]
        · iexists _
          isplitr
          swap
          · unfold owns; iexists _; isplitr
            swap; · iexact HS0
            ipureintro; rfl
          ipureintro
          exact fun y hy => runA_ya c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) d17 y hy
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold owns; iexists _; isplitr
    swap; · iexact H14
    ipureintro
    exact ((runA_o c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) d17 _).trans hcur)
  · obtain ⟨n, hn⟩ : ∃ n, t.val = n + 1 := ⟨t.val - 1, by omega⟩
    have hc : ¬ k0_cond1 (grid0.coords t) = 1#1 := fun h => hz ((cond_iff t).mp h)
    have hlt : n < cfg0.N := by have := t.isLt; omega
    rw [PhiS_castSucc m c t, show PhiS m c t.val (Nat.le_of_lt t.isLt) = PhiS m c (n + 1) hlt from by congr 1, PhiS_succ]
    iintro ⟨⟨⟨⟨%d17, %hd, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    have hcur : mlpOut (View.ld d17 (slotBox (k0_off3 (grid0.coords t)) (k0_off3_inb (grid0.coords t)))) (iblk m c 0 t) (iblk m c 2 t) (iblk m c 3 t) (iblk m c 8 t) (iblk m c 9 t) (iblk m c 10 t) (iblk m c 11 t) (iblk m c 12 t) (iblk m c 13 t) = outBlk m c t := by
      rw [carried_read m c t n hn d17 hd]; rfl
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) d17).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS0]; · iexact HS0
    isplitl [HS1]; · iexact HS1
    iintro ⟨H0, H1, H2, H3, H4, H5, H6, H7, H8, H9, H10, H11, H12, H13, ⟨%e14, H14⟩, HS0, HS1⟩
    isplitl [HS0 HS1 Hg]
    · isplitl [HS0 HS1]
      · isplitl [HS0]
        · iexists _
          isplitr
          swap
          · unfold owns; iexists _; isplitr
            swap; · iexact HS0
            ipureintro; rfl
          ipureintro
          exact fun y hy => runB_ya c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) d17 y hy
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold owns; iexists _; isplitr
    swap; · iexact H14
    ipureintro
    exact ((runB_o c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) d17 _).trans hcur)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (63 + 1) (Nat.le_of_eq N_0.symm) from rfl, PhiS_succ, PhiA0_eq]
  iintro ⟨⟨⟨%d, %hd, HS0⟩, HS1⟩, Hg⟩
  isplitl [HS0 HS1]
  · isplitl [HS0]
    · iexists _; iexact HS0
    iexact HS1
  iexact Hg

set_option backward.isDefEq.respectTransparency.types false in
/-- Every execution ends, with the arrays as the pipeline leaves them and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Sums.lean ====
/- Sums in consecutive parts: over the channels as the output projection takes them, and over the hidden units. -/
module

public import Idealize.ShloMosaic.Lib.Pointwise

@[expose] public section

namespace Cert.Proof

/-- A sum over the 1024 channels, in the three parts the body takes them. -/
theorem sum_parts (f : Fin 1024 → EReal) : ∑ k : Fin 1024, f k
    = (∑ k : Fin 256, f ⟨k.val, by omega⟩) + (∑ k : Fin 512, f ⟨256 + k.val, by omega⟩) + ∑ k : Fin 256, f ⟨768 + k.val, by omega⟩ := by
  have h1 := Fin.sum_univ_add (a := 768) (b := 256) f
  have h2 := Fin.sum_univ_add (a := 256) (b := 512) fun k : Fin 768 => f (Fin.castAdd 256 k)
  exact h1.trans (congrArg (· + _) h2)

/-- A sum over the 4096 hidden units, in the four quarters the body takes them. -/
theorem sum_quarters (f : Fin 4096 → EReal) : ∑ k : Fin 4096, f k
    = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  have h1 := Fin.sum_univ_add (a := 3072) (b := 1024) f
  have h2 := Fin.sum_univ_add (a := 2048) (b := 1024) fun k : Fin 3072 => f (Fin.castAdd 1024 k)
  have h3 := Fin.sum_univ_add (a := 1024) (b := 1024) fun k : Fin 2048 => f (Fin.castAdd 1024 (Fin.castAdd 1024 k))
  exact h1.trans (congrArg (· + _) (h2.trans (congrArg (· + _) h3)))

end Cert.Proof
-- ==== Proof.MlpIdeal.lean ====
/- The block of the output over the extended reals: the projection of the three mixers, the residual and the
   feed-forward network at each row of a block are the reference's at that row of the array. -/
module

public import proofs.«01_k».proof.Proof.Conv
public import proofs.«01_k».proof.Proof.Sums
public import proofs.«01_k».proof.Proof.Gen.ReferenceIdeal.Read
public import Idealize.ShloMosaic.Lib.Pointwise
public import Idealize.ShloMosaic.Lib.KernelVsHost
public import Idealize.ShloMosaic.Lib.ValueLayout
public import Idealize.ShloMosaic.Lib.ValueLayoutCasts

@[expose] public section

set_option maxRecDepth 16384

noncomputable section

namespace Cert.Proof.Mlp

open Idealize.ShloMosaic Cert.KernelIdeal Cert.KernelIdeal.Gen Cert.ReferenceIdeal.Read

/-- The row of the array that row `r` of block `j` is. -/
abbrev row (j : Fin 4) (r : Fin 512) : Fin 2048 := ⟨j.val * 512 + r.val, by omega⟩

variable {ya : Vec Ideal S1x512x256 .bf16} {x2 : Vec Ideal S1x512x1024 .f32} {x4 : Vec Ideal S1x512x512 .bf16}
  {x5 : Vec Ideal S1x512x256 .bf16} {x10 : Vec Ideal S1x6x1024 .f32} {x11 x12 : Vec Ideal S1x1024 .f32}
  {x13 : Vec Ideal S1x1024x1024 .bf16} {x14 : Vec Ideal S1x1024x4096 .bf16} {x15 : Vec Ideal S1x4096x1024 .bf16}
  {X0 : FVec Ideal S16x2048x1024 .f32} {X1 : FVec Ideal S16x2048x256 .f32} {X2 : FVec Ideal S16x2048x512 .f32}
  {X3 : FVec Ideal S16x2048x256 .f32} {X4 : FVec Ideal S31x256 .f32} {X5 X6 X7 : FVec Ideal S256 .f32}
  {X8 : FVec Ideal S16x6x1024 .f32} {X9 X10 : FVec Ideal S1024 .f32} {X11 : FVec Ideal S1024x1024 .f32}
  {X12 : FVec Ideal S1024x4096 .f32} {X13 : FVec Ideal S4096x1024 .f32} {b : Fin 16} {j : Fin 4}

/-- The concatenation of the three mixers, in its three parts. -/
theorem concat_apply (r : Fin 2048) :
    (∀ l : Fin 256, val_main_v249 (F := Ideal) X1 X2 X3 X4 X5 X6 X7 (ix3 b r ⟨l.val, by omega⟩) = val_main_v248 (F := Ideal) X1 X4 X5 X6 X7 (ix3 b r l))
    ∧ (∀ l : Fin 512, val_main_v249 (F := Ideal) X1 X2 X3 X4 X5 X6 X7 (ix3 b r ⟨256 + l.val, by omega⟩) = X2 (ix3 b r l))
    ∧ (∀ l : Fin 256, val_main_v249 (F := Ideal) X1 X2 X3 X4 X5 X6 X7 (ix3 b r ⟨768 + l.val, by omega⟩) = X3 (ix3 b r l)) := by
  refine ⟨fun l => ?_, fun l => ?_, fun l => ?_⟩
  · unfold val_main_v249
    generalize val_main_v248 (F := Ideal) X1 X4 X5 X6 X7 = Y
    pointwise
  · unfold val_main_v249
    generalize val_main_v248 (F := Ideal) X1 X4 X5 X6 X7 = Y
    pointwise
  · unfold val_main_v249
    generalize val_main_v248 (F := Ideal) X1 X4 X5 X6 X7 = Y
    pointwise
    rw [dif_neg (by omega), dif_neg (by omega)]
    exact congrArg (fun q => X3 (ix3 b r q)) (Fin.ext (by show 768 + l.val - 256 - 512 = l.val; omega))

/-- What the blocks hold: block `j` of batch `b` of every array, and the convolution tile of its rows. -/
structure Block (ya : Vec Ideal S1x512x256 .bf16) (x2 : Vec Ideal S1x512x1024 .f32) (x4 : Vec Ideal S1x512x512 .bf16)
    (x5 : Vec Ideal S1x512x256 .bf16) (x10 : Vec Ideal S1x6x1024 .f32) (x11 x12 : Vec Ideal S1x1024 .f32)
    (x13 : Vec Ideal S1x1024x1024 .bf16) (x14 : Vec Ideal S1x1024x4096 .bf16) (x15 : Vec Ideal S1x4096x1024 .bf16)
    (X0 : FVec Ideal S16x2048x1024 .f32) (X1 : FVec Ideal S16x2048x256 .f32) (X2 : FVec Ideal S16x2048x512 .f32)
    (X3 : FVec Ideal S16x2048x256 .f32) (X4 : FVec Ideal S31x256 .f32) (X5 X6 X7 : FVec Ideal S256 .f32)
    (X8 : FVec Ideal S16x6x1024 .f32) (X9 X10 : FVec Ideal S1024 .f32) (X11 : FVec Ideal S1024x1024 .f32)
    (X12 : FVec Ideal S1024x4096 .f32) (X13 : FVec Ideal S4096x1024 .f32) (b : Fin 16) (j : Fin 4) : Prop where
  ya : ∀ (r : Fin 512) (l : Fin 256), ya (ix3 0 r l) = val_main_v248 (F := Ideal) X1 X4 X5 X6 X7 (ix3 b (row j r) l)
  x2 : ∀ (r : Fin 512) (k : Fin 1024), x2 (ix3 0 r k) = X0 (ix3 b (row j r) k)
  x4 : ∀ (r : Fin 512) (k : Fin 512), x4 (ix3 0 r k) = X2 (ix3 b (row j r) k)
  x5 : ∀ (r : Fin 512) (k : Fin 256), x5 (ix3 0 r k) = X3 (ix3 b (row j r) k)
  x10 : ∀ (a : Fin 6) (k : Fin 1024), x10 (ix3 0 a k) = X8 (ix3 b a k)
  x11 : ∀ k : Fin 1024, x11 (ix2 0 k) = X9 (ix1 k)
  x12 : ∀ k : Fin 1024, x12 (ix2 0 k) = X10 (ix1 k)
  x13 : ∀ k n : Fin 1024, x13 (ix3 0 k n) = X11 (ix2 k n)
  x14 : ∀ (k : Fin 1024) (n : Fin 4096), x14 (ix3 0 k n) = X12 (ix2 k n)
  x15 : ∀ (k : Fin 4096) (n : Fin 1024), x15 (ix3 0 k n) = X13 (ix2 k n)

/-- The projection and the residual as the body computes them, from the blocks. -/
def residual (ya : Vec Ideal S1x512x256 .bf16) (x2 : Vec Ideal S1x512x1024 .f32) (x4 : Vec Ideal S1x512x512 .bf16)
    (x5 : Vec Ideal S1x512x256 .bf16) (x10 : Vec Ideal S1x6x1024 .f32) (x13 : Vec Ideal S1x1024x1024 .bf16) : FVec Ideal S512x1024 .f32 :=
  k0_pay2872 (k0_pay2870 (View.ld x2 (Rect.unit (s := S1x512x1024) ![0, 0, 0] S1x512x1024.size inb_S1x512x1024_S1x512x1024_0_0_0))) (k0_pay2871 ya)
    (View.ld x4 (Rect.unit (s := S1x512x512) ![0, 0, 0] S1x512x512.size inb_S1x512x512_S1x512x512_0_0_0))
    (View.ld x5 (Rect.unit (s := S1x512x256) ![0, 0, 0] S1x512x256.size inb_S1x512x256_S1x512x256_0_0_0))
    (View.ld x13 (Rect.unit (s := S1x1024x1024) ![0, 0, 0] S1x256x1024.size inb_S1x1024x1024_S1x256x1024_0_0_0))
    (View.ld x13 (Rect.unit (s := S1x1024x1024) ![0, 256, 0] S1x512x1024.size inb_S1x1024x1024_S1x512x1024_0_256_0))
    (View.ld x13 (Rect.unit (s := S1x1024x1024) ![0, 768, 0] S1x256x1024.size inb_S1x1024x1024_S1x256x1024_0_768_0))
    (View.ld x10 (Rect.unit (s := S1x6x1024) ![0, 2, 0] S1x1x1024.size inb_S1x6x1024_S1x1x1024_0_2_0))

/-- The normed, modulated rows that enter the feed-forward network, as the body computes them. -/
def entering (ya : Vec Ideal S1x512x256 .bf16) (x2 : Vec Ideal S1x512x1024 .f32) (x4 : Vec Ideal S1x512x512 .bf16)
    (x5 : Vec Ideal S1x512x256 .bf16) (x10 : Vec Ideal S1x6x1024 .f32) (x11 : Vec Ideal S1x1024 .f32)
    (x13 : Vec Ideal S1x1024x1024 .bf16) : FVec Ideal S512x1024 .bf16 :=
  k0_pay2874 (k0_pay2873 (k0_pay2870 (View.ld x2 (Rect.unit (s := S1x512x1024) ![0, 0, 0] S1x512x1024.size inb_S1x512x1024_S1x512x1024_0_0_0))) (k0_pay2871 ya)
    (View.ld x4 (Rect.unit (s := S1x512x512) ![0, 0, 0] S1x512x512.size inb_S1x512x512_S1x512x512_0_0_0))
    (View.ld x5 (Rect.unit (s := S1x512x256) ![0, 0, 0] S1x512x256.size inb_S1x512x256_S1x512x256_0_0_0))
    (View.ld x13 (Rect.unit (s := S1x1024x1024) ![0, 0, 0] S1x256x1024.size inb_S1x1024x1024_S1x256x1024_0_0_0))
    (View.ld x13 (Rect.unit (s := S1x1024x1024) ![0, 256, 0] S1x512x1024.size inb_S1x1024x1024_S1x512x1024_0_256_0))
    (View.ld x13 (Rect.unit (s := S1x1024x1024) ![0, 768, 0] S1x256x1024.size inb_S1x1024x1024_S1x256x1024_0_768_0))
    (View.ld x10 (Rect.unit (s := S1x6x1024) ![0, 2, 0] S1x1x1024.size inb_S1x6x1024_S1x1x1024_0_2_0))
    (View.ld x11 (Rect.unit (s := S1x1024) ![0, 0] S1x1024.size inb_S1x1024_S1x1024_0_0)))
    (View.ld x10 (Rect.unit (s := S1x6x1024) ![0, 4, 0] S1x1x1024.size inb_S1x6x1024_S1x1x1024_0_4_0))
    (View.ld x10 (Rect.unit (s := S1x6x1024) ![0, 3, 0] S1x1x1024.size inb_S1x6x1024_S1x1x1024_0_3_0))

/-- A square of 1024 by 1024 weights. -/
def weights {m n : ℕ} (x : Vec Ideal ⟨3, ![1, m, n]⟩ .bf16) (off : Fin 3 → ℕ)
    (h : ∀ a, off a + S1x1024x1024.size a ≤ (⟨3, ![1, m, n]⟩ : Shape).size a) : FVec Ideal S1024x1024 .bf16 :=
  shapeCast S1024x1024 (View.ld x (Rect.unit (s := ⟨3, ![1, m, n]⟩) off S1x1024x1024.size h) : Vec Ideal S1x1024x1024 .bf16)
    shapeCasts_S1x1024x1024_S1024x1024

/-- A quarter of the feed-forward network: 1024 of the 4096 hidden units, from `o` on. -/
def quarter (H : FVec Ideal S512x1024 .bf16) (x14 : Vec Ideal S1x1024x4096 .bf16) (x15 : Vec Ideal S1x4096x1024 .bf16) (o : ℕ)
    (h1 : ∀ a, (![0, 0, o] : Fin 3 → ℕ) a + S1x1024x1024.size a ≤ S1x1024x4096.size a)
    (h2 : ∀ a, (![0, o, 0] : Fin 3 → ℕ) a + S1x1024x1024.size a ≤ S1x4096x1024.size a) : FVec Ideal S512x1024 .f32 :=
  let hid := maximumf (matmul dot_S512x1024_S1024x1024_S512x1024_1_0_0_1_n_n none H
    (weights x14 ![0, 0, o] h1)
    (constant S512x1024 .f32 0x00000000#32)) (broadcast S512x1024 (Scalar.ofBits .f32 0x00000000#32))
  matmul dot_S512x1024_S1024x1024_S512x1024_1_0_0_1_n_n none (truncf .bf16 (mulf hid hid) bitsLt_bf16_f32)
    (weights x15 ![0, o, 0] h2)
    (constant S512x1024 .f32 0x00000000#32)

/-- The feed-forward network's residual, as the body computes it. -/
def second (A : FVec Ideal S512x1024 .f32) (H : FVec Ideal S512x1024 .bf16) (x10 : Vec Ideal S1x6x1024 .f32)
    (x14 : Vec Ideal S1x1024x4096 .bf16) (x15 : Vec Ideal S1x4096x1024 .bf16) : FVec Ideal S512x1024 .f32 :=
  addf A (mulf (broadcastTo S512x1024 (shapeCast S1x1024
    (View.ld x10 (Rect.unit (s := S1x6x1024) ![0, 5, 0] S1x1x1024.size inb_S1x6x1024_S1x1x1024_0_5_0)) shapeCasts_S1x1x1024_S1x1024)
    broadcasts_S1x1024_S512x1024)
    (addf (addf (addf (addf (broadcast S512x1024 (Scalar.ofBits .f32 0x00000000#32))
      (quarter H x14 x15 0 inb_S1x1024x4096_S1x1024x1024_0_0_0 inb_S1x4096x1024_S1x1024x1024_0_0_0))
      (quarter H x14 x15 1024 inb_S1x1024x4096_S1x1024x1024_0_0_1024 inb_S1x4096x1024_S1x1024x1024_0_1024_0))
      (quarter H x14 x15 2048 inb_S1x1024x4096_S1x1024x1024_0_0_2048 inb_S1x4096x1024_S1x1024x1024_0_2048_0))
      (quarter H x14 x15 3072 inb_S1x1024x4096_S1x1024x1024_0_0_3072 inb_S1x4096x1024_S1x1024x1024_0_3072_0)))

/-- The last norm. -/
def normed (B : FVec Ideal S512x1024 .f32) (x12 : Vec Ideal S1x1024 .f32) : FVec Ideal S1x512x1024 .f32 :=
  k0_pay2877 (mulf B (broadcastTo S512x1024 (rsqrt (addf (divf
    (shapeCast S512x1 (multiReduction .add [1] S512 (mulf B B) 0x00000000#32 reduces_S512x1024_S512 (.inl rfl) rfl) shapeCasts_S512_S512x1)
    (broadcast S512x1 (Scalar.ofBits .f32 0x44800000#32))) (broadcast S512x1 (Scalar.ofBits .f32 0x358637BD#32))))
    broadcasts_S512x1_S512x1024)) (View.ld x12 (Rect.unit (s := S1x1024) ![0, 0] S1x1024.size inb_S1x1024_S1x1024_0_0))

theorem mlpOut_eq : mlpOut ya x2 x4 x5 x10 x11 x12 x13 x14 x15
    = normed (second (residual ya x2 x4 x5 x10 x13) (entering ya x2 x4 x5 x10 x11 x13) x10 x14 x15) x12 := rfl

variable (H : Block ya x2 x4 x5 x10 x11 x12 x13 x14 x15 X0 X1 X2 X3 X4 X5 X6 X7 X8 X9 X10 X11 X12 X13 b j)
include H

theorem residual_apply (r : Fin 512) (n : Fin 1024) : residual ya x2 x4 x5 x10 x13 (ix2 r n)
    = val_main_v253 (F := Ideal) X0 X1 X2 X3 X4 X5 X6 X7 X8 X11 (ix3 b (row j r) n) := by
  have hY : val_main_v250 (F := Ideal) X1 X2 X3 X4 X5 X6 X7 X11 (ix3 b (row j r) n)
      = ∑ k : Fin 1024, val_main_v249 (F := Ideal) X1 X2 X3 X4 X5 X6 X7 (ix3 b (row j r) k) * X11 (ix2 k n) := by
    rw [val_main_v250_apply]
    refine Finset.sum_congr rfl fun k _ => congrArg₂ (· * ·) (congrArg _ (funext fun a => ?_)) (congrArg _ (funext fun a => ?_))
    · match a with
      | ⟨0, _⟩ => rfl
      | ⟨1, _⟩ => rfl
      | ⟨2, _⟩ => rfl
    · match a with
      | ⟨0, _⟩ => rfl
      | ⟨1, _⟩ => rfl
  obtain ⟨c1, c2, c3⟩ := concat_apply (X1 := X1) (X2 := X2) (X3 := X3) (X4 := X4) (X5 := X5) (X6 := X6) (X7 := X7) (b := b) (row j r)
  rw [sum_parts] at hY
  simp only [c1, c2, c3] at hY
  unfold val_main_v253 val_main_v252 residual
  generalize val_main_v250 (F := Ideal) X1 X2 X3 X4 X5 X6 X7 X11 = Y at *
  pointwise [k0_pay2872, k0_pay2870, k0_pay2871, val_main_v251, val_main_v0]
  simp only [H.ya, H.x2, H.x4, H.x5, H.x10, H.x13, hY]

theorem entering_apply (r : Fin 512) (k : Fin 1024) : entering ya x2 x4 x5 x10 x11 x13 (ix2 r k)
    = val_main_v272 (F := Ideal) X0 X1 X2 X3 X4 X5 X6 X7 X8 X9 X11 (ix3 b (row j r) k) := by
  have hA := residual_apply H r
  unfold entering k0_pay2873
  unfold residual at hA
  generalize k0_pay2872 (F := Ideal) _ _ _ _ _ _ _ _ = A at *
  unfold val_main_v272 val_main_v270 val_main_v266 val_main_v263 val_main_v262 val_main_v261 val_main_v260 val_main_v258 val_main_v256 val_main_v255 val_main_v254
  generalize val_main_v253 (F := Ideal) X0 X1 X2 X3 X4 X5 X6 X7 X8 X11 = R at *
  pointwise [k0_pay2874, val_main_v271, val_main_v269, val_main_v268, val_main_v267, val_main_v265, val_main_v264,
    val_main_v259, val_main_v257, val_main_v2, val_main_v1, val_main_cst_4, val_main_cst_5, val_main_cst_6, val_main_cst_7]
  simp only [hA, H.x10, H.x11]

omit H in
theorem tile_apply {m n : ℕ} (x : Vec Ideal ⟨3, ![1, m, n]⟩ .bf16) (off : Fin 3 → ℕ) (h) (o1 o2 : ℕ) (e : off = ![0, o1, o2])
    (hm : o1 + 1024 ≤ m) (hn : o2 + 1024 ≤ n) (i k : Fin 1024) :
    weights x off h (ix2 i k)
      = x (ix3 0 ⟨o1 + i.val, by omega⟩ ⟨o2 + k.val, by omega⟩) := by
  subst e
  refine (ValueIdx.shapeCast_1ab_ab_apply _ _ i k).trans ?_
  refine congrArg x (funext fun a => Fin.ext ?_)
  match a with
  | ⟨0, _⟩ => rfl
  | ⟨1, _⟩ => show o1 + 1 * i.val = o1 + i.val; omega
  | ⟨2, _⟩ => show o2 + 1 * k.val = o2 + k.val; omega

omit H in
theorem quarter_apply (G : FVec Ideal S512x1024 .bf16) (o : ℕ) (ho : o + 1024 ≤ 4096) (h1) (h2) (r : Fin 512) (n : Fin 1024) :
    quarter G x14 x15 o h1 h2 (ix2 r n)
      = ∑ k : Fin 1024, max (∑ i : Fin 1024, G (ix2 r i) * x14 (ix3 0 i ⟨o + k.val, by omega⟩)) 0
          * max (∑ i : Fin 1024, G (ix2 r i) * x14 (ix3 0 i ⟨o + k.val, by omega⟩)) 0 * x15 (ix3 0 ⟨o + k.val, by omega⟩ n) := by
  unfold quarter
  have hw1 := fun i k => tile_apply (n := 4096) x14 ![0, 0, o] h1 0 o rfl (by omega) (by omega) i k
  have hw2 := fun k n => tile_apply (m := 4096) x15 ![0, o, 0] h2 o 0 rfl (by omega) (by omega) k n
  generalize weights x14 ![0, 0, o] h1 = W1 at *
  generalize weights x15 ![0, o, 0] h2 = W2 at *
  pointwise
  simp only [hw1, hw2, zero_add]

theorem second_apply (r : Fin 512) (n : Fin 1024) :
    second (residual ya x2 x4 x5 x10 x13) (entering ya x2 x4 x5 x10 x11 x13) x10 x14 x15 (ix2 r n)
      = val_main_v279 (F := Ideal) X0 X1 X2 X3 X4 X5 X6 X7 X8 X9 X11 X12 X13 (ix3 b (row j r) n) := by
  have hA := residual_apply H r
  have hG := entering_apply H r
  have hH : ∀ k : Fin 4096, val_main_v275 (F := Ideal) X0 X1 X2 X3 X4 X5 X6 X7 X8 X9 X11 X12 (ix3 b (row j r) k)
      = max (∑ i : Fin 1024, val_main_v272 (F := Ideal) X0 X1 X2 X3 X4 X5 X6 X7 X8 X9 X11 (ix3 b (row j r) i) * X12 (ix2 i k)) 0
        * max (∑ i : Fin 1024, val_main_v272 (F := Ideal) X0 X1 X2 X3 X4 X5 X6 X7 X8 X9 X11 (ix3 b (row j r) i) * X12 (ix2 i k)) 0 := by
    intro k
    have h : val_main_v273 (F := Ideal) X0 X1 X2 X3 X4 X5 X6 X7 X8 X9 X11 X12 (ix3 b (row j r) k)
        = ∑ i : Fin 1024, val_main_v272 (F := Ideal) X0 X1 X2 X3 X4 X5 X6 X7 X8 X9 X11 (ix3 b (row j r) i) * X12 (ix2 i k) := by
      rw [val_main_v273_apply]
      refine Finset.sum_congr rfl fun k _ => congrArg₂ (· * ·) (congrArg _ (funext fun a => ?_)) (congrArg _ (funext fun a => ?_))
      · match a with
        | ⟨0, _⟩ => rfl
        | ⟨1, _⟩ => rfl
        | ⟨2, _⟩ => rfl
      · match a with
        | ⟨0, _⟩ => rfl
        | ⟨1, _⟩ => rfl
    rw [← h]
    unfold val_main_v275 val_main_v274
    generalize val_main_v273 (F := Ideal) X0 X1 X2 X3 X4 X5 X6 X7 X8 X9 X11 X12 = Y
    pointwise [val_main_call2_v0, val_main_call2_cst]
  have hY : val_main_v276 (F := Ideal) X0 X1 X2 X3 X4 X5 X6 X7 X8 X9 X11 X12 X13 (ix3 b (row j r) n)
      = ∑ k : Fin 4096, val_main_v275 (F := Ideal) X0 X1 X2 X3 X4 X5 X6 X7 X8 X9 X11 X12 (ix3 b (row j r) k) * X13 (ix2 k n) := by
    rw [val_main_v276_apply]
    refine Finset.sum_congr rfl fun k _ => congrArg₂ (· * ·) (congrArg _ (funext fun a => ?_)) (congrArg _ (funext fun a => ?_))
    · match a with
      | ⟨0, _⟩ => rfl
      | ⟨1, _⟩ => rfl
      | ⟨2, _⟩ => rfl
    · match a with
      | ⟨0, _⟩ => rfl
      | ⟨1, _⟩ => rfl
  simp only [hH] at hY
  rw [sum_quarters] at hY
  generalize residual ya x2 x4 x5 x10 x13 = A at *
  generalize entering ya x2 x4 x5 x10 x11 x13 = G at *
  have q0 := quarter_apply (x14 := x14) (x15 := x15) G 0 (by omega) inb_S1x1024x4096_S1x1024x1024_0_0_0 inb_S1x4096x1024_S1x1024x1024_0_0_0 r n
  have q1 := quarter_apply (x14 := x14) (x15 := x15) G 1024 (by omega) inb_S1x1024x4096_S1x1024x1024_0_0_1024 inb_S1x4096x1024_S1x1024x1024_0_1024_0 r n
  have q2 := quarter_apply (x14 := x14) (x15 := x15) G 2048 (by omega) inb_S1x1024x4096_S1x1024x1024_0_0_2048 inb_S1x4096x1024_S1x1024x1024_0_2048_0 r n
  have q3 := quarter_apply (x14 := x14) (x15 := x15) G 3072 (by omega) inb_S1x1024x4096_S1x1024x1024_0_0_3072 inb_S1x4096x1024_S1x1024x1024_0_3072_0 r n
  simp only [hG, H.x14, H.x15, zero_add] at q0 q1 q2 q3
  rw [← q0, ← q1, ← q2, ← q3] at hY
  unfold val_main_v279 val_main_v278 second
  generalize val_main_v276 (F := Ideal) X0 X1 X2 X3 X4 X5 X6 X7 X8 X9 X11 X12 X13 = Y at *
  generalize val_main_v253 (F := Ideal) X0 X1 X2 X3 X4 X5 X6 X7 X8 X11 = R at *
  generalize quarter G x14 x15 0 _ _ = Q0 at *
  generalize quarter G x14 x15 1024 _ _ = Q1 at *
  generalize quarter G x14 x15 2048 _ _ = Q2 at *
  generalize quarter G x14 x15 3072 _ _ = Q3 at *
  pointwise [val_main_v277, val_main_v3]
  simp only [hA, hY, H.x10]

theorem mlpOut_apply (r : Fin 512) (n : Fin 1024) : mlpOut ya x2 x4 x5 x10 x11 x12 x13 x14 x15 (ix3 0 r n)
    = val_main_v292 (F := Ideal) X0 X1 X2 X3 X4 X5 X6 X7 X8 X9 X10 X11 X12 X13 (ix3 b (row j r) n) := by
  have hB := second_apply H r
  rw [mlpOut_eq]
  generalize second (residual ya x2 x4 x5 x10 x13) (entering ya x2 x4 x5 x10 x11 x13) x10 x14 x15 = B at *
  unfold val_main_v292 val_main_v289 val_main_v288 val_main_v287 val_main_v286 val_main_v284 val_main_v282 val_main_v281 val_main_v280
  generalize val_main_v279 (F := Ideal) X0 X1 X2 X3 X4 X5 X6 X7 X8 X9 X11 X12 X13 = R at *
  pointwise [normed, k0_pay2877, val_main_v291, val_main_v290, val_main_v285, val_main_v283, val_main_cst_8, val_main_cst_9, val_main_cst_10]
  simp only [hB, H.x12]

end Cert.Proof.Mlp

end
-- ==== Proof.ConvIdeal.lean ====
/- The convolution tile over the extended reals: each of its rows is the sum of 31 products of a weight and a row of the
   sequence, whatever the order the body takes them in. -/
module

public import proofs.«01_k».proof.Proof.Conv
public import Idealize.ShloMosaic.Lib.Pointwise
public import Idealize.ShloMosaic.Lib.KernelVsHost
public import Idealize.ShloMosaic.Lib.ValueLayout
public import Idealize.ShloMosaic.Lib.ValueLayoutCasts

@[expose] public section

set_option maxRecDepth 16384

noncomputable section

namespace Cert.Proof.Conv

open Idealize.ShloMosaic Cert.KernelIdeal Cert.KernelIdeal.Gen

/-- Row `p - 16` of a sequence, zero off it. -/
def rowAt (X : Vec Ideal S1x2048x256 .f32) (p : ℕ) (l : Fin 256) : EReal :=
  if h : 16 ≤ p ∧ p - 16 < 2048 then X (ix3 0 ⟨p - 16, h.2⟩ l) else 0

theorem zeroTile_apply (s : Fin 8) (l : Fin 256) : zeroTile (F := Ideal) (ix2 s l) = 0 := by
  pointwise [zeroTile]

theorem tile8_apply (X : Vec Ideal S1x2048x256 .f32) (off : Fin 3 → ℕ) (h) (n : ℕ) (e : off = ![0, n, 0])
    (hn : n + 8 ≤ 2048) (s : Fin 8) (l : Fin 256) :
    tile8 X off h (ix2 s l) = X (ix3 0 ⟨n + s.val, by omega⟩ l) := by
  subst e
  unfold tile8
  refine (ValueIdx.shapeCast_1ab_ab_apply _ _ s l).trans ?_
  rw [View.ld]
  refine congrArg X (funext fun a => Fin.ext ?_)
  match a with
  | ⟨0, _⟩ => rfl
  | ⟨1, _⟩ => show n + 1 * s.val = n + s.val; omega
  | ⟨2, _⟩ => show 0 + 1 * l.val = l.val; omega

/-- A tile of eight rows from row `n` of the sequence on is rows `p …` with sixteen more. -/
theorem tile8_rowAt (X : Vec Ideal S1x2048x256 .f32) (off : Fin 3 → ℕ) (h) (n p : ℕ) (e : off = ![0, n, 0])
    (hn : n + 8 ≤ 2048) (hp : p = n + 16) (s : Fin 8) (l : Fin 256) :
    tile8 X off h (ix2 s l) = rowAt X (p + s.val) l := by
  subst hp
  rw [tile8_apply X off h n e hn]
  unfold rowAt
  rw [dif_pos ⟨by omega, by omega⟩]
  exact congrArg (fun q => X (ix3 0 q l)) (Fin.ext (by show n + s.val = n + 16 + s.val - 16; omega))

theorem rowAt_off (X : Vec Ideal S1x2048x256 .f32) (p : ℕ) (l : Fin 256) (h : p < 16 ∨ 2064 ≤ p) : rowAt X p l = 0 := by
  unfold rowAt
  exact dif_neg (by omega)

theorem tileWord_zero (i : grid0.Coords) :
    Scalar.cmpi .eq (tileWord i) 0#32 = if tileNo i = 0 then 1#1 else 0#1 := by
  rw [tileWord_eq]
  have : ∀ n < 4, Scalar.cmpi .eq (BitVec.ofNat 32 n) 0#32 = if n = 0 then 1#1 else 0#1 := by decide
  exact this _ (tileNo_lt i)

theorem tileWord_three (i : grid0.Coords) :
    Scalar.cmpi .eq (tileWord i) 3#32 = if tileNo i = 3 then 1#1 else 0#1 := by
  rw [tileWord_eq]
  have : ∀ n < 4, Scalar.cmpi .eq (BitVec.ofNat 32 n) 3#32 = if n = 3 then 1#1 else 0#1 := by decide
  exact this _ (tileNo_lt i)

/-- The window's tiles: row `8 m + s` of block `b`'s window of tile number `tileNo i`. -/
theorem winB_apply (i : grid0.Coords) (X : Vec Ideal S1x2048x256 .f32) (b m : ℕ) (hb : b < 16) (hm : m < 8)
    (s : Fin 8) (l : Fin 256) :
    winB i X b m (ix2 s l) = rowAt X (512 * tileNo i + 32 * b + 8 * m + s.val) l := by
  have hT := tileNo_lt i
  unfold winB
  split_ifs with h0 h1 h2 h2
  · rw [tileWord_zero]
    by_cases hz : tileNo i = 0
    · rw [if_pos hz]
      show zeroTile (F := Ideal) (ix2 s l) = _
      rw [zeroTile_apply, rowAt_off _ _ _ (by omega)]
    · rw [if_neg hz]
      show tile8 X _ _ (ix2 s l) = _
      exact tile8_rowAt X _ _ _ _ (off4_eq i ⟨m, h0.2⟩) (by show 512 * tileNo i + 8 * m - 16 + 8 ≤ _; omega)
        (by show _ = 512 * tileNo i + 8 * m - 16 + 16; omega) s l
  · rw [tileWord_three]
    by_cases hz : tileNo i = 3
    · rw [if_pos hz]
      show zeroTile (F := Ideal) (ix2 s l) = _
      rw [zeroTile_apply, rowAt_off _ _ _ (by omega)]
    · rw [if_neg hz]
      show tile8 X _ _ (ix2 s l) = _
      exact tile8_rowAt X _ _ _ _ (off9_eq i ⟨m - 6, h2⟩) (by show min _ _ + 8 ≤ _; omega)
        (by show _ = min (512 * tileNo i + 512 + 8 * (m - 6)) 2040 + 16; omega) s l
  · omega
  · exact tile8_rowAt X _ _ _ _ (off5_eq i ⟨b, h2.1⟩ ⟨m, h2.2⟩ h0)
      (by show 512 * tileNo i + 32 * b + 8 * m - 16 + 8 ≤ _; omega)
      (by show _ = 512 * tileNo i + 32 * b + 8 * m - 16 + 16; omega) s l
  · omega

/-- The same for the first tile's own window. -/
theorem winA_apply (X : Vec Ideal S1x2048x256 .f32) (b m : ℕ) (hb : b < 16) (hm : m < 8) (s : Fin 8) (l : Fin 256) :
    winA X b m (ix2 s l) = rowAt X (32 * b + 8 * m + s.val) l := by
  unfold winA
  split_ifs with h0 h1 h2 h2
  · show zeroTile (F := Ideal) (ix2 s l) = _
    rw [zeroTile_apply, rowAt_off _ _ _ (by omega)]
  · show tile8 X _ _ (ix2 s l) = _
    exact tile8_rowAt X _ _ _ _ (off2_eq ⟨m - 6, h2⟩) (by show 512 + 8 * (m - 6) + 8 ≤ _; omega)
      (by show _ = 512 + 8 * (m - 6) + 16; omega) s l
  · omega
  · exact tile8_rowAt X _ _ _ _ rfl (by omega) (by omega) s l
  · omega

/-- Rows `r …` of two tiles one above the other. -/
theorem shifted_apply (r : ℕ) (hr : r < 8) (a b : FVec Ideal S8x256 .f32) (s : Fin 8) (l : Fin 256) :
    shifted r a b (ix2 s l) = if h : s.val + r < 8 then a (ix2 ⟨s.val + r, h⟩ l) else b (ix2 ⟨s.val + r - 8, by omega⟩ l) := by
  unfold shifted
  by_cases hz : r = 0
  · subst hz
    rw [if_pos rfl, dif_pos (by omega)]
    rfl
  · rw [if_neg hz]
    have rot : ∀ x : FVec Ideal S8x256 .f32, dynamicRotate 0 (BitVec.ofNat 32 (8 - r)) none x rotates_S8x256_d0 (ix2 s l)
        = x (ix2 ⟨(s.val + r) % 8, Nat.mod_lt _ (by omega)⟩ l) := fun x =>
      dynamicRotate_apply 0 _ x _ _ _ (by
        intro b
        match b with
        | ⟨0, _⟩ =>
          have h1 : (BitVec.ofNat 32 (8 - r)).toNat = 8 - r := by rw [BitVec.toNat_ofNat]; omega
          show (s.val + r) % 8 = (s.val + 8 - (BitVec.ofNat 32 (8 - r)).toNat % 8) % 8
          rw [h1]
          omega
        | ⟨1, _⟩ => rfl)
    have hc : ∀ r < 8, ∀ s < 8, IntOp.cmpi .slt (BitVec.ofNat 32 s) (BitVec.ofNat 32 (8 - r)) = if s + r < 8 then 1#1 else 0#1 := by
      decide
    have hs : cmpi .slt (iota .tc S8x256 32 [0] iota_S8x256_d0_w32) (broadcast S8x256 (BitVec.ofNat 32 (8 - r))) (ix2 s l)
        = if s.val + r < 8 then 1#1 else 0#1 := by
      rw [← hc r hr s.val s.isLt]
      pointwise
    show (if _ = 1#1 then dynamicRotate 0 (BitVec.ofNat 32 (8 - r)) none a rotates_S8x256_d0 (ix2 s l)
      else dynamicRotate 0 (BitVec.ofNat 32 (8 - r)) none b rotates_S8x256_d0 (ix2 s l)) = _
    rw [hs, rot a, rot b]
    by_cases h : s.val + r < 8
    · rw [if_pos h, if_pos rfl, dif_pos h]
      exact congrArg (fun q => a (ix2 q l)) (Fin.ext (Nat.mod_eq_of_lt h))
    · rw [if_neg h, if_neg (by decide), dif_neg h]
      exact congrArg (fun q => b (ix2 q l)) (Fin.ext (by show (s.val + r) % 8 = s.val + r - 8; omega))

/-- The order of the taps: tap `n` takes weight `tapNo n`, each weight once. -/
def tapNo (n : Fin 31) : Fin 31 := ⟨(n.val + 1) / 4 + 8 * ((n.val + 1) % 4) - 1, by omega⟩

theorem tapNo_bijective : Function.Bijective tapNo := by decide

/-- A row of an output tile: the bias and the 31 products. -/
theorem blockTile_apply (tl : ℕ → FVec Ideal S8x256 .f32) (w : ℕ → FVec Ideal S8x256 .f32) (bias : FVec Ideal S8x256 .f32)
    (R : ℕ → EReal) (j : ℕ) (hj : j < 4) (s : Fin 8) (l : Fin 256)
    (ht : ∀ m < 8, ∀ q : Fin 8, tl m (ix2 q l) = R (8 * m + q.val)) :
    blockTile tl w bias j (ix2 s l)
      = (∑ k : Fin 31, w k.val (ix2 s l) * R (8 * j + s.val + k.val + 1)) + bias (ix2 s l) := by
  have step : ∀ n < 31, shifted ((n + 1) / 4) (tl (j + (n + 1) % 4)) (tl (j + (n + 1) % 4 + 1)) (ix2 s l)
      = R (8 * j + s.val + ((n + 1) / 4 + 8 * ((n + 1) % 4) - 1) + 1) := by
    intro n hn
    rw [shifted_apply _ (by omega)]
    split_ifs with h
    · rw [ht _ (by omega)]
      exact congrArg R (by show 8 * (j + (n + 1) % 4) + (s.val + (n + 1) / 4) = _; omega)
    · rw [ht _ (by omega)]
      exact congrArg R (by show 8 * (j + (n + 1) % 4 + 1) + (s.val + (n + 1) / 4 - 8) = _; omega)
  have all : ∀ n ≤ 31, taps tl w bias j n (ix2 s l)
      = bias (ix2 s l) + ∑ k : Fin n, w ((k.val + 1) / 4 + 8 * ((k.val + 1) % 4) - 1) (ix2 s l)
          * R (8 * j + s.val + ((k.val + 1) / 4 + 8 * ((k.val + 1) % 4) - 1) + 1) := by
    intro n
    induction n with
    | zero => intro _; rw [Fin.sum_univ_zero, add_zero]; rfl
    | succ n ih =>
      intro hn
      rw [Fin.sum_univ_castSucc, ← add_assoc]
      exact congrArg₂ (fun x y : EReal => x + y) (ih (by omega))
        (congrArg (fun y : EReal => w ((n + 1) / 4 + 8 * ((n + 1) % 4) - 1) (ix2 s l) * y) (step n (by omega)))
  unfold blockTile
  rw [all 31 (Nat.le_refl _), add_comm]
  exact congrArg (· + bias (ix2 s l)) (Fintype.sum_bijective tapNo tapNo_bijective _
    (fun k : Fin 31 => w k.val (ix2 s l) * R (8 * j + s.val + k.val + 1)) (fun k => rfl))

/-- A row of the 128 a quarter holds. -/
theorem convRows_apply (win : ℕ → ℕ → FVec Ideal S8x256 .f32) (w : ℕ → FVec Ideal S8x256 .f32) (bias : FVec Ideal S8x256 .f32)
    (y : Fin 128) (l : Fin 256) :
    convRows win w bias (ix2 y l)
      = blockTile (win (y.val / 8 / 4)) w bias (y.val / 8 % 4) (ix2 ⟨y.val % 8, Nat.mod_lt _ (by omega)⟩ l) := by
  have h : Shape.Concatenates ((List.ofFn fun n : Fin 16 => (⟨S8x256, blockTile (win (n.val / 4)) w bias (n.val % 4)⟩
      : (s : Shape) × (s.Idx → EReal))).map (·.1)) S128x256 0 :=
    concatenates_S8x256_S8x256_S8x256_S8x256_S8x256_S8x256_S8x256_S8x256_S8x256_S8x256_S8x256_S8x256_S8x256_S8x256_S8x256_S8x256_S128x256_d0
  refine (?_ : _ = concatenate S128x256 0 (List.ofFn fun n : Fin 16 =>
    (⟨S8x256, blockTile (win (n.val / 4)) w bias (n.val % 4)⟩ : (s : Shape) × (s.Idx → EReal))) h (ix2 y l)).trans ?_
  · rfl
  · refine (concatenate_ofFn_apply (t := S128x256) 0 (fun n : Fin 16 => blockTile (win (n.val / 4)) w bias (n.val % 4)) h rfl 8 rfl
      (ix2 y l) ⟨y.val / 8, by omega⟩ rfl (ix2 ⟨y.val % 8, Nat.mod_lt _ (by omega)⟩ l) rfl ?_).trans rfl
    intro b hb
    match b with
    | ⟨0, _⟩ => exact absurd rfl hb
    | ⟨1, _⟩ => rfl

end Cert.Proof.Conv

end
-- ==== Proof.RefConv.lean ====
/- The reference's convolution at a point: the sum of its 31 shifted products and the bias, over the extended reals. -/
module

public import proofs.«01_k».proof.Proof.Gen.ReferenceIdeal.Read
public import Idealize.ShloMosaic.Lib.Pointwise
public import Idealize.ShloMosaic.Lib.Tactic

@[expose] public section

set_option maxRecDepth 16384

noncomputable section

namespace Cert.Proof.Conv

open Idealize.ShloMosaic Idealize.ShloMosaic.Tactic Cert.ReferenceIdeal Cert.ReferenceIdeal.Gen Cert.ReferenceIdeal.Read

theorem slicesW (k : ℕ) (h : k < 31) : S31x256.Slices ![k, 0] S1x256 := by
  refine ⟨rfl, fun a => ?_⟩
  match a with
  | ⟨0, _⟩ => exact h
  | ⟨1, _⟩ => exact Nat.le_refl 256

theorem slicesU (k : ℕ) (h : k < 31) : S16x2078x256.Slices ![0, k, 0] S16x2048x256 := by
  refine ⟨rfl, fun a => ?_⟩
  match a with
  | ⟨0, _⟩ => exact Nat.le_refl 16
  | ⟨1, _⟩ => show k + 2048 ≤ 2078; omega
  | ⟨2, _⟩ => exact Nat.le_refl 256

/-- Product `k` of the convolution: row `k` of the weights times the padded sequence from row `k` on. -/
def prodK (X1 : FVec Ideal S16x2048x256 .f32) (X4 : FVec Ideal S31x256 .f32) (k : ℕ) (h : k < 31) :
    FVec Ideal S16x2048x256 .f32 :=
  mulf (broadcastInDim S16x2048x256 ![0, 1, 2] bcast_S1x1x256_S16x2048x256_0_1_2
      (broadcastInDim S1x1x256 ![2] bcast_S256_S1x1x256_2
        (shapeCast S256 (extractStridedSlice S1x256 ![k, 0] X4 (slicesW k h)) shapeCasts_S1x256_S256)))
    (extractStridedSlice S16x2048x256 ![0, k, 0] (val_main_v4 (F := Ideal) X1) (slicesU k h))

/-- The first `n + 1` products summed. -/
def sumK (X1 : FVec Ideal S16x2048x256 .f32) (X4 : FVec Ideal S31x256 .f32) : (n : ℕ) → n < 31 → FVec Ideal S16x2048x256 .f32
  | 0, h => prodK X1 X4 0 h
  | n + 1, h => addf (sumK X1 X4 n (by omega)) (prodK X1 X4 (n + 1) h)

/-- The reference's sum is that of all 31. -/
theorem ref_sum (X1 : FVec Ideal S16x2048x256 .f32) (X4 : FVec Ideal S31x256 .f32) :
    val_main_v220 (F := Ideal) X1 X4 = sumK X1 X4 30 (by omega) := by
  sl_kernel_rfl

/-- Row `p` of the padded sequence: row `p - 15` of the sequence, zero off it. -/
def padded (X1 : FVec Ideal S16x2048x256 .f32) (b : Fin 16) (p : ℕ) (l : Fin 256) : EReal :=
  if h : 15 ≤ p ∧ p - 15 < 2048 then X1 (ix3 b ⟨p - 15, h.2⟩ l) else 0

theorem pad_at (X1 : FVec Ideal S16x2048x256 .f32) (b : Fin 16) (p : Fin 2078) (l : Fin 256) :
    val_main_v4 (F := Ideal) X1 (ix3 b p l) = padded X1 b p.val l := by
  pointwise [val_main_v4, val_main_call0_v0, val_main_c]
  unfold padded
  refine dite_congr rfl (fun _ => rfl) fun _ => ?_
  show ((((0#32 : BitVec 32).toInt : ℝ) : EReal)) = 0
  norm_num

theorem prodK_apply (X1 : FVec Ideal S16x2048x256 .f32) (X4 : FVec Ideal S31x256 .f32) (k : ℕ) (h : k < 31)
    (b : Fin 16) (r : Fin 2048) (l : Fin 256) :
    prodK X1 X4 k h (ix3 b r l) = X4 (ix2 ⟨k, h⟩ l) * padded X1 b (r.val + k) l := by
  have hp := pad_at X1 b ⟨r.val + k, by omega⟩ l
  unfold prodK
  generalize val_main_v4 (F := Ideal) X1 = P at hp ⊢
  rw [← hp]
  pointwise
  exact congrArg (fun q => X4 (ix2 ⟨k, h⟩ l) * P (ix3 b q l)) (Fin.ext (Nat.add_comm k r.val))

theorem sumK_apply (X1 : FVec Ideal S16x2048x256 .f32) (X4 : FVec Ideal S31x256 .f32) (b : Fin 16) (r : Fin 2048) (l : Fin 256) :
    ∀ (n : ℕ) (h : n < 31), sumK X1 X4 n h (ix3 b r l)
      = ∑ k : Fin (n + 1), X4 (ix2 ⟨k.val, by omega⟩ l) * padded X1 b (r.val + k.val) l
  | 0, h => by
    rw [Fin.sum_univ_one]
    exact prodK_apply X1 X4 0 h b r l
  | n + 1, h => by
    rw [Fin.sum_univ_castSucc]
    exact congrArg₂ (fun x y : EReal => x + y) (sumK_apply X1 X4 b r l n (by omega)) (prodK_apply X1 X4 (n + 1) h b r l)

/-- The reference's convolution at a point. -/
theorem ref_conv (X1 : FVec Ideal S16x2048x256 .f32) (X4 : FVec Ideal S31x256 .f32) (X5 : FVec Ideal S256 .f32)
    (b : Fin 16) (r : Fin 2048) (l : Fin 256) :
    val_main_v223 (F := Ideal) X1 X4 X5 (ix3 b r l)
      = (∑ k : Fin 31, X4 (ix2 k l) * padded X1 b (r.val + k.val) l) + X5 (ix1 l) := by
  have h := sumK_apply X1 X4 b r l 30 (by omega)
  rw [← ref_sum] at h
  generalize hv : val_main_v220 (F := Ideal) X1 X4 = v at h
  have e : val_main_v222 (F := Ideal) X5 (ix3 b r l) = X5 (ix1 l) := by pointwise [val_main_v222, val_main_v221]
  unfold val_main_v223
  rw [hv]
  exact congrArg₂ (fun x y : EReal => x + y) h e

end Cert.Proof.Conv

end
-- ==== Proof.YaIdeal.lean ====
/- A row of the convolution tile over the extended reals: the reference's conformer row, normed and gated. -/
module

public import proofs.«01_k».proof.Proof.ConvIdeal
public import proofs.«01_k».proof.Proof.RefConv
public import proofs.«01_k».proof.Proof.Body

@[expose] public section

set_option maxRecDepth 16384

noncomputable section

namespace Cert.Proof.Conv

open Idealize.ShloMosaic Idealize.ShloMosaic.Tactic Cert.KernelIdeal Cert.KernelIdeal.Gen Cert.ReferenceIdeal.Read

/-- The norm and the gate of a row depend on that row of the convolution alone. -/
theorem gate_apply (C : FVec Ideal S128x256 .f32) (lg lb : Vec Ideal S1x256 .f32) (X1 : FVec Ideal S16x2048x256 .f32)
    (X4 : FVec Ideal S31x256 .f32) (X5 X6 X7 : FVec Ideal S256 .f32) (b : Fin 16) (r : Fin 2048) (y : Fin 128)
    (hC : ∀ l : Fin 256, C (ix2 y l) = val_main_v223 (F := Ideal) X1 X4 X5 (ix3 b r l))
    (hg : ∀ l : Fin 256, lg (ix2 0 l) = X6 (ix1 l)) (hb : ∀ l : Fin 256, lb (ix2 0 l) = X7 (ix1 l)) (l : Fin 256) :
    k0_pay1 (scaled (centred C)) lg lb (ix3 0 y l) = val_main_v248 (F := Ideal) X1 X4 X5 X6 X7 (ix3 b r l) := by
  have h1 : ∀ l : Fin 256, centred C (ix2 y l) = val_main_v229 (F := Ideal) X1 X4 X5 (ix3 b r l) := by
    intro l
    unfold val_main_v229 val_main_v228 val_main_v227 val_main_v225 val_main_v224
    generalize val_main_v223 (F := Ideal) X1 X4 X5 = R at *
    pointwise [centred, val_main_v226, val_main_cst, val_main_cst_0]
    simp only [hC]
  have e : val_main_v236 (F := Ideal) X1 X4 X5 = val_main_v229 (F := Ideal) X1 X4 X5 := rfl
  have h2 : ∀ l : Fin 256, scaled (centred C) (ix2 y l) = val_main_v241 (F := Ideal) X1 X4 X5 (ix3 b r l) := by
    intro l
    unfold val_main_v241 val_main_v240 val_main_v239 val_main_v238 val_main_v234 val_main_v232 val_main_v231 val_main_v230
    rw [e]
    generalize val_main_v229 (F := Ideal) X1 X4 X5 = R at *
    generalize centred C = D at *
    pointwise [scaled, val_main_v233, val_main_v237, val_main_cst_1, val_main_cst_2, val_main_cst_3]
    simp only [h1]
  have h3 : ∀ l : Fin 256, scaled (centred C) (ix2 y l) * lg (ix2 0 l) + lb (ix2 0 l) = val_main_v247 (F := Ideal) X1 X4 X5 X6 X7 (ix3 b r l) := by
    intro l
    unfold val_main_v247 val_main_v244
    generalize val_main_v241 (F := Ideal) X1 X4 X5 = R at *
    generalize scaled (centred C) = D at *
    pointwise [val_main_v242, val_main_v243, val_main_v245, val_main_v246]
    simp only [h2, hg, hb]
  have h3 := h3 l
  unfold val_main_v248 val_main_call1_v5 val_main_call1_v4 val_main_call1_v3 val_main_call1_v2 val_main_call1_v1 val_main_call1_v0
  generalize val_main_v247 (F := Ideal) X1 X4 X5 X6 X7 = R at *
  generalize scaled (centred C) = D at *
  pointwise [k0_pay1, val_main_call1_cst, val_main_call1_cst_0]
  rw [zero_sub, h3]

/-- The 31 products of a row, on the tiles of the body and on the padded sequence of the reference. -/
theorem window_row (X : Vec Ideal S1x2048x256 .f32) (X1 : FVec Ideal S16x2048x256 .f32) (b : Fin 16)
    (h : ∀ (r : Fin 2048) (l : Fin 256), X (ix3 0 r l) = X1 (ix3 b r l)) (p q : ℕ) (e : p = q + 1) (l : Fin 256) :
    rowAt X p l = padded X1 b q l := by
  subst e
  unfold rowAt padded
  by_cases hq : 15 ≤ q ∧ q - 15 < 2048
  · rw [dif_pos hq, dif_pos (by omega), h]
    exact congrArg (fun r => X1 (ix3 b r l)) (Fin.ext (by show q + 1 - 16 = q - 15; omega))
  · rw [dif_neg hq, dif_neg (by omega)]

theorem wRow_apply (x6 : Vec Ideal S31x256 .f32) (k : Fin 31) (s : Fin 8) (l : Fin 256) : wRow x6 k.val (ix2 s l) = x6 (ix2 k l) := by
  unfold wRow
  rw [dif_pos k.isLt]
  refine (ValueIdx.shapeCast_1ab_ab_apply _ _ s l).trans ?_
  pointwise [k0_pay2867]

theorem bias_apply (x7 : Vec Ideal S1x256 .f32) (s : Fin 8) (l : Fin 256) : k0_pay2868 (View.ld x7 rowBox) (ix2 s l) = x7 (ix2 0 l) := by
  pointwise [k0_pay2868]

/-- A tile's row is the reference's row, when the windows hold the sequence from row `512 * T` on. -/
theorem yaOf_apply (win : ℕ → ℕ → FVec Ideal S8x256 .f32) (X : Vec Ideal S1x2048x256 .f32) (x6 : Vec Ideal S31x256 .f32)
    (x7 x8 x9 : Vec Ideal S1x256 .f32) (X1 : FVec Ideal S16x2048x256 .f32) (X4 : FVec Ideal S31x256 .f32)
    (X5 X6 X7 : FVec Ideal S256 .f32) (b : Fin 16) (T : Fin 4)
    (hwin : ∀ c m, c < 16 → m < 8 → ∀ (s : Fin 8) (l : Fin 256), win c m (ix2 s l) = rowAt X (512 * T.val + 32 * c + 8 * m + s.val) l)
    (hX : ∀ (r : Fin 2048) (l : Fin 256), X (ix3 0 r l) = X1 (ix3 b r l))
    (h6 : ∀ (k : Fin 31) (l : Fin 256), x6 (ix2 k l) = X4 (ix2 k l)) (h7 : ∀ l : Fin 256, x7 (ix2 0 l) = X5 (ix1 l))
    (h8 : ∀ l : Fin 256, x8 (ix2 0 l) = X6 (ix1 l)) (h9 : ∀ l : Fin 256, x9 (ix2 0 l) = X7 (ix1 l)) (y : Fin 512) (l : Fin 256) :
    yaOf win x6 x7 x8 x9 (ix3 0 y l) = val_main_v248 (F := Ideal) X1 X4 X5 X6 X7 (ix3 b ⟨T.val * 512 + y.val, by omega⟩ l) := by
  refine gate_apply (convRows (fun c m => win (4 * (y.val / 128) + c) m) (wRow x6) (k0_pay2868 (View.ld x7 rowBox)))
    (View.ld x8 rowBox) (View.ld x9 rowBox) X1 X4 X5 X6 X7 b ⟨T.val * 512 + y.val, by omega⟩ ⟨y.val % 128, Nat.mod_lt _ (by omega)⟩
    (fun l => ?_) (fun l => ?_) (fun l => ?_) l
  · rw [convRows_apply, ref_conv]
    have hq : (y.val % 128) / 8 / 4 < 4 := by omega
    refine (blockTile_apply _ _ _ (fun p => rowAt X (512 * T.val + 32 * (4 * (y.val / 128) + (y.val % 128) / 8 / 4) + p) l) _ (by omega) _ l
      (fun m hm q => ?_)).trans ?_
    · exact (hwin _ m (by omega) hm q l).trans (congrArg (fun p => rowAt X p l) (by
        show 512 * T.val + 32 * (4 * (y.val / 128) + y.val % 128 / 8 / 4) + 8 * m + q.val
          = 512 * T.val + 32 * (4 * (y.val / 128) + y.val % 128 / 8 / 4) + (8 * m + q.val)
        omega))
    · refine congrArg₂ (· + ·) (Finset.sum_congr rfl fun k _ => congrArg₂ (· * ·) ((wRow_apply x6 k _ l).trans (h6 k l)) ?_)
        ((bias_apply x7 _ l).trans (h7 l))
      exact window_row X X1 b hX _ _ (by simp only; omega) l
  · exact (show View.ld x8 rowBox (ix2 0 l) = x8 (ix2 0 l) from by pointwise).trans (h8 l)
  · exact (show View.ld x9 rowBox (ix2 0 l) = x9 (ix2 0 l) from by pointwise).trans (h9 l)

end Cert.Proof.Conv

end
-- ==== Proof.ConvOut.lean ====
/- The second half of the layer as a whole: the array the pipeline writes is the reference's result. -/
module

public import proofs.«01_k».proof.Proof.Region
public import proofs.«01_k».proof.Proof.MlpIdeal
public import proofs.«01_k».proof.Proof.YaIdeal
public import proofs.«01_k».proof.Proof.Gen.ReferenceIdeal.Run

@[expose] public section

set_option maxRecDepth 16384

noncomputable section

namespace Cert.Proof.ConvOut

open Idealize.ShloMosaic Cert.KernelIdeal Cert.KernelIdeal.Gen Cert.ReferenceIdeal.Read Cert.Proof.Conv Cert.Proof.Mlp
open Idealize.ShloMosaic.Tactic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The batch and the quarter of its rows a grid point takes. -/
abbrev bOf (t : Fin cfg0.N) : Fin 16 := ⟨t.val / 4, by have := t.isLt; have : cfg0.N = 64 := N_0; omega⟩
abbrev jOf (t : Fin cfg0.N) : Fin 4 := ⟨t.val % 4, by omega⟩

/-- The batch whose tile a grid point prepares: that of the next point, if there is one. -/
abbrev nextOf (t : Fin cfg0.N) : Fin 16 := ⟨min ((t.val + 1) / 4) 15, by omega⟩

theorem coords_eq : ∀ t : Fin cfg0.N, tileNo (grid0.coords t) = (t.val + 1) % 4 := (by decide +kernel : ∀ t : Fin grid0.N, _)

abbrev X0 : FVec Ideal S16x2048x1024 .f32 := m ((c : Thread nD τ).loc main_arg0)
abbrev X1 : FVec Ideal S16x2048x256 .f32 := m ((c : Thread nD τ).loc main_arg1)
abbrev X2 : FVec Ideal S16x2048x512 .f32 := m ((c : Thread nD τ).loc main_arg2)
abbrev X3 : FVec Ideal S16x2048x256 .f32 := m ((c : Thread nD τ).loc main_arg3)
abbrev X4 : FVec Ideal S31x256 .f32 := m ((c : Thread nD τ).loc main_arg4)
abbrev X5 : FVec Ideal S256 .f32 := m ((c : Thread nD τ).loc main_arg5)
abbrev X6 : FVec Ideal S256 .f32 := m ((c : Thread nD τ).loc main_arg6)
abbrev X7 : FVec Ideal S256 .f32 := m ((c : Thread nD τ).loc main_arg7)
abbrev X8 : FVec Ideal S16x6x1024 .f32 := m ((c : Thread nD τ).loc main_arg8)
abbrev X9 : FVec Ideal S1024 .f32 := m ((c : Thread nD τ).loc main_arg9)
abbrev X10 : FVec Ideal S1024 .f32 := m ((c : Thread nD τ).loc main_arg10)
abbrev X11 : FVec Ideal S1024x1024 .f32 := m ((c : Thread nD τ).loc main_arg11)
abbrev X12 : FVec Ideal S1024x4096 .f32 := m ((c : Thread nD τ).loc main_arg12)
abbrev X13 : FVec Ideal S4096x1024 .f32 := m ((c : Thread nD τ).loc main_arg13)

theorem idx_in0 : ∀ t : Fin cfg0.N, win0_0.index t = ![t.val / 4, t.val % 4, 0] := (by decide +kernel : ∀ t : Fin grid0.N, _)

theorem blk0 (t : Fin cfg0.N) (p1 : Fin 512) (p2 : Fin 1024) : iblk m c 0 t (ix3 0 p1 p2) = X0 m c (ix3 (bOf t) (row (jOf t) p1) p2) := by
  unfold iblk
  rw [show V m c (Pipeline.arrRef spec0 0) = _ from V_main_arg0 m c, View.read_apply]
  have e := congrFun (idx_in0 t)
  refine congrArg (X0 m c) (funext fun a => Fin.ext ?_)
  match a with
  | ⟨0, _⟩ => show win0_0.index t 0 * 1 + 1 * 0 = t.val / 4; rw [e 0]; show t.val / 4 * 1 + 1 * 0 = _; omega
  | ⟨1, _⟩ => show win0_0.index t 1 * 512 + 1 * p1.val = t.val % 4 * 512 + p1.val; rw [e 1]; show t.val % 4 * 512 + 1 * p1.val = _; omega
  | ⟨2, _⟩ => show win0_0.index t 2 * 1024 + 1 * p2.val = p2.val; rw [e 2]; show 0 * 1024 + 1 * p2.val = _; omega

theorem idx_in1 : ∀ t : Fin cfg0.N, win0_1.index t = ![min ((t.val + 1) / 4) 15, 0, 0] := (by decide +kernel : ∀ t : Fin grid0.N, _)

theorem blk1 (t : Fin cfg0.N) (p1 : Fin 2048) (p2 : Fin 256) : iblk m c 1 t (ix3 0 p1 p2) = X1 m c (ix3 (nextOf t) p1 p2) := by
  unfold iblk
  rw [show V m c (Pipeline.arrRef spec0 1) = _ from V_main_arg1 m c, View.read_apply]
  have e := congrFun (idx_in1 t)
  refine congrArg (X1 m c) (funext fun a => Fin.ext ?_)
  match a with
  | ⟨0, _⟩ => show win0_1.index t 0 * 1 + 1 * 0 = min ((t.val + 1) / 4) 15; rw [e 0]; show min ((t.val + 1) / 4) 15 * 1 + 1 * 0 = _; omega
  | ⟨1, _⟩ => show win0_1.index t 1 * 2048 + 1 * p1.val = p1.val; rw [e 1]; show 0 * 2048 + 1 * p1.val = _; omega
  | ⟨2, _⟩ => show win0_1.index t 2 * 256 + 1 * p2.val = p2.val; rw [e 2]; show 0 * 256 + 1 * p2.val = _; omega

theorem idx_in2 : ∀ t : Fin cfg0.N, win0_2.index t = ![t.val / 4, t.val % 4, 0] := (by decide +kernel : ∀ t : Fin grid0.N, _)

theorem blk2 (t : Fin cfg0.N) (p1 : Fin 512) (p2 : Fin 512) : iblk m c 2 t (ix3 0 p1 p2) = X2 m c (ix3 (bOf t) (row (jOf t) p1) p2) := by
  unfold iblk
  have hV : V m c (Pipeline.arrRef spec0 2) = (truncf .bf16 (X2 m c) bitsLt_bf16_f32 : FVec Ideal S16x2048x512 .bf16) := by
    show StableHlo.after hostOps0 (fun b => m (c, b)) main_v0 = _
    unfold hostOps0
    after_results
    try rfl
  rw [hV, View.read_apply]
  have e := congrFun (idx_in2 t)
  refine congrArg (X2 m c) (funext fun a => Fin.ext ?_)
  match a with
  | ⟨0, _⟩ => show win0_2.index t 0 * 1 + 1 * 0 = t.val / 4; rw [e 0]; show t.val / 4 * 1 + 1 * 0 = _; omega
  | ⟨1, _⟩ => show win0_2.index t 1 * 512 + 1 * p1.val = t.val % 4 * 512 + p1.val; rw [e 1]; show t.val % 4 * 512 + 1 * p1.val = _; omega
  | ⟨2, _⟩ => show win0_2.index t 2 * 512 + 1 * p2.val = p2.val; rw [e 2]; show 0 * 512 + 1 * p2.val = _; omega

theorem idx_in3 : ∀ t : Fin cfg0.N, win0_3.index t = ![t.val / 4, t.val % 4, 0] := (by decide +kernel : ∀ t : Fin grid0.N, _)

theorem blk3 (t : Fin cfg0.N) (p1 : Fin 512) (p2 : Fin 256) : iblk m c 3 t (ix3 0 p1 p2) = X3 m c (ix3 (bOf t) (row (jOf t) p1) p2) := by
  unfold iblk
  have hV : V m c (Pipeline.arrRef spec0 3) = (truncf .bf16 (X3 m c) bitsLt_bf16_f32 : FVec Ideal S16x2048x256 .bf16) := by
    show StableHlo.after hostOps0 (fun b => m (c, b)) main_v1 = _
    unfold hostOps0
    after_results
    try rfl
  rw [hV, View.read_apply]
  have e := congrFun (idx_in3 t)
  refine congrArg (X3 m c) (funext fun a => Fin.ext ?_)
  match a with
  | ⟨0, _⟩ => show win0_3.index t 0 * 1 + 1 * 0 = t.val / 4; rw [e 0]; show t.val / 4 * 1 + 1 * 0 = _; omega
  | ⟨1, _⟩ => show win0_3.index t 1 * 512 + 1 * p1.val = t.val % 4 * 512 + p1.val; rw [e 1]; show t.val % 4 * 512 + 1 * p1.val = _; omega
  | ⟨2, _⟩ => show win0_3.index t 2 * 256 + 1 * p2.val = p2.val; rw [e 2]; show 0 * 256 + 1 * p2.val = _; omega

theorem idx_in4 : ∀ t : Fin cfg0.N, win0_4.index t = ![0, 0] := (by decide +kernel : ∀ t : Fin grid0.N, _)

theorem blk4 (t : Fin cfg0.N) (p0 : Fin 31) (p1 : Fin 256) : iblk m c 4 t (ix2 p0 p1) = X4 m c (ix2 p0 p1) := by
  unfold iblk
  rw [show V m c (Pipeline.arrRef spec0 4) = _ from V_main_arg4 m c, View.read_apply]
  have e := congrFun (idx_in4 t)
  refine congrArg (X4 m c) (funext fun a => Fin.ext ?_)
  match a with
  | ⟨0, _⟩ => show win0_4.index t 0 * 31 + 1 * p0.val = p0.val; rw [e 0]; show 0 * 31 + 1 * p0.val = _; omega
  | ⟨1, _⟩ => show win0_4.index t 1 * 256 + 1 * p1.val = p1.val; rw [e 1]; show 0 * 256 + 1 * p1.val = _; omega

theorem idx_in5 : ∀ t : Fin cfg0.N, win0_5.index t = ![0, 0] := (by decide +kernel : ∀ t : Fin grid0.N, _)

theorem blk5 (t : Fin cfg0.N) (p1 : Fin 256) : iblk m c 5 t (ix2 0 p1) = X5 m c (ix1 p1) := by
  unfold iblk
  have hV : V m c (Pipeline.arrRef spec0 5) = shapeCast S1x256 (X5 m c) shapeCasts_S256_S1x256 := by
    show StableHlo.after hostOps0 (fun b => m (c, b)) main_v10 = _
    unfold hostOps0
    after_results
    try rfl
  rw [hV, View.read_apply]
  have e := congrFun (idx_in5 t)
  refine (congrArg (shapeCast S1x256 (X5 m c) shapeCasts_S256_S1x256) (funext fun a => Fin.ext ?_ : _ = ix2 0 p1)).trans ?_
  · match a with
    | ⟨0, _⟩ => show win0_5.index t 0 * 1 + 1 * 0 = 0; rw [e 0]; show 0 * 1 + 1 * 0 = _; omega
    | ⟨1, _⟩ => show win0_5.index t 1 * 256 + 1 * p1.val = p1.val; rw [e 1]; show 0 * 256 + 1 * p1.val = _; omega
  · pointwise

theorem idx_in6 : ∀ t : Fin cfg0.N, win0_6.index t = ![0, 0] := (by decide +kernel : ∀ t : Fin grid0.N, _)

theorem blk6 (t : Fin cfg0.N) (p1 : Fin 256) : iblk m c 6 t (ix2 0 p1) = X6 m c (ix1 p1) := by
  unfold iblk
  have hV : V m c (Pipeline.arrRef spec0 6) = shapeCast S1x256 (X6 m c) shapeCasts_S256_S1x256 := by
    show StableHlo.after hostOps0 (fun b => m (c, b)) main_v11 = _
    unfold hostOps0
    after_results
    try rfl
  rw [hV, View.read_apply]
  have e := congrFun (idx_in6 t)
  refine (congrArg (shapeCast S1x256 (X6 m c) shapeCasts_S256_S1x256) (funext fun a => Fin.ext ?_ : _ = ix2 0 p1)).trans ?_
  · match a with
    | ⟨0, _⟩ => show win0_6.index t 0 * 1 + 1 * 0 = 0; rw [e 0]; show 0 * 1 + 1 * 0 = _; omega
    | ⟨1, _⟩ => show win0_6.index t 1 * 256 + 1 * p1.val = p1.val; rw [e 1]; show 0 * 256 + 1 * p1.val = _; omega
  · pointwise

theorem idx_in7 : ∀ t : Fin cfg0.N, win0_7.index t = ![0, 0] := (by decide +kernel : ∀ t : Fin grid0.N, _)

theorem blk7 (t : Fin cfg0.N) (p1 : Fin 256) : iblk m c 7 t (ix2 0 p1) = X7 m c (ix1 p1) := by
  unfold iblk
  have hV : V m c (Pipeline.arrRef spec0 7) = shapeCast S1x256 (X7 m c) shapeCasts_S256_S1x256 := by
    show StableHlo.after hostOps0 (fun b => m (c, b)) main_v12 = _
    unfold hostOps0
    after_results
    try rfl
  rw [hV, View.read_apply]
  have e := congrFun (idx_in7 t)
  refine (congrArg (shapeCast S1x256 (X7 m c) shapeCasts_S256_S1x256) (funext fun a => Fin.ext ?_ : _ = ix2 0 p1)).trans ?_
  · match a with
    | ⟨0, _⟩ => show win0_7.index t 0 * 1 + 1 * 0 = 0; rw [e 0]; show 0 * 1 + 1 * 0 = _; omega
    | ⟨1, _⟩ => show win0_7.index t 1 * 256 + 1 * p1.val = p1.val; rw [e 1]; show 0 * 256 + 1 * p1.val = _; omega
  · pointwise

theorem idx_in8 : ∀ t : Fin cfg0.N, win0_8.index t = ![t.val / 4, 0, 0] := (by decide +kernel : ∀ t : Fin grid0.N, _)

theorem blk8 (t : Fin cfg0.N) (p1 : Fin 6) (p2 : Fin 1024) : iblk m c 8 t (ix3 0 p1 p2) = X8 m c (ix3 (bOf t) p1 p2) := by
  unfold iblk
  rw [show V m c (Pipeline.arrRef spec0 8) = _ from V_main_arg8 m c, View.read_apply]
  have e := congrFun (idx_in8 t)
  refine congrArg (X8 m c) (funext fun a => Fin.ext ?_)
  match a with
  | ⟨0, _⟩ => show win0_8.index t 0 * 1 + 1 * 0 = t.val / 4; rw [e 0]; show t.val / 4 * 1 + 1 * 0 = _; omega
  | ⟨1, _⟩ => show win0_8.index t 1 * 6 + 1 * p1.val = p1.val; rw [e 1]; show 0 * 6 + 1 * p1.val = _; omega
  | ⟨2, _⟩ => show win0_8.index t 2 * 1024 + 1 * p2.val = p2.val; rw [e 2]; show 0 * 1024 + 1 * p2.val = _; omega

theorem idx_in9 : ∀ t : Fin cfg0.N, win0_9.index t = ![0, 0] := (by decide +kernel : ∀ t : Fin grid0.N, _)

theorem blk9 (t : Fin cfg0.N) (p1 : Fin 1024) : iblk m c 9 t (ix2 0 p1) = X9 m c (ix1 p1) := by
  unfold iblk
  have hV : V m c (Pipeline.arrRef spec0 9) = shapeCast S1x1024 (X9 m c) shapeCasts_S1024_S1x1024 := by
    show StableHlo.after hostOps0 (fun b => m (c, b)) main_v2 = _
    unfold hostOps0
    after_results
    try rfl
  rw [hV, View.read_apply]
  have e := congrFun (idx_in9 t)
  refine (congrArg (shapeCast S1x1024 (X9 m c) shapeCasts_S1024_S1x1024) (funext fun a => Fin.ext ?_ : _ = ix2 0 p1)).trans ?_
  · match a with
    | ⟨0, _⟩ => show win0_9.index t 0 * 1 + 1 * 0 = 0; rw [e 0]; show 0 * 1 + 1 * 0 = _; omega
    | ⟨1, _⟩ => show win0_9.index t 1 * 1024 + 1 * p1.val = p1.val; rw [e 1]; show 0 * 1024 + 1 * p1.val = _; omega
  · pointwise

theorem idx_in10 : ∀ t : Fin cfg0.N, win0_10.index t = ![0, 0] := (by decide +kernel : ∀ t : Fin grid0.N, _)

theorem blk10 (t : Fin cfg0.N) (p1 : Fin 1024) : iblk m c 10 t (ix2 0 p1) = X10 m c (ix1 p1) := by
  unfold iblk
  have hV : V m c (Pipeline.arrRef spec0 10) = shapeCast S1x1024 (X10 m c) shapeCasts_S1024_S1x1024 := by
    show StableHlo.after hostOps0 (fun b => m (c, b)) main_v3 = _
    unfold hostOps0
    after_results
    try rfl
  rw [hV, View.read_apply]
  have e := congrFun (idx_in10 t)
  refine (congrArg (shapeCast S1x1024 (X10 m c) shapeCasts_S1024_S1x1024) (funext fun a => Fin.ext ?_ : _ = ix2 0 p1)).trans ?_
  · match a with
    | ⟨0, _⟩ => show win0_10.index t 0 * 1 + 1 * 0 = 0; rw [e 0]; show 0 * 1 + 1 * 0 = _; omega
    | ⟨1, _⟩ => show win0_10.index t 1 * 1024 + 1 * p1.val = p1.val; rw [e 1]; show 0 * 1024 + 1 * p1.val = _; omega
  · pointwise

theorem idx_in11 : ∀ t : Fin cfg0.N, win0_11.index t = ![0, 0, 0] := (by decide +kernel : ∀ t : Fin grid0.N, _)

theorem blk11 (t : Fin cfg0.N) (p1 : Fin 1024) (p2 : Fin 1024) : iblk m c 11 t (ix3 0 p1 p2) = X11 m c (ix2 p1 p2) := by
  unfold iblk
  have hV : V m c (Pipeline.arrRef spec0 11) = broadcastInDim S1x1024x1024 ![1, 2] bcast_S1024x1024_S1x1024x1024_1_2 (truncf .bf16 (X11 m c) bitsLt_bf16_f32) := by
    show StableHlo.after hostOps0 (fun b => m (c, b)) main_v5 = _
    unfold hostOps0
    after_results
    try rfl
  rw [hV, View.read_apply]
  have e := congrFun (idx_in11 t)
  refine (congrArg (broadcastInDim S1x1024x1024 ![1, 2] bcast_S1024x1024_S1x1024x1024_1_2 (truncf .bf16 (X11 m c) bitsLt_bf16_f32)) (funext fun a => Fin.ext ?_ : _ = ix3 0 p1 p2)).trans ?_
  · match a with
    | ⟨0, _⟩ => show win0_11.index t 0 * 1 + 1 * 0 = 0; rw [e 0]; show 0 * 1 + 1 * 0 = _; omega
    | ⟨1, _⟩ => show win0_11.index t 1 * 1024 + 1 * p1.val = p1.val; rw [e 1]; show 0 * 1024 + 1 * p1.val = _; omega
    | ⟨2, _⟩ => show win0_11.index t 2 * 1024 + 1 * p2.val = p2.val; rw [e 2]; show 0 * 1024 + 1 * p2.val = _; omega
  · pointwise

theorem idx_in12 : ∀ t : Fin cfg0.N, win0_12.index t = ![0, 0, 0] := (by decide +kernel : ∀ t : Fin grid0.N, _)

theorem blk12 (t : Fin cfg0.N) (p1 : Fin 1024) (p2 : Fin 4096) : iblk m c 12 t (ix3 0 p1 p2) = X12 m c (ix2 p1 p2) := by
  unfold iblk
  have hV : V m c (Pipeline.arrRef spec0 12) = broadcastInDim S1x1024x4096 ![1, 2] bcast_S1024x4096_S1x1024x4096_1_2 (truncf .bf16 (X12 m c) bitsLt_bf16_f32) := by
    show StableHlo.after hostOps0 (fun b => m (c, b)) main_v7 = _
    unfold hostOps0
    after_results
    try rfl
  rw [hV, View.read_apply]
  have e := congrFun (idx_in12 t)
  refine (congrArg (broadcastInDim S1x1024x4096 ![1, 2] bcast_S1024x4096_S1x1024x4096_1_2 (truncf .bf16 (X12 m c) bitsLt_bf16_f32)) (funext fun a => Fin.ext ?_ : _ = ix3 0 p1 p2)).trans ?_
  · match a with
    | ⟨0, _⟩ => show win0_12.index t 0 * 1 + 1 * 0 = 0; rw [e 0]; show 0 * 1 + 1 * 0 = _; omega
    | ⟨1, _⟩ => show win0_12.index t 1 * 1024 + 1 * p1.val = p1.val; rw [e 1]; show 0 * 1024 + 1 * p1.val = _; omega
    | ⟨2, _⟩ => show win0_12.index t 2 * 4096 + 1 * p2.val = p2.val; rw [e 2]; show 0 * 4096 + 1 * p2.val = _; omega
  · pointwise

theorem idx_in13 : ∀ t : Fin cfg0.N, win0_13.index t = ![0, 0, 0] := (by decide +kernel : ∀ t : Fin grid0.N, _)

theorem blk13 (t : Fin cfg0.N) (p1 : Fin 4096) (p2 : Fin 1024) : iblk m c 13 t (ix3 0 p1 p2) = X13 m c (ix2 p1 p2) := by
  unfold iblk
  have hV : V m c (Pipeline.arrRef spec0 13) = broadcastInDim S1x4096x1024 ![1, 2] bcast_S4096x1024_S1x4096x1024_1_2 (truncf .bf16 (X13 m c) bitsLt_bf16_f32) := by
    show StableHlo.after hostOps0 (fun b => m (c, b)) main_v9 = _
    unfold hostOps0
    after_results
    try rfl
  rw [hV, View.read_apply]
  have e := congrFun (idx_in13 t)
  refine (congrArg (broadcastInDim S1x4096x1024 ![1, 2] bcast_S4096x1024_S1x4096x1024_1_2 (truncf .bf16 (X13 m c) bitsLt_bf16_f32)) (funext fun a => Fin.ext ?_ : _ = ix3 0 p1 p2)).trans ?_
  · match a with
    | ⟨0, _⟩ => show win0_13.index t 0 * 1 + 1 * 0 = 0; rw [e 0]; show 0 * 1 + 1 * 0 = _; omega
    | ⟨1, _⟩ => show win0_13.index t 1 * 4096 + 1 * p1.val = p1.val; rw [e 1]; show 0 * 4096 + 1 * p1.val = _; omega
    | ⟨2, _⟩ => show win0_13.index t 2 * 1024 + 1 * p2.val = p2.val; rw [e 2]; show 0 * 1024 + 1 * p2.val = _; omega
  · pointwise

/-- The tile a grid point prepares holds the reference's conformer rows of the next point. -/
theorem nextYA_apply (t : Fin cfg0.N) (y : Fin 512) (l : Fin 256) : nextYA m c t (ix3 0 y l)
    = val_main_v248 (F := Ideal) (X1 m c) (X4 m c) (X5 m c) (X6 m c) (X7 m c) (ix3 (nextOf t) ⟨(t.val + 1) % 4 * 512 + y.val, by omega⟩ l) :=
  yaOf_apply _ (iblk m c 1 t) _ _ _ _ _ _ _ _ _ (nextOf t) ⟨(t.val + 1) % 4, by omega⟩
    (fun b q hb hq s l => (winB_apply _ _ b q hb hq s l).trans (congrArg (fun T => rowAt (iblk m c 1 t) (512 * T + 32 * b + 8 * q + s.val) l) (coords_eq t)))
    (blk1 m c t) (blk4 m c t) (blk5 m c t) (blk6 m c t) (blk7 m c t) y l

/-- The tile a grid point reads holds the reference's conformer rows of that point. -/
theorem curYA_apply (t : Fin cfg0.N) (y : Fin 512) (l : Fin 256) : curYA m c t.val t.isLt (ix3 0 y l)
    = val_main_v248 (F := Ideal) (X1 m c) (X4 m c) (X5 m c) (X6 m c) (X7 m c) (ix3 (bOf t) (row (jOf t) y) l) := by
  obtain ⟨n, hn⟩ := t
  cases n with
  | zero =>
    refine (yaOf_apply _ (iblk m c 1 ⟨0, hn⟩) _ _ _ _ _ _ _ _ _ (nextOf ⟨0, hn⟩) 0
      (fun b q hb hq s l => (winA_apply _ b q hb hq s l).trans (congrArg (fun p => rowAt (iblk m c 1 ⟨0, hn⟩) p l) (by show _ = 512 * 0 + _ + _ + _; omega)))
      (blk1 m c _) (blk4 m c ⟨0, hn⟩) (blk5 m c ⟨0, hn⟩) (blk6 m c ⟨0, hn⟩) (blk7 m c ⟨0, hn⟩) y l).trans ?_
    refine congrArg (val_main_v248 (F := Ideal) (X1 m c) (X4 m c) (X5 m c) (X6 m c) (X7 m c)) (funext fun a => Fin.ext ?_)
    match a with
    | ⟨0, _⟩ => show min ((0 + 1) / 4) 15 = 0 / 4; omega
    | ⟨1, _⟩ => rfl
    | ⟨2, _⟩ => rfl
  | succ n =>
    refine (nextYA_apply m c ⟨n, (Nat.lt_succ_self n).trans hn⟩ y l).trans ?_
    have hN : cfg0.N = 64 := N_0
    refine congrArg (val_main_v248 (F := Ideal) (X1 m c) (X4 m c) (X5 m c) (X6 m c) (X7 m c)) (funext fun a => Fin.ext ?_)
    match a with
    | ⟨0, _⟩ => show min ((n + 1) / 4) 15 = (n + 1) / 4; omega
    | ⟨1, _⟩ => rfl
    | ⟨2, _⟩ => rfl

/-- The reference's result. -/
abbrev result : FVec Ideal S16x2048x1024 .f32 := val_main_v292 (F := Ideal) (X0 m c) (X1 m c) (X2 m c) (X3 m c) (X4 m c) (X5 m c) (X6 m c) (X7 m c) (X8 m c) (X9 m c) (X10 m c) (X11 m c) (X12 m c) (X13 m c)

theorem outBlk_apply (t : Fin cfg0.N) (r : Fin 512) (n : Fin 1024) : outBlk m c t (ix3 0 r n) = result m c (ix3 (bOf t) (row (jOf t) r) n) :=
  mlpOut_apply ⟨curYA_apply m c t, blk0 m c t, blk2 m c t, blk3 m c t, blk8 m c t, blk9 m c t, blk10 m c t, blk11 m c t, blk12 m c t, blk13 m c t⟩ r n

theorem idx_out : ∀ t : Fin cfg0.N, win0_14.index t = ![t.val / 4, t.val % 4, 0] := (by decide +kernel : ∀ t : Fin grid0.N, _)

/-- What point `t` writes back is that block of the reference's result. -/
theorem flushed_eq (t : Fin cfg0.N) : (dats m 0 c).flushed 14 t = ((cfg0.win 14).blk t).view.read (Elt Ideal) (result m c) := by
  show (cfg0.win 14).cut (grid0.coords t) ((dats m 0 c).after 14 t) = _
  rw [after0_14]
  refine funext fun (y : S1x512x1024.Idx) => ?_
  idx_vars y
  obtain rfl : y0 = 0 := Fin.ext (by omega)
  show outBlk m c t (ix3 0 y1 y2) = _
  rw [outBlk_apply, View.read_apply]
  refine congrArg (result m c) (funext fun a => Fin.ext ?_)
  have e := congrFun (idx_out t)
  match a with
  | ⟨0, _⟩ => show t.val / 4 = win0_14.index t 0 * 1 + 1 * 0; rw [e 0]; show _ = t.val / 4 * 1 + 1 * 0; omega
  | ⟨1, _⟩ => show t.val % 4 * 512 + y1.val = win0_14.index t 1 * 512 + 1 * y1.val; rw [e 1]; show _ = t.val % 4 * 512 + 1 * y1.val; omega
  | ⟨2, _⟩ => show y2.val = win0_14.index t 2 * 1024 + 1 * y2.val; rw [e 2]; show _ = 0 * 1024 + 1 * y2.val; omega

/-- The blocks cover the output. -/
theorem cover (i : S16x2048x1024.Idx) : ∃ t : Fin cfg0.N, (cfg0.win 14).flush t = true ∧ i ∈ ((cfg0.win 14).blk t).view.set := by
  idx_vars i
  have hN : cfg0.N = 64 := N_0
  refine ⟨⟨i0.val * 4 + i1.val / 512, by omega⟩, flush0_14 _, ?_⟩
  have e := congrFun (idx_out ⟨i0.val * 4 + i1.val / 512, by omega⟩)
  generalize hx : (⟨i0.val * 4 + i1.val / 512, by omega⟩ : Fin cfg0.N) = t at *
  have hv : t.val = i0.val * 4 + i1.val / 512 := by rw [← hx]
  show ix3 i0 i1 i2 ∈ ((View.whole main_v13).slice (win0_14.rect t)).set
  rw [View.set_slice_whole, Rect.mem_set_unit]
  intro a
  match a with
  | ⟨0, _⟩ => show win0_14.index t 0 * 1 ≤ i0.val ∧ i0.val < win0_14.index t 0 * 1 + 1; rw [e 0]; show t.val / 4 * 1 ≤ i0.val ∧ i0.val < t.val / 4 * 1 + 1; omega
  | ⟨1, _⟩ => show win0_14.index t 1 * 512 ≤ i1.val ∧ i1.val < win0_14.index t 1 * 512 + 512; rw [e 1]; show t.val % 4 * 512 ≤ i1.val ∧ i1.val < t.val % 4 * 512 + 512; omega
  | ⟨2, _⟩ => show win0_14.index t 2 * 1024 ≤ i2.val ∧ i2.val < win0_14.index t 2 * 1024 + 1024; rw [e 2]; show 0 * 1024 ≤ i2.val ∧ i2.val < 0 * 1024 + 1024; omega

theorem final : (dats m 0 c).arrAt 14 cfg0.N = result m c :=
  (dats m 0 c).arrAt_eq_of_cover 14 _ (fun t _ => flushed_eq m c t) cover

/-- The kernel's run: its result at the reference's value of its arguments, the arguments as they were. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨((h.1 c).1 14).trans (final m c), h.2.1 c⟩) (θ_run_and (run_main m ρ) (frame m ρ))

end Cert.Proof.ConvOut

end
-- ==== Proof.SameText.lean ====
/- The kernel read over the float semantics and over the exact one is one text: its two tables of bodies are equal, so
   the run over the exact one is the run over both. -/
module
public import proofs.«01_k».proof.Proof.ConvOut
public import proofs.«01_k».proof.Proof.Gen.Kernel.Frame
@[expose] public section

set_option maxRecDepth 65536
set_option maxHeartbeats 2000000

noncomputable section

namespace Cert.Proof.SameText

open Idealize.ShloMosaic Idealize.SL.Sem

variable {F : FTy → Type} [FloatOps F]

/-- The two programs have one text, so one body. -/
theorem body_eq : @Cert.Kernel.cc0_conv_out_proj_mlp F _ Cert.Kernel.Gen.facts = @Cert.KernelIdeal.cc0_conv_out_proj_mlp F _ Cert.KernelIdeal.Gen.facts := rfl

theorem calls_eq : @Cert.Kernel.defs₀ F _ Cert.Kernel.Gen.facts = @Cert.KernelIdeal.defs₀ F _ Cert.KernelIdeal.Gen.facts := by
  unfold Cert.Kernel.defs₀ Cert.KernelIdeal.defs₀
  congr 1
  funext l x
  match l, x with
  | 0, (t, s) => rfl

theorem defs_eq : @Cert.KernelIdeal.defs F _ Cert.KernelIdeal.Gen.facts = @Cert.Kernel.defs F _ Cert.Kernel.Gen.facts :=
  congrArg (Pipeline.defs Cert.KernelIdeal.pcfgs) calls_eq.symm

end Cert.Proof.SameText

end
-- ==== Proof.InProjBlock.lean ====
/- The input projection, one block at a time: what the kernel's body leaves in each of its six output blocks is the
   reference's value at the block's rows, over the extended reals. -/
module

public import proofs.«01_k».proof.Proof.Gen.Kernel2Ideal.Value
public import proofs.«01_k».proof.Proof.Gen.Reference2Ideal.Read
public import Idealize.ShloMosaic.Lib.Pointwise

@[expose] public section

set_option maxRecDepth 16384

noncomputable section

namespace Cert.Proof.InProj

open Idealize.ShloMosaic Cert.Kernel2Ideal Cert.Kernel2Ideal.Gen Cert.Reference2Ideal.Read

theorem hz3 : (![0, 0, 0] : Fin 3 → Nat) = fun _ => 0 := funext fun a => by fin_cases a <;> rfl

/-- The row of the array that row `r` of block `j` is. -/
abbrev row (j : Fin 2) (r : Fin 1024) : Fin 2048 := ⟨j.val * 1024 + r.val, by omega⟩

variable {x0 : Vec Ideal S1x1024x1024 .f32} {x1 : Vec Ideal S1x6x1024 .f32} {x2 : Vec Ideal S1x1024 .f32}
  {x3 : Vec Ideal S1x1024x2560 .bf16}
  {X0 : FVec Ideal S16x2048x1024 .f32} {X1 : FVec Ideal S16x6x1024 .f32} {X2 : FVec Ideal S1024 .f32}
  {X3 : FVec Ideal S1024x2560 .f32} {b : Fin 16} {j : Fin 2}

/-- The normed, modulated rows: the kernel's at row `r` of the block, the reference's at that row of the array. -/
theorem pay4_apply (h0 : ∀ r k, x0 (ix3 0 r k) = X0 (ix3 b (row j r) k)) (h1 : ∀ a k, x1 (ix3 0 a k) = X1 (ix3 b a k))
    (h2 : ∀ k, x2 (ix2 0 k) = X2 (ix1 k)) (r k : Fin 1024) :
    k0_pay4 (F := Ideal) (View.ld x0 r0_0) (View.ld x2 r0_1) (View.ld x1 r0_2) (View.ld x1 r0_3) (ix2 r k)
      = val_main_v20 (F := Ideal) X0 X1 X2 (ix3 b (row j r) k) := by
  pointwise [k0_pay4, val_main_v20, val_main_v19, val_main_v18, val_main_v17, val_main_v16, val_main_v15, val_main_v14,
    val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, val_main_cst_2]
  simp only [h0, h1, h2]

/-- A projection: the normed rows of the block times the columns `o …` of the weights. -/
theorem dot_apply (h0 : ∀ r k, x0 (ix3 0 r k) = X0 (ix3 b (row j r) k)) (h1 : ∀ a k, x1 (ix3 0 a k) = X1 (ix3 b a k))
    (h2 : ∀ k, x2 (ix2 0 k) = X2 (ix1 k)) (h3 : ∀ k n, x3 (ix3 0 k n) = X3 (ix2 k n)) (r : Fin 1024) (n : Fin 2560) :
    ∑ k : Fin 1024, k0_pay4 (F := Ideal) (View.ld x0 r0_0) (View.ld x2 r0_1) (View.ld x1 r0_2) (View.ld x1 r0_3) (ix2 r k)
        * x3 (ix3 0 k n)
      = val_main_v21 (F := Ideal) X0 X1 X2 X3 (ix3 b (row j r) n) := by
  simp only [pay4_apply h0 h1 h2, h3]
  rw [val_main_v21_apply]
  refine Finset.sum_congr rfl fun k _ => congrArg₂ (· * ·) (congrArg _ (funext fun a => ?_)) (congrArg _ (funext fun a => ?_))
  · match a with
    | ⟨0, _⟩ => rfl
    | ⟨1, _⟩ => rfl
    | ⟨2, _⟩ => rfl
  · match a with
    | ⟨0, _⟩ => rfl
    | ⟨1, _⟩ => rfl

variable (h0 : ∀ r k, x0 (ix3 0 r k) = X0 (ix3 b (row j r) k)) (h1 : ∀ a k, x1 (ix3 0 a k) = X1 (ix3 b a k))
  (h2 : ∀ k, x2 (ix2 0 k) = X2 (ix1 k)) (h3 : ∀ k n, x3 (ix3 0 k n) = X3 (ix2 k n))
include h0 h1 h2 h3

/-- Output 0 of the six, at row `r` and lane `l` of its block. -/
theorem out4_apply (r : Fin 1024) (l : Fin 256) :
    out0_4 (F := Ideal) x0 x1 x2 x3 (ix3 0 r l) = val_main_v35 (F := Ideal) X0 X1 X2 X3 (ix3 b (row j r) l) := by
  unfold out0_4
  rw [View.canon_unit_zero hz3]
  have hd := dot_apply h0 h1 h2 h3 r
  pointwise [k0_pay8, k0_pay5, k0_pay6, k0_pay7, val_main_v35, val_main_v34, val_main_v33, val_main_cst_4, val_main_v32, val_main_v31, val_main_cst_3, val_main_v30, val_main_v29, val_main_v22, val_main_v23]
  refine (congrArg₂ (fun a z : EReal => a * Ideal.div 1 (1 + Ideal.exp (0 - z))) (hd ⟨l.val, by omega⟩) (hd ⟨256 + l.val, by omega⟩)).trans ?_
  simp only [zero_sub]

/-- Output 1 of the six, at row `r` and lane `l` of its block. -/
theorem out5_apply (r : Fin 1024) (l : Fin 512) :
    out0_5 (F := Ideal) x0 x1 x2 x3 (ix3 0 r l) = val_main_v38 (F := Ideal) X0 X1 X2 X3 (ix3 b (row j r) l) := by
  unfold out0_5 k0_pay12
  rw [View.canon_unit_zero hz3]
  have hd := dot_apply h0 h1 h2 h3 r
  generalize k0_pay4 (F := Ideal) (View.ld x0 r0_0) (View.ld x2 r0_1) (View.ld x1 r0_2) (View.ld x1 r0_3) = P4 at *
  pointwise [k0_pay9, val_main_v38, val_main_v37, val_main_v36, val_main_cst_5, val_main_v24]
  exact congrArg (· * _) (hd ⟨512 + l.val, by omega⟩)

/-- Output 2 of the six, at row `r` and lane `l` of its block. -/
theorem out6_apply (r : Fin 1024) (l : Fin 512) :
    out0_6 (F := Ideal) x0 x1 x2 x3 (ix3 0 r l) = val_main_v39 (F := Ideal) X0 X1 X2 X3 (ix3 b (row j r) l) := by
  unfold out0_6 k0_pay12
  rw [View.canon_unit_zero hz3]
  have hd := dot_apply h0 h1 h2 h3 r
  generalize k0_pay4 (F := Ideal) (View.ld x0 r0_0) (View.ld x2 r0_1) (View.ld x1 r0_2) (View.ld x1 r0_3) = P4 at *
  pointwise [k0_pay10, val_main_v39, val_main_v25]
  exact hd ⟨1024 + l.val, by omega⟩

/-- Output 3 of the six, at row `r` and lane `l` of its block. -/
theorem out7_apply (r : Fin 1024) (l : Fin 512) :
    out0_7 (F := Ideal) x0 x1 x2 x3 (ix3 0 r l) = val_main_v40 (F := Ideal) X0 X1 X2 X3 (ix3 b (row j r) l) := by
  unfold out0_7 k0_pay12
  rw [View.canon_unit_zero hz3]
  have hd := dot_apply h0 h1 h2 h3 r
  generalize k0_pay4 (F := Ideal) (View.ld x0 r0_0) (View.ld x2 r0_1) (View.ld x1 r0_2) (View.ld x1 r0_3) = P4 at *
  pointwise [k0_pay1, k0_pay11, val_main_v40, val_main_v26]
  exact hd ⟨1536 + l.val, by omega⟩

/-- Output 4 of the six, at row `r` and lane `l` of its block. -/
theorem out8_apply (r : Fin 1024) (l : Fin 256) :
    out0_8 (F := Ideal) x0 x1 x2 x3 (ix3 0 r l) = val_main_v27 (F := Ideal) X0 X1 X2 X3 (ix3 b (row j r) l) := by
  unfold out0_8 k0_pay12
  rw [View.canon_unit_zero hz3]
  have hd := dot_apply h0 h1 h2 h3 r
  generalize k0_pay4 (F := Ideal) (View.ld x0 r0_0) (View.ld x2 r0_1) (View.ld x1 r0_2) (View.ld x1 r0_3) = P4 at *
  pointwise [k0_pay2, val_main_v27]
  exact hd ⟨2048 + l.val, by omega⟩

/-- Output 5 of the six, at row `r` and lane `l` of its block. -/
theorem out9_apply (r : Fin 1024) (l : Fin 256) :
    out0_9 (F := Ideal) x0 x1 x2 x3 (ix3 0 r l) = val_main_v28 (F := Ideal) X0 X1 X2 X3 (ix3 b (row j r) l) := by
  unfold out0_9 k0_pay12
  rw [View.canon_unit_zero hz3]
  have hd := dot_apply h0 h1 h2 h3 r
  generalize k0_pay4 (F := Ideal) (View.ld x0 r0_0) (View.ld x2 r0_1) (View.ld x1 r0_2) (View.ld x1 r0_3) = P4 at *
  pointwise [k0_pay3, val_main_v28]
  exact hd ⟨2304 + l.val, by omega⟩

end Cert.Proof.InProj

end
-- ==== Proof.InProj.lean ====
/- The input projection as a whole: the six arrays the pipeline writes are the reference's six values. -/
module

public import proofs.«01_k».proof.Proof.InProjBlock
public import proofs.«01_k».proof.Proof.Gen.Reference2Ideal.Run

@[expose] public section

set_option maxRecDepth 16384

noncomputable section

namespace Cert.Proof.InProj

open Idealize.ShloMosaic Cert.Kernel2Ideal Cert.Kernel2Ideal.Gen Cert.Reference2Ideal.Read
open Idealize.ShloMosaic.Tactic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The batch and the half of its rows a grid point takes. -/
abbrev bOf (t : Fin cfg0.N) : Fin 16 := ⟨t.val / 2, by have := t.isLt; have : cfg0.N = 32 := N_0; omega⟩
abbrev jOf (t : Fin cfg0.N) : Fin 2 := ⟨t.val % 2, by omega⟩

theorem idx_in0 : ∀ t : Fin cfg0.N, win0_0.index t = ![t.val / 2, t.val % 2, 0] := (by decide +kernel : ∀ t : Fin grid0.N, _)
theorem idx_in1 : ∀ t : Fin cfg0.N, win0_1.index t = ![t.val / 2, 0, 0] := (by decide +kernel : ∀ t : Fin grid0.N, _)
theorem idx_in2 : ∀ t : Fin cfg0.N, win0_2.index t = ![0, 0] := (by decide +kernel : ∀ t : Fin grid0.N, _)
theorem idx_in3 : ∀ t : Fin cfg0.N, win0_3.index t = ![0, 0, 0] := (by decide +kernel : ∀ t : Fin grid0.N, _)

abbrev X0 : FVec Ideal S16x2048x1024 .f32 := m ((c : Thread nD τ).loc main_arg0)
abbrev X1 : FVec Ideal S16x6x1024 .f32 := m ((c : Thread nD τ).loc main_arg1)
abbrev X2 : FVec Ideal S1024 .f32 := m ((c : Thread nD τ).loc main_arg2)
abbrev X3 : FVec Ideal S1024x2560 .f32 := m ((c : Thread nD τ).loc main_arg3)

theorem blk0 (t : Fin cfg0.N) (r k : Fin 1024) :
    iblk m c 0 t (ix3 0 r k) = X0 m c (ix3 (bOf t) (row (jOf t) r) k) := by
  unfold iblk
  rw [show V m c (Pipeline.arrRef spec0 0) = _ from V_main_arg0 m c, View.read_apply]
  refine congrArg (X0 m c) (funext fun a => Fin.ext ?_)
  have e := congrFun (idx_in0 t)
  match a with
  | ⟨0, _⟩ => show win0_0.index t 0 * 1 + 1 * 0 = t.val / 2; rw [e 0]; show t.val / 2 * 1 + 1 * 0 = _; omega
  | ⟨1, _⟩ => show win0_0.index t 1 * 1024 + 1 * r.val = t.val % 2 * 1024 + r.val; rw [e 1]; show t.val % 2 * 1024 + 1 * r.val = _; omega
  | ⟨2, _⟩ => show win0_0.index t 2 * 1024 + 1 * k.val = k.val; rw [e 2]; show 0 * 1024 + 1 * k.val = _; omega

theorem blk1 (t : Fin cfg0.N) (r : Fin 6) (k : Fin 1024) :
    iblk m c 1 t (ix3 0 r k) = X1 m c (ix3 (bOf t) r k) := by
  unfold iblk
  rw [show V m c (Pipeline.arrRef spec0 1) = _ from V_main_arg1 m c, View.read_apply]
  refine congrArg (X1 m c) (funext fun a => Fin.ext ?_)
  have e := congrFun (idx_in1 t)
  match a with
  | ⟨0, _⟩ => show win0_1.index t 0 * 1 + 1 * 0 = t.val / 2; rw [e 0]; show t.val / 2 * 1 + 1 * 0 = _; omega
  | ⟨1, _⟩ => show win0_1.index t 1 * 6 + 1 * r.val = r.val; rw [e 1]; show 0 * 6 + 1 * r.val = _; omega
  | ⟨2, _⟩ => show win0_1.index t 2 * 1024 + 1 * k.val = k.val; rw [e 2]; show 0 * 1024 + 1 * k.val = _; omega

theorem blk2 (t : Fin cfg0.N) (k : Fin 1024) : iblk m c 2 t (ix2 0 k) = X2 m c (ix1 k) := by
  unfold iblk
  have hV : V m c (Pipeline.arrRef spec0 2) = shapeCast S1x1024 (X2 m c) shapeCasts_S1024_S1x1024 := by
    show StableHlo.after hostOps0 (fun b => m (c, b)) main_v0 = _
    unfold hostOps0
    after_results
    try rfl
  rw [hV, View.read_apply]
  have e := congrFun (idx_in2 t)
  refine (congrArg (shapeCast S1x1024 (X2 m c) shapeCasts_S1024_S1x1024) (funext fun a => Fin.ext ?_ : _ = ix2 0 k)).trans ?_
  · match a with
    | ⟨0, _⟩ => show win0_2.index t 0 * 1 + 1 * 0 = 0; rw [e 0]; rfl
    | ⟨1, _⟩ => show win0_2.index t 1 * 1024 + 1 * k.val = k.val; rw [e 1]; show 0 * 1024 + 1 * k.val = _; omega
  · pointwise

theorem blk3 (t : Fin cfg0.N) (k : Fin 1024) (n : Fin 2560) : iblk m c 3 t (ix3 0 k n) = X3 m c (ix2 k n) := by
  unfold iblk
  have hV : V m c (Pipeline.arrRef spec0 3) = broadcastInDim S1x1024x2560 ![1, 2] bcast_S1024x2560_S1x1024x2560_1_2
      (truncf .bf16 (X3 m c) bitsLt_bf16_f32) := by
    show StableHlo.after hostOps0 (fun b => m (c, b)) main_v2 = _
    unfold hostOps0
    after_results
    try rfl
  rw [hV, View.read_apply]
  have e := congrFun (idx_in3 t)
  refine (congrArg (broadcastInDim S1x1024x2560 ![1, 2] bcast_S1024x2560_S1x1024x2560_1_2
      (truncf .bf16 (X3 m c) bitsLt_bf16_f32)) (funext fun a => Fin.ext ?_ : _ = ix3 0 k n)).trans ?_
  · match a with
    | ⟨0, _⟩ => show win0_3.index t 0 * 1 + 1 * 0 = 0; rw [e 0]; rfl
    | ⟨1, _⟩ => show win0_3.index t 1 * 1024 + 1 * k.val = k.val; rw [e 1]; show 0 * 1024 + 1 * k.val = _; omega
    | ⟨2, _⟩ => show win0_3.index t 2 * 2560 + 1 * n.val = n.val; rw [e 2]; show 0 * 2560 + 1 * n.val = _; omega
  · pointwise

theorem idx_out4 : ∀ t : Fin cfg0.N, win0_4.index t = ![t.val / 2, t.val % 2, 0] := (by decide +kernel : ∀ t : Fin grid0.N, _)

/-- What point `t` writes back to output 0 is that block of the reference's value. -/
theorem flushed4_eq (t : Fin cfg0.N) : (dats m 0 c).flushed 4 t
    = ((cfg0.win 4).blk t).view.read (Elt Ideal) (val_main_v35 (F := Ideal) (X0 m c) (X1 m c) (X2 m c) (X3 m c)) := by
  rw [Value.flushed4]
  refine funext fun (y : S1x1024x256.Idx) => ?_
  idx_vars y
  obtain rfl : y0 = 0 := Fin.ext (by omega)
  show out0_4 (F := Ideal) (iblk m c 0 t) (iblk m c 1 t) (iblk m c 2 t) (iblk m c 3 t) (ix3 0 y1 y2) = _
  rw [out4_apply (blk0 m c t) (blk1 m c t) (blk2 m c t) (blk3 m c t), View.read_apply]
  refine congrArg (val_main_v35 (F := Ideal) (X0 m c) (X1 m c) (X2 m c) (X3 m c)) (funext fun a => Fin.ext ?_)
  have e := congrFun (idx_out4 t)
  match a with
  | ⟨0, _⟩ => show t.val / 2 = win0_4.index t 0 * 1 + 1 * 0; rw [e 0]; show _ = t.val / 2 * 1 + 1 * 0; omega
  | ⟨1, _⟩ => show t.val % 2 * 1024 + y1.val = win0_4.index t 1 * 1024 + 1 * y1.val; rw [e 1]; show _ = t.val % 2 * 1024 + 1 * y1.val; omega
  | ⟨2, _⟩ => show y2.val = win0_4.index t 2 * 256 + 1 * y2.val; rw [e 2]; show _ = 0 * 256 + 1 * y2.val; omega

/-- Output 0's blocks cover its array. -/
theorem cover4 (i : S16x2048x256.Idx) : ∃ t : Fin cfg0.N, (cfg0.win 4).flush t = true ∧ i ∈ ((cfg0.win 4).blk t).view.set := by
  idx_vars i
  have hN : cfg0.N = 32 := N_0
  refine ⟨⟨i0.val * 2 + i1.val / 1024, by omega⟩, flush0_4 _, ?_⟩
  have e := congrFun (idx_out4 ⟨i0.val * 2 + i1.val / 1024, by omega⟩)
  generalize hx : (⟨i0.val * 2 + i1.val / 1024, by omega⟩ : Fin cfg0.N) = t at *
  have hv : t.val = i0.val * 2 + i1.val / 1024 := by rw [← hx]
  show ix3 i0 i1 i2 ∈ ((View.whole main_v3_0).slice (win0_4.rect t)).set
  rw [View.set_slice_whole, Rect.mem_set_unit]
  intro a
  match a with
  | ⟨0, _⟩ => show win0_4.index t 0 * 1 ≤ i0.val ∧ i0.val < win0_4.index t 0 * 1 + 1; rw [e 0]; show t.val / 2 * 1 ≤ i0.val ∧ i0.val < t.val / 2 * 1 + 1; omega
  | ⟨1, _⟩ => show win0_4.index t 1 * 1024 ≤ i1.val ∧ i1.val < win0_4.index t 1 * 1024 + 1024; rw [e 1]; show t.val % 2 * 1024 ≤ i1.val ∧ i1.val < t.val % 2 * 1024 + 1024; omega
  | ⟨2, _⟩ => show win0_4.index t 2 * 256 ≤ i2.val ∧ i2.val < win0_4.index t 2 * 256 + 256; rw [e 2]; show 0 * 256 ≤ i2.val ∧ i2.val < 0 * 256 + 256; omega

theorem final4 : (dats m 0 c).arrAt 4 cfg0.N = val_main_v35 (F := Ideal) (X0 m c) (X1 m c) (X2 m c) (X3 m c) :=
  (dats m 0 c).arrAt_eq_of_cover 4 _ (fun t _ => flushed4_eq m c t) cover4

theorem idx_out5 : ∀ t : Fin cfg0.N, win0_5.index t = ![t.val / 2, t.val % 2, 0] := (by decide +kernel : ∀ t : Fin grid0.N, _)

/-- What point `t` writes back to output 1 is that block of the reference's value. -/
theorem flushed5_eq (t : Fin cfg0.N) : (dats m 0 c).flushed 5 t
    = ((cfg0.win 5).blk t).view.read (Elt Ideal) (val_main_v38 (F := Ideal) (X0 m c) (X1 m c) (X2 m c) (X3 m c)) := by
  rw [Value.flushed5]
  refine funext fun (y : S1x1024x512.Idx) => ?_
  idx_vars y
  obtain rfl : y0 = 0 := Fin.ext (by omega)
  show out0_5 (F := Ideal) (iblk m c 0 t) (iblk m c 1 t) (iblk m c 2 t) (iblk m c 3 t) (ix3 0 y1 y2) = _
  rw [out5_apply (blk0 m c t) (blk1 m c t) (blk2 m c t) (blk3 m c t), View.read_apply]
  refine congrArg (val_main_v38 (F := Ideal) (X0 m c) (X1 m c) (X2 m c) (X3 m c)) (funext fun a => Fin.ext ?_)
  have e := congrFun (idx_out5 t)
  match a with
  | ⟨0, _⟩ => show t.val / 2 = win0_5.index t 0 * 1 + 1 * 0; rw [e 0]; show _ = t.val / 2 * 1 + 1 * 0; omega
  | ⟨1, _⟩ => show t.val % 2 * 1024 + y1.val = win0_5.index t 1 * 1024 + 1 * y1.val; rw [e 1]; show _ = t.val % 2 * 1024 + 1 * y1.val; omega
  | ⟨2, _⟩ => show y2.val = win0_5.index t 2 * 512 + 1 * y2.val; rw [e 2]; show _ = 0 * 512 + 1 * y2.val; omega

/-- Output 1's blocks cover its array. -/
theorem cover5 (i : S16x2048x512.Idx) : ∃ t : Fin cfg0.N, (cfg0.win 5).flush t = true ∧ i ∈ ((cfg0.win 5).blk t).view.set := by
  idx_vars i
  have hN : cfg0.N = 32 := N_0
  refine ⟨⟨i0.val * 2 + i1.val / 1024, by omega⟩, flush0_5 _, ?_⟩
  have e := congrFun (idx_out5 ⟨i0.val * 2 + i1.val / 1024, by omega⟩)
  generalize hx : (⟨i0.val * 2 + i1.val / 1024, by omega⟩ : Fin cfg0.N) = t at *
  have hv : t.val = i0.val * 2 + i1.val / 1024 := by rw [← hx]
  show ix3 i0 i1 i2 ∈ ((View.whole main_v3_1).slice (win0_5.rect t)).set
  rw [View.set_slice_whole, Rect.mem_set_unit]
  intro a
  match a with
  | ⟨0, _⟩ => show win0_5.index t 0 * 1 ≤ i0.val ∧ i0.val < win0_5.index t 0 * 1 + 1; rw [e 0]; show t.val / 2 * 1 ≤ i0.val ∧ i0.val < t.val / 2 * 1 + 1; omega
  | ⟨1, _⟩ => show win0_5.index t 1 * 1024 ≤ i1.val ∧ i1.val < win0_5.index t 1 * 1024 + 1024; rw [e 1]; show t.val % 2 * 1024 ≤ i1.val ∧ i1.val < t.val % 2 * 1024 + 1024; omega
  | ⟨2, _⟩ => show win0_5.index t 2 * 512 ≤ i2.val ∧ i2.val < win0_5.index t 2 * 512 + 512; rw [e 2]; show 0 * 512 ≤ i2.val ∧ i2.val < 0 * 512 + 512; omega

theorem final5 : (dats m 0 c).arrAt 5 cfg0.N = val_main_v38 (F := Ideal) (X0 m c) (X1 m c) (X2 m c) (X3 m c) :=
  (dats m 0 c).arrAt_eq_of_cover 5 _ (fun t _ => flushed5_eq m c t) cover5

theorem idx_out6 : ∀ t : Fin cfg0.N, win0_6.index t = ![t.val / 2, t.val % 2, 0] := (by decide +kernel : ∀ t : Fin grid0.N, _)

/-- What point `t` writes back to output 2 is that block of the reference's value. -/
theorem flushed6_eq (t : Fin cfg0.N) : (dats m 0 c).flushed 6 t
    = ((cfg0.win 6).blk t).view.read (Elt Ideal) (val_main_v39 (F := Ideal) (X0 m c) (X1 m c) (X2 m c) (X3 m c)) := by
  rw [Value.flushed6]
  refine funext fun (y : S1x1024x512.Idx) => ?_
  idx_vars y
  obtain rfl : y0 = 0 := Fin.ext (by omega)
  show out0_6 (F := Ideal) (iblk m c 0 t) (iblk m c 1 t) (iblk m c 2 t) (iblk m c 3 t) (ix3 0 y1 y2) = _
  rw [out6_apply (blk0 m c t) (blk1 m c t) (blk2 m c t) (blk3 m c t), View.read_apply]
  refine congrArg (val_main_v39 (F := Ideal) (X0 m c) (X1 m c) (X2 m c) (X3 m c)) (funext fun a => Fin.ext ?_)
  have e := congrFun (idx_out6 t)
  match a with
  | ⟨0, _⟩ => show t.val / 2 = win0_6.index t 0 * 1 + 1 * 0; rw [e 0]; show _ = t.val / 2 * 1 + 1 * 0; omega
  | ⟨1, _⟩ => show t.val % 2 * 1024 + y1.val = win0_6.index t 1 * 1024 + 1 * y1.val; rw [e 1]; show _ = t.val % 2 * 1024 + 1 * y1.val; omega
  | ⟨2, _⟩ => show y2.val = win0_6.index t 2 * 512 + 1 * y2.val; rw [e 2]; show _ = 0 * 512 + 1 * y2.val; omega

/-- Output 2's blocks cover its array. -/
theorem cover6 (i : S16x2048x512.Idx) : ∃ t : Fin cfg0.N, (cfg0.win 6).flush t = true ∧ i ∈ ((cfg0.win 6).blk t).view.set := by
  idx_vars i
  have hN : cfg0.N = 32 := N_0
  refine ⟨⟨i0.val * 2 + i1.val / 1024, by omega⟩, flush0_6 _, ?_⟩
  have e := congrFun (idx_out6 ⟨i0.val * 2 + i1.val / 1024, by omega⟩)
  generalize hx : (⟨i0.val * 2 + i1.val / 1024, by omega⟩ : Fin cfg0.N) = t at *
  have hv : t.val = i0.val * 2 + i1.val / 1024 := by rw [← hx]
  show ix3 i0 i1 i2 ∈ ((View.whole main_v3_2).slice (win0_6.rect t)).set
  rw [View.set_slice_whole, Rect.mem_set_unit]
  intro a
  match a with
  | ⟨0, _⟩ => show win0_6.index t 0 * 1 ≤ i0.val ∧ i0.val < win0_6.index t 0 * 1 + 1; rw [e 0]; show t.val / 2 * 1 ≤ i0.val ∧ i0.val < t.val / 2 * 1 + 1; omega
  | ⟨1, _⟩ => show win0_6.index t 1 * 1024 ≤ i1.val ∧ i1.val < win0_6.index t 1 * 1024 + 1024; rw [e 1]; show t.val % 2 * 1024 ≤ i1.val ∧ i1.val < t.val % 2 * 1024 + 1024; omega
  | ⟨2, _⟩ => show win0_6.index t 2 * 512 ≤ i2.val ∧ i2.val < win0_6.index t 2 * 512 + 512; rw [e 2]; show 0 * 512 ≤ i2.val ∧ i2.val < 0 * 512 + 512; omega

theorem final6 : (dats m 0 c).arrAt 6 cfg0.N = val_main_v39 (F := Ideal) (X0 m c) (X1 m c) (X2 m c) (X3 m c) :=
  (dats m 0 c).arrAt_eq_of_cover 6 _ (fun t _ => flushed6_eq m c t) cover6

theorem idx_out7 : ∀ t : Fin cfg0.N, win0_7.index t = ![t.val / 2, t.val % 2, 0] := (by decide +kernel : ∀ t : Fin grid0.N, _)

/-- What point `t` writes back to output 3 is that block of the reference's value. -/
theorem flushed7_eq (t : Fin cfg0.N) : (dats m 0 c).flushed 7 t
    = ((cfg0.win 7).blk t).view.read (Elt Ideal) (val_main_v40 (F := Ideal) (X0 m c) (X1 m c) (X2 m c) (X3 m c)) := by
  rw [Value.flushed7]
  refine funext fun (y : S1x1024x512.Idx) => ?_
  idx_vars y
  obtain rfl : y0 = 0 := Fin.ext (by omega)
  show out0_7 (F := Ideal) (iblk m c 0 t) (iblk m c 1 t) (iblk m c 2 t) (iblk m c 3 t) (ix3 0 y1 y2) = _
  rw [out7_apply (blk0 m c t) (blk1 m c t) (blk2 m c t) (blk3 m c t), View.read_apply]
  refine congrArg (val_main_v40 (F := Ideal) (X0 m c) (X1 m c) (X2 m c) (X3 m c)) (funext fun a => Fin.ext ?_)
  have e := congrFun (idx_out7 t)
  match a with
  | ⟨0, _⟩ => show t.val / 2 = win0_7.index t 0 * 1 + 1 * 0; rw [e 0]; show _ = t.val / 2 * 1 + 1 * 0; omega
  | ⟨1, _⟩ => show t.val % 2 * 1024 + y1.val = win0_7.index t 1 * 1024 + 1 * y1.val; rw [e 1]; show _ = t.val % 2 * 1024 + 1 * y1.val; omega
  | ⟨2, _⟩ => show y2.val = win0_7.index t 2 * 512 + 1 * y2.val; rw [e 2]; show _ = 0 * 512 + 1 * y2.val; omega

/-- Output 3's blocks cover its array. -/
theorem cover7 (i : S16x2048x512.Idx) : ∃ t : Fin cfg0.N, (cfg0.win 7).flush t = true ∧ i ∈ ((cfg0.win 7).blk t).view.set := by
  idx_vars i
  have hN : cfg0.N = 32 := N_0
  refine ⟨⟨i0.val * 2 + i1.val / 1024, by omega⟩, flush0_7 _, ?_⟩
  have e := congrFun (idx_out7 ⟨i0.val * 2 + i1.val / 1024, by omega⟩)
  generalize hx : (⟨i0.val * 2 + i1.val / 1024, by omega⟩ : Fin cfg0.N) = t at *
  have hv : t.val = i0.val * 2 + i1.val / 1024 := by rw [← hx]
  show ix3 i0 i1 i2 ∈ ((View.whole main_v3_3).slice (win0_7.rect t)).set
  rw [View.set_slice_whole, Rect.mem_set_unit]
  intro a
  match a with
  | ⟨0, _⟩ => show win0_7.index t 0 * 1 ≤ i0.val ∧ i0.val < win0_7.index t 0 * 1 + 1; rw [e 0]; show t.val / 2 * 1 ≤ i0.val ∧ i0.val < t.val / 2 * 1 + 1; omega
  | ⟨1, _⟩ => show win0_7.index t 1 * 1024 ≤ i1.val ∧ i1.val < win0_7.index t 1 * 1024 + 1024; rw [e 1]; show t.val % 2 * 1024 ≤ i1.val ∧ i1.val < t.val % 2 * 1024 + 1024; omega
  | ⟨2, _⟩ => show win0_7.index t 2 * 512 ≤ i2.val ∧ i2.val < win0_7.index t 2 * 512 + 512; rw [e 2]; show 0 * 512 ≤ i2.val ∧ i2.val < 0 * 512 + 512; omega

theorem final7 : (dats m 0 c).arrAt 7 cfg0.N = val_main_v40 (F := Ideal) (X0 m c) (X1 m c) (X2 m c) (X3 m c) :=
  (dats m 0 c).arrAt_eq_of_cover 7 _ (fun t _ => flushed7_eq m c t) cover7

theorem idx_out8 : ∀ t : Fin cfg0.N, win0_8.index t = ![t.val / 2, t.val % 2, 0] := (by decide +kernel : ∀ t : Fin grid0.N, _)

/-- What point `t` writes back to output 4 is that block of the reference's value. -/
theorem flushed8_eq (t : Fin cfg0.N) : (dats m 0 c).flushed 8 t
    = ((cfg0.win 8).blk t).view.read (Elt Ideal) (val_main_v27 (F := Ideal) (X0 m c) (X1 m c) (X2 m c) (X3 m c)) := by
  rw [Value.flushed8]
  refine funext fun (y : S1x1024x256.Idx) => ?_
  idx_vars y
  obtain rfl : y0 = 0 := Fin.ext (by omega)
  show out0_8 (F := Ideal) (iblk m c 0 t) (iblk m c 1 t) (iblk m c 2 t) (iblk m c 3 t) (ix3 0 y1 y2) = _
  rw [out8_apply (blk0 m c t) (blk1 m c t) (blk2 m c t) (blk3 m c t), View.read_apply]
  refine congrArg (val_main_v27 (F := Ideal) (X0 m c) (X1 m c) (X2 m c) (X3 m c)) (funext fun a => Fin.ext ?_)
  have e := congrFun (idx_out8 t)
  match a with
  | ⟨0, _⟩ => show t.val / 2 = win0_8.index t 0 * 1 + 1 * 0; rw [e 0]; show _ = t.val / 2 * 1 + 1 * 0; omega
  | ⟨1, _⟩ => show t.val % 2 * 1024 + y1.val = win0_8.index t 1 * 1024 + 1 * y1.val; rw [e 1]; show _ = t.val % 2 * 1024 + 1 * y1.val; omega
  | ⟨2, _⟩ => show y2.val = win0_8.index t 2 * 256 + 1 * y2.val; rw [e 2]; show _ = 0 * 256 + 1 * y2.val; omega

/-- Output 4's blocks cover its array. -/
theorem cover8 (i : S16x2048x256.Idx) : ∃ t : Fin cfg0.N, (cfg0.win 8).flush t = true ∧ i ∈ ((cfg0.win 8).blk t).view.set := by
  idx_vars i
  have hN : cfg0.N = 32 := N_0
  refine ⟨⟨i0.val * 2 + i1.val / 1024, by omega⟩, flush0_8 _, ?_⟩
  have e := congrFun (idx_out8 ⟨i0.val * 2 + i1.val / 1024, by omega⟩)
  generalize hx : (⟨i0.val * 2 + i1.val / 1024, by omega⟩ : Fin cfg0.N) = t at *
  have hv : t.val = i0.val * 2 + i1.val / 1024 := by rw [← hx]
  show ix3 i0 i1 i2 ∈ ((View.whole main_v3_4).slice (win0_8.rect t)).set
  rw [View.set_slice_whole, Rect.mem_set_unit]
  intro a
  match a with
  | ⟨0, _⟩ => show win0_8.index t 0 * 1 ≤ i0.val ∧ i0.val < win0_8.index t 0 * 1 + 1; rw [e 0]; show t.val / 2 * 1 ≤ i0.val ∧ i0.val < t.val / 2 * 1 + 1; omega
  | ⟨1, _⟩ => show win0_8.index t 1 * 1024 ≤ i1.val ∧ i1.val < win0_8.index t 1 * 1024 + 1024; rw [e 1]; show t.val % 2 * 1024 ≤ i1.val ∧ i1.val < t.val % 2 * 1024 + 1024; omega
  | ⟨2, _⟩ => show win0_8.index t 2 * 256 ≤ i2.val ∧ i2.val < win0_8.index t 2 * 256 + 256; rw [e 2]; show 0 * 256 ≤ i2.val ∧ i2.val < 0 * 256 + 256; omega

theorem final8 : (dats m 0 c).arrAt 8 cfg0.N = val_main_v27 (F := Ideal) (X0 m c) (X1 m c) (X2 m c) (X3 m c) :=
  (dats m 0 c).arrAt_eq_of_cover 8 _ (fun t _ => flushed8_eq m c t) cover8

theorem idx_out9 : ∀ t : Fin cfg0.N, win0_9.index t = ![t.val / 2, t.val % 2, 0] := (by decide +kernel : ∀ t : Fin grid0.N, _)

/-- What point `t` writes back to output 5 is that block of the reference's value. -/
theorem flushed9_eq (t : Fin cfg0.N) : (dats m 0 c).flushed 9 t
    = ((cfg0.win 9).blk t).view.read (Elt Ideal) (val_main_v28 (F := Ideal) (X0 m c) (X1 m c) (X2 m c) (X3 m c)) := by
  rw [Value.flushed9]
  refine funext fun (y : S1x1024x256.Idx) => ?_
  idx_vars y
  obtain rfl : y0 = 0 := Fin.ext (by omega)
  show out0_9 (F := Ideal) (iblk m c 0 t) (iblk m c 1 t) (iblk m c 2 t) (iblk m c 3 t) (ix3 0 y1 y2) = _
  rw [out9_apply (blk0 m c t) (blk1 m c t) (blk2 m c t) (blk3 m c t), View.read_apply]
  refine congrArg (val_main_v28 (F := Ideal) (X0 m c) (X1 m c) (X2 m c) (X3 m c)) (funext fun a => Fin.ext ?_)
  have e := congrFun (idx_out9 t)
  match a with
  | ⟨0, _⟩ => show t.val / 2 = win0_9.index t 0 * 1 + 1 * 0; rw [e 0]; show _ = t.val / 2 * 1 + 1 * 0; omega
  | ⟨1, _⟩ => show t.val % 2 * 1024 + y1.val = win0_9.index t 1 * 1024 + 1 * y1.val; rw [e 1]; show _ = t.val % 2 * 1024 + 1 * y1.val; omega
  | ⟨2, _⟩ => show y2.val = win0_9.index t 2 * 256 + 1 * y2.val; rw [e 2]; show _ = 0 * 256 + 1 * y2.val; omega

/-- Output 5's blocks cover its array. -/
theorem cover9 (i : S16x2048x256.Idx) : ∃ t : Fin cfg0.N, (cfg0.win 9).flush t = true ∧ i ∈ ((cfg0.win 9).blk t).view.set := by
  idx_vars i
  have hN : cfg0.N = 32 := N_0
  refine ⟨⟨i0.val * 2 + i1.val / 1024, by omega⟩, flush0_9 _, ?_⟩
  have e := congrFun (idx_out9 ⟨i0.val * 2 + i1.val / 1024, by omega⟩)
  generalize hx : (⟨i0.val * 2 + i1.val / 1024, by omega⟩ : Fin cfg0.N) = t at *
  have hv : t.val = i0.val * 2 + i1.val / 1024 := by rw [← hx]
  show ix3 i0 i1 i2 ∈ ((View.whole main_v3_5).slice (win0_9.rect t)).set
  rw [View.set_slice_whole, Rect.mem_set_unit]
  intro a
  match a with
  | ⟨0, _⟩ => show win0_9.index t 0 * 1 ≤ i0.val ∧ i0.val < win0_9.index t 0 * 1 + 1; rw [e 0]; show t.val / 2 * 1 ≤ i0.val ∧ i0.val < t.val / 2 * 1 + 1; omega
  | ⟨1, _⟩ => show win0_9.index t 1 * 1024 ≤ i1.val ∧ i1.val < win0_9.index t 1 * 1024 + 1024; rw [e 1]; show t.val % 2 * 1024 ≤ i1.val ∧ i1.val < t.val % 2 * 1024 + 1024; omega
  | ⟨2, _⟩ => show win0_9.index t 2 * 256 ≤ i2.val ∧ i2.val < win0_9.index t 2 * 256 + 256; rw [e 2]; show 0 * 256 ≤ i2.val ∧ i2.val < 0 * 256 + 256; omega

theorem final9 : (dats m 0 c).arrAt 9 cfg0.N = val_main_v28 (F := Ideal) (X0 m c) (X1 m c) (X2 m c) (X3 m c) :=
  (dats m 0 c).arrAt_eq_of_cover 9 _ (fun t _ => flushed9_eq m c t) cover9

/-- The kernel's run: its six results at the reference's values of its arguments, the arguments as they were. -/
theorem run : θ_run defs (onTc (τ := τ) (main (F := Ideal))) ⟨m, fun _ => 0, ρ⟩ fun r => ∀ c : Dev nD,
      r.2.mem ((c : Thread nD τ).loc main_v3_0) = val_main_v35 (F := Ideal) (X0 m c) (X1 m c) (X2 m c) (X3 m c)
      ∧ r.2.mem ((c : Thread nD τ).loc main_v3_1) = val_main_v38 (F := Ideal) (X0 m c) (X1 m c) (X2 m c) (X3 m c)
      ∧ r.2.mem ((c : Thread nD τ).loc main_v3_2) = val_main_v39 (F := Ideal) (X0 m c) (X1 m c) (X2 m c) (X3 m c)
      ∧ r.2.mem ((c : Thread nD τ).loc main_v3_3) = val_main_v40 (F := Ideal) (X0 m c) (X1 m c) (X2 m c) (X3 m c)
      ∧ r.2.mem ((c : Thread nD τ).loc main_v3_4) = val_main_v27 (F := Ideal) (X0 m c) (X1 m c) (X2 m c) (X3 m c)
      ∧ r.2.mem ((c : Thread nD τ).loc main_v3_5) = val_main_v28 (F := Ideal) (X0 m c) (X1 m c) (X2 m c) (X3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c),
      (h c).2.2.2.1.trans (final7 m c), (h c).2.2.2.2.1.trans (final8 m c), (h c).2.2.2.2.2.1.trans (final9 m c),
      (h c).2.2.2.2.2.2⟩) (Value.run_blocks m ρ)

end Cert.Proof.InProj

end
-- ==== Proof.Attn.lean ====
/- The softmax of an attention row, over the extended reals: with finite scores, powers of two of the scores in units of
   log 2 are powers of e of the scores, and dividing the sum is dividing each weight. -/
module

public import Idealize.ShloMosaic.PureOps.Ideal
public import Idealize.ShloMosaic.Lib.IdealHost
public import Idealize.ShloMosaic.Lib.Pointwise

@[expose] public section

noncomputable section

namespace Cert.Proof.Attn

open Idealize.ShloMosaic

/-- The greatest of finitely many reals, as an extended real from `⊥` upwards, is one of them. -/
theorem fold_max_coe {n : Nat} [NeZero n] (x : Fin n → ℝ) :
    ∃ M : ℝ, (Finset.univ.fold max ⊥ (fun k => ((x k : ℝ) : EReal)) = (M : EReal))
      ∧ Finset.univ.fold max ⊥ (fun k => (((x k / Real.log 2 : ℝ)) : EReal)) = ((M / Real.log 2 : ℝ) : EReal) := by
  obtain ⟨i, -, hi⟩ := Finset.exists_max_image Finset.univ x ⟨0, Finset.mem_univ _⟩
  have h2 : 0 < Real.log 2 := Real.log_pos (by norm_num)
  have key : ∀ y : Fin n → ℝ, (∀ k, y k ≤ y i) → Finset.univ.fold max ⊥ (fun k => ((y k : ℝ) : EReal)) = (y i : EReal) := by
    intro y hy
    refine le_antisymm ?_ ?_
    · rw [Finset.fold_max_le]
      exact ⟨bot_le, fun k _ => EReal.coe_le_coe_iff.mpr (hy k)⟩
    · rw [Finset.le_fold_max]
      exact Or.inr ⟨i, Finset.mem_univ _, le_rfl⟩
  exact ⟨x i, key x fun k => hi k (Finset.mem_univ _),
    key (fun k => x k / Real.log 2) fun k => div_le_div_of_nonneg_right (hi k (Finset.mem_univ _)) h2.le⟩

theorem exp2_div (x : ℝ) : Ideal.exp2 ((x / Real.log 2 : ℝ) : EReal) = Ideal.exp (x : EReal) := by
  rw [Ideal.exp2_coe, Ideal.exp_coe]
  refine congrArg _ ?_
  show (2 : ℝ) ^ (x / Real.log 2) = _
  rw [Real.rpow_def_of_pos (by norm_num)]
  refine congrArg _ ?_
  field_simp

theorem coe_sum {ι : Type} (s : Finset ι) (f : ι → ℝ) : ((∑ k ∈ s, f k : ℝ) : EReal) = ∑ k ∈ s, (f k : EReal) := by
  classical
  induction s using Finset.induction_on with
  | empty => simp
  | insert a t ha ih => rw [Finset.sum_insert ha, Finset.sum_insert ha, EReal.coe_add, ih]

/-- A sum of extended reals times a nonnegative real. -/
theorem sum_mul_coe {ι : Type} (s : Finset ι) (f : ι → EReal) {c : ℝ} (hc : 0 ≤ c) :
    (∑ k ∈ s, f k) * (c : EReal) = ∑ k ∈ s, f k * (c : EReal) := by
  classical
  induction s using Finset.induction_on with
  | empty => simp
  | insert a t ha ih =>
    rw [Finset.sum_insert ha, Finset.sum_insert ha, ← ih]
    exact EReal.right_distrib_of_nonneg_of_ne_top (EReal.coe_nonneg.mpr hc) (EReal.coe_ne_top _) _ _

/-- One row of attention: the kernel's form and the reference's form of the same weighted mean. -/
theorem row {n : Nat} [NeZero n] (x : Fin n → ℝ) (v : Fin n → EReal) :
    (∑ k, Ideal.exp2 (((x k / Real.log 2 : ℝ) : EReal) - Finset.univ.fold max ⊥ (fun k => (((x k / Real.log 2 : ℝ)) : EReal))) * v k)
        * Ideal.div 1 (∑ k, Ideal.exp2 (((x k / Real.log 2 : ℝ) : EReal) - Finset.univ.fold max ⊥ (fun k => (((x k / Real.log 2 : ℝ)) : EReal))))
      = ∑ k, Ideal.div (Ideal.exp ((x k : EReal) - Finset.univ.fold max ⊥ (fun k => ((x k : ℝ) : EReal))))
          (∑ k, Ideal.exp ((x k : EReal) - Finset.univ.fold max ⊥ (fun k => ((x k : ℝ) : EReal)))) * v k := by
  obtain ⟨M, h1, h2⟩ := fold_max_coe x
  rw [h1, h2]
  have e1 : ∀ k, Ideal.exp2 (((x k / Real.log 2 : ℝ) : EReal) - ((M / Real.log 2 : ℝ) : EReal)) = ((Real.exp (x k - M) : ℝ) : EReal) := by
    intro k
    rw [← EReal.coe_sub, ← sub_div, exp2_div, Ideal.exp_coe]
  have e2 : ∀ k, Ideal.exp ((x k : EReal) - (M : EReal)) = ((Real.exp (x k - M) : ℝ) : EReal) := by
    intro k
    rw [← EReal.coe_sub, Ideal.exp_coe]
  simp only [e1, e2]
  have hS : (∑ k, ((Real.exp (x k - M) : ℝ) : EReal)) = ((∑ k, Real.exp (x k - M) : ℝ) : EReal) := by
    rw [coe_sum]
  have hpos : 0 < ∑ k, Real.exp (x k - M) :=
    Finset.sum_pos (fun k _ => Real.exp_pos _) ⟨0, Finset.mem_univ _⟩
  rw [hS]
  generalize (∑ k, Real.exp (x k - M)) = S at *
  have hS0 : (S : EReal) ≠ 0 := by exact_mod_cast hpos.ne'
  have hd : ∀ a : EReal, Ideal.div a (S : EReal) = a * ((S⁻¹ : ℝ) : EReal) := by
    intro a
    unfold Ideal.div
    rw [if_neg hS0, EReal.coe_inv]
  rw [hd, one_mul, sum_mul_coe _ _ (inv_nonneg.mpr hpos.le)]
  refine Finset.sum_congr rfl fun k _ => ?_
  rw [hd]
  rw [mul_assoc, mul_assoc, mul_comm (v k)]

/-- The lanes of head `h` among the four heads of a step. -/
abbrev lane (h : Fin 4) (d : Fin 64) : Fin 256 := ⟨64 * h.val + d.val, by omega⟩

/-- A sum over the lanes that only one head's lanes enter. -/
theorem sum_head (f : Fin 256 → EReal) (h : Fin 4) :
    ∑ l : Fin 256, (if l.val / 64 = h.val then f l else 0) = ∑ d : Fin 64, f (lane h d) := by
  rw [← Finset.sum_filter]
  refine (Finset.sum_nbij' (fun d : Fin 64 => lane h d) (fun l : Fin 256 => (⟨l.val % 64, by omega⟩ : Fin 64)) ?_ ?_ ?_ ?_ ?_).symm
  · intro d _; simp only [Finset.mem_filter, Finset.mem_univ, true_and]; show (64 * h.val + d.val) / 64 = h.val; omega
  · intro l _; exact Finset.mem_univ _
  · intro d _; refine Fin.ext ?_; show (64 * h.val + d.val) % 64 = d.val; omega
  · intro l hl
    simp only [Finset.mem_filter, Finset.mem_univ, true_and] at hl
    refine Fin.ext ?_; show 64 * h.val + l.val % 64 = l.val; omega
  · intro d _; rfl

end Cert.Proof.Attn

end
-- ==== Proof.CtxBlock.lean ====
/- The attention among the context tokens, one block (one sequence, four heads) at a time. -/
module

public import proofs.«01_k».proof.Proof.Attn
public import proofs.«01_k».proof.Proof.Gen.Kernel3Ideal.Value
public import proofs.«01_k».proof.Proof.Gen.Reference3Ideal.Read
public import Idealize.ShloMosaic.Lib.KernelVsHost
public import Idealize.ShloMosaic.Lib.Pointwise
public import Idealize.ShloMosaic.Lib.ValueLayout
public import Idealize.ShloMosaic.Lib.ValueLayoutCasts

@[expose] public section

set_option maxRecDepth 16384

noncomputable section

namespace Cert.Proof.Ctx

open Idealize.ShloMosaic Cert.Kernel3Ideal Cert.Kernel3Ideal.Gen Cert.Reference3Ideal.Read Cert.Proof.Attn

theorem ofBits_bot : Ideal.ofBits .f32 0xFF800000#32 = ⊥ := by simp [Ideal.ofBits, Ideal.ieee]

theorem hz3 : (![0, 0, 0] : Fin 3 → Nat) = fun _ => 0 := funext fun a => by fin_cases a <;> rfl

/-- The head a lane belongs to, as the body computes it. -/
theorem head_eq : ∀ l : Fin 256, k0_pay2 (ix2 0 l) = BitVec.ofNat 32 (l.val / 64) := by
  decide +kernel

/-- The last head's queries. -/
abbrev last (x : Vec Ideal S1x256x256 .bf16) : FVec Ideal S256x256 .bf16 :=
  select (broadcastTo S256x256 (shapeCast S1x256 (cmpi .eq k0_pay2 (broadcast S1x256 3#32)) shapeCasts_S1x256_S1x256) broadcasts_S1x256_S256x256) (k0_pay3 x) (k0_pay4 (F := Ideal))

/-- The stacked queries: row block `h` keeps head `h`'s lanes. -/
abbrev stack (x : Vec Ideal S1x256x256 .bf16) : FVec Ideal S1024x256 .bf16 :=
  concatenate S1024x256 0 [⟨S256x256, k0_pay5 x⟩, ⟨S256x256, k0_pay6 x⟩, ⟨S256x256, k0_pay7 x⟩, ⟨S256x256, last x⟩]
    concatenates_S256x256_S256x256_S256x256_S256x256_S1024x256_d0

abbrev srow (h : Fin 4) (r : Fin 256) : Fin 1024 := ⟨256 * h.val + r.val, by omega⟩

theorem stack_apply (x : Vec Ideal S1x256x256 .bf16) (h : Fin 4) (r l : Fin 256) :
    stack x (ix2 (srow h r) l) = if l.val / 64 = h.val then x (ix3 0 r l) else 0 := by
  have ha : ∀ n : Fin 4, Scalar.select (IntOp.cmpi CmpIPredicate.eq (k0_pay2 (ix2 0 l)) (BitVec.ofNat 32 n.val)) (x (ix3 0 r l)) (0 : EReal)
      = if l.val / 64 = n.val then x (ix3 0 r l) else 0 := by
    intro n
    rw [head_eq l]
    have hl : l.val / 64 < 4 := by omega
    generalize l.val / 64 = g at *
    obtain ⟨g, rfl⟩ : ∃ g' : Fin 4, g = g'.val := ⟨⟨g, hl⟩, rfl⟩
    generalize x (ix3 0 r l) = y
    fin_cases g <;> fin_cases n <;> rfl
  have e0 : ∀ (r : Fin 256), k0_pay5 x (ix2 r l) = Scalar.select (IntOp.cmpi CmpIPredicate.eq (k0_pay2 (ix2 0 l)) 0#32) (x (ix3 0 r l)) (0 : EReal) := by
    intro r; pointwise [k0_pay5, k0_pay3, k0_pay4]
  have e1 : ∀ (r : Fin 256), k0_pay6 x (ix2 r l) = Scalar.select (IntOp.cmpi CmpIPredicate.eq (k0_pay2 (ix2 0 l)) 1#32) (x (ix3 0 r l)) (0 : EReal) := by
    intro r; pointwise [k0_pay6, k0_pay3, k0_pay4]
  have e2 : ∀ (r : Fin 256), k0_pay7 x (ix2 r l) = Scalar.select (IntOp.cmpi CmpIPredicate.eq (k0_pay2 (ix2 0 l)) 2#32) (x (ix3 0 r l)) (0 : EReal) := by
    intro r; pointwise [k0_pay7, k0_pay3, k0_pay4]
  have e3 : ∀ (r : Fin 256), last x (ix2 r l) = Scalar.select (IntOp.cmpi CmpIPredicate.eq (k0_pay2 (ix2 0 l)) 3#32) (x (ix3 0 r l)) (0 : EReal) := by
    intro r; pointwise [last, k0_pay3, k0_pay4]
  unfold stack
  generalize k0_pay5 x = A0 at *
  generalize k0_pay6 x = A1 at *
  generalize k0_pay7 x = A2 at *
  generalize last x = A3 at *
  have hs : ∀ (n : Nat) (hn : n < 256), n = r.val → (⟨n, hn⟩ : Fin 256) = r := fun n hn e => Fin.ext e
  fin_cases h
  · pointwise
    exact (e0 r).trans (ha 0)
  · pointwise
    exact (e1 r).trans (ha 1)
  · pointwise
    rw [dif_neg (by omega), dif_neg (by omega), dif_pos (by omega), e2]
    rw [hs _ (by omega) (by omega)]
    exact ha 2
  · pointwise
    rw [dif_neg (by omega), dif_neg (by omega), dif_neg (by omega), e3]
    rw [hs _ (by omega) (by omega)]
    exact ha 3

/-- The scores of the stacked queries against the keys. -/
def scores (Q : FVec Ideal S1024x256 .bf16) (x1 : Vec Ideal S1x256x256 .bf16) : FVec Ideal S1024x256 .f32 :=
  matmul dot_S1024x256_S256x256_S1024x256_1_1_0_0_n_n none Q (shapeCast S256x256 x1 shapeCasts_S1x256x256_S256x256 : FVec Ideal S256x256 .bf16)
    (constant S1024x256 .f32 0x00000000#32)

/-- The powers of two of the scores less their greatest. -/
def powers (S : FVec Ideal S1024x256 .f32) : FVec Ideal S1024x256 .f32 :=
  exp2 (subf S (broadcastTo S1024x256 (shapeCast S1024x1 (multiReduction .maximumf [1] S1024 S 0xFF800000#32 reduces_S1024x256_S1024 (.inl rfl) rfl)
    shapeCasts_S1024_S1024x1) broadcasts_S1024x1_S1024x256))

/-- The weighted means of the values, every stacked row over every lane. -/
def means (P : FVec Ideal S1024x256 .f32) (x2 : Vec Ideal S1x256x256 .bf16) : FVec Ideal S1024x256 .f32 :=
  mulf (matmul dot_S1024x256_S256x256_S1024x256_1_0_0_1_n_n none (truncf .bf16 P bitsLt_bf16_f32 : FVec Ideal S1024x256 .bf16)
      (shapeCast S256x256 x2 shapeCasts_S1x256x256_S256x256 : FVec Ideal S256x256 .bf16) (constant S1024x256 .f32 0x00000000#32))
    (broadcastTo S1024x256 (divf (broadcast S1024x1 (Scalar.ofBits .f32 0x3F800000#32 : Ideal .f32))
      (shapeCast S1024x1 (multiReduction .add [1] S1024 P 0x00000000#32 reduces_S1024x256_S1024 (.inl rfl) rfl) shapeCasts_S1024_S1024x1)) broadcasts_S1024x1_S1024x256)

abbrev onHead (v : BitVec 32) : IVec S256x256 1 :=
  broadcastTo S256x256 (shapeCast S1x256 (cmpi .eq k0_pay2 (broadcast S1x256 v)) shapeCasts_S1x256_S1x256) broadcasts_S1x256_S256x256

/-- Each lane taken from its head's row block. -/
def unstack (W : FVec Ideal S1024x256 .f32) : FVec Ideal S256x256 .bf16 :=
  truncf .bf16 (select (onHead 3#32) (extractStridedSlice S256x256 ![768, 0] W slices_S1024x256_o768_0_S256x256)
    (select (onHead 2#32) (extractStridedSlice S256x256 ![512, 0] W slices_S1024x256_o512_0_S256x256)
      (select (onHead 1#32) (extractStridedSlice S256x256 ![256, 0] W slices_S1024x256_o256_0_S256x256)
        (extractStridedSlice S256x256 ![0, 0] W slices_S1024x256_o0_0_S256x256)))) bitsLt_bf16_f32

theorem pay8_eq (x0 x1 x2 : Vec Ideal S1x256x256 .bf16) :
    k0_pay8 (F := Ideal) k0_pay2 (k0_pay3 x0) (k0_pay4 (F := Ideal)) (k0_pay5 x0) (k0_pay6 x0) (k0_pay7 x0) 3#32 x1 x2
      = unstack (means (powers (scores (stack x0) x1)) x2) := rfl

theorem onHead_apply (n : Fin 4) (r : Fin 256) (h : Fin 4) (d : Fin 64) :
    onHead (BitVec.ofNat 32 n.val) (ix2 r (lane h d)) = if h = n then 1#1 else 0#1 := by
  have e := head_eq (lane h d)
  have e' : (64 * h.val + d.val) / 64 = h.val := by omega
  pointwise [onHead]
  rw [e]
  show IntOp.cmpi .eq (BitVec.ofNat 32 ((64 * h.val + d.val) / 64)) _ = _
  rw [e']
  fin_cases h <;> fin_cases n <;> rfl

theorem unstack_apply (W : FVec Ideal S1024x256 .f32) (h : Fin 4) (r : Fin 256) (d : Fin 64) :
    unstack W (ix2 r (lane h d)) = W (ix2 (srow h r) (lane h d)) := by
  have e1 := onHead_apply 1 r h d
  have e2 := onHead_apply 2 r h d
  have e3 := onHead_apply 3 r h d
  unfold unstack
  change onHead 1#32 _ = _ at e1
  change onHead 2#32 _ = _ at e2
  change onHead 3#32 _ = _ at e3
  generalize onHead 1#32 = H1 at *
  generalize onHead 2#32 = H2 at *
  generalize onHead 3#32 = H3 at *
  pointwise
  rw [e1, e2, e3]
  have hw : ∀ (n : Nat) (hn : n + r.val < 1024) (hn' : 64 * h.val + d.val < 256), n = 256 * h.val →
      W (ix2 ⟨n + r.val, hn⟩ ⟨64 * h.val + d.val, hn'⟩) = W (ix2 (srow h r) (lane h d)) := by
    intro n hn hn' he; subst he; rfl
  have hw0 : ∀ (hn : r.val < 1024) (hn' : 64 * h.val + d.val < 256), h.val = 0 →
      W (ix2 ⟨r.val, hn⟩ ⟨64 * h.val + d.val, hn'⟩) = W (ix2 (srow h r) (lane h d)) := by
    intro hn hn' he
    refine congrArg W (congrArg₂ ix2 (Fin.ext ?_) rfl)
    show r.val = 256 * h.val + r.val; omega
  fin_cases h
  · exact hw0 _ _ rfl
  · exact hw 256 _ _ rfl
  · exact hw 512 _ _ rfl
  · exact hw 768 _ _ rfl

theorem scores_apply (Q : FVec Ideal S1024x256 .bf16) (x1 : Vec Ideal S1x256x256 .bf16) (a : Fin 1024) (j : Fin 256) :
    scores Q x1 (ix2 a j) = ∑ l : Fin 256, Q (ix2 a l) * x1 (ix3 0 j l) := by
  pointwise [scores]

theorem powers_apply (S : FVec Ideal S1024x256 .f32) (a : Fin 1024) (j : Fin 256) :
    powers S (ix2 a j) = Ideal.exp2 (S (ix2 a j) - Finset.univ.fold max ⊥ fun k : Fin 256 => S (ix2 a k)) := by
  pointwise [powers]
  rw [ofBits_bot]
  rfl

theorem means_apply (P : FVec Ideal S1024x256 .f32) (x2 : Vec Ideal S1x256x256 .bf16) (a : Fin 1024) (l : Fin 256) :
    means P x2 (ix2 a l) = (∑ k : Fin 256, P (ix2 a k) * x2 (ix3 0 k l)) * Ideal.div 1 (∑ k : Fin 256, P (ix2 a k)) := by
  pointwise [means]

variable (X0 X1 X2 : FVec Ideal S16x256x512 .f32)

abbrev hl (h : Fin 8) (d : Fin 64) : Fin 512 := ⟨64 * h.val + d.val, by omega⟩

/-- The reference's scores. -/
theorem ref_scores (b : Fin 16) (h : Fin 8) (r k : Fin 256) :
    val_main_v8 (F := Ideal) X0 X1 (ix4 b h r k)
      = (∑ d : Fin 64, X0 (ix3 b r (hl h d)) * X1 (ix3 b k (hl h d))) * Ideal.ofBits .f32 0x3E000000#32 := by
  pointwise [val_main_v8, val_main_v7, val_main_cst, val_main_v6, val_main_v3, val_main_v2, val_main_v1, val_main_v0]
  refine congrArg (· * _) (Finset.sum_congr rfl fun d _ => ?_)
  have e : ∀ hd, (⟨h.val * 64 + d.val, hd⟩ : Fin 512) = hl h d := fun hd => Fin.ext (by show h.val * 64 + d.val = 64 * h.val + d.val; omega)
  rw [e]

theorem ref_max0 (V : FVec Ideal Cert.Reference3Ideal.S16x8x256x256 .f32) (b : Fin 16) (h : Fin 8) (r : Fin 256) :
    Host.reduce FloatOps.maximumf V (constant Cert.Reference3Ideal.S_ .f32 0xFF800000#32) Cert.Reference3Ideal.Gen.reducesTo_S16x8x256x256_S16x8x256_d3 Cert.Reference3Ideal.Gen.h_S_ (ix3 b h r)
      = Finset.univ.fold max ⊥ fun k : Fin 256 => V (ix4 b h r k) := by
  have hr : Cert.Reference3Ideal.S16x8x256x256.Reduces [3] Cert.Reference3Ideal.S16x8x256 := by decide
  rw [hostReduce_maximumf_eq_multiReduction V 0xFF800000#32 Cert.Reference3Ideal.Gen.reducesTo_S16x8x256x256_S16x8x256_d3 Cert.Reference3Ideal.Gen.h_S_ hr (by decide) rfl]
  pointwise
  rw [ofBits_bot]

theorem ref_max (b : Fin 16) (h : Fin 8) (r : Fin 256) :
    val_main_v11 (F := Ideal) X0 X1 (ix3 b h r) = Finset.univ.fold max ⊥ fun k => val_main_v8 (F := Ideal) X0 X1 (ix4 b h r k) := by
  rw [val_main_v11_apply, val_main_v10_apply]
  unfold val_main_v9 val_main_cst_0
  rw [ref_max0]
  show max (Ideal.ofBits .f32 0xFF800000#32) _ = _
  rw [ofBits_bot]
  exact max_eq_right bot_le

theorem ref_exp (b : Fin 16) (h : Fin 8) (r k : Fin 256) :
    val_main_v15 (F := Ideal) X0 X1 (ix4 b h r k)
      = Ideal.exp (val_main_v8 (F := Ideal) X0 X1 (ix4 b h r k) - Finset.univ.fold max ⊥ fun k => val_main_v8 (F := Ideal) X0 X1 (ix4 b h r k)) := by
  rw [← ref_max]
  unfold val_main_v15 val_main_v14 val_main_v13 val_main_v12
  generalize val_main_v8 (F := Ideal) X0 X1 = V
  generalize val_main_v11 (F := Ideal) X0 X1 = M
  pointwise

theorem ref_weight (b : Fin 16) (h : Fin 8) (r k : Fin 256) :
    val_main_v19 (F := Ideal) X0 X1 (ix4 b h r k)
      = Ideal.div (val_main_v15 (F := Ideal) X0 X1 (ix4 b h r k)) (∑ k, val_main_v15 (F := Ideal) X0 X1 (ix4 b h r k)) := by
  unfold val_main_v19 val_main_v18 val_main_v17 val_main_v16
  generalize val_main_v15 (F := Ideal) X0 X1 = E
  pointwise [val_main_cst_2]

theorem ref_out (b : Fin 16) (h : Fin 8) (r : Fin 256) (d : Fin 64) :
    val_main_v23 (F := Ideal) X0 X1 X2 (ix3 b r (hl h d))
      = ∑ k, val_main_v19 (F := Ideal) X0 X1 (ix4 b h r k) * X2 (ix3 b k (hl h d)) := by
  unfold val_main_v23 val_main_v22 val_main_v21 val_main_v20
  generalize val_main_v19 (F := Ideal) X0 X1 = W
  pointwise [val_main_v5, val_main_v4]
  refine Finset.sum_congr rfl fun k _ => congrArg₂ (· * ·) (congrArg W ?_) (congrArg X2 ?_)
  · refine congrArg (fun a => ix4 b a r k) (Fin.ext ?_)
    show (64 * h.val + d.val) / 64 = h.val; omega
  · refine congrArg (fun a => ix3 b k a) (Fin.ext ?_)
    show (64 * h.val + d.val) / 64 * 64 + (64 * h.val + d.val) % 64 = 64 * h.val + d.val; omega

/-- The factor on the queries: an eighth, in units of log 2. -/
theorem factor_eq : Ideal.div (Ideal.ofBits .f32 0x3E000000#32) (Ideal.log (Ideal.ofBits .f32 0x40000000#32)) = ((1 / 8 / Real.log 2 : ℝ) : EReal) := by
  have e8 : Ideal.ofBits .f32 0x3E000000#32 = ((1 / 8 : ℝ) : EReal) := by
    simp [Ideal.ofBits, Ideal.ieee, -EReal.coe_mul]; norm_num
  have e2 : Ideal.ofBits .f32 0x40000000#32 = ((2 : ℝ) : EReal) := by
    simp [Ideal.ofBits, Ideal.ieee, -EReal.coe_mul]; norm_num
  have h2 : Real.log 2 ≠ 0 := (Real.log_pos (by norm_num)).ne'
  have h2' : ((Real.log 2 : ℝ) : EReal) ≠ 0 := by exact_mod_cast h2
  rw [e8, e2, Ideal.log_coe, if_neg (by norm_num)]
  unfold Ideal.div
  rw [if_neg h2', ← EReal.coe_inv, ← EReal.coe_mul, div_eq_mul_inv (1 / 8 : ℝ)]

theorem eighth_eq : Ideal.ofBits .f32 0x3E000000#32 = ((1 / 8 : ℝ) : EReal) := by
  simp [Ideal.ofBits, Ideal.ieee, -EReal.coe_mul]; norm_num

theorem stacked_scores (x0 x1 : Vec Ideal S1x256x256 .bf16) (h : Fin 4) (r k : Fin 256) :
    scores (stack x0) x1 (ix2 (srow h r) k) = ∑ d : Fin 64, x0 (ix3 0 r (lane h d)) * x1 (ix3 0 k (lane h d)) := by
  rw [scores_apply, ← sum_head (fun l => x0 (ix3 0 r l) * x1 (ix3 0 k l)) h]
  refine Finset.sum_congr rfl fun l _ => ?_
  rw [stack_apply]
  split
  · rfl
  · exact zero_mul _

variable {X0 X1 X2}

/-- Where group `g`'s lane `l` lies among the 512. -/
abbrev wide (g : Fin 2) (l : Fin 256) : Fin 512 := ⟨g.val * 256 + l.val, by omega⟩

/-- One block of the kernel's result is that block of the reference's. -/
theorem block_apply {x0 x1 x2 : Vec Ideal S1x256x256 .bf16} {b : Fin 16} {g : Fin 2}
    (h0 : ∀ r l, x0 (ix3 0 r l) = X0 (ix3 b r (wide g l)) * Ideal.div (Ideal.ofBits .f32 0x3E000000#32) (Ideal.log (Ideal.ofBits .f32 0x40000000#32)))
    (h1 : ∀ r l, x1 (ix3 0 r l) = X1 (ix3 b r (wide g l)))
    (h2 : ∀ r l, x2 (ix3 0 r l) = X2 (ix3 b r (wide g l)))
    (f0 : ∀ i, ∃ a : ℝ, X0 i = (a : EReal)) (f1 : ∀ i, ∃ a : ℝ, X1 i = (a : EReal)) (r l : Fin 256) :
    unstack (means (powers (scores (stack x0) x1)) x2) (ix2 r l) = val_main_v23 (F := Ideal) X0 X1 X2 (ix3 b r (wide g l)) := by
  choose a0 e0 using f0
  choose a1 e1 using f1
  obtain ⟨h, d, rfl⟩ : ∃ (h : Fin 4) (d : Fin 64), l = lane h d :=
    ⟨⟨l.val / 64, by omega⟩, ⟨l.val % 64, by omega⟩, Fin.ext (by show l.val = 64 * (l.val / 64) + l.val % 64; omega)⟩
  let H : Fin 8 := ⟨4 * g.val + h.val, by omega⟩
  have hw : ∀ d : Fin 64, wide g (lane h d) = hl H d := fun d => Fin.ext (by
    show g.val * 256 + (64 * h.val + d.val) = 64 * (4 * g.val + h.val) + d.val; omega)
  let z : Fin 256 → ℝ := fun k => (∑ d : Fin 64, a0 (ix3 b r (hl H d)) * a1 (ix3 b k (hl H d))) * (1 / 8)
  have hk : ∀ k, scores (stack x0) x1 (ix2 (srow h r) k) = ((z k / Real.log 2 : ℝ) : EReal) := by
    intro k
    rw [stacked_scores]
    have : ∀ d : Fin 64, x0 (ix3 0 r (lane h d)) * x1 (ix3 0 k (lane h d))
        = ((a0 (ix3 b r (hl H d)) * a1 (ix3 b k (hl H d)) * (1 / 8 / Real.log 2) : ℝ) : EReal) := by
      intro d
      rw [h0, h1, factor_eq, hw, e0, e1, ← EReal.coe_mul, ← EReal.coe_mul]
      refine congrArg _ ?_
      ring
    rw [Finset.sum_congr rfl fun d _ => this d, ← coe_sum, ← Finset.sum_mul]
    refine congrArg _ ?_
    show _ = _ * (1 / 8) / Real.log 2
    ring
  have hr : ∀ k, val_main_v8 (F := Ideal) X0 X1 (ix4 b H r k) = ((z k : ℝ) : EReal) := by
    intro k
    rw [ref_scores, eighth_eq]
    have : ∀ d : Fin 64, X0 (ix3 b r (hl H d)) * X1 (ix3 b k (hl H d)) = ((a0 (ix3 b r (hl H d)) * a1 (ix3 b k (hl H d)) : ℝ) : EReal) := by
      intro d
      rw [e0, e1, EReal.coe_mul]
    rw [Finset.sum_congr rfl fun d _ => this d, ← coe_sum, ← EReal.coe_mul]
  have hp : ∀ k, powers (scores (stack x0) x1) (ix2 (srow h r) k)
      = Ideal.exp2 (((z k / Real.log 2 : ℝ) : EReal) - Finset.univ.fold max ⊥ (fun k => (((z k / Real.log 2 : ℝ)) : EReal))) := by
    intro k
    rw [powers_apply, hk, funext hk]
  have hx : ∀ k, val_main_v15 (F := Ideal) X0 X1 (ix4 b H r k)
      = Ideal.exp (((z k : ℝ) : EReal) - Finset.univ.fold max ⊥ (fun k => ((z k : ℝ) : EReal))) := by
    intro k
    rw [ref_exp, hr, funext hr]
  rw [unstack_apply, means_apply, hw, ref_out]
  have hv : ∀ k, x2 (ix3 0 k (lane h d)) = X2 (ix3 b k (hl H d)) := fun k => by rw [h2, hw]
  simp only [hp, hv, ref_weight, hx]
  exact row z fun k => X2 (ix3 b k (hl H d))

end Cert.Proof.Ctx

end
-- ==== Proof.Ctx.lean ====
/- The attention among the context tokens as a whole: the array the pipeline writes is the reference's value, where the
   queries and the keys are finite. -/
module

public import proofs.«01_k».proof.Proof.CtxBlock
public import proofs.«01_k».proof.Proof.Gen.Reference3Ideal.Run
public import proofs.«01_k».proof.Proof.Gen.Pre_finite_scores
public import Idealize.ShloMosaic.Lib.ReduceAll

@[expose] public section

set_option maxRecDepth 16384

noncomputable section

namespace Cert.Proof.Ctx

open Idealize.ShloMosaic Cert.Kernel3Ideal Cert.Kernel3Ideal.Gen Cert.Reference3Ideal.Read
open Idealize.ShloMosaic.Tactic Idealize.ShloMosaic.TcCoe Idealize.SL.Sem
open Idealize.ShloMosaic.Pipeline (Dat)

/-- What the precondition says: every query and every key is a real number. -/
theorem finite_of (x0 x1 x2 : FVec Ideal S16x256x512 .f32) (i : Cert.Pre_finite_scores.S_.Idx)
    (h : Cert.Pre_finite_scores.fn (F := Ideal) x0 x1 x2 i = 1#1) :
    (∀ j, ∃ a : ℝ, x0 j = (a : EReal)) ∧ ∀ j, ∃ a : ℝ, x1 j = (a : EReal) := by
  have top : Ideal.ofBits .f32 0x7F800000#32 = ⊤ := by simp [Ideal.ofBits, Ideal.ieee]
  have key : ∀ a : EReal, IntOp.andi (Ideal.cmp .ogt a (Ideal.ofBits .f32 0xFF800000#32)) (Ideal.cmp .olt a (Ideal.ofBits .f32 0x7F800000#32)) = 1#1
      → ∃ y : ℝ, a = (y : EReal) := by
    intro a ha
    rw [ofBits_bot, top] at ha
    induction a using EReal.rec with
    | bot => exact absurd ha (by simp [Ideal.cmp, IntOp.andi])
    | top => exact absurd ha (by simp [Ideal.cmp, IntOp.andi])
    | coe y => exact ⟨y, rfl⟩
  unfold Cert.Pre_finite_scores.fn at h
  obtain ⟨ha, hb⟩ := IntOp.andi_eq_one.1 h
  haveI : Subsingleton Cert.Pre_finite_scores.S_.Idx := ⟨fun a b => funext fun k => k.elim0⟩
  exact ⟨fun j => key _ (Host.reduce_andi_all _ _ _ _ _ ha j), fun j => key _ (Host.reduce_andi_all _ _ _ _ _ hb j)⟩

variable (m : (ℓ : Loc nD τ sig) → Buf (Elt Ideal) ℓ) (ρ : Dev nD → PrngReg) (c : Dev nD)

/-- The sequence and the group of four heads a grid point takes. -/
abbrev bOf (t : Fin cfg0.N) : Fin 16 := ⟨t.val / 2, by have := t.isLt; have : cfg0.N = 32 := N_0; omega⟩
abbrev gOf (t : Fin cfg0.N) : Fin 2 := ⟨t.val % 2, by omega⟩

abbrev A0 : FVec Ideal S16x256x512 .f32 := m ((c : Thread nD τ).loc main_arg0)
abbrev A1 : FVec Ideal S16x256x512 .f32 := m ((c : Thread nD τ).loc main_arg1)
abbrev A2 : FVec Ideal S16x256x512 .f32 := m ((c : Thread nD τ).loc main_arg2)

theorem idx_in0 : ∀ t : Fin cfg0.N, win0_0.index t = ![t.val / 2, 0, t.val % 2] := (by decide +kernel : ∀ t : Fin grid0.N, _)
theorem idx_in1 : ∀ t : Fin cfg0.N, win0_1.index t = ![t.val / 2, 0, t.val % 2] := (by decide +kernel : ∀ t : Fin grid0.N, _)
theorem idx_in2 : ∀ t : Fin cfg0.N, win0_2.index t = ![t.val / 2, 0, t.val % 2] := (by decide +kernel : ∀ t : Fin grid0.N, _)
theorem idx_out : ∀ t : Fin cfg0.N, win0_3.index t = ![t.val / 2, 0, t.val % 2] := (by decide +kernel : ∀ t : Fin grid0.N, _)

/-- The queries as the call takes them. -/
abbrev scaled : FVec Ideal S16x256x512 .bf16 :=
  truncf .bf16 (mulf (A0 m c) (broadcastInDim S16x256x512 ![] bcast_S_S16x256x512
    (Host.divf (constant S_ .f32 0x3E000000#32) (Host.log (constant S_ .f32 0x40000000#32))))) bitsLt_bf16_f32

theorem blk0 (t : Fin cfg0.N) (r l : Fin 256) : iblk m c 0 t (ix3 0 r l)
    = A0 m c (ix3 (bOf t) r (wide (gOf t) l)) * Ideal.div (Ideal.ofBits .f32 0x3E000000#32) (Ideal.log (Ideal.ofBits .f32 0x40000000#32)) := by
  unfold iblk
  have hV : V m c (Pipeline.arrRef spec0 0) = scaled m c := by
    show StableHlo.after hostOps0 (fun b => m (c, b)) main_v4 = _
    unfold hostOps0
    after_results
    try rfl
  rw [hV, View.read_apply]
  have e := congrFun (idx_in0 t)
  refine (congrArg (scaled m c) (funext fun a => Fin.ext ?_ : _ = ix3 (bOf t) r (wide (gOf t) l))).trans ?_
  · match a with
    | ⟨0, _⟩ => show win0_0.index t 0 * 1 + 1 * 0 = t.val / 2; rw [e 0]; show t.val / 2 * 1 + 1 * 0 = _; omega
    | ⟨1, _⟩ => show win0_0.index t 1 * 256 + 1 * r.val = r.val; rw [e 1]; show 0 * 256 + 1 * r.val = _; omega
    | ⟨2, _⟩ => show win0_0.index t 2 * 256 + 1 * l.val = t.val % 2 * 256 + l.val; rw [e 2]; show t.val % 2 * 256 + 1 * l.val = _; omega
  · unfold scaled
    generalize A0 m c = Q
    pointwise
    try rfl

theorem blk1 (t : Fin cfg0.N) (r l : Fin 256) : iblk m c 1 t (ix3 0 r l) = A1 m c (ix3 (bOf t) r (wide (gOf t) l)) := by
  unfold iblk
  have hV : V m c (Pipeline.arrRef spec0 1) = (truncf .bf16 (A1 m c) bitsLt_bf16_f32 : FVec Ideal S16x256x512 .bf16) := by
    show StableHlo.after hostOps0 (fun b => m (c, b)) main_v5 = _
    unfold hostOps0
    after_results
    try rfl
  rw [hV, View.read_apply]
  have e := congrFun (idx_in1 t)
  refine congrArg (A1 m c) (funext fun a => Fin.ext ?_ : _ = ix3 (bOf t) r (wide (gOf t) l))
  match a with
  | ⟨0, _⟩ => show win0_1.index t 0 * 1 + 1 * 0 = t.val / 2; rw [e 0]; show t.val / 2 * 1 + 1 * 0 = _; omega
  | ⟨1, _⟩ => show win0_1.index t 1 * 256 + 1 * r.val = r.val; rw [e 1]; show 0 * 256 + 1 * r.val = _; omega
  | ⟨2, _⟩ => show win0_1.index t 2 * 256 + 1 * l.val = t.val % 2 * 256 + l.val; rw [e 2]; show t.val % 2 * 256 + 1 * l.val = _; omega

theorem blk2 (t : Fin cfg0.N) (r l : Fin 256) : iblk m c 2 t (ix3 0 r l) = A2 m c (ix3 (bOf t) r (wide (gOf t) l)) := by
  unfold iblk
  have hV : V m c (Pipeline.arrRef spec0 2) = (truncf .bf16 (A2 m c) bitsLt_bf16_f32 : FVec Ideal S16x256x512 .bf16) := by
    show StableHlo.after hostOps0 (fun b => m (c, b)) main_v6 = _
    unfold hostOps0
    after_results
    try rfl
  rw [hV, View.read_apply]
  have e := congrFun (idx_in2 t)
  refine congrArg (A2 m c) (funext fun a => Fin.ext ?_ : _ = ix3 (bOf t) r (wide (gOf t) l))
  match a with
  | ⟨0, _⟩ => show win0_2.index t 0 * 1 + 1 * 0 = t.val / 2; rw [e 0]; show t.val / 2 * 1 + 1 * 0 = _; omega
  | ⟨1, _⟩ => show win0_2.index t 1 * 256 + 1 * r.val = r.val; rw [e 1]; show 0 * 256 + 1 * r.val = _; omega
  | ⟨2, _⟩ => show win0_2.index t 2 * 256 + 1 * l.val = t.val % 2 * 256 + l.val; rw [e 2]; show t.val % 2 * 256 + 1 * l.val = _; omega

/-- What a point leaves in the output block, the whole block being stored at once. -/
theorem out_eq (x0 x1 x2 : Vec Ideal S1x256x256 .bf16) (r l : Fin 256) :
    out0_3 (F := Ideal) x0 x1 x2 (ix3 0 r l) = unstack (means (powers (scores (stack x0) x1)) x2) (ix2 r l) := by
  unfold out0_3
  rw [pay8_eq]
  have hl : ∀ x : Vec Ideal S1x256x256 .bf16, View.ld x r0_0 = x := fun x => by
    refine funext fun y => congrArg x (funext fun a => Fin.ext ?_)
    fin_cases a <;> (show 0 + 1 * _ = _; omega)
  rw [hl, hl, hl]
  generalize unstack (means (powers (scores (stack x0) x1)) x2) = W
  rw [View.canon_unit_zero hz3]
  pointwise [k0_pay1]

variable (hf : ∀ c : Dev nD, (∀ j, ∃ a : ℝ, A0 m c j = (a : EReal)) ∧ ∀ j, ∃ a : ℝ, A1 m c j = (a : EReal))
include hf

/-- What point `t` writes back is that block of the reference's value. -/
theorem flushed_eq (t : Fin cfg0.N) : (dats m 0 c).flushed 3 t
    = ((cfg0.win 3).blk t).view.read (Elt Ideal) (val_main_v23 (F := Ideal) (A0 m c) (A1 m c) (A2 m c)) := by
  rw [Value.flushed3]
  refine funext fun (y : S1x256x256.Idx) => ?_
  idx_vars y
  obtain rfl : y0 = 0 := Fin.ext (by omega)
  show out0_3 (F := Ideal) (iblk m c 0 t) (iblk m c 1 t) (iblk m c 2 t) (ix3 0 y1 y2) = _
  rw [out_eq, block_apply (blk0 m c t) (blk1 m c t) (blk2 m c t) (hf c).1 (hf c).2, View.read_apply]
  refine congrArg (val_main_v23 (F := Ideal) (A0 m c) (A1 m c) (A2 m c)) (funext fun a => Fin.ext ?_)
  have e := congrFun (idx_out t)
  match a with
  | ⟨0, _⟩ => show t.val / 2 = win0_3.index t 0 * 1 + 1 * 0; rw [e 0]; show _ = t.val / 2 * 1 + 1 * 0; omega
  | ⟨1, _⟩ => show y1.val = win0_3.index t 1 * 256 + 1 * y1.val; rw [e 1]; show _ = 0 * 256 + 1 * y1.val; omega
  | ⟨2, _⟩ => show t.val % 2 * 256 + y2.val = win0_3.index t 2 * 256 + 1 * y2.val; rw [e 2]; show _ = t.val % 2 * 256 + 1 * y2.val; omega

omit hf in
/-- The blocks cover the array. -/
theorem cover (i : S16x256x512.Idx) : ∃ t : Fin cfg0.N, (cfg0.win 3).flush t = true ∧ i ∈ ((cfg0.win 3).blk t).view.set := by
  idx_vars i
  have hN : cfg0.N = 32 := N_0
  refine ⟨⟨i0.val * 2 + i2.val / 256, by omega⟩, flush0_3 _, ?_⟩
  have e := congrFun (idx_out ⟨i0.val * 2 + i2.val / 256, by omega⟩)
  generalize hx : (⟨i0.val * 2 + i2.val / 256, by omega⟩ : Fin cfg0.N) = t at *
  have hv : t.val = i0.val * 2 + i2.val / 256 := by rw [← hx]
  show ix3 i0 i1 i2 ∈ ((View.whole main_v7).slice (win0_3.rect t)).set
  rw [View.set_slice_whole, Rect.mem_set_unit]
  intro a
  match a with
  | ⟨0, _⟩ => show win0_3.index t 0 * 1 ≤ i0.val ∧ i0.val < win0_3.index t 0 * 1 + 1; rw [e 0]; show t.val / 2 * 1 ≤ i0.val ∧ i0.val < t.val / 2 * 1 + 1; omega
  | ⟨1, _⟩ => show win0_3.index t 1 * 256 ≤ i1.val ∧ i1.val < win0_3.index t 1 * 256 + 256; rw [e 1]; show 0 * 256 ≤ i1.val ∧ i1.val < 0 * 256 + 256; omega
  | ⟨2, _⟩ => show win0_3.index t 2 * 256 ≤ i2.val ∧ i2.val < win0_3.index t 2 * 256 + 256; rw [e 2]; show t.val % 2 * 256 ≤ i2.val ∧ i2.val < t.val % 2 * 256 + 256; omega

theorem final : (dats m 0 c).arrAt 3 cfg0.N = val_main_v23 (F := Ideal) (A0 m c) (A1 m c) (A2 m c) :=
  (dats m 0 c).arrAt_eq_of_cover 3 _ (fun t _ => flushed_eq m c hf t) cover

/-- The kernel's run: its result at the reference's value of its arguments, the arguments as they were. -/
theorem run : θ_run defs (onTc (τ := τ) (main (F := Ideal))) ⟨m, fun _ => 0, ρ⟩ fun r => ∀ c : Dev nD,
      r.2.mem ((c : Thread nD τ).loc main_v7) = val_main_v23 (F := Ideal) (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c hf), (h c).2⟩) (Value.run_blocks m ρ)

end Cert.Proof.Ctx

end
-- ==== Proof.MlpCtxBlock.lean ====
/- The end of the layer on the context's tokens, one block over the extended reals: the projection of the three mixers,
   the residual and the feed-forward network at each row of a block are the reference's at that row of the array. -/
module

public import proofs.«01_k».proof.Proof.Sums
public import proofs.«01_k».proof.Proof.Gen.Kernel4Ideal.Value
public import proofs.«01_k».proof.Proof.Gen.Reference4Ideal.Read
public import Idealize.ShloMosaic.Lib.Pointwise
public import Idealize.ShloMosaic.Lib.KernelVsHost
public import Idealize.ShloMosaic.Lib.ValueLayout
public import Idealize.ShloMosaic.Lib.ValueLayoutCasts

@[expose] public section

set_option maxRecDepth 16384

noncomputable section

namespace Cert.Proof.MlpCtx

open Idealize.ShloMosaic Cert.Kernel4Ideal Cert.Kernel4Ideal.Gen Cert.Reference4Ideal.Read

theorem hz3 : (![0, 0, 0] : Fin 3 → ℕ) = 0 := by funext a; match a with | ⟨0, _⟩ => rfl | ⟨1, _⟩ => rfl | ⟨2, _⟩ => rfl

variable {x0 : Vec Ideal S1x256x1024 .f32} {x1 : Vec Ideal S1x256x256 .bf16} {x2 : Vec Ideal S1x256x512 .bf16}
  {x3 : Vec Ideal S1x256x256 .bf16} {x4 : Vec Ideal S1x6x1024 .f32} {x5 x6 : Vec Ideal S1x1024 .f32}
  {x7 : Vec Ideal S1x1024x1024 .bf16} {x8 : Vec Ideal S1x1024x4096 .bf16} {x9 : Vec Ideal S1x4096x1024 .bf16}
  {X0 : FVec Ideal S16x256x1024 .f32} {X1 : FVec Ideal S16x256x256 .f32} {X2 : FVec Ideal S16x256x512 .f32}
  {X3 : FVec Ideal S16x256x256 .f32} {X4 : FVec Ideal S6x1024 .f32} {X5 : FVec Ideal S1024 .f32}
  {X7 : FVec Ideal S1024x1024 .f32} {X8 : FVec Ideal S1024x4096 .f32} {X9 : FVec Ideal S4096x1024 .f32} {b : Fin 16}

/-- The concatenation of the three mixers, in its three parts. -/
theorem concat_apply (r : Fin 256) :
    (∀ l : Fin 256, val_main_v2 (F := Ideal) X1 X2 X3 (ix3 b r ⟨l.val, by omega⟩) = X1 (ix3 b r l))
    ∧ (∀ l : Fin 512, val_main_v2 (F := Ideal) X1 X2 X3 (ix3 b r ⟨256 + l.val, by omega⟩) = X2 (ix3 b r l))
    ∧ (∀ l : Fin 256, val_main_v2 (F := Ideal) X1 X2 X3 (ix3 b r ⟨768 + l.val, by omega⟩) = X3 (ix3 b r l)) := by
  refine ⟨fun l => ?_, fun l => ?_, fun l => ?_⟩
  · unfold val_main_v2
    pointwise
  · unfold val_main_v2
    pointwise
  · unfold val_main_v2
    pointwise
    rw [dif_neg (by omega), dif_neg (by omega)]
    exact congrArg (fun q => X3 (ix3 b r q)) (Fin.ext (by show 768 + l.val - 256 - 512 = l.val; omega))

/-- What the blocks hold: sequence `b` of every array of tokens, and the weights whole. -/
structure Block (x0 : Vec Ideal S1x256x1024 .f32) (x1 : Vec Ideal S1x256x256 .bf16) (x2 : Vec Ideal S1x256x512 .bf16)
    (x3 : Vec Ideal S1x256x256 .bf16) (x4 : Vec Ideal S1x6x1024 .f32) (x5 : Vec Ideal S1x1024 .f32)
    (x7 : Vec Ideal S1x1024x1024 .bf16) (x8 : Vec Ideal S1x1024x4096 .bf16) (x9 : Vec Ideal S1x4096x1024 .bf16)
    (X0 : FVec Ideal S16x256x1024 .f32) (X1 : FVec Ideal S16x256x256 .f32) (X2 : FVec Ideal S16x256x512 .f32)
    (X3 : FVec Ideal S16x256x256 .f32) (X4 : FVec Ideal S6x1024 .f32) (X5 : FVec Ideal S1024 .f32)
    (X7 : FVec Ideal S1024x1024 .f32) (X8 : FVec Ideal S1024x4096 .f32) (X9 : FVec Ideal S4096x1024 .f32) (b : Fin 16) : Prop where
  x0 : ∀ (r : Fin 256) (k : Fin 1024), x0 (ix3 0 r k) = X0 (ix3 b r k)
  x1 : ∀ (r : Fin 256) (k : Fin 256), x1 (ix3 0 r k) = X1 (ix3 b r k)
  x2 : ∀ (r : Fin 256) (k : Fin 512), x2 (ix3 0 r k) = X2 (ix3 b r k)
  x3 : ∀ (r : Fin 256) (k : Fin 256), x3 (ix3 0 r k) = X3 (ix3 b r k)
  x4 : ∀ (a : Fin 6) (k : Fin 1024), x4 (ix3 0 a k) = X4 (ix2 a k)
  x5 : ∀ k : Fin 1024, x5 (ix2 0 k) = X5 (ix1 k)
  x7 : ∀ k n : Fin 1024, x7 (ix3 0 k n) = X7 (ix2 k n)
  x8 : ∀ (k : Fin 1024) (n : Fin 4096), x8 (ix3 0 k n) = X8 (ix2 k n)
  x9 : ∀ (k : Fin 4096) (n : Fin 1024), x9 (ix3 0 k n) = X9 (ix2 k n)

/-- The projection and the residual as the body computes them, from the blocks. -/
def residual (x0 : Vec Ideal S1x256x1024 .f32) (x1 : Vec Ideal S1x256x256 .bf16) (x2 : Vec Ideal S1x256x512 .bf16)
    (x3 : Vec Ideal S1x256x256 .bf16) (x4 : Vec Ideal S1x6x1024 .f32) (x7 : Vec Ideal S1x1024x1024 .bf16) : FVec Ideal S256x1024 .f32 :=
  k0_pay2 (View.ld x0 r0_0) (View.ld x1 r0_1) (View.ld x2 r0_2) (View.ld x3 r0_1) (View.ld x7 r0_3) (View.ld x7 r0_4) (View.ld x7 r0_5) (View.ld x4 r0_6)

/-- The mean of the squares of each row. -/
def meanSq (A : FVec Ideal S256x1024 .f32) : FVec Ideal S256x1 .f32 :=
  divf (shapeCast S256x1 (multiReduction .add [1] S256 (mulf A A) 0x00000000#32 reduces_S256x1024_S256 (.inl rfl) rfl) shapeCasts_S256_S256x1)
    (broadcast S256x1 (Scalar.ofBits .f32 0x44800000#32))

/-- The normed, modulated rows that enter the feed-forward network, as the body computes them. -/
def entering (A : FVec Ideal S256x1024 .f32) (x4 : Vec Ideal S1x6x1024 .f32) (x5 : Vec Ideal S1x1024 .f32) : FVec Ideal S256x1024 .bf16 :=
  k0_pay4 A (meanSq A) (View.ld x5 r0_7) (View.ld x4 r0_8) (View.ld x4 r0_9)

/-- A square of 1024 by 1024 weights. -/
def weights {m n : ℕ} (x : Vec Ideal ⟨3, ![1, m, n]⟩ .bf16) (off : Fin 3 → ℕ)
    (h : ∀ a, off a + S1x1024x1024.size a ≤ (⟨3, ![1, m, n]⟩ : Shape).size a) : FVec Ideal S1024x1024 .bf16 :=
  shapeCast S1024x1024 (View.ld x (Rect.unit (s := ⟨3, ![1, m, n]⟩) off S1x1024x1024.size h) : Vec Ideal S1x1024x1024 .bf16)
    shapeCasts_S1x1024x1024_S1024x1024

/-- A quarter of the feed-forward network: 1024 of the 4096 hidden units, from `o` on. -/
def quarter (H : FVec Ideal S256x1024 .bf16) (x8 : Vec Ideal S1x1024x4096 .bf16) (x9 : Vec Ideal S1x4096x1024 .bf16) (o : ℕ)
    (h1 : ∀ a, (![0, 0, o] : Fin 3 → ℕ) a + S1x1024x1024.size a ≤ S1x1024x4096.size a)
    (h2 : ∀ a, (![0, o, 0] : Fin 3 → ℕ) a + S1x1024x1024.size a ≤ S1x4096x1024.size a) : FVec Ideal S256x1024 .f32 :=
  let hid := maximumf (matmul dot_S256x1024_S1024x1024_S256x1024_1_0_0_1_n_n none H
    (weights x8 ![0, 0, o] h1)
    (constant S256x1024 .f32 0x00000000#32)) (broadcast S256x1024 (Scalar.ofBits .f32 0x00000000#32))
  matmul dot_S256x1024_S1024x1024_S256x1024_1_0_0_1_n_n none (truncf .bf16 (mulf hid hid) bitsLt_bf16_f32)
    (weights x9 ![0, o, 0] h2)
    (constant S256x1024 .f32 0x00000000#32)

/-- The feed-forward network's residual, as the body computes it. -/
def second (A : FVec Ideal S256x1024 .f32) (H : FVec Ideal S256x1024 .bf16) (x4 : Vec Ideal S1x6x1024 .f32)
    (x8 : Vec Ideal S1x1024x4096 .bf16) (x9 : Vec Ideal S1x4096x1024 .bf16) : FVec Ideal S256x1024 .f32 :=
  addf A (mulf (broadcastTo S256x1024 (shapeCast S1x1024 (View.ld x4 r0_18) shapeCasts_S1x1x1024_S1x1024) broadcasts_S1x1024_S256x1024)
    (addf (addf (addf (addf (broadcast S256x1024 (Scalar.ofBits .f32 0x00000000#32))
      (quarter H x8 x9 0 inb_S1x1024x4096_S1x1024x1024_0_0_0 inb_S1x4096x1024_S1x1024x1024_0_0_0))
      (quarter H x8 x9 1024 inb_S1x1024x4096_S1x1024x1024_0_0_1024 inb_S1x4096x1024_S1x1024x1024_0_1024_0))
      (quarter H x8 x9 2048 inb_S1x1024x4096_S1x1024x1024_0_0_2048 inb_S1x4096x1024_S1x1024x1024_0_2048_0))
      (quarter H x8 x9 3072 inb_S1x1024x4096_S1x1024x1024_0_0_3072 inb_S1x4096x1024_S1x1024x1024_0_3072_0)))

theorem out_eq : out0_10 x0 x1 x2 x3 x4 x5 x6 x7 x8 x9
    = View.canon [⟨r0_0, k0_pay1 (second (residual x0 x1 x2 x3 x4 x7) (entering (residual x0 x1 x2 x3 x4 x7) x4 x5) x4 x8 x9)⟩] := rfl

variable (H : Block x0 x1 x2 x3 x4 x5 x7 x8 x9 X0 X1 X2 X3 X4 X5 X7 X8 X9 b)
include H

theorem residual_apply (r : Fin 256) (n : Fin 1024) : residual x0 x1 x2 x3 x4 x7 (ix2 r n)
    = val_main_v7 (F := Ideal) X0 X1 X2 X3 X4 X7 (ix3 b r n) := by
  have hY : val_main_v3 (F := Ideal) X1 X2 X3 X7 (ix3 b r n)
      = ∑ k : Fin 1024, val_main_v2 (F := Ideal) X1 X2 X3 (ix3 b r k) * X7 (ix2 k n) := by
    rw [val_main_v3_apply]
    refine Finset.sum_congr rfl fun k _ => congrArg₂ (· * ·) (congrArg _ (funext fun a => ?_)) (congrArg _ (funext fun a => ?_))
    · match a with
      | ⟨0, _⟩ => rfl
      | ⟨1, _⟩ => rfl
      | ⟨2, _⟩ => rfl
    · match a with
      | ⟨0, _⟩ => rfl
      | ⟨1, _⟩ => rfl
  obtain ⟨c1, c2, c3⟩ := concat_apply (X1 := X1) (X2 := X2) (X3 := X3) (b := b) r
  rw [sum_parts] at hY
  simp only [c1, c2, c3] at hY
  unfold val_main_v7 val_main_v6 residual
  generalize val_main_v3 (F := Ideal) X1 X2 X3 X7 = Y at *
  pointwise [k0_pay2, val_main_v5, val_main_v4, val_main_v1, val_main_v0]
  simp only [H.x0, H.x1, H.x2, H.x3, H.x4, H.x7, hY]

theorem entering_apply (r : Fin 256) (k : Fin 1024) : entering (residual x0 x1 x2 x3 x4 x7) x4 x5 (ix2 r k)
    = val_main_v32 (F := Ideal) X0 X1 X2 X3 X4 X5 X7 (ix3 b r k) := by
  have hA := residual_apply H r
  unfold entering meanSq
  generalize residual x0 x1 x2 x3 x4 x7 = A at *
  unfold val_main_v32 val_main_v29 val_main_v20 val_main_v17 val_main_v16 val_main_v15 val_main_v14 val_main_v12 val_main_v10 val_main_v9 val_main_v8
  generalize val_main_v7 (F := Ideal) X0 X1 X2 X3 X4 X7 = R at *
  pointwise [k0_pay4, val_main_v31, val_main_v30, val_main_v28, val_main_v27, val_main_v26, val_main_v25, val_main_v24, val_main_v23,
    val_main_v22, val_main_v21, val_main_v19, val_main_v18, val_main_v13, val_main_v11, val_main_cst, val_main_cst_0, val_main_cst_1,
    val_main_cst_2]
  simp only [hA, H.x4, H.x5]

omit H in
theorem tile_apply {m n : ℕ} (x : Vec Ideal ⟨3, ![1, m, n]⟩ .bf16) (off : Fin 3 → ℕ) (h) (o1 o2 : ℕ) (e : off = ![0, o1, o2])
    (hm : o1 + 1024 ≤ m) (hn : o2 + 1024 ≤ n) (i k : Fin 1024) :
    weights x off h (ix2 i k)
      = x (ix3 0 ⟨o1 + i.val, by omega⟩ ⟨o2 + k.val, by omega⟩) := by
  subst e
  refine (ValueIdx.shapeCast_1ab_ab_apply _ _ i k).trans ?_
  refine congrArg x (funext fun a => Fin.ext ?_)
  match a with
  | ⟨0, _⟩ => rfl
  | ⟨1, _⟩ => show o1 + 1 * i.val = o1 + i.val; omega
  | ⟨2, _⟩ => show o2 + 1 * k.val = o2 + k.val; omega

omit H in
theorem quarter_apply (G : FVec Ideal S256x1024 .bf16) (o : ℕ) (ho : o + 1024 ≤ 4096) (h1) (h2) (r : Fin 256) (n : Fin 1024) :
    quarter G x8 x9 o h1 h2 (ix2 r n)
      = ∑ k : Fin 1024, max (∑ i : Fin 1024, G (ix2 r i) * x8 (ix3 0 i ⟨o + k.val, by omega⟩)) 0
          * max (∑ i : Fin 1024, G (ix2 r i) * x8 (ix3 0 i ⟨o + k.val, by omega⟩)) 0 * x9 (ix3 0 ⟨o + k.val, by omega⟩ n) := by
  unfold quarter
  have hw1 := fun i k => tile_apply (n := 4096) x8 ![0, 0, o] h1 0 o rfl (by omega) (by omega) i k
  have hw2 := fun k n => tile_apply (m := 4096) x9 ![0, o, 0] h2 o 0 rfl (by omega) (by omega) k n
  generalize weights x8 ![0, 0, o] h1 = W1 at *
  generalize weights x9 ![0, o, 0] h2 = W2 at *
  pointwise
  simp only [hw1, hw2, zero_add]

theorem second_apply (r : Fin 256) (n : Fin 1024) :
    second (residual x0 x1 x2 x3 x4 x7) (entering (residual x0 x1 x2 x3 x4 x7) x4 x5) x4 x8 x9 (ix2 r n)
      = val_main_v42 (F := Ideal) X0 X1 X2 X3 X4 X5 X7 X8 X9 (ix3 b r n) := by
  have hA := residual_apply H r
  have hG := entering_apply H r
  have hH : ∀ k : Fin 4096, val_main_v37 (F := Ideal) X0 X1 X2 X3 X4 X5 X7 X8 (ix3 b r k)
      = max (∑ i : Fin 1024, val_main_v32 (F := Ideal) X0 X1 X2 X3 X4 X5 X7 (ix3 b r i) * X8 (ix2 i k)) 0
        * max (∑ i : Fin 1024, val_main_v32 (F := Ideal) X0 X1 X2 X3 X4 X5 X7 (ix3 b r i) * X8 (ix2 i k)) 0 := by
    intro k
    have h : val_main_v35 (F := Ideal) X0 X1 X2 X3 X4 X5 X7 X8 (ix3 b r k)
        = ∑ i : Fin 1024, val_main_v32 (F := Ideal) X0 X1 X2 X3 X4 X5 X7 (ix3 b r i) * X8 (ix2 i k) := by
      rw [val_main_v35_apply]
      refine Finset.sum_congr rfl fun k _ => congrArg₂ (· * ·) (congrArg _ (funext fun a => ?_)) (congrArg _ (funext fun a => ?_))
      · match a with
        | ⟨0, _⟩ => rfl
        | ⟨1, _⟩ => rfl
        | ⟨2, _⟩ => rfl
      · match a with
        | ⟨0, _⟩ => rfl
        | ⟨1, _⟩ => rfl
    rw [← h]
    unfold val_main_v37 val_main_v36
    generalize val_main_v35 (F := Ideal) X0 X1 X2 X3 X4 X5 X7 X8 = Y
    pointwise [val_main_call0_v0, val_main_call0_cst]
  have hY : val_main_v38 (F := Ideal) X0 X1 X2 X3 X4 X5 X7 X8 X9 (ix3 b r n)
      = ∑ k : Fin 4096, val_main_v37 (F := Ideal) X0 X1 X2 X3 X4 X5 X7 X8 (ix3 b r k) * X9 (ix2 k n) := by
    rw [val_main_v38_apply]
    refine Finset.sum_congr rfl fun k _ => congrArg₂ (· * ·) (congrArg _ (funext fun a => ?_)) (congrArg _ (funext fun a => ?_))
    · match a with
      | ⟨0, _⟩ => rfl
      | ⟨1, _⟩ => rfl
      | ⟨2, _⟩ => rfl
    · match a with
      | ⟨0, _⟩ => rfl
      | ⟨1, _⟩ => rfl
  simp only [hH] at hY
  rw [sum_quarters] at hY
  generalize entering (residual x0 x1 x2 x3 x4 x7) x4 x5 = G at *
  generalize residual x0 x1 x2 x3 x4 x7 = A at *
  have q0 := quarter_apply (x8 := x8) (x9 := x9) G 0 (by omega) inb_S1x1024x4096_S1x1024x1024_0_0_0 inb_S1x4096x1024_S1x1024x1024_0_0_0 r n
  have q1 := quarter_apply (x8 := x8) (x9 := x9) G 1024 (by omega) inb_S1x1024x4096_S1x1024x1024_0_0_1024 inb_S1x4096x1024_S1x1024x1024_0_1024_0 r n
  have q2 := quarter_apply (x8 := x8) (x9 := x9) G 2048 (by omega) inb_S1x1024x4096_S1x1024x1024_0_0_2048 inb_S1x4096x1024_S1x1024x1024_0_2048_0 r n
  have q3 := quarter_apply (x8 := x8) (x9 := x9) G 3072 (by omega) inb_S1x1024x4096_S1x1024x1024_0_0_3072 inb_S1x4096x1024_S1x1024x1024_0_3072_0 r n
  simp only [hG, H.x8, H.x9, zero_add] at q0 q1 q2 q3
  rw [← q0, ← q1, ← q2, ← q3] at hY
  unfold val_main_v42 val_main_v41 second
  generalize val_main_v38 (F := Ideal) X0 X1 X2 X3 X4 X5 X7 X8 X9 = Y at *
  generalize val_main_v7 (F := Ideal) X0 X1 X2 X3 X4 X7 = R at *
  generalize quarter G x8 x9 0 _ _ = Q0 at *
  generalize quarter G x8 x9 1024 _ _ = Q1 at *
  generalize quarter G x8 x9 2048 _ _ = Q2 at *
  generalize quarter G x8 x9 3072 _ _ = Q3 at *
  pointwise [val_main_v40, val_main_v39, val_main_v34, val_main_v33]
  simp only [hA, hY, H.x4]

theorem out_apply (r : Fin 256) (n : Fin 1024) : out0_10 x0 x1 x2 x3 x4 x5 x6 x7 x8 x9 (ix3 0 r n)
    = val_main_v42 (F := Ideal) X0 X1 X2 X3 X4 X5 X7 X8 X9 (ix3 b r n) := by
  rw [out_eq, View.canon_unit_zero hz3, ← second_apply H r n]
  unfold k0_pay1
  generalize second (residual x0 x1 x2 x3 x4 x7) (entering (residual x0 x1 x2 x3 x4 x7) x4 x5) x4 x8 x9 = B
  pointwise

end Cert.Proof.MlpCtx

end
-- ==== Proof.MlpCtx.lean ====
/- The end of the layer on the context's tokens as a whole: the array the pipeline writes is the reference's value. -/
module

public import proofs.«01_k».proof.Proof.MlpCtxBlock
public import proofs.«01_k».proof.Proof.Gen.Reference4Ideal.Run

@[expose] public section

set_option maxRecDepth 16384

noncomputable section

namespace Cert.Proof.MlpCtx

open Idealize.ShloMosaic Cert.Kernel4Ideal Cert.Kernel4Ideal.Gen Cert.Reference4Ideal.Read
open Idealize.ShloMosaic.Tactic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The sequence a grid point takes. -/
abbrev bOf (t : Fin cfg0.N) : Fin 16 := ⟨t.val, by have := t.isLt; have : cfg0.N = 16 := N_0; omega⟩

theorem idx_in0 : ∀ t : Fin cfg0.N, win0_0.index t = ![t.val, 0, 0] := (by decide +kernel : ∀ t : Fin grid0.N, _)
theorem idx_in1 : ∀ t : Fin cfg0.N, win0_1.index t = ![t.val, 0, 0] := (by decide +kernel : ∀ t : Fin grid0.N, _)
theorem idx_in2 : ∀ t : Fin cfg0.N, win0_2.index t = ![t.val, 0, 0] := (by decide +kernel : ∀ t : Fin grid0.N, _)
theorem idx_in3 : ∀ t : Fin cfg0.N, win0_3.index t = ![t.val, 0, 0] := (by decide +kernel : ∀ t : Fin grid0.N, _)
theorem idx_in4 : ∀ t : Fin cfg0.N, win0_4.index t = ![0, 0, 0] := (by decide +kernel : ∀ t : Fin grid0.N, _)
theorem idx_in5 : ∀ t : Fin cfg0.N, win0_5.index t = ![0, 0] := (by decide +kernel : ∀ t : Fin grid0.N, _)
theorem idx_in7 : ∀ t : Fin cfg0.N, win0_7.index t = ![0, 0, 0] := (by decide +kernel : ∀ t : Fin grid0.N, _)
theorem idx_in8 : ∀ t : Fin cfg0.N, win0_8.index t = ![0, 0, 0] := (by decide +kernel : ∀ t : Fin grid0.N, _)
theorem idx_in9 : ∀ t : Fin cfg0.N, win0_9.index t = ![0, 0, 0] := (by decide +kernel : ∀ t : Fin grid0.N, _)

abbrev X0 : FVec Ideal S16x256x1024 .f32 := m ((c : Thread nD τ).loc main_arg0)
abbrev X1 : FVec Ideal S16x256x256 .f32 := m ((c : Thread nD τ).loc main_arg1)
abbrev X2 : FVec Ideal S16x256x512 .f32 := m ((c : Thread nD τ).loc main_arg2)
abbrev X3 : FVec Ideal S16x256x256 .f32 := m ((c : Thread nD τ).loc main_arg3)
abbrev X4 : FVec Ideal S6x1024 .f32 := m ((c : Thread nD τ).loc main_arg4)
abbrev X5 : FVec Ideal S1024 .f32 := m ((c : Thread nD τ).loc main_arg5)
abbrev X7 : FVec Ideal S1024x1024 .f32 := m ((c : Thread nD τ).loc main_arg7)
abbrev X8 : FVec Ideal S1024x4096 .f32 := m ((c : Thread nD τ).loc main_arg8)
abbrev X9 : FVec Ideal S4096x1024 .f32 := m ((c : Thread nD τ).loc main_arg9)

theorem blk0 (t : Fin cfg0.N) (r : Fin 256) (k : Fin 1024) : iblk m c 0 t (ix3 0 r k) = X0 m c (ix3 (bOf t) r k) := by
  unfold iblk
  rw [show V m c (Pipeline.arrRef spec0 0) = _ from V_main_arg0 m c, View.read_apply]
  have e := congrFun (idx_in0 t)
  refine congrArg (X0 m c) (funext fun a => Fin.ext ?_)
  match a with
  | ⟨0, _⟩ => show win0_0.index t 0 * 1 + 1 * 0 = t.val; rw [e 0]; show t.val * 1 + 1 * 0 = _; omega
  | ⟨1, _⟩ => show win0_0.index t 1 * 256 + 1 * r.val = r.val; rw [e 1]; show 0 * 256 + 1 * r.val = _; omega
  | ⟨2, _⟩ => show win0_0.index t 2 * 1024 + 1 * k.val = k.val; rw [e 2]; show 0 * 1024 + 1 * k.val = _; omega

theorem blk1 (t : Fin cfg0.N) (r : Fin 256) (k : Fin 256) : iblk m c 1 t (ix3 0 r k) = X1 m c (ix3 (bOf t) r k) := by
  unfold iblk
  have hV : V m c (Pipeline.arrRef spec0 1) = (truncf .bf16 (X1 m c) bitsLt_bf16_f32 : FVec Ideal S16x256x256 .bf16) := by
    show StableHlo.after hostOps0 (fun b => m (c, b)) main_v0 = _
    unfold hostOps0
    after_results
    try rfl
  rw [hV, View.read_apply]
  have e := congrFun (idx_in1 t)
  refine (congrArg ((truncf .bf16 (X1 m c) bitsLt_bf16_f32 : FVec Ideal S16x256x256 .bf16)) (funext fun a => Fin.ext ?_ : _ = ix3 (bOf t) r k)).trans ?_
  · match a with
    | ⟨0, _⟩ => show win0_1.index t 0 * 1 + 1 * 0 = t.val; rw [e 0]; show t.val * 1 + 1 * 0 = _; omega
    | ⟨1, _⟩ => show win0_1.index t 1 * 256 + 1 * r.val = r.val; rw [e 1]; show 0 * 256 + 1 * r.val = _; omega
    | ⟨2, _⟩ => show win0_1.index t 2 * 256 + 1 * k.val = k.val; rw [e 2]; show 0 * 256 + 1 * k.val = _; omega
  · rfl

theorem blk2 (t : Fin cfg0.N) (r : Fin 256) (k : Fin 512) : iblk m c 2 t (ix3 0 r k) = X2 m c (ix3 (bOf t) r k) := by
  unfold iblk
  have hV : V m c (Pipeline.arrRef spec0 2) = (truncf .bf16 (X2 m c) bitsLt_bf16_f32 : FVec Ideal S16x256x512 .bf16) := by
    show StableHlo.after hostOps0 (fun b => m (c, b)) main_v1 = _
    unfold hostOps0
    after_results
    try rfl
  rw [hV, View.read_apply]
  have e := congrFun (idx_in2 t)
  refine (congrArg ((truncf .bf16 (X2 m c) bitsLt_bf16_f32 : FVec Ideal S16x256x512 .bf16)) (funext fun a => Fin.ext ?_ : _ = ix3 (bOf t) r k)).trans ?_
  · match a with
    | ⟨0, _⟩ => show win0_2.index t 0 * 1 + 1 * 0 = t.val; rw [e 0]; show t.val * 1 + 1 * 0 = _; omega
    | ⟨1, _⟩ => show win0_2.index t 1 * 256 + 1 * r.val = r.val; rw [e 1]; show 0 * 256 + 1 * r.val = _; omega
    | ⟨2, _⟩ => show win0_2.index t 2 * 512 + 1 * k.val = k.val; rw [e 2]; show 0 * 512 + 1 * k.val = _; omega
  · rfl

theorem blk3 (t : Fin cfg0.N) (r : Fin 256) (k : Fin 256) : iblk m c 3 t (ix3 0 r k) = X3 m c (ix3 (bOf t) r k) := by
  unfold iblk
  have hV : V m c (Pipeline.arrRef spec0 3) = (truncf .bf16 (X3 m c) bitsLt_bf16_f32 : FVec Ideal S16x256x256 .bf16) := by
    show StableHlo.after hostOps0 (fun b => m (c, b)) main_v2 = _
    unfold hostOps0
    after_results
    try rfl
  rw [hV, View.read_apply]
  have e := congrFun (idx_in3 t)
  refine (congrArg ((truncf .bf16 (X3 m c) bitsLt_bf16_f32 : FVec Ideal S16x256x256 .bf16)) (funext fun a => Fin.ext ?_ : _ = ix3 (bOf t) r k)).trans ?_
  · match a with
    | ⟨0, _⟩ => show win0_3.index t 0 * 1 + 1 * 0 = t.val; rw [e 0]; show t.val * 1 + 1 * 0 = _; omega
    | ⟨1, _⟩ => show win0_3.index t 1 * 256 + 1 * r.val = r.val; rw [e 1]; show 0 * 256 + 1 * r.val = _; omega
    | ⟨2, _⟩ => show win0_3.index t 2 * 256 + 1 * k.val = k.val; rw [e 2]; show 0 * 256 + 1 * k.val = _; omega
  · rfl

theorem blk4 (t : Fin cfg0.N) (r : Fin 6) (k : Fin 1024) : iblk m c 4 t (ix3 0 r k) = X4 m c (ix2 r k) := by
  unfold iblk
  have hV : V m c (Pipeline.arrRef spec0 4) = broadcastInDim S1x6x1024 ![1, 2] bcast_S6x1024_S1x6x1024_1_2 (X4 m c) := by
    show StableHlo.after hostOps0 (fun b => m (c, b)) main_v3 = _
    unfold hostOps0
    after_results
    try rfl
  rw [hV, View.read_apply]
  have e := congrFun (idx_in4 t)
  refine (congrArg (broadcastInDim S1x6x1024 ![1, 2] bcast_S6x1024_S1x6x1024_1_2 (X4 m c)) (funext fun a => Fin.ext ?_ : _ = ix3 0 r k)).trans ?_
  · match a with
    | ⟨0, _⟩ => show win0_4.index t 0 * 1 + 1 * 0 = 0; rw [e 0]; rfl
    | ⟨1, _⟩ => show win0_4.index t 1 * 6 + 1 * r.val = r.val; rw [e 1]; show 0 * 6 + 1 * r.val = _; omega
    | ⟨2, _⟩ => show win0_4.index t 2 * 1024 + 1 * k.val = k.val; rw [e 2]; show 0 * 1024 + 1 * k.val = _; omega
  · pointwise

theorem blk5 (t : Fin cfg0.N) (k : Fin 1024) : iblk m c 5 t (ix2 0 k) = X5 m c (ix1 k) := by
  unfold iblk
  have hV : V m c (Pipeline.arrRef spec0 5) = shapeCast S1x1024 (X5 m c) shapeCasts_S1024_S1x1024 := by
    show StableHlo.after hostOps0 (fun b => m (c, b)) main_v4 = _
    unfold hostOps0
    after_results
    try rfl
  rw [hV, View.read_apply]
  have e := congrFun (idx_in5 t)
  refine (congrArg (shapeCast S1x1024 (X5 m c) shapeCasts_S1024_S1x1024) (funext fun a => Fin.ext ?_ : _ = ix2 0 k)).trans ?_
  · match a with
    | ⟨0, _⟩ => show win0_5.index t 0 * 1 + 1 * 0 = 0; rw [e 0]; rfl
    | ⟨1, _⟩ => show win0_5.index t 1 * 1024 + 1 * k.val = k.val; rw [e 1]; show 0 * 1024 + 1 * k.val = _; omega
  · pointwise

theorem blk7 (t : Fin cfg0.N) (k : Fin 1024) (n : Fin 1024) : iblk m c 7 t (ix3 0 k n) = X7 m c (ix2 k n) := by
  unfold iblk
  have hV : V m c (Pipeline.arrRef spec0 7) = broadcastInDim S1x1024x1024 ![1, 2] bcast_S1024x1024_S1x1024x1024_1_2
      (truncf .bf16 (X7 m c) bitsLt_bf16_f32) := by
    show StableHlo.after hostOps0 (fun b => m (c, b)) main_v7 = _
    unfold hostOps0
    after_results
    try rfl
  rw [hV, View.read_apply]
  have e := congrFun (idx_in7 t)
  refine (congrArg (broadcastInDim S1x1024x1024 ![1, 2] bcast_S1024x1024_S1x1024x1024_1_2
      (truncf .bf16 (X7 m c) bitsLt_bf16_f32)) (funext fun a => Fin.ext ?_ : _ = ix3 0 k n)).trans ?_
  · match a with
    | ⟨0, _⟩ => show win0_7.index t 0 * 1 + 1 * 0 = 0; rw [e 0]; rfl
    | ⟨1, _⟩ => show win0_7.index t 1 * 1024 + 1 * k.val = k.val; rw [e 1]; show 0 * 1024 + 1 * k.val = _; omega
    | ⟨2, _⟩ => show win0_7.index t 2 * 1024 + 1 * n.val = n.val; rw [e 2]; show 0 * 1024 + 1 * n.val = _; omega
  · pointwise

theorem blk8 (t : Fin cfg0.N) (k : Fin 1024) (n : Fin 4096) : iblk m c 8 t (ix3 0 k n) = X8 m c (ix2 k n) := by
  unfold iblk
  have hV : V m c (Pipeline.arrRef spec0 8) = broadcastInDim S1x1024x4096 ![1, 2] bcast_S1024x4096_S1x1024x4096_1_2
      (truncf .bf16 (X8 m c) bitsLt_bf16_f32) := by
    show StableHlo.after hostOps0 (fun b => m (c, b)) main_v9 = _
    unfold hostOps0
    after_results
    try rfl
  rw [hV, View.read_apply]
  have e := congrFun (idx_in8 t)
  refine (congrArg (broadcastInDim S1x1024x4096 ![1, 2] bcast_S1024x4096_S1x1024x4096_1_2
      (truncf .bf16 (X8 m c) bitsLt_bf16_f32)) (funext fun a => Fin.ext ?_ : _ = ix3 0 k n)).trans ?_
  · match a with
    | ⟨0, _⟩ => show win0_8.index t 0 * 1 + 1 * 0 = 0; rw [e 0]; rfl
    | ⟨1, _⟩ => show win0_8.index t 1 * 1024 + 1 * k.val = k.val; rw [e 1]; show 0 * 1024 + 1 * k.val = _; omega
    | ⟨2, _⟩ => show win0_8.index t 2 * 4096 + 1 * n.val = n.val; rw [e 2]; show 0 * 4096 + 1 * n.val = _; omega
  · pointwise

theorem blk9 (t : Fin cfg0.N) (k : Fin 4096) (n : Fin 1024) : iblk m c 9 t (ix3 0 k n) = X9 m c (ix2 k n) := by
  unfold iblk
  have hV : V m c (Pipeline.arrRef spec0 9) = broadcastInDim S1x4096x1024 ![1, 2] bcast_S4096x1024_S1x4096x1024_1_2
      (truncf .bf16 (X9 m c) bitsLt_bf16_f32) := by
    show StableHlo.after hostOps0 (fun b => m (c, b)) main_v11 = _
    unfold hostOps0
    after_results
    try rfl
  rw [hV, View.read_apply]
  have e := congrFun (idx_in9 t)
  refine (congrArg (broadcastInDim S1x4096x1024 ![1, 2] bcast_S4096x1024_S1x4096x1024_1_2
      (truncf .bf16 (X9 m c) bitsLt_bf16_f32)) (funext fun a => Fin.ext ?_ : _ = ix3 0 k n)).trans ?_
  · match a with
    | ⟨0, _⟩ => show win0_9.index t 0 * 1 + 1 * 0 = 0; rw [e 0]; rfl
    | ⟨1, _⟩ => show win0_9.index t 1 * 4096 + 1 * k.val = k.val; rw [e 1]; show 0 * 4096 + 1 * k.val = _; omega
    | ⟨2, _⟩ => show win0_9.index t 2 * 1024 + 1 * n.val = n.val; rw [e 2]; show 0 * 1024 + 1 * n.val = _; omega
  · pointwise

/-- What the reference returns of the arguments as launched. -/
abbrev result : FVec Ideal S16x256x1024 .f32 := val_main_v42 (F := Ideal) (X0 m c) (X1 m c) (X2 m c) (X3 m c) (X4 m c) (X5 m c) (X7 m c) (X8 m c) (X9 m c)

theorem block (t : Fin cfg0.N) : Block (iblk m c 0 t) (iblk m c 1 t) (iblk m c 2 t) (iblk m c 3 t) (iblk m c 4 t) (iblk m c 5 t)
    (iblk m c 7 t) (iblk m c 8 t) (iblk m c 9 t) (X0 m c) (X1 m c) (X2 m c) (X3 m c) (X4 m c) (X5 m c) (X7 m c) (X8 m c) (X9 m c) (bOf t) :=
  ⟨blk0 m c t, blk1 m c t, blk2 m c t, blk3 m c t, blk4 m c t, blk5 m c t, blk7 m c t, blk8 m c t, blk9 m c t⟩

theorem idx_out : ∀ t : Fin cfg0.N, win0_10.index t = ![t.val, 0, 0] := (by decide +kernel : ∀ t : Fin grid0.N, _)

/-- What point `t` writes back is that block of the reference's result. -/
theorem flushed_eq (t : Fin cfg0.N) : (dats m 0 c).flushed 10 t = ((cfg0.win 10).blk t).view.read (Elt Ideal) (result m c) := by
  rw [Value.flushed10]
  refine funext fun (y : S1x256x1024.Idx) => ?_
  idx_vars y
  obtain rfl : y0 = 0 := Fin.ext (by omega)
  show out0_10 (F := Ideal) (iblk m c 0 t) (iblk m c 1 t) (iblk m c 2 t) (iblk m c 3 t) (iblk m c 4 t) (iblk m c 5 t) (iblk m c 6 t)
    (iblk m c 7 t) (iblk m c 8 t) (iblk m c 9 t) (ix3 0 y1 y2) = _
  rw [out_apply (block m c t), View.read_apply]
  refine congrArg (result m c) (funext fun a => Fin.ext ?_)
  have e := congrFun (idx_out t)
  match a with
  | ⟨0, _⟩ => show t.val = win0_10.index t 0 * 1 + 1 * 0; rw [e 0]; show _ = t.val * 1 + 1 * 0; omega
  | ⟨1, _⟩ => show y1.val = win0_10.index t 1 * 256 + 1 * y1.val; rw [e 1]; show _ = 0 * 256 + 1 * y1.val; omega
  | ⟨2, _⟩ => show y2.val = win0_10.index t 2 * 1024 + 1 * y2.val; rw [e 2]; show _ = 0 * 1024 + 1 * y2.val; omega

/-- The blocks cover the output. -/
theorem cover (i : S16x256x1024.Idx) : ∃ t : Fin cfg0.N, (cfg0.win 10).flush t = true ∧ i ∈ ((cfg0.win 10).blk t).view.set := by
  idx_vars i
  have hN : cfg0.N = 16 := N_0
  refine ⟨⟨i0.val, by omega⟩, flush0_10 _, ?_⟩
  have e := congrFun (idx_out ⟨i0.val, by omega⟩)
  generalize hx : (⟨i0.val, by omega⟩ : Fin cfg0.N) = t at *
  have hv : t.val = i0.val := by rw [← hx]
  show ix3 i0 i1 i2 ∈ ((View.whole main_v12).slice (win0_10.rect t)).set
  rw [View.set_slice_whole, Rect.mem_set_unit]
  intro a
  match a with
  | ⟨0, _⟩ => show win0_10.index t 0 * 1 ≤ i0.val ∧ i0.val < win0_10.index t 0 * 1 + 1; rw [e 0]; show t.val * 1 ≤ i0.val ∧ i0.val < t.val * 1 + 1; omega
  | ⟨1, _⟩ => show win0_10.index t 1 * 256 ≤ i1.val ∧ i1.val < win0_10.index t 1 * 256 + 256; rw [e 1]; show 0 * 256 ≤ i1.val ∧ i1.val < 0 * 256 + 256; omega
  | ⟨2, _⟩ => show win0_10.index t 2 * 1024 ≤ i2.val ∧ i2.val < win0_10.index t 2 * 1024 + 1024; rw [e 2]; show 0 * 1024 ≤ i2.val ∧ i2.val < 0 * 1024 + 1024; omega

theorem final : (dats m 0 c).arrAt 10 cfg0.N = result m c :=
  (dats m 0 c).arrAt_eq_of_cover 10 _ (fun t _ => flushed_eq m c t) cover

/-- The kernel's run: its result at the reference's value of its arguments, the arguments as they were. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.Proof.MlpCtx

end
-- ==== Proof.InProjCtxBlock.lean ====
/- The input projection of the context's tokens, one block at a time: what the kernel's body leaves in each of its six output blocks is the
   reference's value at the block's rows, over the extended reals. -/
module

public import proofs.«01_k».proof.Proof.Gen.Kernel5Ideal.Value
public import proofs.«01_k».proof.Proof.Gen.Reference5Ideal.Read
public import Idealize.ShloMosaic.Lib.Pointwise

@[expose] public section

set_option maxRecDepth 16384

noncomputable section

namespace Cert.Proof.InProjCtx

open Idealize.ShloMosaic Cert.Kernel5Ideal Cert.Kernel5Ideal.Gen Cert.Reference5Ideal.Read

theorem hz3 : (![0, 0, 0] : Fin 3 → Nat) = fun _ => 0 := funext fun a => by fin_cases a <;> rfl

variable {x0 : Vec Ideal S1x256x1024 .f32} {x1 : Vec Ideal S1x6x1024 .f32} {x2 : Vec Ideal S1x1024 .f32}
  {x3 : Vec Ideal S1x1024x2560 .bf16}
  {X0 : FVec Ideal S16x256x1024 .f32} {X1 : FVec Ideal S6x1024 .f32} {X2 : FVec Ideal S1024 .f32}
  {X3 : FVec Ideal S1024x2560 .f32} {b : Fin 16}

/-- The normed, modulated rows: the kernel's at row `r` of the block, the reference's at that row of the array. -/
theorem pay4_apply (h0 : ∀ r k, x0 (ix3 0 r k) = X0 (ix3 b r k)) (h1 : ∀ a k, x1 (ix3 0 a k) = X1 (ix2 a k))
    (h2 : ∀ k, x2 (ix2 0 k) = X2 (ix1 k)) (r : Fin 256) (k : Fin 1024) :
    k0_pay4 (F := Ideal) (View.ld x0 r0_0) (View.ld x2 r0_1) (View.ld x1 r0_2) (View.ld x1 r0_3) (ix2 r k)
      = val_main_v24 (F := Ideal) X0 X1 X2 (ix3 b r k) := by
  pointwise [k0_pay4, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0,
    val_main_cst_1, val_main_cst_2]
  simp only [h0, h1, h2]

/-- A projection: the normed rows of the block times the columns `o …` of the weights. -/
theorem dot_apply (h0 : ∀ r k, x0 (ix3 0 r k) = X0 (ix3 b r k)) (h1 : ∀ a k, x1 (ix3 0 a k) = X1 (ix2 a k))
    (h2 : ∀ k, x2 (ix2 0 k) = X2 (ix1 k)) (h3 : ∀ k n, x3 (ix3 0 k n) = X3 (ix2 k n)) (r : Fin 256) (n : Fin 2560) :
    ∑ k : Fin 1024, k0_pay4 (F := Ideal) (View.ld x0 r0_0) (View.ld x2 r0_1) (View.ld x1 r0_2) (View.ld x1 r0_3) (ix2 r k)
        * x3 (ix3 0 k n)
      = val_main_v25 (F := Ideal) X0 X1 X2 X3 (ix3 b r n) := by
  simp only [pay4_apply h0 h1 h2, h3]
  rw [val_main_v25_apply]
  refine Finset.sum_congr rfl fun k _ => congrArg₂ (· * ·) (congrArg _ (funext fun a => ?_)) (congrArg _ (funext fun a => ?_))
  · match a with
    | ⟨0, _⟩ => rfl
    | ⟨1, _⟩ => rfl
    | ⟨2, _⟩ => rfl
  · match a with
    | ⟨0, _⟩ => rfl
    | ⟨1, _⟩ => rfl

variable (h0 : ∀ r k, x0 (ix3 0 r k) = X0 (ix3 b r k)) (h1 : ∀ a k, x1 (ix3 0 a k) = X1 (ix2 a k))
  (h2 : ∀ k, x2 (ix2 0 k) = X2 (ix1 k)) (h3 : ∀ k n, x3 (ix3 0 k n) = X3 (ix2 k n))
include h0 h1 h2 h3

/-- Output 0 of the six, at row `r` and lane `l` of its block. -/
theorem out4_apply (r : Fin 256) (l : Fin 256) :
    out0_4 (F := Ideal) x0 x1 x2 x3 (ix3 0 r l) = val_main_v39 (F := Ideal) X0 X1 X2 X3 (ix3 b r l) := by
  unfold out0_4
  rw [View.canon_unit_zero hz3]
  have hd := dot_apply h0 h1 h2 h3 r
  pointwise [k0_pay8, k0_pay5, k0_pay6, k0_pay7, val_main_v39, val_main_v38, val_main_v37, val_main_cst_4, val_main_v36, val_main_v35, val_main_cst_3, val_main_v34, val_main_v33, val_main_v26, val_main_v27]
  refine (congrArg₂ (fun a z : EReal => a * Ideal.div 1 (1 + Ideal.exp (0 - z))) (hd ⟨l.val, by omega⟩) (hd ⟨256 + l.val, by omega⟩)).trans ?_
  simp only [zero_sub]

/-- Output 1 of the six, at row `r` and lane `l` of its block. -/
theorem out5_apply (r : Fin 256) (l : Fin 512) :
    out0_5 (F := Ideal) x0 x1 x2 x3 (ix3 0 r l) = val_main_v42 (F := Ideal) X0 X1 X2 X3 (ix3 b r l) := by
  unfold out0_5 k0_pay12
  rw [View.canon_unit_zero hz3]
  have hd := dot_apply h0 h1 h2 h3 r
  generalize k0_pay4 (F := Ideal) (View.ld x0 r0_0) (View.ld x2 r0_1) (View.ld x1 r0_2) (View.ld x1 r0_3) = P4 at *
  pointwise [k0_pay9, val_main_v42, val_main_v41, val_main_v40, val_main_cst_5, val_main_v28]
  exact congrArg (· * _) (hd ⟨512 + l.val, by omega⟩)

/-- Output 2 of the six, at row `r` and lane `l` of its block. -/
theorem out6_apply (r : Fin 256) (l : Fin 512) :
    out0_6 (F := Ideal) x0 x1 x2 x3 (ix3 0 r l) = val_main_v43 (F := Ideal) X0 X1 X2 X3 (ix3 b r l) := by
  unfold out0_6 k0_pay12
  rw [View.canon_unit_zero hz3]
  have hd := dot_apply h0 h1 h2 h3 r
  generalize k0_pay4 (F := Ideal) (View.ld x0 r0_0) (View.ld x2 r0_1) (View.ld x1 r0_2) (View.ld x1 r0_3) = P4 at *
  pointwise [k0_pay10, val_main_v43, val_main_v29]
  exact hd ⟨1024 + l.val, by omega⟩

/-- Output 3 of the six, at row `r` and lane `l` of its block. -/
theorem out7_apply (r : Fin 256) (l : Fin 512) :
    out0_7 (F := Ideal) x0 x1 x2 x3 (ix3 0 r l) = val_main_v44 (F := Ideal) X0 X1 X2 X3 (ix3 b r l) := by
  unfold out0_7 k0_pay12
  rw [View.canon_unit_zero hz3]
  have hd := dot_apply h0 h1 h2 h3 r
  generalize k0_pay4 (F := Ideal) (View.ld x0 r0_0) (View.ld x2 r0_1) (View.ld x1 r0_2) (View.ld x1 r0_3) = P4 at *
  pointwise [k0_pay1, k0_pay11, val_main_v44, val_main_v30]
  exact hd ⟨1536 + l.val, by omega⟩

/-- Output 4 of the six, at row `r` and lane `l` of its block. -/
theorem out8_apply (r : Fin 256) (l : Fin 256) :
    out0_8 (F := Ideal) x0 x1 x2 x3 (ix3 0 r l) = val_main_v31 (F := Ideal) X0 X1 X2 X3 (ix3 b r l) := by
  unfold out0_8 k0_pay12
  rw [View.canon_unit_zero hz3]
  have hd := dot_apply h0 h1 h2 h3 r
  generalize k0_pay4 (F := Ideal) (View.ld x0 r0_0) (View.ld x2 r0_1) (View.ld x1 r0_2) (View.ld x1 r0_3) = P4 at *
  pointwise [k0_pay2, val_main_v31]
  exact hd ⟨2048 + l.val, by omega⟩

/-- Output 5 of the six, at row `r` and lane `l` of its block. -/
theorem out9_apply (r : Fin 256) (l : Fin 256) :
    out0_9 (F := Ideal) x0 x1 x2 x3 (ix3 0 r l) = val_main_v32 (F := Ideal) X0 X1 X2 X3 (ix3 b r l) := by
  unfold out0_9 k0_pay12
  rw [View.canon_unit_zero hz3]
  have hd := dot_apply h0 h1 h2 h3 r
  generalize k0_pay4 (F := Ideal) (View.ld x0 r0_0) (View.ld x2 r0_1) (View.ld x1 r0_2) (View.ld x1 r0_3) = P4 at *
  pointwise [k0_pay3, val_main_v32]
  exact hd ⟨2304 + l.val, by omega⟩

end Cert.Proof.InProjCtx

end
-- ==== Proof.InProjCtx.lean ====
/- The input projection of the context's tokens as a whole: the six arrays the pipeline writes are the reference's six values. -/
module

public import proofs.«01_k».proof.Proof.InProjCtxBlock
public import proofs.«01_k».proof.Proof.Gen.Reference5Ideal.Run

@[expose] public section

set_option maxRecDepth 16384

noncomputable section

namespace Cert.Proof.InProjCtx

open Idealize.ShloMosaic Cert.Kernel5Ideal Cert.Kernel5Ideal.Gen Cert.Reference5Ideal.Read
open Idealize.ShloMosaic.Tactic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The sequence a grid point takes. -/
abbrev bOf (t : Fin cfg0.N) : Fin 16 := ⟨t.val, by have := t.isLt; have : cfg0.N = 16 := N_0; omega⟩

theorem idx_in0 : ∀ t : Fin cfg0.N, win0_0.index t = ![t.val, 0, 0] := (by decide +kernel : ∀ t : Fin grid0.N, _)
theorem idx_in1 : ∀ t : Fin cfg0.N, win0_1.index t = ![0, 0, 0] := (by decide +kernel : ∀ t : Fin grid0.N, _)
theorem idx_in2 : ∀ t : Fin cfg0.N, win0_2.index t = ![0, 0] := (by decide +kernel : ∀ t : Fin grid0.N, _)
theorem idx_in3 : ∀ t : Fin cfg0.N, win0_3.index t = ![0, 0, 0] := (by decide +kernel : ∀ t : Fin grid0.N, _)

abbrev X0 : FVec Ideal S16x256x1024 .f32 := m ((c : Thread nD τ).loc main_arg0)
abbrev X1 : FVec Ideal S6x1024 .f32 := m ((c : Thread nD τ).loc main_arg1)
abbrev X2 : FVec Ideal S1024 .f32 := m ((c : Thread nD τ).loc main_arg2)
abbrev X3 : FVec Ideal S1024x2560 .f32 := m ((c : Thread nD τ).loc main_arg3)

theorem blk0 (t : Fin cfg0.N) (r : Fin 256) (k : Fin 1024) :
    iblk m c 0 t (ix3 0 r k) = X0 m c (ix3 (bOf t) r k) := by
  unfold iblk
  rw [show V m c (Pipeline.arrRef spec0 0) = _ from V_main_arg0 m c, View.read_apply]
  refine congrArg (X0 m c) (funext fun a => Fin.ext ?_)
  have e := congrFun (idx_in0 t)
  match a with
  | ⟨0, _⟩ => show win0_0.index t 0 * 1 + 1 * 0 = t.val; rw [e 0]; show t.val * 1 + 1 * 0 = _; omega
  | ⟨1, _⟩ => show win0_0.index t 1 * 256 + 1 * r.val = r.val; rw [e 1]; show 0 * 256 + 1 * r.val = _; omega
  | ⟨2, _⟩ => show win0_0.index t 2 * 1024 + 1 * k.val = k.val; rw [e 2]; show 0 * 1024 + 1 * k.val = _; omega

theorem blk1 (t : Fin cfg0.N) (r : Fin 6) (k : Fin 1024) : iblk m c 1 t (ix3 0 r k) = X1 m c (ix2 r k) := by
  unfold iblk
  have hV : V m c (Pipeline.arrRef spec0 1) = broadcastInDim S1x6x1024 ![1, 2] bcast_S6x1024_S1x6x1024_1_2 (X1 m c) := by
    show StableHlo.after hostOps0 (fun b => m (c, b)) main_v0 = _
    unfold hostOps0
    after_results
    try rfl
  rw [hV, View.read_apply]
  have e := congrFun (idx_in1 t)
  refine (congrArg (broadcastInDim S1x6x1024 ![1, 2] bcast_S6x1024_S1x6x1024_1_2 (X1 m c)) (funext fun a => Fin.ext ?_ : _ = ix3 0 r k)).trans ?_
  · match a with
    | ⟨0, _⟩ => show win0_1.index t 0 * 1 + 1 * 0 = 0; rw [e 0]; rfl
    | ⟨1, _⟩ => show win0_1.index t 1 * 6 + 1 * r.val = r.val; rw [e 1]; show 0 * 6 + 1 * r.val = _; omega
    | ⟨2, _⟩ => show win0_1.index t 2 * 1024 + 1 * k.val = k.val; rw [e 2]; show 0 * 1024 + 1 * k.val = _; omega
  · pointwise

theorem blk2 (t : Fin cfg0.N) (k : Fin 1024) : iblk m c 2 t (ix2 0 k) = X2 m c (ix1 k) := by
  unfold iblk
  have hV : V m c (Pipeline.arrRef spec0 2) = shapeCast S1x1024 (X2 m c) shapeCasts_S1024_S1x1024 := by
    show StableHlo.after hostOps0 (fun b => m (c, b)) main_v1 = _
    unfold hostOps0
    after_results
    try rfl
  rw [hV, View.read_apply]
  have e := congrFun (idx_in2 t)
  refine (congrArg (shapeCast S1x1024 (X2 m c) shapeCasts_S1024_S1x1024) (funext fun a => Fin.ext ?_ : _ = ix2 0 k)).trans ?_
  · match a with
    | ⟨0, _⟩ => show win0_2.index t 0 * 1 + 1 * 0 = 0; rw [e 0]; rfl
    | ⟨1, _⟩ => show win0_2.index t 1 * 1024 + 1 * k.val = k.val; rw [e 1]; show 0 * 1024 + 1 * k.val = _; omega
  · pointwise

theorem blk3 (t : Fin cfg0.N) (k : Fin 1024) (n : Fin 2560) : iblk m c 3 t (ix3 0 k n) = X3 m c (ix2 k n) := by
  unfold iblk
  have hV : V m c (Pipeline.arrRef spec0 3) = broadcastInDim S1x1024x2560 ![1, 2] bcast_S1024x2560_S1x1024x2560_1_2
      (truncf .bf16 (X3 m c) bitsLt_bf16_f32) := by
    show StableHlo.after hostOps0 (fun b => m (c, b)) main_v3 = _
    unfold hostOps0
    after_results
    try rfl
  rw [hV, View.read_apply]
  have e := congrFun (idx_in3 t)
  refine (congrArg (broadcastInDim S1x1024x2560 ![1, 2] bcast_S1024x2560_S1x1024x2560_1_2
      (truncf .bf16 (X3 m c) bitsLt_bf16_f32)) (funext fun a => Fin.ext ?_ : _ = ix3 0 k n)).trans ?_
  · match a with
    | ⟨0, _⟩ => show win0_3.index t 0 * 1 + 1 * 0 = 0; rw [e 0]; rfl
    | ⟨1, _⟩ => show win0_3.index t 1 * 1024 + 1 * k.val = k.val; rw [e 1]; show 0 * 1024 + 1 * k.val = _; omega
    | ⟨2, _⟩ => show win0_3.index t 2 * 2560 + 1 * n.val = n.val; rw [e 2]; show 0 * 2560 + 1 * n.val = _; omega
  · pointwise

theorem idx_out4 : ∀ t : Fin cfg0.N, win0_4.index t = ![t.val, 0, 0] := (by decide +kernel : ∀ t : Fin grid0.N, _)

/-- What point `t` writes back to output 0 is that block of the reference's value. -/
theorem flushed4_eq (t : Fin cfg0.N) : (dats m 0 c).flushed 4 t
    = ((cfg0.win 4).blk t).view.read (Elt Ideal) (val_main_v39 (F := Ideal) (X0 m c) (X1 m c) (X2 m c) (X3 m c)) := by
  rw [Value.flushed4]
  refine funext fun (y : S1x256x256.Idx) => ?_
  idx_vars y
  obtain rfl : y0 = 0 := Fin.ext (by omega)
  show out0_4 (F := Ideal) (iblk m c 0 t) (iblk m c 1 t) (iblk m c 2 t) (iblk m c 3 t) (ix3 0 y1 y2) = _
  rw [out4_apply (blk0 m c t) (blk1 m c t) (blk2 m c t) (blk3 m c t), View.read_apply]
  refine congrArg (val_main_v39 (F := Ideal) (X0 m c) (X1 m c) (X2 m c) (X3 m c)) (funext fun a => Fin.ext ?_)
  have e := congrFun (idx_out4 t)
  match a with
  | ⟨0, _⟩ => show t.val = win0_4.index t 0 * 1 + 1 * 0; rw [e 0]; show _ = t.val * 1 + 1 * 0; omega
  | ⟨1, _⟩ => show y1.val = win0_4.index t 1 * 256 + 1 * y1.val; rw [e 1]; show _ = 0 * 256 + 1 * y1.val; omega
  | ⟨2, _⟩ => show y2.val = win0_4.index t 2 * 256 + 1 * y2.val; rw [e 2]; show _ = 0 * 256 + 1 * y2.val; omega

/-- Output 0's blocks cover its array. -/
theorem cover4 (i : S16x256x256.Idx) : ∃ t : Fin cfg0.N, (cfg0.win 4).flush t = true ∧ i ∈ ((cfg0.win 4).blk t).view.set := by
  idx_vars i
  have hN : cfg0.N = 16 := N_0
  refine ⟨⟨i0.val, by omega⟩, flush0_4 _, ?_⟩
  have e := congrFun (idx_out4 ⟨i0.val, by omega⟩)
  generalize hx : (⟨i0.val, by omega⟩ : Fin cfg0.N) = t at *
  have hv : t.val = i0.val := by rw [← hx]
  show ix3 i0 i1 i2 ∈ ((View.whole main_v4_0).slice (win0_4.rect t)).set
  rw [View.set_slice_whole, Rect.mem_set_unit]
  intro a
  match a with
  | ⟨0, _⟩ => show win0_4.index t 0 * 1 ≤ i0.val ∧ i0.val < win0_4.index t 0 * 1 + 1; rw [e 0]; show t.val * 1 ≤ i0.val ∧ i0.val < t.val * 1 + 1; omega
  | ⟨1, _⟩ => show win0_4.index t 1 * 256 ≤ i1.val ∧ i1.val < win0_4.index t 1 * 256 + 256; rw [e 1]; show 0 * 256 ≤ i1.val ∧ i1.val < 0 * 256 + 256; omega
  | ⟨2, _⟩ => show win0_4.index t 2 * 256 ≤ i2.val ∧ i2.val < win0_4.index t 2 * 256 + 256; rw [e 2]; show 0 * 256 ≤ i2.val ∧ i2.val < 0 * 256 + 256; omega

theorem final4 : (dats m 0 c).arrAt 4 cfg0.N = val_main_v39 (F := Ideal) (X0 m c) (X1 m c) (X2 m c) (X3 m c) :=
  (dats m 0 c).arrAt_eq_of_cover 4 _ (fun t _ => flushed4_eq m c t) cover4

theorem idx_out5 : ∀ t : Fin cfg0.N, win0_5.index t = ![t.val, 0, 0] := (by decide +kernel : ∀ t : Fin grid0.N, _)

/-- What point `t` writes back to output 1 is that block of the reference's value. -/
theorem flushed5_eq (t : Fin cfg0.N) : (dats m 0 c).flushed 5 t
    = ((cfg0.win 5).blk t).view.read (Elt Ideal) (val_main_v42 (F := Ideal) (X0 m c) (X1 m c) (X2 m c) (X3 m c)) := by
  rw [Value.flushed5]
  refine funext fun (y : S1x256x512.Idx) => ?_
  idx_vars y
  obtain rfl : y0 = 0 := Fin.ext (by omega)
  show out0_5 (F := Ideal) (iblk m c 0 t) (iblk m c 1 t) (iblk m c 2 t) (iblk m c 3 t) (ix3 0 y1 y2) = _
  rw [out5_apply (blk0 m c t) (blk1 m c t) (blk2 m c t) (blk3 m c t), View.read_apply]
  refine congrArg (val_main_v42 (F := Ideal) (X0 m c) (X1 m c) (X2 m c) (X3 m c)) (funext fun a => Fin.ext ?_)
  have e := congrFun (idx_out5 t)
  match a with
  | ⟨0, _⟩ => show t.val = win0_5.index t 0 * 1 + 1 * 0; rw [e 0]; show _ = t.val * 1 + 1 * 0; omega
  | ⟨1, _⟩ => show y1.val = win0_5.index t 1 * 256 + 1 * y1.val; rw [e 1]; show _ = 0 * 256 + 1 * y1.val; omega
  | ⟨2, _⟩ => show y2.val = win0_5.index t 2 * 512 + 1 * y2.val; rw [e 2]; show _ = 0 * 512 + 1 * y2.val; omega

/-- Output 1's blocks cover its array. -/
theorem cover5 (i : S16x256x512.Idx) : ∃ t : Fin cfg0.N, (cfg0.win 5).flush t = true ∧ i ∈ ((cfg0.win 5).blk t).view.set := by
  idx_vars i
  have hN : cfg0.N = 16 := N_0
  refine ⟨⟨i0.val, by omega⟩, flush0_5 _, ?_⟩
  have e := congrFun (idx_out5 ⟨i0.val, by omega⟩)
  generalize hx : (⟨i0.val, by omega⟩ : Fin cfg0.N) = t at *
  have hv : t.val = i0.val := by rw [← hx]
  show ix3 i0 i1 i2 ∈ ((View.whole main_v4_1).slice (win0_5.rect t)).set
  rw [View.set_slice_whole, Rect.mem_set_unit]
  intro a
  match a with
  | ⟨0, _⟩ => show win0_5.index t 0 * 1 ≤ i0.val ∧ i0.val < win0_5.index t 0 * 1 + 1; rw [e 0]; show t.val * 1 ≤ i0.val ∧ i0.val < t.val * 1 + 1; omega
  | ⟨1, _⟩ => show win0_5.index t 1 * 256 ≤ i1.val ∧ i1.val < win0_5.index t 1 * 256 + 256; rw [e 1]; show 0 * 256 ≤ i1.val ∧ i1.val < 0 * 256 + 256; omega
  | ⟨2, _⟩ => show win0_5.index t 2 * 512 ≤ i2.val ∧ i2.val < win0_5.index t 2 * 512 + 512; rw [e 2]; show 0 * 512 ≤ i2.val ∧ i2.val < 0 * 512 + 512; omega

theorem final5 : (dats m 0 c).arrAt 5 cfg0.N = val_main_v42 (F := Ideal) (X0 m c) (X1 m c) (X2 m c) (X3 m c) :=
  (dats m 0 c).arrAt_eq_of_cover 5 _ (fun t _ => flushed5_eq m c t) cover5

theorem idx_out6 : ∀ t : Fin cfg0.N, win0_6.index t = ![t.val, 0, 0] := (by decide +kernel : ∀ t : Fin grid0.N, _)

/-- What point `t` writes back to output 2 is that block of the reference's value. -/
theorem flushed6_eq (t : Fin cfg0.N) : (dats m 0 c).flushed 6 t
    = ((cfg0.win 6).blk t).view.read (Elt Ideal) (val_main_v43 (F := Ideal) (X0 m c) (X1 m c) (X2 m c) (X3 m c)) := by
  rw [Value.flushed6]
  refine funext fun (y : S1x256x512.Idx) => ?_
  idx_vars y
  obtain rfl : y0 = 0 := Fin.ext (by omega)
  show out0_6 (F := Ideal) (iblk m c 0 t) (iblk m c 1 t) (iblk m c 2 t) (iblk m c 3 t) (ix3 0 y1 y2) = _
  rw [out6_apply (blk0 m c t) (blk1 m c t) (blk2 m c t) (blk3 m c t), View.read_apply]
  refine congrArg (val_main_v43 (F := Ideal) (X0 m c) (X1 m c) (X2 m c) (X3 m c)) (funext fun a => Fin.ext ?_)
  have e := congrFun (idx_out6 t)
  match a with
  | ⟨0, _⟩ => show t.val = win0_6.index t 0 * 1 + 1 * 0; rw [e 0]; show _ = t.val * 1 + 1 * 0; omega
  | ⟨1, _⟩ => show y1.val = win0_6.index t 1 * 256 + 1 * y1.val; rw [e 1]; show _ = 0 * 256 + 1 * y1.val; omega
  | ⟨2, _⟩ => show y2.val = win0_6.index t 2 * 512 + 1 * y2.val; rw [e 2]; show _ = 0 * 512 + 1 * y2.val; omega

/-- Output 2's blocks cover its array. -/
theorem cover6 (i : S16x256x512.Idx) : ∃ t : Fin cfg0.N, (cfg0.win 6).flush t = true ∧ i ∈ ((cfg0.win 6).blk t).view.set := by
  idx_vars i
  have hN : cfg0.N = 16 := N_0
  refine ⟨⟨i0.val, by omega⟩, flush0_6 _, ?_⟩
  have e := congrFun (idx_out6 ⟨i0.val, by omega⟩)
  generalize hx : (⟨i0.val, by omega⟩ : Fin cfg0.N) = t at *
  have hv : t.val = i0.val := by rw [← hx]
  show ix3 i0 i1 i2 ∈ ((View.whole main_v4_2).slice (win0_6.rect t)).set
  rw [View.set_slice_whole, Rect.mem_set_unit]
  intro a
  match a with
  | ⟨0, _⟩ => show win0_6.index t 0 * 1 ≤ i0.val ∧ i0.val < win0_6.index t 0 * 1 + 1; rw [e 0]; show t.val * 1 ≤ i0.val ∧ i0.val < t.val * 1 + 1; omega
  | ⟨1, _⟩ => show win0_6.index t 1 * 256 ≤ i1.val ∧ i1.val < win0_6.index t 1 * 256 + 256; rw [e 1]; show 0 * 256 ≤ i1.val ∧ i1.val < 0 * 256 + 256; omega
  | ⟨2, _⟩ => show win0_6.index t 2 * 512 ≤ i2.val ∧ i2.val < win0_6.index t 2 * 512 + 512; rw [e 2]; show 0 * 512 ≤ i2.val ∧ i2.val < 0 * 512 + 512; omega

theorem final6 : (dats m 0 c).arrAt 6 cfg0.N = val_main_v43 (F := Ideal) (X0 m c) (X1 m c) (X2 m c) (X3 m c) :=
  (dats m 0 c).arrAt_eq_of_cover 6 _ (fun t _ => flushed6_eq m c t) cover6

theorem idx_out7 : ∀ t : Fin cfg0.N, win0_7.index t = ![t.val, 0, 0] := (by decide +kernel : ∀ t : Fin grid0.N, _)

/-- What point `t` writes back to output 3 is that block of the reference's value. -/
theorem flushed7_eq (t : Fin cfg0.N) : (dats m 0 c).flushed 7 t
    = ((cfg0.win 7).blk t).view.read (Elt Ideal) (val_main_v44 (F := Ideal) (X0 m c) (X1 m c) (X2 m c) (X3 m c)) := by
  rw [Value.flushed7]
  refine funext fun (y : S1x256x512.Idx) => ?_
  idx_vars y
  obtain rfl : y0 = 0 := Fin.ext (by omega)
  show out0_7 (F := Ideal) (iblk m c 0 t) (iblk m c 1 t) (iblk m c 2 t) (iblk m c 3 t) (ix3 0 y1 y2) = _
  rw [out7_apply (blk0 m c t) (blk1 m c t) (blk2 m c t) (blk3 m c t), View.read_apply]
  refine congrArg (val_main_v44 (F := Ideal) (X0 m c) (X1 m c) (X2 m c) (X3 m c)) (funext fun a => Fin.ext ?_)
  have e := congrFun (idx_out7 t)
  match a with
  | ⟨0, _⟩ => show t.val = win0_7.index t 0 * 1 + 1 * 0; rw [e 0]; show _ = t.val * 1 + 1 * 0; omega
  | ⟨1, _⟩ => show y1.val = win0_7.index t 1 * 256 + 1 * y1.val; rw [e 1]; show _ = 0 * 256 + 1 * y1.val; omega
  | ⟨2, _⟩ => show y2.val = win0_7.index t 2 * 512 + 1 * y2.val; rw [e 2]; show _ = 0 * 512 + 1 * y2.val; omega

/-- Output 3's blocks cover its array. -/
theorem cover7 (i : S16x256x512.Idx) : ∃ t : Fin cfg0.N, (cfg0.win 7).flush t = true ∧ i ∈ ((cfg0.win 7).blk t).view.set := by
  idx_vars i
  have hN : cfg0.N = 16 := N_0
  refine ⟨⟨i0.val, by omega⟩, flush0_7 _, ?_⟩
  have e := congrFun (idx_out7 ⟨i0.val, by omega⟩)
  generalize hx : (⟨i0.val, by omega⟩ : Fin cfg0.N) = t at *
  have hv : t.val = i0.val := by rw [← hx]
  show ix3 i0 i1 i2 ∈ ((View.whole main_v4_3).slice (win0_7.rect t)).set
  rw [View.set_slice_whole, Rect.mem_set_unit]
  intro a
  match a with
  | ⟨0, _⟩ => show win0_7.index t 0 * 1 ≤ i0.val ∧ i0.val < win0_7.index t 0 * 1 + 1; rw [e 0]; show t.val * 1 ≤ i0.val ∧ i0.val < t.val * 1 + 1; omega
  | ⟨1, _⟩ => show win0_7.index t 1 * 256 ≤ i1.val ∧ i1.val < win0_7.index t 1 * 256 + 256; rw [e 1]; show 0 * 256 ≤ i1.val ∧ i1.val < 0 * 256 + 256; omega
  | ⟨2, _⟩ => show win0_7.index t 2 * 512 ≤ i2.val ∧ i2.val < win0_7.index t 2 * 512 + 512; rw [e 2]; show 0 * 512 ≤ i2.val ∧ i2.val < 0 * 512 + 512; omega

theorem final7 : (dats m 0 c).arrAt 7 cfg0.N = val_main_v44 (F := Ideal) (X0 m c) (X1 m c) (X2 m c) (X3 m c) :=
  (dats m 0 c).arrAt_eq_of_cover 7 _ (fun t _ => flushed7_eq m c t) cover7

theorem idx_out8 : ∀ t : Fin cfg0.N, win0_8.index t = ![t.val, 0, 0] := (by decide +kernel : ∀ t : Fin grid0.N, _)

/-- What point `t` writes back to output 4 is that block of the reference's value. -/
theorem flushed8_eq (t : Fin cfg0.N) : (dats m 0 c).flushed 8 t
    = ((cfg0.win 8).blk t).view.read (Elt Ideal) (val_main_v31 (F := Ideal) (X0 m c) (X1 m c) (X2 m c) (X3 m c)) := by
  rw [Value.flushed8]
  refine funext fun (y : S1x256x256.Idx) => ?_
  idx_vars y
  obtain rfl : y0 = 0 := Fin.ext (by omega)
  show out0_8 (F := Ideal) (iblk m c 0 t) (iblk m c 1 t) (iblk m c 2 t) (iblk m c 3 t) (ix3 0 y1 y2) = _
  rw [out8_apply (blk0 m c t) (blk1 m c t) (blk2 m c t) (blk3 m c t), View.read_apply]
  refine congrArg (val_main_v31 (F := Ideal) (X0 m c) (X1 m c) (X2 m c) (X3 m c)) (funext fun a => Fin.ext ?_)
  have e := congrFun (idx_out8 t)
  match a with
  | ⟨0, _⟩ => show t.val = win0_8.index t 0 * 1 + 1 * 0; rw [e 0]; show _ = t.val * 1 + 1 * 0; omega
  | ⟨1, _⟩ => show y1.val = win0_8.index t 1 * 256 + 1 * y1.val; rw [e 1]; show _ = 0 * 256 + 1 * y1.val; omega
  | ⟨2, _⟩ => show y2.val = win0_8.index t 2 * 256 + 1 * y2.val; rw [e 2]; show _ = 0 * 256 + 1 * y2.val; omega

/-- Output 4's blocks cover its array. -/
theorem cover8 (i : S16x256x256.Idx) : ∃ t : Fin cfg0.N, (cfg0.win 8).flush t = true ∧ i ∈ ((cfg0.win 8).blk t).view.set := by
  idx_vars i
  have hN : cfg0.N = 16 := N_0
  refine ⟨⟨i0.val, by omega⟩, flush0_8 _, ?_⟩
  have e := congrFun (idx_out8 ⟨i0.val, by omega⟩)
  generalize hx : (⟨i0.val, by omega⟩ : Fin cfg0.N) = t at *
  have hv : t.val = i0.val := by rw [← hx]
  show ix3 i0 i1 i2 ∈ ((View.whole main_v4_4).slice (win0_8.rect t)).set
  rw [View.set_slice_whole, Rect.mem_set_unit]
  intro a
  match a with
  | ⟨0, _⟩ => show win0_8.index t 0 * 1 ≤ i0.val ∧ i0.val < win0_8.index t 0 * 1 + 1; rw [e 0]; show t.val * 1 ≤ i0.val ∧ i0.val < t.val * 1 + 1; omega
  | ⟨1, _⟩ => show win0_8.index t 1 * 256 ≤ i1.val ∧ i1.val < win0_8.index t 1 * 256 + 256; rw [e 1]; show 0 * 256 ≤ i1.val ∧ i1.val < 0 * 256 + 256; omega
  | ⟨2, _⟩ => show win0_8.index t 2 * 256 ≤ i2.val ∧ i2.val < win0_8.index t 2 * 256 + 256; rw [e 2]; show 0 * 256 ≤ i2.val ∧ i2.val < 0 * 256 + 256; omega

theorem final8 : (dats m 0 c).arrAt 8 cfg0.N = val_main_v31 (F := Ideal) (X0 m c) (X1 m c) (X2 m c) (X3 m c) :=
  (dats m 0 c).arrAt_eq_of_cover 8 _ (fun t _ => flushed8_eq m c t) cover8

theorem idx_out9 : ∀ t : Fin cfg0.N, win0_9.index t = ![t.val, 0, 0] := (by decide +kernel : ∀ t : Fin grid0.N, _)

/-- What point `t` writes back to output 5 is that block of the reference's value. -/
theorem flushed9_eq (t : Fin cfg0.N) : (dats m 0 c).flushed 9 t
    = ((cfg0.win 9).blk t).view.read (Elt Ideal) (val_main_v32 (F := Ideal) (X0 m c) (X1 m c) (X2 m c) (X3 m c)) := by
  rw [Value.flushed9]
  refine funext fun (y : S1x256x256.Idx) => ?_
  idx_vars y
  obtain rfl : y0 = 0 := Fin.ext (by omega)
  show out0_9 (F := Ideal) (iblk m c 0 t) (iblk m c 1 t) (iblk m c 2 t) (iblk m c 3 t) (ix3 0 y1 y2) = _
  rw [out9_apply (blk0 m c t) (blk1 m c t) (blk2 m c t) (blk3 m c t), View.read_apply]
  refine congrArg (val_main_v32 (F := Ideal) (X0 m c) (X1 m c) (X2 m c) (X3 m c)) (funext fun a => Fin.ext ?_)
  have e := congrFun (idx_out9 t)
  match a with
  | ⟨0, _⟩ => show t.val = win0_9.index t 0 * 1 + 1 * 0; rw [e 0]; show _ = t.val * 1 + 1 * 0; omega
  | ⟨1, _⟩ => show y1.val = win0_9.index t 1 * 256 + 1 * y1.val; rw [e 1]; show _ = 0 * 256 + 1 * y1.val; omega
  | ⟨2, _⟩ => show y2.val = win0_9.index t 2 * 256 + 1 * y2.val; rw [e 2]; show _ = 0 * 256 + 1 * y2.val; omega

/-- Output 5's blocks cover its array. -/
theorem cover9 (i : S16x256x256.Idx) : ∃ t : Fin cfg0.N, (cfg0.win 9).flush t = true ∧ i ∈ ((cfg0.win 9).blk t).view.set := by
  idx_vars i
  have hN : cfg0.N = 16 := N_0
  refine ⟨⟨i0.val, by omega⟩, flush0_9 _, ?_⟩
  have e := congrFun (idx_out9 ⟨i0.val, by omega⟩)
  generalize hx : (⟨i0.val, by omega⟩ : Fin cfg0.N) = t at *
  have hv : t.val = i0.val := by rw [← hx]
  show ix3 i0 i1 i2 ∈ ((View.whole main_v4_5).slice (win0_9.rect t)).set
  rw [View.set_slice_whole, Rect.mem_set_unit]
  intro a
  match a with
  | ⟨0, _⟩ => show win0_9.index t 0 * 1 ≤ i0.val ∧ i0.val < win0_9.index t 0 * 1 + 1; rw [e 0]; show t.val * 1 ≤ i0.val ∧ i0.val < t.val * 1 + 1; omega
  | ⟨1, _⟩ => show win0_9.index t 1 * 256 ≤ i1.val ∧ i1.val < win0_9.index t 1 * 256 + 256; rw [e 1]; show 0 * 256 ≤ i1.val ∧ i1.val < 0 * 256 + 256; omega
  | ⟨2, _⟩ => show win0_9.index t 2 * 256 ≤ i2.val ∧ i2.val < win0_9.index t 2 * 256 + 256; rw [e 2]; show 0 * 256 ≤ i2.val ∧ i2.val < 0 * 256 + 256; omega

theorem final9 : (dats m 0 c).arrAt 9 cfg0.N = val_main_v32 (F := Ideal) (X0 m c) (X1 m c) (X2 m c) (X3 m c) :=
  (dats m 0 c).arrAt_eq_of_cover 9 _ (fun t _ => flushed9_eq m c t) cover9

/-- The kernel's run: its six results at the reference's values of its arguments, the arguments as they were. -/
theorem run : θ_run defs (onTc (τ := τ) (main (F := Ideal))) ⟨m, fun _ => 0, ρ⟩ fun r => ∀ c : Dev nD,
      r.2.mem ((c : Thread nD τ).loc main_v4_0) = val_main_v39 (F := Ideal) (X0 m c) (X1 m c) (X2 m c) (X3 m c)
      ∧ r.2.mem ((c : Thread nD τ).loc main_v4_1) = val_main_v42 (F := Ideal) (X0 m c) (X1 m c) (X2 m c) (X3 m c)
      ∧ r.2.mem ((c : Thread nD τ).loc main_v4_2) = val_main_v43 (F := Ideal) (X0 m c) (X1 m c) (X2 m c) (X3 m c)
      ∧ r.2.mem ((c : Thread nD τ).loc main_v4_3) = val_main_v44 (F := Ideal) (X0 m c) (X1 m c) (X2 m c) (X3 m c)
      ∧ r.2.mem ((c : Thread nD τ).loc main_v4_4) = val_main_v31 (F := Ideal) (X0 m c) (X1 m c) (X2 m c) (X3 m c)
      ∧ r.2.mem ((c : Thread nD τ).loc main_v4_5) = val_main_v32 (F := Ideal) (X0 m c) (X1 m c) (X2 m c) (X3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c),
      (h c).2.2.2.1.trans (final7 m c), (h c).2.2.2.2.1.trans (final8 m c), (h c).2.2.2.2.2.1.trans (final9 m c),
      (h c).2.2.2.2.2.2⟩) (Value.run_blocks m ρ)

end Cert.Proof.InProjCtx

end
-- ==== Proof.Modulation.lean ====
/- The modulation vectors: the array the pipeline writes, a quarter of one layer's columns at a time, is the reference's. -/
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.KernelVsHost
public import Idealize.ShloMosaic.Lib.ValueLayout
public import Idealize.ShloMosaic.Lib.ValueLayoutCasts

@[expose] public section

set_option maxRecDepth 16384

noncomputable section

namespace Cert.Proof.Modulation

open Idealize.ShloMosaic Cert.Kernel6Ideal Cert.Kernel6Ideal.Gen Cert.Reference6Ideal.Read
open Idealize.ShloMosaic.Tactic Idealize.ShloMosaic.TcCoe Idealize.SL.Sem
open Idealize.ShloMosaic.Pipeline (Dat)

/-- The reference's value at a layer, a row and a column. -/
theorem ref_apply (X0 : FVec Ideal S24x1024 .f32) (X1 : FVec Ideal S2x1024x6144 .f32) (X2 : FVec Ideal S2x6144 .f32) (l : Fin 2)
    (r : Fin 24) (n : Fin 6144) : val_main_v20 (F := Ideal) X0 X1 X2 (ix3 l r n)
      = (∑ k : Fin 1024, val_main_v0 (F := Ideal) X0 (ix2 r k) * X1 (ix3 l k n)) + X2 (ix2 l n) := by
  have h8 : val_main_v8 (F := Ideal) X0 X1 X2 (ix2 r n)
      = (∑ k : Fin 1024, val_main_v0 (F := Ideal) X0 (ix2 r k) * X1 (ix3 0 k n)) + X2 (ix2 0 n) := by
    unfold val_main_v8 val_main_v3
    generalize val_main_v0 (F := Ideal) X0 = S
    pointwise [val_main_v7, val_main_v6, val_main_v5, val_main_v4, val_main_v2, val_main_v1]
  have h17 : val_main_v17 (F := Ideal) X0 X1 X2 (ix2 r n)
      = (∑ k : Fin 1024, val_main_v0 (F := Ideal) X0 (ix2 r k) * X1 (ix3 1 k n)) + X2 (ix2 1 n) := by
    unfold val_main_v17 val_main_v12
    rw [show val_main_v9 (F := Ideal) X0 = val_main_v0 (F := Ideal) X0 from rfl]
    generalize val_main_v0 (F := Ideal) X0 = S
    pointwise [val_main_v16, val_main_v15, val_main_v14, val_main_v13, val_main_v11, val_main_v10]
  unfold val_main_v20 val_main_v18 val_main_v19
  generalize val_main_v8 (F := Ideal) X0 X1 X2 = A at *
  generalize val_main_v17 (F := Ideal) X0 X1 X2 = B at *
  match l with
  | ⟨0, _⟩ => pointwise; exact h8
  | ⟨1, _⟩ => pointwise; exact h17

theorem hz3 : (![0, 0, 0] : Fin 3 → ℕ) = 0 := by funext a; match a with | ⟨0, _⟩ => rfl | ⟨1, _⟩ => rfl | ⟨2, _⟩ => rfl

/-- The block's value at a row and a column. -/
theorem out_apply {x0 : Vec Ideal S24x1024 .f32} {x1 : Vec Ideal S1x1024x1536 .f32} {x2 : Vec Ideal S1x1x1536 .f32} (r : Fin 24) (n : Fin 1536) :
    out0_3 (F := Ideal) x0 x1 x2 (ix3 0 r n) = (∑ k : Fin 1024, val_main_v0 (F := Ideal) x0 (ix2 r k) * x1 (ix3 0 k n)) + x2 (ix3 0 0 n) := by
  unfold out0_3
  rw [View.canon_unit_zero hz3]
  have hs (k : Fin 1024) : val_main_v0 (F := Ideal) x0 (ix2 r k) = x0 (ix2 r k) * Ideal.div 1 (1 + Ideal.exp (0 - x0 (ix2 r k))) := by
    pointwise [val_main_v0, val_main_call0_v5, val_main_call0_v4, val_main_call0_v3, val_main_call0_v2, val_main_call0_v1,
      val_main_call0_v0, val_main_call0_cst, val_main_call0_cst_0]
    simp only [zero_sub]
  simp only [hs]
  pointwise [k0_pay1]

variable (m : (ℓ : Loc nD τ sig) → Buf (Elt Ideal) ℓ) (ρ : Dev nD → PrngReg) (c : Dev nD)

theorem idx_in0 : ∀ t : Fin cfg0.N, win0_0.index t = ![0, 0] := (by decide +kernel : ∀ t : Fin grid0.N, _)
theorem idx_in1 : ∀ t : Fin cfg0.N, win0_1.index t = ![t.val / 4, 0, t.val % 4] := (by decide +kernel : ∀ t : Fin grid0.N, _)
theorem idx_in2 : ∀ t : Fin cfg0.N, win0_2.index t = ![t.val / 4, 0, t.val % 4] := (by decide +kernel : ∀ t : Fin grid0.N, _)
theorem idx_out : ∀ t : Fin cfg0.N, win0_3.index t = ![t.val / 4, 0, t.val % 4] := (by decide +kernel : ∀ t : Fin grid0.N, _)

/-- The layer a grid point takes. -/
abbrev lOf (t : Fin cfg0.N) : Fin 2 := ⟨t.val / 4, by have := t.isLt; have : cfg0.N = 8 := N_0; omega⟩
/-- The column of the layer's 6144 that is column `n` of a grid point's quarter. -/
abbrev nOf (t : Fin cfg0.N) (n : Fin 1536) : Fin 6144 := ⟨t.val % 4 * 1536 + n.val, by omega⟩

abbrev X0 : FVec Ideal S24x1024 .f32 := m ((c : Thread nD τ).loc main_arg0)
abbrev X1 : FVec Ideal S2x1024x6144 .f32 := m ((c : Thread nD τ).loc main_arg1)
abbrev X2 : FVec Ideal S2x6144 .f32 := m ((c : Thread nD τ).loc main_arg2)

theorem blk0 (t : Fin cfg0.N) : (iblk m c 0 t : Vec Ideal S24x1024 .f32) = X0 m c := by
  refine funext fun (y : S24x1024.Idx) => ?_
  idx_vars y
  unfold iblk
  rw [show V m c (Pipeline.arrRef spec0 0) = _ from V_main_arg0 m c, View.read_apply]
  refine congrArg (X0 m c) (funext fun a => Fin.ext ?_)
  have e := congrFun (idx_in0 t)
  match a with
  | ⟨0, _⟩ => show win0_0.index t 0 * 24 + 1 * y0.val = y0.val; rw [e 0]; show 0 * 24 + 1 * y0.val = _; omega
  | ⟨1, _⟩ => show win0_0.index t 1 * 1024 + 1 * y1.val = y1.val; rw [e 1]; show 0 * 1024 + 1 * y1.val = _; omega

theorem blk1 (t : Fin cfg0.N) (k : Fin 1024) (n : Fin 1536) : iblk m c 1 t (ix3 0 k n) = X1 m c (ix3 (lOf t) k (nOf t n)) := by
  unfold iblk
  rw [show V m c (Pipeline.arrRef spec0 1) = _ from V_main_arg1 m c, View.read_apply]
  refine congrArg (X1 m c) (funext fun a => Fin.ext ?_)
  have e := congrFun (idx_in1 t)
  match a with
  | ⟨0, _⟩ => show win0_1.index t 0 * 1 + 1 * 0 = t.val / 4; rw [e 0]; show t.val / 4 * 1 + 1 * 0 = _; omega
  | ⟨1, _⟩ => show win0_1.index t 1 * 1024 + 1 * k.val = k.val; rw [e 1]; show 0 * 1024 + 1 * k.val = _; omega
  | ⟨2, _⟩ => show win0_1.index t 2 * 1536 + 1 * n.val = t.val % 4 * 1536 + n.val; rw [e 2]; show t.val % 4 * 1536 + 1 * n.val = _; omega

theorem blk2 (t : Fin cfg0.N) (n : Fin 1536) : iblk m c 2 t (ix3 0 0 n) = X2 m c (ix2 (lOf t) (nOf t n)) := by
  unfold iblk
  have hV : V m c (Pipeline.arrRef spec0 2) = shapeCast S2x1x6144 (X2 m c) shapeCasts_S2x6144_S2x1x6144 := by
    show StableHlo.after hostOps0 (fun b => m (c, b)) main_v0 = _
    unfold hostOps0
    after_results
    try rfl
  rw [hV, View.read_apply]
  have e := congrFun (idx_in2 t)
  refine (congrArg (shapeCast S2x1x6144 (X2 m c) shapeCasts_S2x6144_S2x1x6144)
    (funext fun a => Fin.ext ?_ : _ = ix3 (lOf t) 0 (nOf t n))).trans ?_
  · match a with
    | ⟨0, _⟩ => show win0_2.index t 0 * 1 + 1 * 0 = t.val / 4; rw [e 0]; show t.val / 4 * 1 + 1 * 0 = _; omega
    | ⟨1, _⟩ => show win0_2.index t 1 * 1 + 1 * 0 = 0; rw [e 1]; rfl
    | ⟨2, _⟩ => show win0_2.index t 2 * 1536 + 1 * n.val = t.val % 4 * 1536 + n.val; rw [e 2]; show t.val % 4 * 1536 + 1 * n.val = _; omega
  · pointwise

/-- What point `t` writes back is that block of the reference's value. -/
theorem flushed_eq (t : Fin cfg0.N) : (dats m 0 c).flushed 3 t
    = ((cfg0.win 3).blk t).view.read (Elt Ideal) (val_main_v20 (F := Ideal) (X0 m c) (X1 m c) (X2 m c)) := by
  rw [Value.flushed3]
  refine funext fun (y : S1x24x1536.Idx) => ?_
  idx_vars y
  obtain rfl : y0 = 0 := Fin.ext (by omega)
  show out0_3 (F := Ideal) (iblk m c 0 t) (iblk m c 1 t) (iblk m c 2 t) (ix3 0 y1 y2) = _
  rw [out_apply, View.read_apply]
  have e := congrFun (idx_out t)
  refine Eq.trans ?_ (congrArg (val_main_v20 (F := Ideal) (X0 m c) (X1 m c) (X2 m c))
    (funext fun a => Fin.ext ?_ : ix3 (lOf t) y1 (nOf t y2) = _))
  · rw [ref_apply, blk0 m c t, blk2 m c t]
    simp only [blk1 m c t]
  · match a with
    | ⟨0, _⟩ => show t.val / 4 = win0_3.index t 0 * 1 + 1 * 0; rw [e 0]; show _ = t.val / 4 * 1 + 1 * 0; omega
    | ⟨1, _⟩ => show y1.val = win0_3.index t 1 * 24 + 1 * y1.val; rw [e 1]; show _ = 0 * 24 + 1 * y1.val; omega
    | ⟨2, _⟩ => show t.val % 4 * 1536 + y2.val = win0_3.index t 2 * 1536 + 1 * y2.val; rw [e 2]; show _ = t.val % 4 * 1536 + 1 * y2.val; omega

/-- The blocks cover the array. -/
theorem cover (i : S2x24x6144.Idx) : ∃ t : Fin cfg0.N, (cfg0.win 3).flush t = true ∧ i ∈ ((cfg0.win 3).blk t).view.set := by
  idx_vars i
  have hN : cfg0.N = 8 := N_0
  refine ⟨⟨i0.val * 4 + i2.val / 1536, by omega⟩, flush0_3 _, ?_⟩
  have e := congrFun (idx_out ⟨i0.val * 4 + i2.val / 1536, by omega⟩)
  generalize hx : (⟨i0.val * 4 + i2.val / 1536, by omega⟩ : Fin cfg0.N) = t at *
  have hv : t.val = i0.val * 4 + i2.val / 1536 := by rw [← hx]
  show ix3 i0 i1 i2 ∈ ((View.whole main_v1).slice (win0_3.rect t)).set
  rw [View.set_slice_whole, Rect.mem_set_unit]
  intro a
  match a with
  | ⟨0, _⟩ => show win0_3.index t 0 * 1 ≤ i0.val ∧ i0.val < win0_3.index t 0 * 1 + 1; rw [e 0]; show t.val / 4 * 1 ≤ i0.val ∧ i0.val < t.val / 4 * 1 + 1; omega
  | ⟨1, _⟩ => show win0_3.index t 1 * 24 ≤ i1.val ∧ i1.val < win0_3.index t 1 * 24 + 24; rw [e 1]; show 0 * 24 ≤ i1.val ∧ i1.val < 0 * 24 + 24; omega
  | ⟨2, _⟩ => show win0_3.index t 2 * 1536 ≤ i2.val ∧ i2.val < win0_3.index t 2 * 1536 + 1536; rw [e 2]; show t.val % 4 * 1536 ≤ i2.val ∧ i2.val < t.val % 4 * 1536 + 1536; omega

/-- The kernel's run: its result at the reference's value of its arguments, the arguments as they were. -/
theorem run : θ_run defs (onTc (τ := τ) (main (F := Ideal))) ⟨m, fun _ => 0, ρ⟩ fun r => ∀ c : Dev nD,
      r.2.mem ((c : Thread nD τ).loc main_v1) = val_main_v20 (F := Ideal) (X0 m c) (X1 m c) (X2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (fun t _ => flushed_eq m c t) cover), (h c).2⟩)
    (Value.run_blocks m ρ)

end Cert.Proof.Modulation

end
-- ==== Proof.FirstRunA.lean ====
module

public import proofs.«01_k».proof.Proof.Gen.Kernel7Ideal.Frame
public import proofs.«01_k».proof.Proof.Gen.Kernel7Ideal.Skeleton

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off3_first : ∀ i : grid0.Coords, k0_cond1 i = 1#1 → k0_off3 i = ![0, 0, 0] := by decide +kernel
theorem off6_first : ∀ i : grid0.Coords, k0_cond1 i = 1#1 → k0_off6 i = ![1, 0, 0] := by decide +kernel
theorem off7_first : ∀ i : grid0.Coords, k0_cond1 i = 1#1 → k0_off7 i = ![1, 128, 0] := by decide +kernel
theorem off8_first : ∀ i : grid0.Coords, k0_cond1 i = 1#1 → k0_off8 i = ![1, 256, 0] := by decide +kernel
theorem off10_first : ∀ i : grid0.Coords, k0_cond1 i = 1#1 → k0_off10 i = ![1, 384, 0] := by decide +kernel

instance closedOff_off3 (i : grid0.Coords) [h : Fact (k0_cond1 i = 1#1)] : ClosedOff (k0_off3 i) :=
  ⟨![0, 0, 0], off3_first i h.out⟩
instance closedOff_off6 (i : grid0.Coords) [h : Fact (k0_cond1 i = 1#1)] : ClosedOff (k0_off6 i) :=
  ⟨![1, 0, 0], off6_first i h.out⟩
instance closedOff_off7 (i : grid0.Coords) [h : Fact (k0_cond1 i = 1#1)] : ClosedOff (k0_off7 i) :=
  ⟨![1, 128, 0], off7_first i h.out⟩
instance closedOff_off8 (i : grid0.Coords) [h : Fact (k0_cond1 i = 1#1)] : ClosedOff (k0_off8 i) :=
  ⟨![1, 256, 0], off8_first i h.out⟩
instance closedOff_off10 (i : grid0.Coords) [h : Fact (k0_cond1 i = 1#1)] : ClosedOff (k0_off10 i) :=
  ⟨![1, 384, 0], off10_first i h.out⟩

set_option maxHeartbeats 40000000 in
noncomputable def runA (c : Dev nD) (i : grid0.Coords) (arg2 : Memref sig .tc .vmem S1x512x1024 .f32) (harg2 : arg2.IsWhole) (arg3 : Memref sig .tc .vmem S1x2048x256 .f32) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x6x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x1024 .bf16) (harg13 : arg13.IsWhole) (arg14 : Memref sig .tc .vmem S1x1024x4096 .bf16) (harg14 : arg14.IsWhole) (arg15 : Memref sig .tc .vmem S1x4096x1024 .bf16) (harg15 : arg15.IsWhole) (arg16 : Memref sig .tc .vmem S1x512x1024 .f32) (harg16 : arg16.IsWhole) (arg17 : Memref sig .tc .vmem S2x512x256 .bf16) (harg17 : arg17.IsWhole) (arg18 : Memref sig .tc .vmem S31x8x256 .f32) (harg18 : arg18.IsWhole) (hc0 : k0_cond1 i = 1#1)
    (x2 : Vec F S1x512x1024 .f32) (x3 : Vec F S1x2048x256 .f32) (x4 : Vec F S1x512x512 .bf16) (x5 : Vec F S1x512x256 .bf16) (x6 : Vec F S31x256 .f32) (x7 : Vec F S1x256 .f32) (x8 : Vec F S1x256 .f32) (x9 : Vec F S1x256 .f32) (x10 : Vec F S1x6x1024 .f32) (x11 : Vec F S1x1024 .f32) (x12 : Vec F S1x1024 .f32) (x13 : Vec F S1x1024x1024 .bf16) (x14 : Vec F S1x1024x4096 .bf16) (x15 : Vec F S1x4096x1024 .bf16) (x17 : Vec F S2x512x256 .bf16) :
    Σ' (L16 : List (View.Piece (Elt F) S1x512x1024 .f32)), { L17 : List (View.Piece (Elt F) S2x512x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ owns (c : Thread nD τ) arg17 fullShare x17 ∗ (∃ d, owns (c : Thread nD τ) arg18 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L16) ∗ (arg17.view.loc (c : Thread nD τ) ↦[arg17.view.set]{fullShare} arg17.view.writes (Elt F) (harg17.unread x17) L17) ∗ (∃ d, owns (c : Thread nD τ) arg18 fullShare d)) -∗ K ⟨⟩))
          ⊢ wp frame (wpE (defs₀ (F := F)) Variants.none c none) E (cc0_conv_out_proj_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_conv_out_proj_mlp_eq_skeleton]; unfold cc0_conv_out_proj_mlp_skel
    simp only [k0_part366_eq_skeleton, k0_part367_eq_skeleton, k0_part368_eq_skeleton]; unfold k0_part366_skel k0_part367_skel k0_part368_skel
    simp only [k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton]
    unfold k0_part184_skel
    simp only [k0_part175_eq_skeleton, k0_part176_eq_skeleton, k0_part177_eq_skeleton]
    unfold k0_part175_skel k0_part176_skel k0_part177_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg17.eq_unread hf17
    haveI : Fact (k0_cond1 i = 1#1) := ⟨hc0⟩
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]; · iexists _; iexact H16
    isplitl [H17]; · iexact H17
    iexists _; iexists _; isplitr
    swap; · iexact H18
    ipureintro; rfl

end Cert.Kernel7Ideal.Gen

end
-- ==== Proof.FirstConv.lean ====
/- The convolution tile and the block of the output projection and feed-forward network, as functions of what the
   body reads: the body's own order of operations, for any floating point. -/
module

public import proofs.«01_k».proof.Proof.Gen.Kernel7Ideal.Frame
public import proofs.«01_k».proof.Proof.Gen.Kernel7Ideal.Skeleton

@[expose] public section

set_option maxRecDepth 16384

noncomputable section

namespace Cert.Kernel7Ideal.Gen

open Idealize.ShloMosaic Idealize.ShloMosaic.TcCoe

variable {F : FTy → Type} [FloatOps F]

/-- Eight rows of zeros. -/
def zeroTile : FVec F S8x256 .f32 := broadcast S8x256 (Scalar.ofBits .f32 0x00000000#32)

/-- Eight rows of the sequence, read at an offset. -/
def tile8 (X : Vec F S1x2048x256 .f32) (off : Fin 3 → ℕ) (h : ∀ a, off a + S1x8x256.size a ≤ S1x2048x256.size a) :
    FVec F S8x256 .f32 :=
  shapeCast S8x256 (View.ld X (Rect.unit (s := S1x2048x256) off S1x8x256.size h)) shapeCasts_S1x8x256_S8x256

/-- Rows `r … r + 7` of two tiles put one above the other. -/
def shifted (r : ℕ) (a b : FVec F S8x256 .f32) : FVec F S8x256 .f32 :=
  if r = 0 then a else
    select (cmpi .slt (iota .tc S8x256 32 [0] iota_S8x256_d0_w32) (broadcast S8x256 (BitVec.ofNat 32 (8 - r))))
      (dynamicRotate 0 (BitVec.ofNat 32 (8 - r)) none a rotates_S8x256_d0)
      (dynamicRotate 0 (BitVec.ofNat 32 (8 - r)) none b rotates_S8x256_d0)

/-- Output tile `j` of a block after its first `n` taps: tap `n`, counted from 0, is number `4 r + a = n + 1`, of weight
    `r + 8 a - 1`. -/
def taps (tl : ℕ → FVec F S8x256 .f32) (w : ℕ → FVec F S8x256 .f32) (bias : FVec F S8x256 .f32) (j : ℕ) (n : ℕ) :
    FVec F S8x256 .f32 :=
  Nat.rec bias (fun n acc => addf acc (mulf (w ((n + 1) / 4 + 8 * ((n + 1) % 4) - 1))
    (shifted ((n + 1) / 4) (tl (j + (n + 1) % 4)) (tl (j + (n + 1) % 4 + 1))))) n

/-- Output tile `j` of a block: the bias and the 31 taps. -/
def blockTile (tl : ℕ → FVec F S8x256 .f32) (w : ℕ → FVec F S8x256 .f32) (bias : FVec F S8x256 .f32) (j : ℕ) :
    FVec F S8x256 .f32 := taps tl w bias j 31

/-- Four blocks, one above the other. -/
def convRows (win : ℕ → ℕ → FVec F S8x256 .f32) (w : ℕ → FVec F S8x256 .f32) (bias : FVec F S8x256 .f32) :
    FVec F S128x256 .f32 :=
  concatenate S128x256 0 [⟨S8x256, blockTile (win 0) w bias 0⟩, ⟨S8x256, blockTile (win 0) w bias 1⟩,
    ⟨S8x256, blockTile (win 0) w bias 2⟩, ⟨S8x256, blockTile (win 0) w bias 3⟩, ⟨S8x256, blockTile (win 1) w bias 0⟩,
    ⟨S8x256, blockTile (win 1) w bias 1⟩, ⟨S8x256, blockTile (win 1) w bias 2⟩, ⟨S8x256, blockTile (win 1) w bias 3⟩,
    ⟨S8x256, blockTile (win 2) w bias 0⟩, ⟨S8x256, blockTile (win 2) w bias 1⟩, ⟨S8x256, blockTile (win 2) w bias 2⟩,
    ⟨S8x256, blockTile (win 2) w bias 3⟩, ⟨S8x256, blockTile (win 3) w bias 0⟩, ⟨S8x256, blockTile (win 3) w bias 1⟩,
    ⟨S8x256, blockTile (win 3) w bias 2⟩, ⟨S8x256, blockTile (win 3) w bias 3⟩]
    concatenates_S8x256_S8x256_S8x256_S8x256_S8x256_S8x256_S8x256_S8x256_S8x256_S8x256_S8x256_S8x256_S8x256_S8x256_S8x256_S8x256_S128x256_d0

/-- Rows less their mean. -/
def centred (v : FVec F S128x256 .f32) : FVec F S128x256 .f32 :=
  subf v (broadcastTo S128x256 (divf
    (shapeCast S128x1 (multiReduction .add [1] S128 v 0x00000000#32 reduces_S128x256_S128 (.inl rfl) rfl) shapeCasts_S128_S128x1)
    (broadcast S128x1 (Scalar.ofBits .f32 0x43800000#32))) broadcasts_S128x1_S128x256)

/-- Centred rows over the root of their mean square. -/
def scaled (v : FVec F S128x256 .f32) : FVec F S128x256 .f32 :=
  mulf v (broadcastTo S128x256 (rsqrt (addf (divf
    (shapeCast S128x1 (multiReduction .add [1] S128 (mulf v v) 0x00000000#32 reduces_S128x256_S128 (.inl rfl) rfl) shapeCasts_S128_S128x1)
    (broadcast S128x1 (Scalar.ofBits .f32 0x43800000#32))) (broadcast S128x1 (Scalar.ofBits .f32 0x358637BD#32))))
    broadcasts_S128x1_S128x256)

/-- Rows scaled and shifted by channel, then times their own sigmoid. -/
def gated (v : FVec F S128x256 .f32) (lg lb : Vec F S1x256 .f32) : FVec F S1x128x256 .bf16 :=
  let u := addf (mulf v (broadcastTo S128x256 (shapeCast S1x256 lg shapeCasts_S1x256_S1x256) broadcasts_S1x256_S128x256))
    (broadcastTo S128x256 (shapeCast S1x256 lb shapeCasts_S1x256_S1x256) broadcasts_S1x256_S128x256)
  shapeCast S1x128x256 (truncf .bf16 (mulf u (divf (broadcast S128x256 (Scalar.ofBits .f32 0x3F800000#32))
    (addf (broadcast S128x256 (Scalar.ofBits .f32 0x3F800000#32)) (exp (subf (broadcast S128x256 (Scalar.ofBits .f32 0x00000000#32)) u)))))
    bitsLt_bf16_f32) shapeCasts_S128x256_S1x128x256

/-- A quarter of the convolution tile: four blocks, normed, with the gate. -/
def convQ (win : ℕ → ℕ → FVec F S8x256 .f32) (w : ℕ → FVec F S8x256 .f32) (bias : FVec F S8x256 .f32)
    (lg lb : Vec F S1x256 .f32) : FVec F S1x128x256 .bf16 :=
  gated (scaled (centred (convRows win w bias))) lg lb

/-- The block of the output: the projection of the three mixers, the residual, and the feed-forward network. -/
def mlpOut (ya : Vec F S1x512x256 .bf16) (x2 : Vec F S1x512x1024 .f32) (x4 : Vec F S1x512x512 .bf16)
    (x5 : Vec F S1x512x256 .bf16) (x10 : Vec F S1x6x1024 .f32) (x11 x12 : Vec F S1x1024 .f32)
    (x13 : Vec F S1x1024x1024 .bf16) (x14 : Vec F S1x1024x4096 .bf16) (x15 : Vec F S1x4096x1024 .bf16) :
    FVec F S1x512x1024 .f32 :=
  let v207 := k0_pay2870 (View.ld x2 (Rect.unit (s := S1x512x1024) ![0, 0, 0] S1x512x1024.size inb_S1x512x1024_S1x512x1024_0_0_0))
  let v210 := k0_pay2871 ya
  let v211 := View.ld x4 (Rect.unit (s := S1x512x512) ![0, 0, 0] S1x512x512.size inb_S1x512x512_S1x512x512_0_0_0)
  let v213 := View.ld x5 (Rect.unit (s := S1x512x256) ![0, 0, 0] S1x512x256.size inb_S1x512x256_S1x512x256_0_0_0)
  let v215 := View.ld x13 (Rect.unit (s := S1x1024x1024) ![0, 0, 0] S1x256x1024.size inb_S1x1024x1024_S1x256x1024_0_0_0)
  let v218 := View.ld x13 (Rect.unit (s := S1x1024x1024) ![0, 256, 0] S1x512x1024.size inb_S1x1024x1024_S1x512x1024_0_256_0)
  let v222 := View.ld x13 (Rect.unit (s := S1x1024x1024) ![0, 768, 0] S1x256x1024.size inb_S1x1024x1024_S1x256x1024_0_768_0)
  let v226 := View.ld x10 (Rect.unit (s := S1x6x1024) ![0, 2, 0] S1x1x1024.size inb_S1x6x1024_S1x1x1024_0_2_0)
  let v241 := View.ld x11 (Rect.unit (s := S1x1024) ![0, 0] S1x1024.size inb_S1x1024_S1x1024_0_0)
  let v245 := View.ld x10 (Rect.unit (s := S1x6x1024) ![0, 4, 0] S1x1x1024.size inb_S1x6x1024_S1x1x1024_0_4_0)
  let v251 := View.ld x10 (Rect.unit (s := S1x6x1024) ![0, 3, 0] S1x1x1024.size inb_S1x6x1024_S1x1x1024_0_3_0)
  let v301 := View.ld x10 (Rect.unit (s := S1x6x1024) ![0, 5, 0] S1x1x1024.size inb_S1x6x1024_S1x1x1024_0_5_0)
  let v257 := View.ld x14 (Rect.unit (s := S1x1024x4096) ![0, 0, 0] S1x1024x1024.size inb_S1x1024x4096_S1x1024x1024_0_0_0)
  let v268 := View.ld x14 (Rect.unit (s := S1x1024x4096) ![0, 0, 1024] S1x1024x1024.size inb_S1x1024x4096_S1x1024x1024_0_0_1024)
  let v279 := View.ld x14 (Rect.unit (s := S1x1024x4096) ![0, 0, 2048] S1x1024x1024.size inb_S1x1024x4096_S1x1024x1024_0_0_2048)
  let v290 := View.ld x14 (Rect.unit (s := S1x1024x4096) ![0, 0, 3072] S1x1024x1024.size inb_S1x1024x4096_S1x1024x1024_0_0_3072)
  let v264 := View.ld x15 (Rect.unit (s := S1x4096x1024) ![0, 0, 0] S1x1024x1024.size inb_S1x4096x1024_S1x1024x1024_0_0_0)
  let v275 := View.ld x15 (Rect.unit (s := S1x4096x1024) ![0, 1024, 0] S1x1024x1024.size inb_S1x4096x1024_S1x1024x1024_0_1024_0)
  let v286 := View.ld x15 (Rect.unit (s := S1x4096x1024) ![0, 2048, 0] S1x1024x1024.size inb_S1x4096x1024_S1x1024x1024_0_2048_0)
  let v297 := View.ld x15 (Rect.unit (s := S1x4096x1024) ![0, 3072, 0] S1x1024x1024.size inb_S1x4096x1024_S1x1024x1024_0_3072_0)
  let v244 := k0_pay2873 v207 v210 v211 v213 v215 v218 v222 v226 v241
  k0_pay2876 (k0_pay2872 v207 v210 v211 v213 v215 v218 v222 v226) (k0_pay2874 v244 v245 v251)
    (k0_pay2875 v244 v245 v251 v257 v264 v268 v275) v279 v286 v290 v297 v301

/-- The tile the body reads at a grid point: row `512 t` of the sequence onwards, for this tile number `t`. -/
def tileNo (i : grid0.Coords) : ℕ := ((i 1).val + 1) % 4

theorem off4_eq : ∀ i : grid0.Coords, ∀ m : Fin 2,
    k0_off4 i (BitVec.ofNat 32 (8 * m.val)) = ![0, 512 * tileNo i + 8 * m.val - 16, 0] := by decide +kernel

theorem off9_eq : ∀ i : grid0.Coords, ∀ m : Fin 2,
    k0_off9 i (BitVec.ofNat 32 (48 + 8 * m.val)) = ![0, min (512 * tileNo i + 512 + 8 * m.val) 2040, 0] := by decide +kernel

theorem off5_eq : ∀ i : grid0.Coords, ∀ b : Fin 16, ∀ m : Fin 8, ¬ (b.val = 0 ∧ m.val < 2) →
    k0_off5 i (BitVec.ofNat 32 (4294967280 + 32 * b.val)) (BitVec.ofNat 32 (8 * m.val))
      = ![0, 512 * tileNo i + 32 * b.val + 8 * m.val - 16, 0] := by decide +kernel

theorem inb3 {off : Fin 3 → ℕ} {n : ℕ} (h : off = ![0, n, 0]) (hn : n ≤ 2040) :
    ∀ a, off a + S1x8x256.size a ≤ S1x2048x256.size a := by
  subst h
  intro a
  match a with
  | ⟨0, _⟩ => exact Nat.le_refl 1
  | ⟨1, _⟩ => exact Nat.add_le_add_right hn 8
  | ⟨2, _⟩ => exact Nat.le_refl 256

theorem tileNo_lt (i : grid0.Coords) : tileNo i < 4 := Nat.mod_lt _ (by omega)

/-- The tile's number as the body computes it. -/
def tileWord (i : grid0.Coords) : BitVec 32 :=
  let v324 : BitVec 32 := Scalar.addi (BitVec.ofNat 32 (i 1).val) 1#32
  let v325 : BitVec 1 := Scalar.cmpi .eq 4#32 0#32
  let v326 : BitVec 32 := Scalar.select v325 1#32 4#32
  let v327 : BitVec 32 := Scalar.remsi v324 v326
  let v328 : BitVec 1 := Scalar.cmpi .ne v327 0#32
  let v329 : BitVec 1 := Scalar.cmpi .slt v327 0#32
  let v330 : BitVec 1 := Scalar.cmpi .slt v326 0#32
  let v331 : BitVec 1 := Scalar.xori v329 v330
  let v332 : BitVec 1 := Scalar.andi v331 v328
  let v333 : BitVec 32 := Scalar.addi v327 v326
  Scalar.select v332 v333 v327

theorem tileWord_eq : ∀ i : grid0.Coords, tileWord i = BitVec.ofNat 32 (tileNo i) := by decide +kernel

theorem off4_inb (i : grid0.Coords) (m : ℕ) (hm : m < 2) :
    ∀ a, k0_off4 i (BitVec.ofNat 32 (8 * m)) a + S1x8x256.size a ≤ S1x2048x256.size a :=
  inb3 (off4_eq i ⟨m, hm⟩) (by have := tileNo_lt i; show 512 * tileNo i + 8 * m - 16 ≤ 2040; omega)

theorem off9_inb (i : grid0.Coords) (m : ℕ) (hm : m < 2) :
    ∀ a, k0_off9 i (BitVec.ofNat 32 (48 + 8 * m)) a + S1x8x256.size a ≤ S1x2048x256.size a :=
  inb3 (off9_eq i ⟨m, hm⟩) (Nat.min_le_right _ _)

theorem off5_inb (i : grid0.Coords) (b m : ℕ) (hb : b < 16) (hm : m < 8) (h0 : ¬ (b = 0 ∧ m < 2)) (h1 : ¬ (b = 15 ∧ 6 ≤ m)) :
    ∀ a, k0_off5 i (BitVec.ofNat 32 (4294967280 + 32 * b)) (BitVec.ofNat 32 (8 * m)) a + S1x8x256.size a ≤ S1x2048x256.size a :=
  inb3 (off5_eq i ⟨b, hb⟩ ⟨m, hm⟩ h0)
    (by have := tileNo_lt i; show 512 * tileNo i + 32 * b + 8 * m - 16 ≤ 2040; omega)

/-- The window of block `b`: eight tiles of eight rows, from sixteen rows above the block to sixteen below it, the rows
    off the sequence zero. This one for the tile the grid point `i` prepares. -/
def winB (i : grid0.Coords) (X : Vec F S1x2048x256 .f32) (b m : ℕ) : FVec F S8x256 .f32 :=
  if h0 : b = 0 ∧ m < 2 then
    Scalar.select (Scalar.cmpi .eq (tileWord i) 0#32) (zeroTile (F := F)) (tile8 X _ (off4_inb i m h0.2))
  else if h1 : b = 15 ∧ 6 ≤ m then
    if h2 : m - 6 < 2 then
      Scalar.select (Scalar.cmpi .eq (tileWord i) 3#32) (zeroTile (F := F)) (tile8 X _ (off9_inb i (m - 6) h2))
    else zeroTile
  else if h2 : b < 16 ∧ m < 8 then tile8 X _ (off5_inb i b m h2.1 h2.2 h0 h1)
  else zeroTile

theorem off1_eq : ∀ m : Fin 2, k0_off1 (BitVec.ofNat 32 (4294967280 + 8 * m.val)) = ![0, 0, 0] := by decide +kernel

theorem off2_eq : ∀ m : Fin 2, k0_off2 (BitVec.ofNat 32 (512 + 8 * m.val)) = ![0, 512 + 8 * m.val, 0] := by decide +kernel

theorem off1_inb (m : ℕ) (hm : m < 2) :
    ∀ a, k0_off1 (BitVec.ofNat 32 (4294967280 + 8 * m)) a + S1x8x256.size a ≤ S1x2048x256.size a :=
  inb3 (off1_eq ⟨m, hm⟩) (by omega)

theorem off2_inb (m : ℕ) (hm : m < 2) :
    ∀ a, k0_off2 (BitVec.ofNat 32 (512 + 8 * m)) a + S1x8x256.size a ≤ S1x2048x256.size a :=
  inb3 (off2_eq ⟨m, hm⟩) (by omega)

/-- The window of block `b` of the first tile, which the first grid point also prepares for itself. -/
def winA (X : Vec F S1x2048x256 .f32) (b m : ℕ) : FVec F S8x256 .f32 :=
  if h0 : b = 0 ∧ m < 2 then Scalar.select 1#1 (zeroTile (F := F)) (tile8 X _ (off1_inb m h0.2))
  else if h1 : b = 15 ∧ 6 ≤ m then
    if h2 : m - 6 < 2 then Scalar.select 0#1 (zeroTile (F := F)) (tile8 X _ (off2_inb (m - 6) h2))
    else zeroTile
  else if h2 : 32 * b + 8 * m - 16 ≤ 2040 then tile8 X ![0, 32 * b + 8 * m - 16, 0] (inb3 rfl h2)
  else zeroTile

end Cert.Kernel7Ideal.Gen

end
-- ==== Proof.FirstRunB.lean ====
module

public import proofs.«01_k».proof.Proof.Gen.Kernel7Ideal.Frame
public import proofs.«01_k».proof.Proof.Gen.Kernel7Ideal.Skeleton

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
noncomputable def runB (c : Dev nD) (i : grid0.Coords) (arg2 : Memref sig .tc .vmem S1x512x1024 .f32) (harg2 : arg2.IsWhole) (arg3 : Memref sig .tc .vmem S1x2048x256 .f32) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x6x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x1024 .bf16) (harg13 : arg13.IsWhole) (arg14 : Memref sig .tc .vmem S1x1024x4096 .bf16) (harg14 : arg14.IsWhole) (arg15 : Memref sig .tc .vmem S1x4096x1024 .bf16) (harg15 : arg15.IsWhole) (arg16 : Memref sig .tc .vmem S1x512x1024 .f32) (harg16 : arg16.IsWhole) (arg17 : Memref sig .tc .vmem S2x512x256 .bf16) (harg17 : arg17.IsWhole) (arg18 : Memref sig .tc .vmem S31x8x256 .f32) (harg18 : arg18.IsWhole) (hc0 : ¬ k0_cond1 i = 1#1)
    (x2 : Vec F S1x512x1024 .f32) (x3 : Vec F S1x2048x256 .f32) (x4 : Vec F S1x512x512 .bf16) (x5 : Vec F S1x512x256 .bf16) (x6 : Vec F S31x256 .f32) (x7 : Vec F S1x256 .f32) (x8 : Vec F S1x256 .f32) (x9 : Vec F S1x256 .f32) (x10 : Vec F S1x6x1024 .f32) (x11 : Vec F S1x1024 .f32) (x12 : Vec F S1x1024 .f32) (x13 : Vec F S1x1024x1024 .bf16) (x14 : Vec F S1x1024x4096 .bf16) (x15 : Vec F S1x4096x1024 .bf16) (x17 : Vec F S2x512x256 .bf16) :
    Σ' (L16 : List (View.Piece (Elt F) S1x512x1024 .f32)), { L17 : List (View.Piece (Elt F) S2x512x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ owns (c : Thread nD τ) arg17 fullShare x17 ∗ (∃ d, owns (c : Thread nD τ) arg18 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L16) ∗ (arg17.view.loc (c : Thread nD τ) ↦[arg17.view.set]{fullShare} arg17.view.writes (Elt F) (harg17.unread x17) L17) ∗ (∃ d, owns (c : Thread nD τ) arg18 fullShare d)) -∗ K ⟨⟩))
          ⊢ wp frame (wpE (defs₀ (F := F)) Variants.none c none) E (cc0_conv_out_proj_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_conv_out_proj_mlp_eq_skeleton]; unfold cc0_conv_out_proj_mlp_skel
    simp only [k0_part366_eq_skeleton, k0_part367_eq_skeleton, k0_part368_eq_skeleton]; unfold k0_part366_skel k0_part367_skel k0_part368_skel
    simp only [k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg17.eq_unread hf17
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]; · iexists _; iexact H16
    isplitl [H17]; · iexact H17
    iexists _; iexists _; isplitr
    swap; · iexact H18
    ipureintro; rfl

end Cert.Kernel7Ideal.Gen

end
-- ==== Proof.FirstPiecesB.lean ====
/- What the body leaves in the output block and in the carried rows at every grid point but the first: the pieces the
   run found are the functions of FirstConv.lean. -/
module

public import proofs.«01_k».proof.Proof.FirstRunB
public import proofs.«01_k».proof.Proof.FirstConv

@[expose] public section

set_option maxRecDepth 65536

noncomputable section

namespace Cert.Kernel7Ideal.Gen

open Idealize.ShloMosaic Idealize.ShloMosaic.TcCoe Idealize.ShloMosaic.Tactic

variable {F : FTy → Type} [FloatOps F]

theorem inb18 (k : ℕ) (hk : k < 31) : ∀ a, (![k, 0, 0] : Fin 3 → ℕ) a + S1x8x256.size a ≤ S31x8x256.size a := by
  intro a
  match a with
  | ⟨0, _⟩ => exact hk
  | ⟨1, _⟩ => exact Nat.le_refl 8
  | ⟨2, _⟩ => exact Nat.le_refl 256

/-- The weight of tap `k` on all eight rows of a tile, read back from the scratch `arg18` after the stores `L`. -/
def wTile (arg18 : Memref sig .tc .vmem S31x8x256 .f32) (L : List (View.Piece (Elt F) S31x8x256 .f32)) (k : ℕ) :
    FVec F S8x256 .f32 :=
  if hk : k < 31 then
    shapeCast S8x256 (arg18.view.readCov L (Rect.unit (s := S31x8x256) ![k, 0, 0] S1x8x256.size (inb18 k hk)).toLoadRect)
      shapeCasts_S1x8x256_S8x256
  else zeroTile

variable  (c : Dev nD) (i : grid0.Coords) (arg2 : Memref sig .tc .vmem S1x512x1024 .f32) (harg2 : arg2.IsWhole) (arg3 : Memref sig .tc .vmem S1x2048x256 .f32) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x6x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x1024 .bf16) (harg13 : arg13.IsWhole) (arg14 : Memref sig .tc .vmem S1x1024x4096 .bf16) (harg14 : arg14.IsWhole) (arg15 : Memref sig .tc .vmem S1x4096x1024 .bf16) (harg15 : arg15.IsWhole) (arg16 : Memref sig .tc .vmem S1x512x1024 .f32) (harg16 : arg16.IsWhole) (arg17 : Memref sig .tc .vmem S2x512x256 .bf16) (harg17 : arg17.IsWhole) (arg18 : Memref sig .tc .vmem S31x8x256 .f32) (harg18 : arg18.IsWhole) (hc0 : ¬ k0_cond1 i = 1#1)
    (x2 : Vec F S1x512x1024 .f32) (x3 : Vec F S1x2048x256 .f32) (x4 : Vec F S1x512x512 .bf16) (x5 : Vec F S1x512x256 .bf16) (x6 : Vec F S31x256 .f32) (x7 : Vec F S1x256 .f32) (x8 : Vec F S1x256 .f32) (x9 : Vec F S1x256 .f32) (x10 : Vec F S1x6x1024 .f32) (x11 : Vec F S1x1024 .f32) (x12 : Vec F S1x1024 .f32) (x13 : Vec F S1x1024x1024 .bf16) (x14 : Vec F S1x1024x4096 .bf16) (x15 : Vec F S1x4096x1024 .bf16) (x17 : Vec F S2x512x256 .bf16)

/-- The output block. -/
theorem runB_out : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).1 = [⟨Rect.unit (s := S1x512x1024) ![0, 0, 0] S1x512x1024.size inb_S1x512x1024_S1x512x1024_0_0_0,
    mlpOut (View.ld (arg17.view.read (Elt F) (harg17.unread x17)) (Rect.unit (s := S2x512x256) (k0_off3 i) S1x512x256.size (k0_off3_inb i))) (arg2.view.read (Elt F) (harg2.unread x2)) (arg4.view.read (Elt F) (harg4.unread x4)) (arg5.view.read (Elt F) (harg5.unread x5)) (arg10.view.read (Elt F) (harg10.unread x10)) (arg11.view.read (Elt F) (harg11.unread x11)) (arg12.view.read (Elt F) (harg12.unread x12)) (arg13.view.read (Elt F) (harg13.unread x13)) (arg14.view.read (Elt F) (harg14.unread x14)) (arg15.view.read (Elt F) (harg15.unread x15))⟩] := by
  sl_kernel_rfl

/-- The carried rows. -/
theorem runB_rows : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).2.1 =
    [⟨Rect.unit (s := S2x512x256) (k0_off10 i) S1x128x256.size (k0_off10_inb i), convQ (fun b m => winB i (arg3.view.read (Elt F) (harg3.unread x3)) (12 + b) m) (wTile arg18 (runB.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩,
    ⟨Rect.unit (s := S2x512x256) (k0_off8 i) S1x128x256.size (k0_off8_inb i), convQ (fun b m => winB i (arg3.view.read (Elt F) (harg3.unread x3)) (8 + b) m) (wTile arg18 (runB.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩,
    ⟨Rect.unit (s := S2x512x256) (k0_off7 i) S1x128x256.size (k0_off7_inb i), convQ (fun b m => winB i (arg3.view.read (Elt F) (harg3.unread x3)) (4 + b) m) (wTile arg18 (runB.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩,
    ⟨Rect.unit (s := S2x512x256) (k0_off6 i) S1x128x256.size (k0_off6_inb i), convQ (fun b m => winB i (arg3.view.read (Elt F) (harg3.unread x3)) (0 + b) m) (wTile arg18 (runB.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩] := by
  sl_kernel_rfl

end Cert.Kernel7Ideal.Gen

end
-- ==== Proof.FirstPiecesA.lean ====
/- What the body leaves in the output block and in the carried rows at the first grid point. -/
module

public import proofs.«01_k».proof.Proof.FirstRunA
public import proofs.«01_k».proof.Proof.FirstConv
public import proofs.«01_k».proof.Proof.FirstPiecesB

@[expose] public section

set_option maxRecDepth 65536

noncomputable section

namespace Cert.Kernel7Ideal.Gen

open Idealize.ShloMosaic Idealize.ShloMosaic.TcCoe Idealize.ShloMosaic.Tactic

variable {F : FTy → Type} [FloatOps F]

variable  (c : Dev nD) (i : grid0.Coords) (arg2 : Memref sig .tc .vmem S1x512x1024 .f32) (harg2 : arg2.IsWhole) (arg3 : Memref sig .tc .vmem S1x2048x256 .f32) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x6x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x1024 .bf16) (harg13 : arg13.IsWhole) (arg14 : Memref sig .tc .vmem S1x1024x4096 .bf16) (harg14 : arg14.IsWhole) (arg15 : Memref sig .tc .vmem S1x4096x1024 .bf16) (harg15 : arg15.IsWhole) (arg16 : Memref sig .tc .vmem S1x512x1024 .f32) (harg16 : arg16.IsWhole) (arg17 : Memref sig .tc .vmem S2x512x256 .bf16) (harg17 : arg17.IsWhole) (arg18 : Memref sig .tc .vmem S31x8x256 .f32) (harg18 : arg18.IsWhole) (hc0 : k0_cond1 i = 1#1)
    (x2 : Vec F S1x512x1024 .f32) (x3 : Vec F S1x2048x256 .f32) (x4 : Vec F S1x512x512 .bf16) (x5 : Vec F S1x512x256 .bf16) (x6 : Vec F S31x256 .f32) (x7 : Vec F S1x256 .f32) (x8 : Vec F S1x256 .f32) (x9 : Vec F S1x256 .f32) (x10 : Vec F S1x6x1024 .f32) (x11 : Vec F S1x1024 .f32) (x12 : Vec F S1x1024 .f32) (x13 : Vec F S1x1024x1024 .bf16) (x14 : Vec F S1x1024x4096 .bf16) (x15 : Vec F S1x4096x1024 .bf16) (x17 : Vec F S2x512x256 .bf16)

/-- The rows of the first tile, which the first grid point stores for itself. -/
theorem runA_first : runA.sl.H17_4 c i arg3 harg3 arg6 harg6 arg7 harg7 arg8 harg8 arg9 harg9 arg18 hc0 x3 x6 x7 x8 x9 =
    [⟨Rect.unit (s := S2x512x256) ![0, 384, 0] S1x128x256.size inb_S2x512x256_S1x128x256_0_384_0, convQ (fun b m => winA (arg3.view.read (Elt F) (harg3.unread x3)) (12 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩,
    ⟨Rect.unit (s := S2x512x256) ![0, 256, 0] S1x128x256.size inb_S2x512x256_S1x128x256_0_256_0, convQ (fun b m => winA (arg3.view.read (Elt F) (harg3.unread x3)) (8 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩,
    ⟨Rect.unit (s := S2x512x256) ![0, 128, 0] S1x128x256.size inb_S2x512x256_S1x128x256_0_128_0, convQ (fun b m => winA (arg3.view.read (Elt F) (harg3.unread x3)) (4 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩,
    ⟨Rect.unit (s := S2x512x256) ![0, 0, 0] S1x128x256.size inb_S2x512x256_S1x128x256_0_0_0, convQ (fun b m => winA (arg3.view.read (Elt F) (harg3.unread x3)) (0 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩] := by
  sl_kernel_rfl

/-- The output block. -/
theorem runA_out : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).1 = [⟨Rect.unit (s := S1x512x1024) ![0, 0, 0] S1x512x1024.size inb_S1x512x1024_S1x512x1024_0_0_0,
    mlpOut (arg17.view.readCov (runA.sl.H17_4 c i arg3 harg3 arg6 harg6 arg7 harg7 arg8 harg8 arg9 harg9 arg18 hc0 x3 x6 x7 x8 x9) (Rect.unit (s := S2x512x256) (k0_off3 i) S1x512x256.size (k0_off3_inb i)).toLoadRect) (arg2.view.read (Elt F) (harg2.unread x2)) (arg4.view.read (Elt F) (harg4.unread x4)) (arg5.view.read (Elt F) (harg5.unread x5)) (arg10.view.read (Elt F) (harg10.unread x10)) (arg11.view.read (Elt F) (harg11.unread x11)) (arg12.view.read (Elt F) (harg12.unread x12)) (arg13.view.read (Elt F) (harg13.unread x13)) (arg14.view.read (Elt F) (harg14.unread x14)) (arg15.view.read (Elt F) (harg15.unread x15))⟩] := by
  sl_kernel_rfl

/-- The carried rows. -/
theorem runA_rows : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).2.1 =
    ⟨Rect.unit (s := S2x512x256) (k0_off10 i) S1x128x256.size (k0_off10_inb i), convQ (fun b m => winB i (arg3.view.read (Elt F) (harg3.unread x3)) (12 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩ ::
    ⟨Rect.unit (s := S2x512x256) (k0_off8 i) S1x128x256.size (k0_off8_inb i), convQ (fun b m => winB i (arg3.view.read (Elt F) (harg3.unread x3)) (8 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩ ::
    ⟨Rect.unit (s := S2x512x256) (k0_off7 i) S1x128x256.size (k0_off7_inb i), convQ (fun b m => winB i (arg3.view.read (Elt F) (harg3.unread x3)) (4 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩ ::
    ⟨Rect.unit (s := S2x512x256) (k0_off6 i) S1x128x256.size (k0_off6_inb i), convQ (fun b m => winB i (arg3.view.read (Elt F) (harg3.unread x3)) (0 + b) m) (wTile arg18 (runA.sl.H18_31 c arg6 harg6 x6))
      (k0_pay2868 (View.ld (arg7.view.read (Elt F) (harg7.unread x7)) (Rect.unit (s := S1x256) ![0, 0] S1x256.size inb_S1x256_S1x256_0_0))) (View.ld (arg8.view.read (Elt F) (harg8.unread x8)) (Rect.unit (s := S1x256) ![0, 0] S1x256.size inb_S1x256_S1x256_0_0)) (View.ld (arg9.view.read (Elt F) (harg9.unread x9)) (Rect.unit (s := S1x256) ![0, 0] S1x256.size inb_S1x256_S1x256_0_0))⟩ ::
    runA.sl.H17_4 c i arg3 harg3 arg6 harg6 arg7 harg7 arg8 harg8 arg9 harg9 arg18 hc0 x3 x6 x7 x8 x9 := by
  sl_kernel_rfl

end Cert.Kernel7Ideal.Gen

end
-- ==== Proof.FirstRows.lean ====
/- The rows a tile of the convolution leaves in the scratch that carries them to the next grid point, one function of
   the row, whatever the order of the stores. -/
module

public import proofs.«01_k».proof.Proof.FirstPiecesB
public import Idealize.ShloMosaic.Lib.Pipeline.Value
public import Idealize.ShloMosaic.Lib.Pointwise

@[expose] public section

set_option maxRecDepth 16384

noncomputable section

namespace Cert.Kernel7Ideal.Gen

open Idealize.ShloMosaic Idealize.ShloMosaic.TcCoe

variable {F : FTy → Type} [FloatOps F]

theorem inb6 (k : ℕ) (hk : k < 31) : ∀ a, (![k, 0] : Fin 2 → ℕ) a + S1x256.size a ≤ S31x256.size a := by
  intro a
  match a with
  | ⟨0, _⟩ => exact hk
  | ⟨1, _⟩ => exact Nat.le_refl 256

/-- The stores of the first `n` weights, each on eight equal rows. -/
def wPieces (X : Vec F S31x256 .f32) : (n : ℕ) → n ≤ 31 → List (View.Piece (Elt F) S31x8x256 .f32)
  | 0, _ => []
  | n + 1, h => ⟨Rect.unit (s := S31x8x256) ![n, 0, 0] S1x8x256.size (inb18 n h),
      k0_pay2867 (View.ld X (Rect.unit (s := S31x256) ![n, 0] S1x256.size (inb6 n h)))⟩ :: wPieces X n (by omega)

/-- Weight `k` on eight equal rows. -/
def wRow (X : Vec F S31x256 .f32) (k : ℕ) : FVec F S8x256 .f32 :=
  if hk : k < 31 then
    shapeCast S8x256 (k0_pay2867 (View.ld X (Rect.unit (s := S31x256) ![k, 0] S1x256.size (inb6 k hk)))) shapeCasts_S1x8x256_S8x256
  else zeroTile

/-- The scratch after those stores, as a function of the place. -/
def wAt (X : Vec F S31x256 .f32) (y : S31x8x256.Idx) : Elt F .f32 :=
  k0_pay2867 (View.ld X (Rect.unit (s := S31x256) ![(y 0).val, 0] S1x256.size (inb6 _ (y 0).isLt))) (ix3 0 (y 1) (y 2))

theorem wPieces_apply (X : Vec F S31x256 .f32) (n : ℕ) (h : n ≤ 31) :
    ∀ p ∈ wPieces X n h, ∀ x : p.1.shape.Idx, p.2 x = wAt X (p.1.emb x) := by
  induction n with
  | zero => intro p hp; exact absurd hp List.not_mem_nil
  | succ n ih =>
    intro p hp
    rcases List.mem_cons.mp hp with rfl | hp
    · intro x
      have hx : x = ix3 0 (x 1) (x 2) := funext fun a => match a with
        | ⟨0, _⟩ => Fin.ext (by have : (x 0).val < 1 := (x 0).isLt; show (x 0).val = 0; omega)
        | ⟨1, _⟩ => rfl
        | ⟨2, _⟩ => rfl
      have e : ∀ k : Fin 31, k.val = n → ∀ z z' : S1x8x256.Idx, z = z' →
          k0_pay2867 (View.ld X (Rect.unit (s := S31x256) ![n, 0] S1x256.size (inb6 n h))) z
            = k0_pay2867 (View.ld X (Rect.unit (s := S31x256) ![k.val, 0] S1x256.size (inb6 k.val k.isLt))) z' := by
        rintro ⟨k, hk⟩ rfl z z' rfl; rfl
      refine e ((Rect.unit (s := S31x8x256) ![n, 0, 0] S1x8x256.size (inb18 n h)).emb x 0) ?_ _ _ (hx.trans (funext fun a => match a with
        | ⟨0, _⟩ => rfl
        | ⟨1, _⟩ => Fin.ext ?_
        | ⟨2, _⟩ => Fin.ext ?_))
      · have : (x 0).val < 1 := (x 0).isLt
        show n + 1 * (x 0).val = n; omega
      · show (x 1).val = 0 + 1 * (x 1).val; omega
      · show (x 2).val = 0 + 1 * (x 2).val; omega
    · exact ih (by omega) p hp

theorem wPieces_cover (X : Vec F S31x256 .f32) (n : ℕ) (h : n ≤ 31) (y : S31x8x256.Idx) (hy : (y 0).val < n) :
    ∃ p ∈ wPieces X n h, y ∈ p.1.set := by
  induction n with
  | zero => omega
  | succ n ih =>
    by_cases e : (y 0).val = n
    · refine ⟨_, List.mem_cons_self, (Rect.mem_set_unit (inb := inb18 n h)).mpr fun a => ?_⟩
      match a with
      | ⟨0, _⟩ => exact ⟨e.ge, by show (y 0).val < n + 1; omega⟩
      | ⟨1, _⟩ => exact ⟨Nat.zero_le _, by show (y 1).val < 0 + 8; have : (y 1).val < 8 := (y 1).isLt; omega⟩
      | ⟨2, _⟩ => exact ⟨Nat.zero_le _, by show (y 2).val < 0 + 256; have : (y 2).val < 256 := (y 2).isLt; omega⟩
    · obtain ⟨p, hp, hm⟩ := ih (by omega) (by omega)
      exact ⟨p, List.mem_cons_of_mem _ hp, hm⟩

/-- What a load of weight `k` reads back. -/
theorem wTile_eq (arg18 : Memref sig .tc .vmem S31x8x256 .f32) (X : Vec F S31x256 .f32) :
    wTile arg18 (wPieces X 31 (Nat.le_refl _)) = wRow X := by
  funext k
  unfold wTile wRow
  refine dite_congr rfl (fun hk => ?_) fun _ => rfl
  refine congrArg (fun v => shapeCast S8x256 v shapeCasts_S1x8x256_S8x256) ?_
  rw [View.readCov_eq_canon']
  funext j
  have hj : (j 0).val < 1 := (j 0).isLt
  have hi : (((Rect.unit (s := S31x8x256) ![k, 0, 0] S1x8x256.size (inb18 k hk)).toLoadRect.idx j) 0).val = k := by
    show k + 1 * (j 0).val = k; omega
  rw [View.canon_apply_of_pieces (wAt X) _ (wPieces_apply X 31 _) _ (wPieces_cover X 31 _ _ (by rw [hi]; exact hk))]
  have e : ∀ k' : Fin 31, k'.val = k → ∀ z z' : S1x8x256.Idx, z = z' →
      k0_pay2867 (View.ld X (Rect.unit (s := S31x256) ![k'.val, 0] S1x256.size (inb6 k'.val k'.isLt))) z
        = k0_pay2867 (View.ld X (Rect.unit (s := S31x256) ![k, 0] S1x256.size (inb6 k hk))) z' := by
    rintro ⟨k', hk'⟩ rfl z z' rfl; rfl
  refine e ((Rect.unit (s := S31x8x256) ![k, 0, 0] S1x8x256.size (inb18 k hk)).toLoadRect.idx j 0) hi _ _ (funext fun a => Fin.ext ?_)
  match a with
  | ⟨0, _⟩ => show 0 = (j 0).val; omega
  | ⟨1, _⟩ => show 0 + 1 * (j 1).val = (j 1).val; omega
  | ⟨2, _⟩ => show 0 + 1 * (j 2).val = (j 2).val; omega

variable (win : ℕ → ℕ → FVec F S8x256 .f32) (w : ℕ → FVec F S8x256 .f32) (bias : FVec F S8x256 .f32) (lg lb : Vec F S1x256 .f32)

/-- The convolution tile of 512 rows: the four quarters. -/
def yaVec : Vec F S1x512x256 .bf16 := fun y =>
  convQ (fun b m => win (4 * ((y 1).val / 128) + b) m) w bias lg lb
    (ix3 0 (⟨(y 1).val % 128, Nat.mod_lt _ (by omega)⟩ : Fin 128) (y 2 : Fin 256))

/-- The place of a row in a slot, without the slot. -/
def inSlot (y : S2x512x256.Idx) : S1x512x256.Idx := ix3 0 (y 1 : Fin 512) (y 2 : Fin 256)

/-- The four stores of a tile. -/
def rowsL (o3 o2 o1 o0 : Fin 3 → ℕ) (h3 : ∀ a, o3 a + S1x128x256.size a ≤ S2x512x256.size a)
    (h2 : ∀ a, o2 a + S1x128x256.size a ≤ S2x512x256.size a) (h1 : ∀ a, o1 a + S1x128x256.size a ≤ S2x512x256.size a)
    (h0 : ∀ a, o0 a + S1x128x256.size a ≤ S2x512x256.size a) : List (View.Piece (Elt F) S2x512x256 .bf16) :=
  [⟨Rect.unit (s := S2x512x256) o3 S1x128x256.size h3, convQ (fun b m => win (12 + b) m) w bias lg lb⟩,
   ⟨Rect.unit (s := S2x512x256) o2 S1x128x256.size h2, convQ (fun b m => win (8 + b) m) w bias lg lb⟩,
   ⟨Rect.unit (s := S2x512x256) o1 S1x128x256.size h1, convQ (fun b m => win (4 + b) m) w bias lg lb⟩,
   ⟨Rect.unit (s := S2x512x256) o0 S1x128x256.size h0, convQ (fun b m => win (0 + b) m) w bias lg lb⟩]

/-- A quarter is the tile's rows `128 q …`. -/
theorem quarter_eq (s q : ℕ) (h : ∀ a, (![s, 128 * q, 0] : Fin 3 → ℕ) a + S1x128x256.size a ≤ S2x512x256.size a)
    (x : S1x128x256.Idx) :
    convQ (fun b m => win (4 * q + b) m) w bias lg lb x
        = yaVec win w bias lg lb (inSlot ((Rect.unit (s := S2x512x256) ![s, 128 * q, 0] S1x128x256.size h).emb x))
      ∧ (((Rect.unit (s := S2x512x256) ![s, 128 * q, 0] S1x128x256.size h).emb x) 0).val = s := by
  have hx0 : (x 0).val < 1 := (x 0).isLt
  have hx1 : (x 1).val < 128 := (x 1).isLt
  refine ⟨?_, by show s + 1 * (x 0).val = s; omega⟩
  have e : ∀ q', q' = q → ∀ z : S1x128x256.Idx, x = z →
      convQ (fun b m => win (4 * q + b) m) w bias lg lb x = convQ (fun b m => win (4 * q' + b) m) w bias lg lb z := by
    rintro q' rfl z rfl; rfl
  refine e _ ?_ _ (funext fun a => Fin.ext ?_)
  · show (128 * q + 1 * (x 1).val) / 128 = q; omega
  · match a with
    | ⟨0, _⟩ => show (x 0).val = 0; omega
    | ⟨1, _⟩ => show (x 1).val = (128 * q + 1 * (x 1).val) % 128; omega
    | ⟨2, _⟩ => show (x 2).val = 0 + 1 * (x 2).val; omega

variable {o3 o2 o1 o0 : Fin 3 → ℕ} (h3 : ∀ a, o3 a + S1x128x256.size a ≤ S2x512x256.size a)
    (h2 : ∀ a, o2 a + S1x128x256.size a ≤ S2x512x256.size a) (h1 : ∀ a, o1 a + S1x128x256.size a ≤ S2x512x256.size a)
    (h0 : ∀ a, o0 a + S1x128x256.size a ≤ S2x512x256.size a) {s : ℕ}
    (e3 : o3 = ![s, 384, 0]) (e2 : o2 = ![s, 256, 0]) (e1 : o1 = ![s, 128, 0]) (e0 : o0 = ![s, 0, 0])
include e3 e2 e1 e0

theorem rowsL_apply : ∀ p ∈ rowsL win w bias lg lb o3 o2 o1 o0 h3 h2 h1 h0, ∀ x : p.1.shape.Idx,
    p.2 x = yaVec win w bias lg lb (inSlot (p.1.emb x)) ∧ ((p.1.emb x) 0).val = s := by
  subst e3 e2 e1 e0
  intro p hp
  rcases List.mem_cons.mp hp with rfl | hp
  · exact quarter_eq win w bias lg lb s 3 h3
  rcases List.mem_cons.mp hp with rfl | hp
  · exact quarter_eq win w bias lg lb s 2 h2
  rcases List.mem_cons.mp hp with rfl | hp
  · exact quarter_eq win w bias lg lb s 1 h1
  rcases List.mem_cons.mp hp with rfl | hp
  · exact quarter_eq win w bias lg lb s 0 h0
  exact absurd hp List.not_mem_nil

theorem rowsL_cover (y : S2x512x256.Idx) (hy : (y 0).val = s) :
    ∃ p ∈ rowsL win w bias lg lb o3 o2 o1 o0 h3 h2 h1 h0, y ∈ p.1.set := by
  subst e3 e2 e1 e0
  have h1' : (y 1).val < 512 := (y 1).isLt
  have h2' : (y 2).val < 256 := (y 2).isLt
  have inside : ∀ q h, 128 * q ≤ (y 1).val → (y 1).val < 128 * q + 128 →
      y ∈ (Rect.unit (s := S2x512x256) ![s, 128 * q, 0] S1x128x256.size h).set := fun q h ha hb =>
    Rect.mem_set_unit.mpr fun a => match a with
      | ⟨0, _⟩ => ⟨hy.ge, by show (y 0).val < s + 1; omega⟩
      | ⟨1, _⟩ => ⟨ha, hb⟩
      | ⟨2, _⟩ => ⟨Nat.zero_le _, by show (y 2).val < 0 + 256; omega⟩
  rcases (by omega : (y 1).val < 128 ∨ (128 ≤ (y 1).val ∧ (y 1).val < 256) ∨ (256 ≤ (y 1).val ∧ (y 1).val < 384) ∨ 384 ≤ (y 1).val)
    with h | h | h | h
  · exact ⟨_, .tail _ (.tail _ (.tail _ (.head _))), inside 0 h0 (by omega) (by omega)⟩
  · exact ⟨_, .tail _ (.tail _ (.head _)), inside 1 h1 (by omega) (by omega)⟩
  · exact ⟨_, .tail _ (.head _), inside 2 h2 (by omega) (by omega)⟩
  · exact ⟨_, .head _, inside 3 h3 (by omega) (by omega)⟩

end Cert.Kernel7Ideal.Gen

end
-- ==== Proof.FirstBody.lean ====
/- What the body leaves, as functions of what it reads: the output block and the carried rows, at the first grid point
   and at every other. -/
module

public import proofs.«01_k».proof.Proof.FirstPiecesA
public import proofs.«01_k».proof.Proof.FirstRows
public import Idealize.ShloMosaic.Lib.Pipeline.FrameBody

@[expose] public section

set_option maxRecDepth 65536

noncomputable section

namespace Cert.Kernel7Ideal.Gen

open Idealize.ShloMosaic Idealize.ShloMosaic.TcCoe Idealize.ShloMosaic.Tactic

variable {F : FTy → Type} [FloatOps F]

/-- The slot of the scratch a grid point prepares. -/
def slotOf (i : grid0.Coords) : ℕ := k0_off6 i 0

theorem off6_slot : ∀ i : grid0.Coords, k0_off6 i = ![slotOf i, 0, 0] := by decide +kernel
theorem off7_slot : ∀ i : grid0.Coords, k0_off7 i = ![slotOf i, 128, 0] := by decide +kernel
theorem off8_slot : ∀ i : grid0.Coords, k0_off8 i = ![slotOf i, 256, 0] := by decide +kernel
theorem off10_slot : ∀ i : grid0.Coords, k0_off10 i = ![slotOf i, 384, 0] := by decide +kernel
theorem slot_first : ∀ i : grid0.Coords, k0_cond1 i = 1#1 → slotOf i = 1 := by decide +kernel
theorem off3_first' : ∀ i : grid0.Coords, k0_cond1 i = 1#1 → k0_off3 i = ![0, 0, 0] := by decide +kernel

/-- The one-row box of a parameter. -/
abbrev rowBox : Rect S1x256 := Rect.unit (s := S1x256) ![0, 0] S1x256.size inb_S1x256_S1x256_0_0

/-- The convolution tile of a window, from the parameters as the body reads them. -/
def yaOf (win : ℕ → ℕ → FVec F S8x256 .f32) (x6 : Vec F S31x256 .f32) (x7 x8 x9 : Vec F S1x256 .f32) : Vec F S1x512x256 .bf16 :=
  yaVec win (wRow x6) (k0_pay2868 (View.ld x7 rowBox)) (View.ld x8 rowBox) (View.ld x9 rowBox)

/-- A block of 512 rows of the scratch, read at a slot. -/
abbrev slotBox (off : Fin 3 → ℕ) (h : ∀ a, off a + S1x512x256.size a ≤ S2x512x256.size a) : Rect S2x512x256 :=
  Rect.unit (s := S2x512x256) off S1x512x256.size h

theorem inSlot_idx (off : Fin 3 → ℕ) (h) (s : ℕ) (e : off = ![s, 0, 0]) (y : (slotBox off h).shape.Idx) :
    inSlot ((slotBox off h).toLoadRect.idx y) = y ∧ (((slotBox off h).toLoadRect.idx y) 0).val = s := by
  subst e
  have h0 : (y 0).val < 1 := (y 0).isLt
  refine ⟨funext fun a => Fin.ext ?_, by show s + 1 * (y 0).val = s; omega⟩
  match a with
  | ⟨0, _⟩ => show 0 = (y 0).val; omega
  | ⟨1, _⟩ => show 0 + 1 * (y 1).val = (y 1).val; omega
  | ⟨2, _⟩ => show 0 + 1 * (y 2).val = (y 2).val; omega

theorem whole3 : (![0, 0, 0] : Fin 3 → Nat) = fun _ => 0 := funext fun a => by fin_cases a <;> rfl

theorem read_whole (arg16 : Memref sig .tc .vmem S1x512x1024 .f32) (f) (v : FVec F S1x512x1024 .f32) :
    arg16.view.read (Elt F) (arg16.view.writes (Elt F) f
      [⟨Rect.unit (s := S1x512x1024) ![0, 0, 0] S1x512x1024.size inb_S1x512x1024_S1x512x1024_0_0_0, v⟩]) = v := by
  funext y
  refine View.read_writes_apply_of_pieces _ f v _ (fun p hp x => ?_) y ⟨_, .head _, View.mem_set_unit_zero whole3 inb_S1x512x1024_S1x512x1024_0_0_0 y⟩
  obtain rfl := List.mem_singleton.mp hp
  refine congrArg v (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega

theorem runB_w (c : Dev nD) (arg6 : Memref sig .tc .vmem S31x256 .f32) (harg6 : arg6.IsWhole) (x6 : Vec F S31x256 .f32) :
    runB.sl.H18_31 c arg6 harg6 x6 = wPieces (arg6.view.read (Elt F) (harg6.unread x6)) 31 (Nat.le_refl _) := by
  sl_kernel_rfl

theorem runA_w (c : Dev nD) (arg6 : Memref sig .tc .vmem S31x256 .f32) (harg6 : arg6.IsWhole) (x6 : Vec F S31x256 .f32) :
    runA.sl.H18_31 c arg6 harg6 x6 = wPieces (arg6.view.read (Elt F) (harg6.unread x6)) 31 (Nat.le_refl _) := by
  sl_kernel_rfl

section Other

variable (c : Dev nD) (i : grid0.Coords) (arg2 : Memref sig .tc .vmem S1x512x1024 .f32) (harg2 : arg2.IsWhole) (arg3 : Memref sig .tc .vmem S1x2048x256 .f32) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x6x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x1024 .bf16) (harg13 : arg13.IsWhole) (arg14 : Memref sig .tc .vmem S1x1024x4096 .bf16) (harg14 : arg14.IsWhole) (arg15 : Memref sig .tc .vmem S1x4096x1024 .bf16) (harg15 : arg15.IsWhole) (arg16 : Memref sig .tc .vmem S1x512x1024 .f32) (harg16 : arg16.IsWhole) (arg17 : Memref sig .tc .vmem S2x512x256 .bf16) (harg17 : arg17.IsWhole) (arg18 : Memref sig .tc .vmem S31x8x256 .f32) (harg18 : arg18.IsWhole) (hc0 : ¬ k0_cond1 i = 1#1)
    (x2 : Vec F S1x512x1024 .f32) (x3 : Vec F S1x2048x256 .f32) (x4 : Vec F S1x512x512 .bf16) (x5 : Vec F S1x512x256 .bf16) (x6 : Vec F S31x256 .f32) (x7 : Vec F S1x256 .f32) (x8 : Vec F S1x256 .f32) (x9 : Vec F S1x256 .f32) (x10 : Vec F S1x6x1024 .f32) (x11 : Vec F S1x1024 .f32) (x12 : Vec F S1x1024 .f32) (x13 : Vec F S1x1024x1024 .bf16) (x14 : Vec F S1x1024x4096 .bf16) (x15 : Vec F S1x4096x1024 .bf16) (x17 : Vec F S2x512x256 .bf16)

/-- The output block. -/
theorem runB_o (f) : arg16.view.read (Elt F) (arg16.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).1)
    = mlpOut (View.ld x17 (slotBox (k0_off3 i) (k0_off3_inb i))) x2 x4 x5 x10 x11 x12 x13 x14 x15 := by
  have e := runB_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17
  simp only [harg2.read_unread, harg4.read_unread, harg5.read_unread, harg10.read_unread, harg11.read_unread, harg12.read_unread, harg13.read_unread, harg14.read_unread, harg15.read_unread, harg17.read_unread] at e
  rw [e]
  exact read_whole arg16 f _

/-- The rows prepared. -/
theorem runB_ya (y : S2x512x256.Idx) (hy : (y 0).val = slotOf i) :
    arg17.view.read (Elt F) (arg17.view.writes (Elt F) (harg17.unread x17) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).2.1) y
      = yaOf (winB i x3) x6 x7 x8 x9 (inSlot y) := by
  have e := runB_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17
  simp only [runB_w, wTile_eq, harg3.read_unread, harg6.read_unread, harg7.read_unread, harg8.read_unread, harg9.read_unread] at e
  rw [e]
  exact View.read_writes_apply_of_pieces _ _ (fun y => yaOf (winB i x3) x6 x7 x8 x9 (inSlot y)) (rowsL (winB i x3) (wRow x6) (k0_pay2868 (View.ld x7 rowBox)) (View.ld x8 rowBox) (View.ld x9 rowBox) _ _ _ _ (k0_off10_inb i) (k0_off8_inb i) (k0_off7_inb i) (k0_off6_inb i))
    (fun p hp x => (rowsL_apply _ _ _ _ _ _ _ _ _ (off10_slot i) (off8_slot i) (off7_slot i) (off6_slot i) p hp x).1) y
    (rowsL_cover _ _ _ _ _ _ _ _ _ (off10_slot i) (off8_slot i) (off7_slot i) (off6_slot i) y hy)

end Other

section First

variable (c : Dev nD) (i : grid0.Coords) (arg2 : Memref sig .tc .vmem S1x512x1024 .f32) (harg2 : arg2.IsWhole) (arg3 : Memref sig .tc .vmem S1x2048x256 .f32) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x6x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x1024 .bf16) (harg13 : arg13.IsWhole) (arg14 : Memref sig .tc .vmem S1x1024x4096 .bf16) (harg14 : arg14.IsWhole) (arg15 : Memref sig .tc .vmem S1x4096x1024 .bf16) (harg15 : arg15.IsWhole) (arg16 : Memref sig .tc .vmem S1x512x1024 .f32) (harg16 : arg16.IsWhole) (arg17 : Memref sig .tc .vmem S2x512x256 .bf16) (harg17 : arg17.IsWhole) (arg18 : Memref sig .tc .vmem S31x8x256 .f32) (harg18 : arg18.IsWhole) (hc0 : k0_cond1 i = 1#1)
    (x2 : Vec F S1x512x1024 .f32) (x3 : Vec F S1x2048x256 .f32) (x4 : Vec F S1x512x512 .bf16) (x5 : Vec F S1x512x256 .bf16) (x6 : Vec F S31x256 .f32) (x7 : Vec F S1x256 .f32) (x8 : Vec F S1x256 .f32) (x9 : Vec F S1x256 .f32) (x10 : Vec F S1x6x1024 .f32) (x11 : Vec F S1x1024 .f32) (x12 : Vec F S1x1024 .f32) (x13 : Vec F S1x1024x1024 .bf16) (x14 : Vec F S1x1024x4096 .bf16) (x15 : Vec F S1x4096x1024 .bf16) (x17 : Vec F S2x512x256 .bf16)

/-- The first tile's rows, as the first grid point reads them back. -/
theorem runA_own : arg17.view.readCov (runA.sl.H17_4 c i arg3 harg3 arg6 harg6 arg7 harg7 arg8 harg8 arg9 harg9 arg18 hc0 x3 x6 x7 x8 x9)
      (slotBox (k0_off3 i) (k0_off3_inb i)).toLoadRect = yaOf (winA x3) x6 x7 x8 x9 := by
  have e := runA_first c i arg3 harg3 arg6 harg6 arg7 harg7 arg8 harg8 arg9 harg9 arg18 hc0 x3 x6 x7 x8 x9
  simp only [runA_w, wTile_eq, harg3.read_unread, harg6.read_unread, harg7.read_unread, harg8.read_unread, harg9.read_unread] at e
  rw [e, View.readCov_eq_canon']
  funext y
  obtain ⟨e1, e2⟩ := inSlot_idx _ (k0_off3_inb i) 0 (off3_first' i hc0) y
  refine (View.canon_apply_of_pieces (fun y => yaOf (winA x3) x6 x7 x8 x9 (inSlot y)) (rowsL (winA x3) (wRow x6) (k0_pay2868 (View.ld x7 rowBox)) (View.ld x8 rowBox) (View.ld x9 rowBox) ![0, 384, 0] ![0, 256, 0] ![0, 128, 0] ![0, 0, 0] inb_S2x512x256_S1x128x256_0_384_0 inb_S2x512x256_S1x128x256_0_256_0 inb_S2x512x256_S1x128x256_0_128_0 inb_S2x512x256_S1x128x256_0_0_0)
    (fun p hp x => (rowsL_apply _ _ _ _ _ _ _ _ _ rfl rfl rfl rfl p hp x).1) _
    (rowsL_cover _ _ _ _ _ _ _ _ _ rfl rfl rfl rfl _ e2)).trans ?_
  exact congrArg (yaOf (winA x3) x6 x7 x8 x9) e1

/-- The output block. -/
theorem runA_o (f) : arg16.view.read (Elt F) (arg16.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).1)
    = mlpOut (yaOf (winA x3) x6 x7 x8 x9) x2 x4 x5 x10 x11 x12 x13 x14 x15 := by
  have e := runA_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17
  rw [runA_own c i arg3 harg3 arg6 harg6 arg7 harg7 arg8 harg8 arg9 harg9 arg17 arg18 hc0 x3 x6 x7 x8 x9] at e
  simp only [harg2.read_unread, harg4.read_unread, harg5.read_unread, harg10.read_unread, harg11.read_unread, harg12.read_unread, harg13.read_unread, harg14.read_unread, harg15.read_unread] at e
  rw [e]
  exact read_whole arg16 f _

/-- The rows prepared for the next grid point. -/
theorem runA_ya (y : S2x512x256.Idx) (hy : (y 0).val = slotOf i) :
    arg17.view.read (Elt F) (arg17.view.writes (Elt F) (harg17.unread x17) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17).2.1) y
      = yaOf (winB i x3) x6 x7 x8 x9 (inSlot y) := by
  have e := runA_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x2 x3 x4 x5 x6 x7 x8 x9 x10 x11 x12 x13 x14 x15 x17
  rw [runA_first c i arg3 harg3 arg6 harg6 arg7 harg7 arg8 harg8 arg9 harg9 arg18 hc0 x3 x6 x7 x8 x9] at e
  simp only [runA_w, wTile_eq, harg3.read_unread, harg6.read_unread, harg7.read_unread, harg8.read_unread, harg9.read_unread] at e
  have hs := slot_first i hc0
  have hB := rowsL_apply (winB i x3) (wRow x6) (k0_pay2868 (View.ld x7 rowBox)) (View.ld x8 rowBox) (View.ld x9 rowBox)
    (k0_off10_inb i) (k0_off8_inb i) (k0_off7_inb i) (k0_off6_inb i) (off10_slot i) (off8_slot i) (off7_slot i) (off6_slot i)
  have hA := rowsL_apply (winA x3) (wRow x6) (k0_pay2868 (View.ld x7 rowBox)) (View.ld x8 rowBox) (View.ld x9 rowBox)
    (s := 0) inb_S2x512x256_S1x128x256_0_384_0 inb_S2x512x256_S1x128x256_0_256_0 inb_S2x512x256_S1x128x256_0_128_0 inb_S2x512x256_S1x128x256_0_0_0 rfl rfl rfl rfl
  rw [e]
  refine (View.read_writes_apply_of_pieces _ _
    (fun y => if (y 0).val = 0 then yaOf (winA x3) x6 x7 x8 x9 (inSlot y) else yaOf (winB i x3) x6 x7 x8 x9 (inSlot y))
    (rowsL (winB i x3) (wRow x6) (k0_pay2868 (View.ld x7 rowBox)) (View.ld x8 rowBox) (View.ld x9 rowBox) _ _ _ _ (k0_off10_inb i) (k0_off8_inb i) (k0_off7_inb i) (k0_off6_inb i) ++ rowsL (winA x3) (wRow x6) (k0_pay2868 (View.ld x7 rowBox)) (View.ld x8 rowBox) (View.ld x9 rowBox) ![0, 384, 0] ![0, 256, 0] ![0, 128, 0] ![0, 0, 0] inb_S2x512x256_S1x128x256_0_384_0 inb_S2x512x256_S1x128x256_0_256_0 inb_S2x512x256_S1x128x256_0_128_0 inb_S2x512x256_S1x128x256_0_0_0) (fun p hp x => ?_) y ?_).trans (if_neg (by omega))
  · rcases List.mem_append.mp hp with hp | hp
    · exact (hB p hp x).1.trans (if_neg (by rw [(hB p hp x).2]; omega)).symm
    · exact (hA p hp x).1.trans (if_pos (hA p hp x).2).symm
  · obtain ⟨p, hp, hm⟩ := rowsL_cover (winB i x3) (wRow x6) (k0_pay2868 (View.ld x7 rowBox)) (View.ld x8 rowBox) (View.ld x9 rowBox)
      (k0_off10_inb i) (k0_off8_inb i) (k0_off7_inb i) (k0_off6_inb i) (off10_slot i) (off8_slot i) (off7_slot i) (off6_slot i) y hy
    exact ⟨p, List.mem_append_left _ hp, hm⟩

end First

end Cert.Kernel7Ideal.Gen

end
-- ==== Proof.FirstRegion.lean ====
/- The run of the kernel: what every grid point leaves in the output and in the scratch it carries to the next, and so
   that every execution ends with the argument arrays as they were and no semaphore raised. -/
module

public import proofs.«01_k».proof.Proof.FirstBody
public import Idealize.ShloMosaic.Lib.Claim

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond_iff : ∀ t : Fin grid0.N, k0_cond1 (grid0.coords t) = 1#1 ↔ t.val = 0 := by decide +kernel

theorem off3_next : ∀ t : Fin grid0.N, ∀ h : t.val + 1 < grid0.N,
    k0_off3 (grid0.coords ⟨t.val + 1, h⟩) = ![slotOf (grid0.coords t), 0, 0] := by decide +kernel

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S31x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x6x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024x4096 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x4096x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x1024 .f32 := win0_14.stage (cfg0.slots t 14)
abbrev hs0_14 (t : Fin cfg0.N) : (ms0_14 t).IsWhole := hstage0_14 ((cfg0.slots t 14).cast nbuf0_14)

/-- The scratch of the carried rows, and that of the weights. -/
abbrev scM0_0 : Memref sig .tc .vmem S2x512x256 .bf16 := Memref.whole cc0_scratch0
abbrev scM0_1 : Memref sig .tc .vmem S31x8x256 .f32 := Memref.whole cc0_scratch1

theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The tile a grid point prepares for the next. -/
def nextYA (c : Dev nD) (t : Fin cfg0.N) : Vec F S1x512x256 .bf16 :=
  yaOf (winB (grid0.coords t) (iblk m c 1 t)) (iblk m c 4 t) (iblk m c 5 t) (iblk m c 6 t) (iblk m c 7 t)

/-- The tile a grid point reads: its own at the first, at every other the one prepared for it. -/
def curYA (c : Dev nD) : (n : ℕ) → n < cfg0.N → Vec F S1x512x256 .bf16
  | 0, h => let t : Fin cfg0.N := ⟨0, h⟩
     yaOf (winA (iblk m c 1 t)) (iblk m c 4 t) (iblk m c 5 t) (iblk m c 6 t) (iblk m c 7 t)
  | n + 1, h => nextYA m c ⟨n, by omega⟩

/-- The output block a grid point leaves. -/
def outBlk (c : Dev nD) (t : Fin cfg0.N) : Vec F S1x512x1024 .f32 :=
  mlpOut (curYA m c t.val t.isLt) (iblk m c 0 t) (iblk m c 2 t) (iblk m c 3 t) (iblk m c 8 t) (iblk m c 9 t) (iblk m c 10 t) (iblk m c 11 t) (iblk m c 12 t) (iblk m c 13 t)

/-- The carried scratch after a grid point: the slot it prepared holds the next tile. -/
def Carries (c : Dev nD) (t : Fin cfg0.N) (d : Vec F S2x512x256 .bf16) : Prop :=
  ∀ y : S2x512x256.Idx, (y 0).val = slotOf (grid0.coords t) → d y = nextYA m c t (inSlot y)

/-- What the region owns between grid points. -/
def PhiS (c : Dev nD) : (n : ℕ) → n ≤ cfg0.N → sProp 𝕄
  | 0, _ => Pipeline.ΦA spec0 c
  | n + 1, hn => iprop(iprop((∃ d, ⌜Carries m c ⟨n, hn⟩ d⌝ ∗ owns (c : Thread nD τ) scM0_0 fullShare d)
      ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, ⌜Carries m c ⟨n, hn⟩ d⌝ ∗ owns (c : Thread nD τ) scM0_0 fullShare d)
      ∗ (∃ d, owns (c : Thread nD τ) scM0_1 fullShare d)) ∗ (∃ r, prngReg c r)) := rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

/-- The slot a later grid point reads holds the tile prepared for it. -/
theorem carried_read (c : Dev nD) (t : Fin cfg0.N) (n : ℕ) (hn : t.val = n + 1) (d : Vec F S2x512x256 .bf16)
    (hd : Carries m c ⟨n, by omega⟩ d) :
    View.ld d (slotBox (k0_off3 (grid0.coords t)) (k0_off3_inb (grid0.coords t))) = curYA m c t.val t.isLt := by
  obtain ⟨t, ht⟩ := t
  obtain rfl : t = n + 1 := hn
  funext y
  obtain ⟨e1, e2⟩ := inSlot_idx _ (k0_off3_inb (grid0.coords ⟨n + 1, ht⟩)) _ (off3_next ⟨n, (Nat.lt_succ_self n).trans ht⟩ ht) y
  exact (hd _ e2).trans (congrArg (nextYA m c ⟨n, _⟩) e1)

set_option maxHeartbeats 6400000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_succ]
  by_cases hz : t.val = 0
  · have hc : k0_cond1 (grid0.coords t) = 1#1 := (cond_iff t).mpr hz
    have hcur : mlpOut (yaOf (winA (iblk m c 1 t)) (iblk m c 4 t) (iblk m c 5 t) (iblk m c 6 t) (iblk m c 7 t)) (iblk m c 0 t) (iblk m c 2 t) (iblk m c 3 t) (iblk m c 8 t) (iblk m c 9 t) (iblk m c 10 t) (iblk m c 11 t) (iblk m c 12 t) (iblk m c 13 t) = outBlk m c t := by
      obtain ⟨n, hn⟩ := t
      obtain rfl : n = 0 := hz
      rfl
    rw [PhiS_castSucc m c t, PhiS_zero m c _ _ hz, PhiA0_eq]
    iintro ⟨⟨⟨⟨%d17, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) d17).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS0]; · iexact HS0
    isplitl [HS1]; · iexact HS1
    iintro ⟨H0, H1, H2, H3, H4, H5, H6, H7, H8, H9, H10, H11, H12, H13, ⟨%e14, H14⟩, HS0, HS1⟩
    isplitl [HS0 HS1 Hg]
    · isplitl [HS0 HS1]
      · isplitl [HS0]
        · iexists _
          isplitr
          swap
          · unfold owns; iexists _; isplitr
            swap; · iexact HS0
            ipureintro; rfl
          ipureintro
          exact fun y hy => runA_ya c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) d17 y hy
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold owns; iexists _; isplitr
    swap; · iexact H14
    ipureintro
    exact ((runA_o c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) d17 _).trans hcur)
  · obtain ⟨n, hn⟩ : ∃ n, t.val = n + 1 := ⟨t.val - 1, by omega⟩
    have hc : ¬ k0_cond1 (grid0.coords t) = 1#1 := fun h => hz ((cond_iff t).mp h)
    have hlt : n < cfg0.N := by have := t.isLt; omega
    rw [PhiS_castSucc m c t, show PhiS m c t.val (Nat.le_of_lt t.isLt) = PhiS m c (n + 1) hlt from by congr 1, PhiS_succ]
    iintro ⟨⟨⟨⟨%d17, %hd, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    have hcur : mlpOut (View.ld d17 (slotBox (k0_off3 (grid0.coords t)) (k0_off3_inb (grid0.coords t)))) (iblk m c 0 t) (iblk m c 2 t) (iblk m c 3 t) (iblk m c 8 t) (iblk m c 9 t) (iblk m c 10 t) (iblk m c 11 t) (iblk m c 12 t) (iblk m c 13 t) = outBlk m c t := by
      rw [carried_read m c t n hn d17 hd]; rfl
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) d17).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS0]; · iexact HS0
    isplitl [HS1]; · iexact HS1
    iintro ⟨H0, H1, H2, H3, H4, H5, H6, H7, H8, H9, H10, H11, H12, H13, ⟨%e14, H14⟩, HS0, HS1⟩
    isplitl [HS0 HS1 Hg]
    · isplitl [HS0 HS1]
      · isplitl [HS0]
        · iexists _
          isplitr
          swap
          · unfold owns; iexists _; isplitr
            swap; · iexact HS0
            ipureintro; rfl
          ipureintro
          exact fun y hy => runB_ya c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) d17 y hy
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    unfold owns; iexists _; isplitr
    swap; · iexact H14
    ipureintro
    exact ((runB_o c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) d17 _).trans hcur)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (63 + 1) (Nat.le_of_eq N_0.symm) from rfl, PhiS_succ, PhiA0_eq]
  iintro ⟨⟨⟨%d, %hd, HS0⟩, HS1⟩, Hg⟩
  isplitl [HS0 HS1]
  · isplitl [HS0]
    · iexists _; iexact HS0
    iexact HS1
  iexact Hg

set_option backward.isDefEq.respectTransparency.types false in
/-- Every execution ends, with the arrays as the pipeline leaves them and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.Kernel7Ideal.Gen

end
-- ==== Proof.FirstMlpIdeal.lean ====
/- The block of the output over the extended reals: the projection of the three mixers, the residual and the
   feed-forward network at each row of a block are the reference's at that row of the array. -/
module

public import proofs.«01_k».proof.Proof.FirstConv
public import proofs.«01_k».proof.Proof.Sums
public import proofs.«01_k».proof.Proof.Gen.Reference7Ideal.Read
public import Idealize.ShloMosaic.Lib.Pointwise
public import Idealize.ShloMosaic.Lib.KernelVsHost
public import Idealize.ShloMosaic.Lib.ValueLayout
public import Idealize.ShloMosaic.Lib.ValueLayoutCasts

@[expose] public section

set_option maxRecDepth 16384

noncomputable section

namespace Cert.Proof.First.Mlp

open Idealize.ShloMosaic Cert.Kernel7Ideal Cert.Kernel7Ideal.Gen Cert.Reference7Ideal.Read

/-- The row of the array that row `r` of block `j` is. -/
abbrev row (j : Fin 4) (r : Fin 512) : Fin 2048 := ⟨j.val * 512 + r.val, by omega⟩

variable {ya : Vec Ideal S1x512x256 .bf16} {x2 : Vec Ideal S1x512x1024 .f32} {x4 : Vec Ideal S1x512x512 .bf16}
  {x5 : Vec Ideal S1x512x256 .bf16} {x10 : Vec Ideal S1x6x1024 .f32} {x11 x12 : Vec Ideal S1x1024 .f32}
  {x13 : Vec Ideal S1x1024x1024 .bf16} {x14 : Vec Ideal S1x1024x4096 .bf16} {x15 : Vec Ideal S1x4096x1024 .bf16}
  {X0 : FVec Ideal S16x2048x1024 .f32} {X1 : FVec Ideal S16x2048x256 .f32} {X2 : FVec Ideal S16x2048x512 .f32}
  {X3 : FVec Ideal S16x2048x256 .f32} {X4 : FVec Ideal S31x256 .f32} {X5 X6 X7 : FVec Ideal S256 .f32}
  {X8 : FVec Ideal S16x6x1024 .f32} {X9 X10 : FVec Ideal S1024 .f32} {X11 : FVec Ideal S1024x1024 .f32}
  {X12 : FVec Ideal S1024x4096 .f32} {X13 : FVec Ideal S4096x1024 .f32} {b : Fin 16} {j : Fin 4}

/-- The concatenation of the three mixers, in its three parts. -/
theorem concat_apply (r : Fin 2048) :
    (∀ l : Fin 256, val_main_v249 (F := Ideal) X1 X2 X3 X4 X5 X6 X7 (ix3 b r ⟨l.val, by omega⟩) = val_main_v248 (F := Ideal) X1 X4 X5 X6 X7 (ix3 b r l))
    ∧ (∀ l : Fin 512, val_main_v249 (F := Ideal) X1 X2 X3 X4 X5 X6 X7 (ix3 b r ⟨256 + l.val, by omega⟩) = X2 (ix3 b r l))
    ∧ (∀ l : Fin 256, val_main_v249 (F := Ideal) X1 X2 X3 X4 X5 X6 X7 (ix3 b r ⟨768 + l.val, by omega⟩) = X3 (ix3 b r l)) := by
  refine ⟨fun l => ?_, fun l => ?_, fun l => ?_⟩
  · unfold val_main_v249
    generalize val_main_v248 (F := Ideal) X1 X4 X5 X6 X7 = Y
    pointwise
  · unfold val_main_v249
    generalize val_main_v248 (F := Ideal) X1 X4 X5 X6 X7 = Y
    pointwise
  · unfold val_main_v249
    generalize val_main_v248 (F := Ideal) X1 X4 X5 X6 X7 = Y
    pointwise
    rw [dif_neg (by omega), dif_neg (by omega)]
    exact congrArg (fun q => X3 (ix3 b r q)) (Fin.ext (by show 768 + l.val - 256 - 512 = l.val; omega))

/-- What the blocks hold: block `j` of batch `b` of every array, and the convolution tile of its rows. -/
structure Block (ya : Vec Ideal S1x512x256 .bf16) (x2 : Vec Ideal S1x512x1024 .f32) (x4 : Vec Ideal S1x512x512 .bf16)
    (x5 : Vec Ideal S1x512x256 .bf16) (x10 : Vec Ideal S1x6x1024 .f32) (x11 x12 : Vec Ideal S1x1024 .f32)
    (x13 : Vec Ideal S1x1024x1024 .bf16) (x14 : Vec Ideal S1x1024x4096 .bf16) (x15 : Vec Ideal S1x4096x1024 .bf16)
    (X0 : FVec Ideal S16x2048x1024 .f32) (X1 : FVec Ideal S16x2048x256 .f32) (X2 : FVec Ideal S16x2048x512 .f32)
    (X3 : FVec Ideal S16x2048x256 .f32) (X4 : FVec Ideal S31x256 .f32) (X5 X6 X7 : FVec Ideal S256 .f32)
    (X8 : FVec Ideal S16x6x1024 .f32) (X9 X10 : FVec Ideal S1024 .f32) (X11 : FVec Ideal S1024x1024 .f32)
    (X12 : FVec Ideal S1024x4096 .f32) (X13 : FVec Ideal S4096x1024 .f32) (b : Fin 16) (j : Fin 4) : Prop where
  ya : ∀ (r : Fin 512) (l : Fin 256), ya (ix3 0 r l) = val_main_v248 (F := Ideal) X1 X4 X5 X6 X7 (ix3 b (row j r) l)
  x2 : ∀ (r : Fin 512) (k : Fin 1024), x2 (ix3 0 r k) = X0 (ix3 b (row j r) k)
  x4 : ∀ (r : Fin 512) (k : Fin 512), x4 (ix3 0 r k) = X2 (ix3 b (row j r) k)
  x5 : ∀ (r : Fin 512) (k : Fin 256), x5 (ix3 0 r k) = X3 (ix3 b (row j r) k)
  x10 : ∀ (a : Fin 6) (k : Fin 1024), x10 (ix3 0 a k) = X8 (ix3 b a k)
  x11 : ∀ k : Fin 1024, x11 (ix2 0 k) = X9 (ix1 k)
  x12 : ∀ k : Fin 1024, x12 (ix2 0 k) = X10 (ix1 k)
  x13 : ∀ k n : Fin 1024, x13 (ix3 0 k n) = X11 (ix2 k n)
  x14 : ∀ (k : Fin 1024) (n : Fin 4096), x14 (ix3 0 k n) = X12 (ix2 k n)
  x15 : ∀ (k : Fin 4096) (n : Fin 1024), x15 (ix3 0 k n) = X13 (ix2 k n)

/-- The projection and the residual as the body computes them, from the blocks. -/
def residual (ya : Vec Ideal S1x512x256 .bf16) (x2 : Vec Ideal S1x512x1024 .f32) (x4 : Vec Ideal S1x512x512 .bf16)
    (x5 : Vec Ideal S1x512x256 .bf16) (x10 : Vec Ideal S1x6x1024 .f32) (x13 : Vec Ideal S1x1024x1024 .bf16) : FVec Ideal S512x1024 .f32 :=
  k0_pay2872 (k0_pay2870 (View.ld x2 (Rect.unit (s := S1x512x1024) ![0, 0, 0] S1x512x1024.size inb_S1x512x1024_S1x512x1024_0_0_0))) (k0_pay2871 ya)
    (View.ld x4 (Rect.unit (s := S1x512x512) ![0, 0, 0] S1x512x512.size inb_S1x512x512_S1x512x512_0_0_0))
    (View.ld x5 (Rect.unit (s := S1x512x256) ![0, 0, 0] S1x512x256.size inb_S1x512x256_S1x512x256_0_0_0))
    (View.ld x13 (Rect.unit (s := S1x1024x1024) ![0, 0, 0] S1x256x1024.size inb_S1x1024x1024_S1x256x1024_0_0_0))
    (View.ld x13 (Rect.unit (s := S1x1024x1024) ![0, 256, 0] S1x512x1024.size inb_S1x1024x1024_S1x512x1024_0_256_0))
    (View.ld x13 (Rect.unit (s := S1x1024x1024) ![0, 768, 0] S1x256x1024.size inb_S1x1024x1024_S1x256x1024_0_768_0))
    (View.ld x10 (Rect.unit (s := S1x6x1024) ![0, 2, 0] S1x1x1024.size inb_S1x6x1024_S1x1x1024_0_2_0))

/-- The normed, modulated rows that enter the feed-forward network, as the body computes them. -/
def entering (ya : Vec Ideal S1x512x256 .bf16) (x2 : Vec Ideal S1x512x1024 .f32) (x4 : Vec Ideal S1x512x512 .bf16)
    (x5 : Vec Ideal S1x512x256 .bf16) (x10 : Vec Ideal S1x6x1024 .f32) (x11 : Vec Ideal S1x1024 .f32)
    (x13 : Vec Ideal S1x1024x1024 .bf16) : FVec Ideal S512x1024 .bf16 :=
  k0_pay2874 (k0_pay2873 (k0_pay2870 (View.ld x2 (Rect.unit (s := S1x512x1024) ![0, 0, 0] S1x512x1024.size inb_S1x512x1024_S1x512x1024_0_0_0))) (k0_pay2871 ya)
    (View.ld x4 (Rect.unit (s := S1x512x512) ![0, 0, 0] S1x512x512.size inb_S1x512x512_S1x512x512_0_0_0))
    (View.ld x5 (Rect.unit (s := S1x512x256) ![0, 0, 0] S1x512x256.size inb_S1x512x256_S1x512x256_0_0_0))
    (View.ld x13 (Rect.unit (s := S1x1024x1024) ![0, 0, 0] S1x256x1024.size inb_S1x1024x1024_S1x256x1024_0_0_0))
    (View.ld x13 (Rect.unit (s := S1x1024x1024) ![0, 256, 0] S1x512x1024.size inb_S1x1024x1024_S1x512x1024_0_256_0))
    (View.ld x13 (Rect.unit (s := S1x1024x1024) ![0, 768, 0] S1x256x1024.size inb_S1x1024x1024_S1x256x1024_0_768_0))
    (View.ld x10 (Rect.unit (s := S1x6x1024) ![0, 2, 0] S1x1x1024.size inb_S1x6x1024_S1x1x1024_0_2_0))
    (View.ld x11 (Rect.unit (s := S1x1024) ![0, 0] S1x1024.size inb_S1x1024_S1x1024_0_0)))
    (View.ld x10 (Rect.unit (s := S1x6x1024) ![0, 4, 0] S1x1x1024.size inb_S1x6x1024_S1x1x1024_0_4_0))
    (View.ld x10 (Rect.unit (s := S1x6x1024) ![0, 3, 0] S1x1x1024.size inb_S1x6x1024_S1x1x1024_0_3_0))

/-- A square of 1024 by 1024 weights. -/
def weights {m n : ℕ} (x : Vec Ideal ⟨3, ![1, m, n]⟩ .bf16) (off : Fin 3 → ℕ)
    (h : ∀ a, off a + S1x1024x1024.size a ≤ (⟨3, ![1, m, n]⟩ : Shape).size a) : FVec Ideal S1024x1024 .bf16 :=
  shapeCast S1024x1024 (View.ld x (Rect.unit (s := ⟨3, ![1, m, n]⟩) off S1x1024x1024.size h) : Vec Ideal S1x1024x1024 .bf16)
    shapeCasts_S1x1024x1024_S1024x1024

/-- A quarter of the feed-forward network: 1024 of the 4096 hidden units, from `o` on. -/
def quarter (H : FVec Ideal S512x1024 .bf16) (x14 : Vec Ideal S1x1024x4096 .bf16) (x15 : Vec Ideal S1x4096x1024 .bf16) (o : ℕ)
    (h1 : ∀ a, (![0, 0, o] : Fin 3 → ℕ) a + S1x1024x1024.size a ≤ S1x1024x4096.size a)
    (h2 : ∀ a, (![0, o, 0] : Fin 3 → ℕ) a + S1x1024x1024.size a ≤ S1x4096x1024.size a) : FVec Ideal S512x1024 .f32 :=
  let hid := maximumf (matmul dot_S512x1024_S1024x1024_S512x1024_1_0_0_1_n_n none H
    (weights x14 ![0, 0, o] h1)
    (constant S512x1024 .f32 0x00000000#32)) (broadcast S512x1024 (Scalar.ofBits .f32 0x00000000#32))
  matmul dot_S512x1024_S1024x1024_S512x1024_1_0_0_1_n_n none (truncf .bf16 (mulf hid hid) bitsLt_bf16_f32)
    (weights x15 ![0, o, 0] h2)
    (constant S512x1024 .f32 0x00000000#32)

/-- The feed-forward network's residual, as the body computes it. -/
def second (A : FVec Ideal S512x1024 .f32) (H : FVec Ideal S512x1024 .bf16) (x10 : Vec Ideal S1x6x1024 .f32)
    (x14 : Vec Ideal S1x1024x4096 .bf16) (x15 : Vec Ideal S1x4096x1024 .bf16) : FVec Ideal S512x1024 .f32 :=
  addf A (mulf (broadcastTo S512x1024 (shapeCast S1x1024
    (View.ld x10 (Rect.unit (s := S1x6x1024) ![0, 5, 0] S1x1x1024.size inb_S1x6x1024_S1x1x1024_0_5_0)) shapeCasts_S1x1x1024_S1x1024)
    broadcasts_S1x1024_S512x1024)
    (addf (addf (addf (addf (broadcast S512x1024 (Scalar.ofBits .f32 0x00000000#32))
      (quarter H x14 x15 0 inb_S1x1024x4096_S1x1024x1024_0_0_0 inb_S1x4096x1024_S1x1024x1024_0_0_0))
      (quarter H x14 x15 1024 inb_S1x1024x4096_S1x1024x1024_0_0_1024 inb_S1x4096x1024_S1x1024x1024_0_1024_0))
      (quarter H x14 x15 2048 inb_S1x1024x4096_S1x1024x1024_0_0_2048 inb_S1x4096x1024_S1x1024x1024_0_2048_0))
      (quarter H x14 x15 3072 inb_S1x1024x4096_S1x1024x1024_0_0_3072 inb_S1x4096x1024_S1x1024x1024_0_3072_0)))

/-- The rows as a block of one sequence. -/
def lifted (B : FVec Ideal S512x1024 .f32) : FVec Ideal S1x512x1024 .f32 :=
  shapeCast S1x512x1024 B shapeCasts_S512x1024_S1x512x1024

theorem mlpOut_eq : mlpOut ya x2 x4 x5 x10 x11 x12 x13 x14 x15
    = lifted (second (residual ya x2 x4 x5 x10 x13) (entering ya x2 x4 x5 x10 x11 x13) x10 x14 x15) := rfl

variable (H : Block ya x2 x4 x5 x10 x11 x12 x13 x14 x15 X0 X1 X2 X3 X4 X5 X6 X7 X8 X9 X10 X11 X12 X13 b j)
include H

theorem residual_apply (r : Fin 512) (n : Fin 1024) : residual ya x2 x4 x5 x10 x13 (ix2 r n)
    = val_main_v253 (F := Ideal) X0 X1 X2 X3 X4 X5 X6 X7 X8 X11 (ix3 b (row j r) n) := by
  have hY : val_main_v250 (F := Ideal) X1 X2 X3 X4 X5 X6 X7 X11 (ix3 b (row j r) n)
      = ∑ k : Fin 1024, val_main_v249 (F := Ideal) X1 X2 X3 X4 X5 X6 X7 (ix3 b (row j r) k) * X11 (ix2 k n) := by
    rw [val_main_v250_apply]
    refine Finset.sum_congr rfl fun k _ => congrArg₂ (· * ·) (congrArg _ (funext fun a => ?_)) (congrArg _ (funext fun a => ?_))
    · match a with
      | ⟨0, _⟩ => rfl
      | ⟨1, _⟩ => rfl
      | ⟨2, _⟩ => rfl
    · match a with
      | ⟨0, _⟩ => rfl
      | ⟨1, _⟩ => rfl
  obtain ⟨c1, c2, c3⟩ := concat_apply (X1 := X1) (X2 := X2) (X3 := X3) (X4 := X4) (X5 := X5) (X6 := X6) (X7 := X7) (b := b) (row j r)
  rw [sum_parts] at hY
  simp only [c1, c2, c3] at hY
  unfold val_main_v253 val_main_v252 residual
  generalize val_main_v250 (F := Ideal) X1 X2 X3 X4 X5 X6 X7 X11 = Y at *
  pointwise [k0_pay2872, k0_pay2870, k0_pay2871, val_main_v251, val_main_v0]
  simp only [H.ya, H.x2, H.x4, H.x5, H.x10, H.x13, hY]

theorem entering_apply (r : Fin 512) (k : Fin 1024) : entering ya x2 x4 x5 x10 x11 x13 (ix2 r k)
    = val_main_v272 (F := Ideal) X0 X1 X2 X3 X4 X5 X6 X7 X8 X9 X11 (ix3 b (row j r) k) := by
  have hA := residual_apply H r
  unfold entering k0_pay2873
  unfold residual at hA
  generalize k0_pay2872 (F := Ideal) _ _ _ _ _ _ _ _ = A at *
  unfold val_main_v272 val_main_v270 val_main_v266 val_main_v263 val_main_v262 val_main_v261 val_main_v260 val_main_v258 val_main_v256 val_main_v255 val_main_v254
  generalize val_main_v253 (F := Ideal) X0 X1 X2 X3 X4 X5 X6 X7 X8 X11 = R at *
  pointwise [k0_pay2874, val_main_v271, val_main_v269, val_main_v268, val_main_v267, val_main_v265, val_main_v264,
    val_main_v259, val_main_v257, val_main_v2, val_main_v1, val_main_cst_4, val_main_cst_5, val_main_cst_6, val_main_cst_7]
  simp only [hA, H.x10, H.x11]

omit H in
theorem tile_apply {m n : ℕ} (x : Vec Ideal ⟨3, ![1, m, n]⟩ .bf16) (off : Fin 3 → ℕ) (h) (o1 o2 : ℕ) (e : off = ![0, o1, o2])
    (hm : o1 + 1024 ≤ m) (hn : o2 + 1024 ≤ n) (i k : Fin 1024) :
    weights x off h (ix2 i k)
      = x (ix3 0 ⟨o1 + i.val, by omega⟩ ⟨o2 + k.val, by omega⟩) := by
  subst e
  refine (ValueIdx.shapeCast_1ab_ab_apply _ _ i k).trans ?_
  refine congrArg x (funext fun a => Fin.ext ?_)
  match a with
  | ⟨0, _⟩ => rfl
  | ⟨1, _⟩ => show o1 + 1 * i.val = o1 + i.val; omega
  | ⟨2, _⟩ => show o2 + 1 * k.val = o2 + k.val; omega

omit H in
theorem quarter_apply (G : FVec Ideal S512x1024 .bf16) (o : ℕ) (ho : o + 1024 ≤ 4096) (h1) (h2) (r : Fin 512) (n : Fin 1024) :
    quarter G x14 x15 o h1 h2 (ix2 r n)
      = ∑ k : Fin 1024, max (∑ i : Fin 1024, G (ix2 r i) * x14 (ix3 0 i ⟨o + k.val, by omega⟩)) 0
          * max (∑ i : Fin 1024, G (ix2 r i) * x14 (ix3 0 i ⟨o + k.val, by omega⟩)) 0 * x15 (ix3 0 ⟨o + k.val, by omega⟩ n) := by
  unfold quarter
  have hw1 := fun i k => tile_apply (n := 4096) x14 ![0, 0, o] h1 0 o rfl (by omega) (by omega) i k
  have hw2 := fun k n => tile_apply (m := 4096) x15 ![0, o, 0] h2 o 0 rfl (by omega) (by omega) k n
  generalize weights x14 ![0, 0, o] h1 = W1 at *
  generalize weights x15 ![0, o, 0] h2 = W2 at *
  pointwise
  simp only [hw1, hw2, zero_add]

theorem second_apply (r : Fin 512) (n : Fin 1024) :
    second (residual ya x2 x4 x5 x10 x13) (entering ya x2 x4 x5 x10 x11 x13) x10 x14 x15 (ix2 r n)
      = val_main_v279 (F := Ideal) X0 X1 X2 X3 X4 X5 X6 X7 X8 X9 X11 X12 X13 (ix3 b (row j r) n) := by
  have hA := residual_apply H r
  have hG := entering_apply H r
  have hH : ∀ k : Fin 4096, val_main_v275 (F := Ideal) X0 X1 X2 X3 X4 X5 X6 X7 X8 X9 X11 X12 (ix3 b (row j r) k)
      = max (∑ i : Fin 1024, val_main_v272 (F := Ideal) X0 X1 X2 X3 X4 X5 X6 X7 X8 X9 X11 (ix3 b (row j r) i) * X12 (ix2 i k)) 0
        * max (∑ i : Fin 1024, val_main_v272 (F := Ideal) X0 X1 X2 X3 X4 X5 X6 X7 X8 X9 X11 (ix3 b (row j r) i) * X12 (ix2 i k)) 0 := by
    intro k
    have h : val_main_v273 (F := Ideal) X0 X1 X2 X3 X4 X5 X6 X7 X8 X9 X11 X12 (ix3 b (row j r) k)
        = ∑ i : Fin 1024, val_main_v272 (F := Ideal) X0 X1 X2 X3 X4 X5 X6 X7 X8 X9 X11 (ix3 b (row j r) i) * X12 (ix2 i k) := by
      rw [val_main_v273_apply]
      refine Finset.sum_congr rfl fun k _ => congrArg₂ (· * ·) (congrArg _ (funext fun a => ?_)) (congrArg _ (funext fun a => ?_))
      · match a with
        | ⟨0, _⟩ => rfl
        | ⟨1, _⟩ => rfl
        | ⟨2, _⟩ => rfl
      · match a with
        | ⟨0, _⟩ => rfl
        | ⟨1, _⟩ => rfl
    rw [← h]
    unfold val_main_v275 val_main_v274
    generalize val_main_v273 (F := Ideal) X0 X1 X2 X3 X4 X5 X6 X7 X8 X9 X11 X12 = Y
    pointwise [val_main_call2_v0, val_main_call2_cst]
  have hY : val_main_v276 (F := Ideal) X0 X1 X2 X3 X4 X5 X6 X7 X8 X9 X11 X12 X13 (ix3 b (row j r) n)
      = ∑ k : Fin 4096, val_main_v275 (F := Ideal) X0 X1 X2 X3 X4 X5 X6 X7 X8 X9 X11 X12 (ix3 b (row j r) k) * X13 (ix2 k n) := by
    rw [val_main_v276_apply]
    refine Finset.sum_congr rfl fun k _ => congrArg₂ (· * ·) (congrArg _ (funext fun a => ?_)) (congrArg _ (funext fun a => ?_))
    · match a with
      | ⟨0, _⟩ => rfl
      | ⟨1, _⟩ => rfl
      | ⟨2, _⟩ => rfl
    · match a with
      | ⟨0, _⟩ => rfl
      | ⟨1, _⟩ => rfl
  simp only [hH] at hY
  rw [sum_quarters] at hY
  generalize residual ya x2 x4 x5 x10 x13 = A at *
  generalize entering ya x2 x4 x5 x10 x11 x13 = G at *
  have q0 := quarter_apply (x14 := x14) (x15 := x15) G 0 (by omega) inb_S1x1024x4096_S1x1024x1024_0_0_0 inb_S1x4096x1024_S1x1024x1024_0_0_0 r n
  have q1 := quarter_apply (x14 := x14) (x15 := x15) G 1024 (by omega) inb_S1x1024x4096_S1x1024x1024_0_0_1024 inb_S1x4096x1024_S1x1024x1024_0_1024_0 r n
  have q2 := quarter_apply (x14 := x14) (x15 := x15) G 2048 (by omega) inb_S1x1024x4096_S1x1024x1024_0_0_2048 inb_S1x4096x1024_S1x1024x1024_0_2048_0 r n
  have q3 := quarter_apply (x14 := x14) (x15 := x15) G 3072 (by omega) inb_S1x1024x4096_S1x1024x1024_0_0_3072 inb_S1x4096x1024_S1x1024x1024_0_3072_0 r n
  simp only [hG, H.x14, H.x15, zero_add] at q0 q1 q2 q3
  rw [← q0, ← q1, ← q2, ← q3] at hY
  unfold val_main_v279 val_main_v278 second
  generalize val_main_v276 (F := Ideal) X0 X1 X2 X3 X4 X5 X6 X7 X8 X9 X11 X12 X13 = Y at *
  generalize val_main_v253 (F := Ideal) X0 X1 X2 X3 X4 X5 X6 X7 X8 X11 = R at *
  generalize quarter G x14 x15 0 _ _ = Q0 at *
  generalize quarter G x14 x15 1024 _ _ = Q1 at *
  generalize quarter G x14 x15 2048 _ _ = Q2 at *
  generalize quarter G x14 x15 3072 _ _ = Q3 at *
  pointwise [val_main_v277, val_main_v3]
  simp only [hA, hY, H.x10]

theorem mlpOut_apply (r : Fin 512) (n : Fin 1024) : mlpOut ya x2 x4 x5 x10 x11 x12 x13 x14 x15 (ix3 0 r n)
    = val_main_v279 (F := Ideal) X0 X1 X2 X3 X4 X5 X6 X7 X8 X9 X11 X12 X13 (ix3 b (row j r) n) := by
  have hB := second_apply H r
  rw [mlpOut_eq]
  generalize second (residual ya x2 x4 x5 x10 x13) (entering ya x2 x4 x5 x10 x11 x13) x10 x14 x15 = B at *
  generalize val_main_v279 (F := Ideal) X0 X1 X2 X3 X4 X5 X6 X7 X8 X9 X11 X12 X13 = R at *
  pointwise [lifted]
  exact hB n

end Cert.Proof.First.Mlp

end
-- ==== Proof.FirstConvIdeal.lean ====
/- The convolution tile over the extended reals: each of its rows is the sum of 31 products of a weight and a row of the
   sequence, whatever the order the body takes them in. -/
module

public import proofs.«01_k».proof.Proof.FirstConv
public import Idealize.ShloMosaic.Lib.Pointwise
public import Idealize.ShloMosaic.Lib.KernelVsHost
public import Idealize.ShloMosaic.Lib.ValueLayout
public import Idealize.ShloMosaic.Lib.ValueLayoutCasts

@[expose] public section

set_option maxRecDepth 16384

noncomputable section

namespace Cert.Proof.First.Conv

open Idealize.ShloMosaic Cert.Kernel7Ideal Cert.Kernel7Ideal.Gen

/-- Row `p - 16` of a sequence, zero off it. -/
def rowAt (X : Vec Ideal S1x2048x256 .f32) (p : ℕ) (l : Fin 256) : EReal :=
  if h : 16 ≤ p ∧ p - 16 < 2048 then X (ix3 0 ⟨p - 16, h.2⟩ l) else 0

theorem zeroTile_apply (s : Fin 8) (l : Fin 256) : zeroTile (F := Ideal) (ix2 s l) = 0 := by
  pointwise [zeroTile]

theorem tile8_apply (X : Vec Ideal S1x2048x256 .f32) (off : Fin 3 → ℕ) (h) (n : ℕ) (e : off = ![0, n, 0])
    (hn : n + 8 ≤ 2048) (s : Fin 8) (l : Fin 256) :
    tile8 X off h (ix2 s l) = X (ix3 0 ⟨n + s.val, by omega⟩ l) := by
  subst e
  unfold tile8
  refine (ValueIdx.shapeCast_1ab_ab_apply _ _ s l).trans ?_
  rw [View.ld]
  refine congrArg X (funext fun a => Fin.ext ?_)
  match a with
  | ⟨0, _⟩ => rfl
  | ⟨1, _⟩ => show n + 1 * s.val = n + s.val; omega
  | ⟨2, _⟩ => show 0 + 1 * l.val = l.val; omega

/-- A tile of eight rows from row `n` of the sequence on is rows `p …` with sixteen more. -/
theorem tile8_rowAt (X : Vec Ideal S1x2048x256 .f32) (off : Fin 3 → ℕ) (h) (n p : ℕ) (e : off = ![0, n, 0])
    (hn : n + 8 ≤ 2048) (hp : p = n + 16) (s : Fin 8) (l : Fin 256) :
    tile8 X off h (ix2 s l) = rowAt X (p + s.val) l := by
  subst hp
  rw [tile8_apply X off h n e hn]
  unfold rowAt
  rw [dif_pos ⟨by omega, by omega⟩]
  exact congrArg (fun q => X (ix3 0 q l)) (Fin.ext (by show n + s.val = n + 16 + s.val - 16; omega))

theorem rowAt_off (X : Vec Ideal S1x2048x256 .f32) (p : ℕ) (l : Fin 256) (h : p < 16 ∨ 2064 ≤ p) : rowAt X p l = 0 := by
  unfold rowAt
  exact dif_neg (by omega)

theorem tileWord_zero (i : grid0.Coords) :
    Scalar.cmpi .eq (tileWord i) 0#32 = if tileNo i = 0 then 1#1 else 0#1 := by
  rw [tileWord_eq]
  have : ∀ n < 4, Scalar.cmpi .eq (BitVec.ofNat 32 n) 0#32 = if n = 0 then 1#1 else 0#1 := by decide
  exact this _ (tileNo_lt i)

theorem tileWord_three (i : grid0.Coords) :
    Scalar.cmpi .eq (tileWord i) 3#32 = if tileNo i = 3 then 1#1 else 0#1 := by
  rw [tileWord_eq]
  have : ∀ n < 4, Scalar.cmpi .eq (BitVec.ofNat 32 n) 3#32 = if n = 3 then 1#1 else 0#1 := by decide
  exact this _ (tileNo_lt i)

/-- The window's tiles: row `8 m + s` of block `b`'s window of tile number `tileNo i`. -/
theorem winB_apply (i : grid0.Coords) (X : Vec Ideal S1x2048x256 .f32) (b m : ℕ) (hb : b < 16) (hm : m < 8)
    (s : Fin 8) (l : Fin 256) :
    winB i X b m (ix2 s l) = rowAt X (512 * tileNo i + 32 * b + 8 * m + s.val) l := by
  have hT := tileNo_lt i
  unfold winB
  split_ifs with h0 h1 h2 h2
  · rw [tileWord_zero]
    by_cases hz : tileNo i = 0
    · rw [if_pos hz]
      show zeroTile (F := Ideal) (ix2 s l) = _
      rw [zeroTile_apply, rowAt_off _ _ _ (by omega)]
    · rw [if_neg hz]
      show tile8 X _ _ (ix2 s l) = _
      exact tile8_rowAt X _ _ _ _ (off4_eq i ⟨m, h0.2⟩) (by show 512 * tileNo i + 8 * m - 16 + 8 ≤ _; omega)
        (by show _ = 512 * tileNo i + 8 * m - 16 + 16; omega) s l
  · rw [tileWord_three]
    by_cases hz : tileNo i = 3
    · rw [if_pos hz]
      show zeroTile (F := Ideal) (ix2 s l) = _
      rw [zeroTile_apply, rowAt_off _ _ _ (by omega)]
    · rw [if_neg hz]
      show tile8 X _ _ (ix2 s l) = _
      exact tile8_rowAt X _ _ _ _ (off9_eq i ⟨m - 6, h2⟩) (by show min _ _ + 8 ≤ _; omega)
        (by show _ = min (512 * tileNo i + 512 + 8 * (m - 6)) 2040 + 16; omega) s l
  · omega
  · exact tile8_rowAt X _ _ _ _ (off5_eq i ⟨b, h2.1⟩ ⟨m, h2.2⟩ h0)
      (by show 512 * tileNo i + 32 * b + 8 * m - 16 + 8 ≤ _; omega)
      (by show _ = 512 * tileNo i + 32 * b + 8 * m - 16 + 16; omega) s l
  · omega

/-- The same for the first tile's own window. -/
theorem winA_apply (X : Vec Ideal S1x2048x256 .f32) (b m : ℕ) (hb : b < 16) (hm : m < 8) (s : Fin 8) (l : Fin 256) :
    winA X b m (ix2 s l) = rowAt X (32 * b + 8 * m + s.val) l := by
  unfold winA
  split_ifs with h0 h1 h2 h2
  · show zeroTile (F := Ideal) (ix2 s l) = _
    rw [zeroTile_apply, rowAt_off _ _ _ (by omega)]
  · show tile8 X _ _ (ix2 s l) = _
    exact tile8_rowAt X _ _ _ _ (off2_eq ⟨m - 6, h2⟩) (by show 512 + 8 * (m - 6) + 8 ≤ _; omega)
      (by show _ = 512 + 8 * (m - 6) + 16; omega) s l
  · omega
  · exact tile8_rowAt X _ _ _ _ rfl (by omega) (by omega) s l
  · omega

/-- Rows `r …` of two tiles one above the other. -/
theorem shifted_apply (r : ℕ) (hr : r < 8) (a b : FVec Ideal S8x256 .f32) (s : Fin 8) (l : Fin 256) :
    shifted r a b (ix2 s l) = if h : s.val + r < 8 then a (ix2 ⟨s.val + r, h⟩ l) else b (ix2 ⟨s.val + r - 8, by omega⟩ l) := by
  unfold shifted
  by_cases hz : r = 0
  · subst hz
    rw [if_pos rfl, dif_pos (by omega)]
    rfl
  · rw [if_neg hz]
    have rot : ∀ x : FVec Ideal S8x256 .f32, dynamicRotate 0 (BitVec.ofNat 32 (8 - r)) none x rotates_S8x256_d0 (ix2 s l)
        = x (ix2 ⟨(s.val + r) % 8, Nat.mod_lt _ (by omega)⟩ l) := fun x =>
      dynamicRotate_apply 0 _ x _ _ _ (by
        intro b
        match b with
        | ⟨0, _⟩ =>
          have h1 : (BitVec.ofNat 32 (8 - r)).toNat = 8 - r := by rw [BitVec.toNat_ofNat]; omega
          show (s.val + r) % 8 = (s.val + 8 - (BitVec.ofNat 32 (8 - r)).toNat % 8) % 8
          rw [h1]
          omega
        | ⟨1, _⟩ => rfl)
    have hc : ∀ r < 8, ∀ s < 8, IntOp.cmpi .slt (BitVec.ofNat 32 s) (BitVec.ofNat 32 (8 - r)) = if s + r < 8 then 1#1 else 0#1 := by
      decide
    have hs : cmpi .slt (iota .tc S8x256 32 [0] iota_S8x256_d0_w32) (broadcast S8x256 (BitVec.ofNat 32 (8 - r))) (ix2 s l)
        = if s.val + r < 8 then 1#1 else 0#1 := by
      rw [← hc r hr s.val s.isLt]
      pointwise
    show (if _ = 1#1 then dynamicRotate 0 (BitVec.ofNat 32 (8 - r)) none a rotates_S8x256_d0 (ix2 s l)
      else dynamicRotate 0 (BitVec.ofNat 32 (8 - r)) none b rotates_S8x256_d0 (ix2 s l)) = _
    rw [hs, rot a, rot b]
    by_cases h : s.val + r < 8
    · rw [if_pos h, if_pos rfl, dif_pos h]
      exact congrArg (fun q => a (ix2 q l)) (Fin.ext (Nat.mod_eq_of_lt h))
    · rw [if_neg h, if_neg (by decide), dif_neg h]
      exact congrArg (fun q => b (ix2 q l)) (Fin.ext (by show (s.val + r) % 8 = s.val + r - 8; omega))

/-- The order of the taps: tap `n` takes weight `tapNo n`, each weight once. -/
def tapNo (n : Fin 31) : Fin 31 := ⟨(n.val + 1) / 4 + 8 * ((n.val + 1) % 4) - 1, by omega⟩

theorem tapNo_bijective : Function.Bijective tapNo := by decide

/-- A row of an output tile: the bias and the 31 products. -/
theorem blockTile_apply (tl : ℕ → FVec Ideal S8x256 .f32) (w : ℕ → FVec Ideal S8x256 .f32) (bias : FVec Ideal S8x256 .f32)
    (R : ℕ → EReal) (j : ℕ) (hj : j < 4) (s : Fin 8) (l : Fin 256)
    (ht : ∀ m < 8, ∀ q : Fin 8, tl m (ix2 q l) = R (8 * m + q.val)) :
    blockTile tl w bias j (ix2 s l)
      = (∑ k : Fin 31, w k.val (ix2 s l) * R (8 * j + s.val + k.val + 1)) + bias (ix2 s l) := by
  have step : ∀ n < 31, shifted ((n + 1) / 4) (tl (j + (n + 1) % 4)) (tl (j + (n + 1) % 4 + 1)) (ix2 s l)
      = R (8 * j + s.val + ((n + 1) / 4 + 8 * ((n + 1) % 4) - 1) + 1) := by
    intro n hn
    rw [shifted_apply _ (by omega)]
    split_ifs with h
    · rw [ht _ (by omega)]
      exact congrArg R (by show 8 * (j + (n + 1) % 4) + (s.val + (n + 1) / 4) = _; omega)
    · rw [ht _ (by omega)]
      exact congrArg R (by show 8 * (j + (n + 1) % 4 + 1) + (s.val + (n + 1) / 4 - 8) = _; omega)
  have all : ∀ n ≤ 31, taps tl w bias j n (ix2 s l)
      = bias (ix2 s l) + ∑ k : Fin n, w ((k.val + 1) / 4 + 8 * ((k.val + 1) % 4) - 1) (ix2 s l)
          * R (8 * j + s.val + ((k.val + 1) / 4 + 8 * ((k.val + 1) % 4) - 1) + 1) := by
    intro n
    induction n with
    | zero => intro _; rw [Fin.sum_univ_zero, add_zero]; rfl
    | succ n ih =>
      intro hn
      rw [Fin.sum_univ_castSucc, ← add_assoc]
      exact congrArg₂ (fun x y : EReal => x + y) (ih (by omega))
        (congrArg (fun y : EReal => w ((n + 1) / 4 + 8 * ((n + 1) % 4) - 1) (ix2 s l) * y) (step n (by omega)))
  unfold blockTile
  rw [all 31 (Nat.le_refl _), add_comm]
  exact congrArg (· + bias (ix2 s l)) (Fintype.sum_bijective tapNo tapNo_bijective _
    (fun k : Fin 31 => w k.val (ix2 s l) * R (8 * j + s.val + k.val + 1)) (fun k => rfl))

/-- A row of the 128 a quarter holds. -/
theorem convRows_apply (win : ℕ → ℕ → FVec Ideal S8x256 .f32) (w : ℕ → FVec Ideal S8x256 .f32) (bias : FVec Ideal S8x256 .f32)
    (y : Fin 128) (l : Fin 256) :
    convRows win w bias (ix2 y l)
      = blockTile (win (y.val / 8 / 4)) w bias (y.val / 8 % 4) (ix2 ⟨y.val % 8, Nat.mod_lt _ (by omega)⟩ l) := by
  have h : Shape.Concatenates ((List.ofFn fun n : Fin 16 => (⟨S8x256, blockTile (win (n.val / 4)) w bias (n.val % 4)⟩
      : (s : Shape) × (s.Idx → EReal))).map (·.1)) S128x256 0 :=
    concatenates_S8x256_S8x256_S8x256_S8x256_S8x256_S8x256_S8x256_S8x256_S8x256_S8x256_S8x256_S8x256_S8x256_S8x256_S8x256_S8x256_S128x256_d0
  refine (?_ : _ = concatenate S128x256 0 (List.ofFn fun n : Fin 16 =>
    (⟨S8x256, blockTile (win (n.val / 4)) w bias (n.val % 4)⟩ : (s : Shape) × (s.Idx → EReal))) h (ix2 y l)).trans ?_
  · rfl
  · refine (concatenate_ofFn_apply (t := S128x256) 0 (fun n : Fin 16 => blockTile (win (n.val / 4)) w bias (n.val % 4)) h rfl 8 rfl
      (ix2 y l) ⟨y.val / 8, by omega⟩ rfl (ix2 ⟨y.val % 8, Nat.mod_lt _ (by omega)⟩ l) rfl ?_).trans rfl
    intro b hb
    match b with
    | ⟨0, _⟩ => exact absurd rfl hb
    | ⟨1, _⟩ => rfl

end Cert.Proof.First.Conv

end
-- ==== Proof.FirstRefConv.lean ====
/- The reference's convolution at a point: the sum of its 31 shifted products and the bias, over the extended reals. -/
module

public import proofs.«01_k».proof.Proof.Gen.Reference7Ideal.Read
public import Idealize.ShloMosaic.Lib.Pointwise
public import Idealize.ShloMosaic.Lib.Tactic

@[expose] public section

set_option maxRecDepth 16384

noncomputable section

namespace Cert.Proof.First.Conv

open Idealize.ShloMosaic Idealize.ShloMosaic.Tactic Cert.Reference7Ideal Cert.Reference7Ideal.Gen Cert.Reference7Ideal.Read

theorem slicesW (k : ℕ) (h : k < 31) : S31x256.Slices ![k, 0] S1x256 := by
  refine ⟨rfl, fun a => ?_⟩
  match a with
  | ⟨0, _⟩ => exact h
  | ⟨1, _⟩ => exact Nat.le_refl 256

theorem slicesU (k : ℕ) (h : k < 31) : S16x2078x256.Slices ![0, k, 0] S16x2048x256 := by
  refine ⟨rfl, fun a => ?_⟩
  match a with
  | ⟨0, _⟩ => exact Nat.le_refl 16
  | ⟨1, _⟩ => show k + 2048 ≤ 2078; omega
  | ⟨2, _⟩ => exact Nat.le_refl 256

/-- Product `k` of the convolution: row `k` of the weights times the padded sequence from row `k` on. -/
def prodK (X1 : FVec Ideal S16x2048x256 .f32) (X4 : FVec Ideal S31x256 .f32) (k : ℕ) (h : k < 31) :
    FVec Ideal S16x2048x256 .f32 :=
  mulf (broadcastInDim S16x2048x256 ![0, 1, 2] bcast_S1x1x256_S16x2048x256_0_1_2
      (broadcastInDim S1x1x256 ![2] bcast_S256_S1x1x256_2
        (shapeCast S256 (extractStridedSlice S1x256 ![k, 0] X4 (slicesW k h)) shapeCasts_S1x256_S256)))
    (extractStridedSlice S16x2048x256 ![0, k, 0] (val_main_v4 (F := Ideal) X1) (slicesU k h))

/-- The first `n + 1` products summed. -/
def sumK (X1 : FVec Ideal S16x2048x256 .f32) (X4 : FVec Ideal S31x256 .f32) : (n : ℕ) → n < 31 → FVec Ideal S16x2048x256 .f32
  | 0, h => prodK X1 X4 0 h
  | n + 1, h => addf (sumK X1 X4 n (by omega)) (prodK X1 X4 (n + 1) h)

/-- The reference's sum is that of all 31. -/
theorem ref_sum (X1 : FVec Ideal S16x2048x256 .f32) (X4 : FVec Ideal S31x256 .f32) :
    val_main_v220 (F := Ideal) X1 X4 = sumK X1 X4 30 (by omega) := by
  sl_kernel_rfl

/-- Row `p` of the padded sequence: row `p - 15` of the sequence, zero off it. -/
def padded (X1 : FVec Ideal S16x2048x256 .f32) (b : Fin 16) (p : ℕ) (l : Fin 256) : EReal :=
  if h : 15 ≤ p ∧ p - 15 < 2048 then X1 (ix3 b ⟨p - 15, h.2⟩ l) else 0

theorem pad_at (X1 : FVec Ideal S16x2048x256 .f32) (b : Fin 16) (p : Fin 2078) (l : Fin 256) :
    val_main_v4 (F := Ideal) X1 (ix3 b p l) = padded X1 b p.val l := by
  pointwise [val_main_v4, val_main_call0_v0, val_main_c]
  unfold padded
  refine dite_congr rfl (fun _ => rfl) fun _ => ?_
  show ((((0#32 : BitVec 32).toInt : ℝ) : EReal)) = 0
  norm_num

theorem prodK_apply (X1 : FVec Ideal S16x2048x256 .f32) (X4 : FVec Ideal S31x256 .f32) (k : ℕ) (h : k < 31)
    (b : Fin 16) (r : Fin 2048) (l : Fin 256) :
    prodK X1 X4 k h (ix3 b r l) = X4 (ix2 ⟨k, h⟩ l) * padded X1 b (r.val + k) l := by
  have hp := pad_at X1 b ⟨r.val + k, by omega⟩ l
  unfold prodK
  generalize val_main_v4 (F := Ideal) X1 = P at hp ⊢
  rw [← hp]
  pointwise
  exact congrArg (fun q => X4 (ix2 ⟨k, h⟩ l) * P (ix3 b q l)) (Fin.ext (Nat.add_comm k r.val))

theorem sumK_apply (X1 : FVec Ideal S16x2048x256 .f32) (X4 : FVec Ideal S31x256 .f32) (b : Fin 16) (r : Fin 2048) (l : Fin 256) :
    ∀ (n : ℕ) (h : n < 31), sumK X1 X4 n h (ix3 b r l)
      = ∑ k : Fin (n + 1), X4 (ix2 ⟨k.val, by omega⟩ l) * padded X1 b (r.val + k.val) l
  | 0, h => by
    rw [Fin.sum_univ_one]
    exact prodK_apply X1 X4 0 h b r l
  | n + 1, h => by
    rw [Fin.sum_univ_castSucc]
    exact congrArg₂ (fun x y : EReal => x + y) (sumK_apply X1 X4 b r l n (by omega)) (prodK_apply X1 X4 (n + 1) h b r l)

/-- The reference's convolution at a point. -/
theorem ref_conv (X1 : FVec Ideal S16x2048x256 .f32) (X4 : FVec Ideal S31x256 .f32) (X5 : FVec Ideal S256 .f32)
    (b : Fin 16) (r : Fin 2048) (l : Fin 256) :
    val_main_v223 (F := Ideal) X1 X4 X5 (ix3 b r l)
      = (∑ k : Fin 31, X4 (ix2 k l) * padded X1 b (r.val + k.val) l) + X5 (ix1 l) := by
  have h := sumK_apply X1 X4 b r l 30 (by omega)
  rw [← ref_sum] at h
  generalize hv : val_main_v220 (F := Ideal) X1 X4 = v at h
  have e : val_main_v222 (F := Ideal) X5 (ix3 b r l) = X5 (ix1 l) := by pointwise [val_main_v222, val_main_v221]
  unfold val_main_v223
  rw [hv]
  exact congrArg₂ (fun x y : EReal => x + y) h e

end Cert.Proof.First.Conv

end
-- ==== Proof.FirstYaIdeal.lean ====
/- A row of the convolution tile over the extended reals: the reference's conformer row, normed and gated. -/
module

public import proofs.«01_k».proof.Proof.FirstConvIdeal
public import proofs.«01_k».proof.Proof.FirstRefConv
public import proofs.«01_k».proof.Proof.FirstBody

@[expose] public section

set_option maxRecDepth 16384

noncomputable section

namespace Cert.Proof.First.Conv

open Idealize.ShloMosaic Idealize.ShloMosaic.Tactic Cert.Kernel7Ideal Cert.Kernel7Ideal.Gen Cert.Reference7Ideal.Read

/-- The norm and the gate of a row depend on that row of the convolution alone. -/
theorem gate_apply (C : FVec Ideal S128x256 .f32) (lg lb : Vec Ideal S1x256 .f32) (X1 : FVec Ideal S16x2048x256 .f32)
    (X4 : FVec Ideal S31x256 .f32) (X5 X6 X7 : FVec Ideal S256 .f32) (b : Fin 16) (r : Fin 2048) (y : Fin 128)
    (hC : ∀ l : Fin 256, C (ix2 y l) = val_main_v223 (F := Ideal) X1 X4 X5 (ix3 b r l))
    (hg : ∀ l : Fin 256, lg (ix2 0 l) = X6 (ix1 l)) (hb : ∀ l : Fin 256, lb (ix2 0 l) = X7 (ix1 l)) (l : Fin 256) :
    gated (scaled (centred C)) lg lb (ix3 0 y l) = val_main_v248 (F := Ideal) X1 X4 X5 X6 X7 (ix3 b r l) := by
  have h1 : ∀ l : Fin 256, centred C (ix2 y l) = val_main_v229 (F := Ideal) X1 X4 X5 (ix3 b r l) := by
    intro l
    unfold val_main_v229 val_main_v228 val_main_v227 val_main_v225 val_main_v224
    generalize val_main_v223 (F := Ideal) X1 X4 X5 = R at *
    pointwise [centred, val_main_v226, val_main_cst, val_main_cst_0]
    simp only [hC]
  have e : val_main_v236 (F := Ideal) X1 X4 X5 = val_main_v229 (F := Ideal) X1 X4 X5 := rfl
  have h2 : ∀ l : Fin 256, scaled (centred C) (ix2 y l) = val_main_v241 (F := Ideal) X1 X4 X5 (ix3 b r l) := by
    intro l
    unfold val_main_v241 val_main_v240 val_main_v239 val_main_v238 val_main_v234 val_main_v232 val_main_v231 val_main_v230
    rw [e]
    generalize val_main_v229 (F := Ideal) X1 X4 X5 = R at *
    generalize centred C = D at *
    pointwise [scaled, val_main_v233, val_main_v237, val_main_cst_1, val_main_cst_2, val_main_cst_3]
    simp only [h1]
  have h3 : ∀ l : Fin 256, scaled (centred C) (ix2 y l) * lg (ix2 0 l) + lb (ix2 0 l) = val_main_v247 (F := Ideal) X1 X4 X5 X6 X7 (ix3 b r l) := by
    intro l
    unfold val_main_v247 val_main_v244
    generalize val_main_v241 (F := Ideal) X1 X4 X5 = R at *
    generalize scaled (centred C) = D at *
    pointwise [val_main_v242, val_main_v243, val_main_v245, val_main_v246]
    simp only [h2, hg, hb]
  have h3 := h3 l
  unfold val_main_v248 val_main_call1_v5 val_main_call1_v4 val_main_call1_v3 val_main_call1_v2 val_main_call1_v1 val_main_call1_v0
  generalize val_main_v247 (F := Ideal) X1 X4 X5 X6 X7 = R at *
  generalize scaled (centred C) = D at *
  pointwise [gated, val_main_call1_cst, val_main_call1_cst_0]
  rw [zero_sub, h3]

/-- The 31 products of a row, on the tiles of the body and on the padded sequence of the reference. -/
theorem window_row (X : Vec Ideal S1x2048x256 .f32) (X1 : FVec Ideal S16x2048x256 .f32) (b : Fin 16)
    (h : ∀ (r : Fin 2048) (l : Fin 256), X (ix3 0 r l) = X1 (ix3 b r l)) (p q : ℕ) (e : p = q + 1) (l : Fin 256) :
    rowAt X p l = padded X1 b q l := by
  subst e
  unfold rowAt padded
  by_cases hq : 15 ≤ q ∧ q - 15 < 2048
  · rw [dif_pos hq, dif_pos (by omega), h]
    exact congrArg (fun r => X1 (ix3 b r l)) (Fin.ext (by show q + 1 - 16 = q - 15; omega))
  · rw [dif_neg hq, dif_neg (by omega)]

theorem wRow_apply (x6 : Vec Ideal S31x256 .f32) (k : Fin 31) (s : Fin 8) (l : Fin 256) : wRow x6 k.val (ix2 s l) = x6 (ix2 k l) := by
  unfold wRow
  rw [dif_pos k.isLt]
  refine (ValueIdx.shapeCast_1ab_ab_apply _ _ s l).trans ?_
  pointwise [k0_pay2867]

theorem bias_apply (x7 : Vec Ideal S1x256 .f32) (s : Fin 8) (l : Fin 256) : k0_pay2868 (View.ld x7 rowBox) (ix2 s l) = x7 (ix2 0 l) := by
  pointwise [k0_pay2868]

/-- A tile's row is the reference's row, when the windows hold the sequence from row `512 * T` on. -/
theorem yaOf_apply (win : ℕ → ℕ → FVec Ideal S8x256 .f32) (X : Vec Ideal S1x2048x256 .f32) (x6 : Vec Ideal S31x256 .f32)
    (x7 x8 x9 : Vec Ideal S1x256 .f32) (X1 : FVec Ideal S16x2048x256 .f32) (X4 : FVec Ideal S31x256 .f32)
    (X5 X6 X7 : FVec Ideal S256 .f32) (b : Fin 16) (T : Fin 4)
    (hwin : ∀ c m, c < 16 → m < 8 → ∀ (s : Fin 8) (l : Fin 256), win c m (ix2 s l) = rowAt X (512 * T.val + 32 * c + 8 * m + s.val) l)
    (hX : ∀ (r : Fin 2048) (l : Fin 256), X (ix3 0 r l) = X1 (ix3 b r l))
    (h6 : ∀ (k : Fin 31) (l : Fin 256), x6 (ix2 k l) = X4 (ix2 k l)) (h7 : ∀ l : Fin 256, x7 (ix2 0 l) = X5 (ix1 l))
    (h8 : ∀ l : Fin 256, x8 (ix2 0 l) = X6 (ix1 l)) (h9 : ∀ l : Fin 256, x9 (ix2 0 l) = X7 (ix1 l)) (y : Fin 512) (l : Fin 256) :
    yaOf win x6 x7 x8 x9 (ix3 0 y l) = val_main_v248 (F := Ideal) X1 X4 X5 X6 X7 (ix3 b ⟨T.val * 512 + y.val, by omega⟩ l) := by
  refine gate_apply (convRows (fun c m => win (4 * (y.val / 128) + c) m) (wRow x6) (k0_pay2868 (View.ld x7 rowBox)))
    (View.ld x8 rowBox) (View.ld x9 rowBox) X1 X4 X5 X6 X7 b ⟨T.val * 512 + y.val, by omega⟩ ⟨y.val % 128, Nat.mod_lt _ (by omega)⟩
    (fun l => ?_) (fun l => ?_) (fun l => ?_) l
  · rw [convRows_apply, ref_conv]
    have hq : (y.val % 128) / 8 / 4 < 4 := by omega
    refine (blockTile_apply _ _ _ (fun p => rowAt X (512 * T.val + 32 * (4 * (y.val / 128) + (y.val % 128) / 8 / 4) + p) l) _ (by omega) _ l
      (fun m hm q => ?_)).trans ?_
    · exact (hwin _ m (by omega) hm q l).trans (congrArg (fun p => rowAt X p l) (by
        show 512 * T.val + 32 * (4 * (y.val / 128) + y.val % 128 / 8 / 4) + 8 * m + q.val
          = 512 * T.val + 32 * (4 * (y.val / 128) + y.val % 128 / 8 / 4) + (8 * m + q.val)
        omega))
    · refine congrArg₂ (· + ·) (Finset.sum_congr rfl fun k _ => congrArg₂ (· * ·) ((wRow_apply x6 k _ l).trans (h6 k l)) ?_)
        ((bias_apply x7 _ l).trans (h7 l))
      exact window_row X X1 b hX _ _ (by simp only; omega) l
  · exact (show View.ld x8 rowBox (ix2 0 l) = x8 (ix2 0 l) from by pointwise).trans (h8 l)
  · exact (show View.ld x9 rowBox (ix2 0 l) = x9 (ix2 0 l) from by pointwise).trans (h9 l)

end Cert.Proof.First.Conv

end
-- ==== Proof.FirstConvOut.lean ====
/- The end of the first layer, without the final norm: the array the pipeline writes is the reference's result. -/
module

public import proofs.«01_k».proof.Proof.FirstRegion
public import proofs.«01_k».proof.Proof.FirstMlpIdeal
public import proofs.«01_k».proof.Proof.FirstYaIdeal
public import proofs.«01_k».proof.Proof.Gen.Reference7Ideal.Run

@[expose] public section

set_option maxRecDepth 16384

noncomputable section

namespace Cert.Proof.First.ConvOut

open Idealize.ShloMosaic Cert.Kernel7Ideal Cert.Kernel7Ideal.Gen Cert.Reference7Ideal.Read Cert.Proof.First.Conv Cert.Proof.First.Mlp
open Idealize.ShloMosaic.Tactic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The batch and the quarter of its rows a grid point takes. -/
abbrev bOf (t : Fin cfg0.N) : Fin 16 := ⟨t.val / 4, by have := t.isLt; have : cfg0.N = 64 := N_0; omega⟩
abbrev jOf (t : Fin cfg0.N) : Fin 4 := ⟨t.val % 4, by omega⟩

/-- The batch whose tile a grid point prepares: that of the next point, if there is one. -/
abbrev nextOf (t : Fin cfg0.N) : Fin 16 := ⟨min ((t.val + 1) / 4) 15, by omega⟩

theorem coords_eq : ∀ t : Fin cfg0.N, tileNo (grid0.coords t) = (t.val + 1) % 4 := (by decide +kernel : ∀ t : Fin grid0.N, _)

abbrev X0 : FVec Ideal S16x2048x1024 .f32 := m ((c : Thread nD τ).loc main_arg0)
abbrev X1 : FVec Ideal S16x2048x256 .f32 := m ((c : Thread nD τ).loc main_arg1)
abbrev X2 : FVec Ideal S16x2048x512 .f32 := m ((c : Thread nD τ).loc main_arg2)
abbrev X3 : FVec Ideal S16x2048x256 .f32 := m ((c : Thread nD τ).loc main_arg3)
abbrev X4 : FVec Ideal S31x256 .f32 := m ((c : Thread nD τ).loc main_arg4)
abbrev X5 : FVec Ideal S256 .f32 := m ((c : Thread nD τ).loc main_arg5)
abbrev X6 : FVec Ideal S256 .f32 := m ((c : Thread nD τ).loc main_arg6)
abbrev X7 : FVec Ideal S256 .f32 := m ((c : Thread nD τ).loc main_arg7)
abbrev X8 : FVec Ideal S16x6x1024 .f32 := m ((c : Thread nD τ).loc main_arg8)
abbrev X9 : FVec Ideal S1024 .f32 := m ((c : Thread nD τ).loc main_arg9)
abbrev X10 : FVec Ideal S1024 .f32 := m ((c : Thread nD τ).loc main_arg10)
abbrev X11 : FVec Ideal S1024x1024 .f32 := m ((c : Thread nD τ).loc main_arg11)
abbrev X12 : FVec Ideal S1024x4096 .f32 := m ((c : Thread nD τ).loc main_arg12)
abbrev X13 : FVec Ideal S4096x1024 .f32 := m ((c : Thread nD τ).loc main_arg13)

theorem idx_in0 : ∀ t : Fin cfg0.N, win0_0.index t = ![t.val / 4, t.val % 4, 0] := (by decide +kernel : ∀ t : Fin grid0.N, _)

theorem blk0 (t : Fin cfg0.N) (p1 : Fin 512) (p2 : Fin 1024) : iblk m c 0 t (ix3 0 p1 p2) = X0 m c (ix3 (bOf t) (row (jOf t) p1) p2) := by
  unfold iblk
  rw [show V m c (Pipeline.arrRef spec0 0) = _ from V_main_arg0 m c, View.read_apply]
  have e := congrFun (idx_in0 t)
  refine congrArg (X0 m c) (funext fun a => Fin.ext ?_)
  match a with
  | ⟨0, _⟩ => show win0_0.index t 0 * 1 + 1 * 0 = t.val / 4; rw [e 0]; show t.val / 4 * 1 + 1 * 0 = _; omega
  | ⟨1, _⟩ => show win0_0.index t 1 * 512 + 1 * p1.val = t.val % 4 * 512 + p1.val; rw [e 1]; show t.val % 4 * 512 + 1 * p1.val = _; omega
  | ⟨2, _⟩ => show win0_0.index t 2 * 1024 + 1 * p2.val = p2.val; rw [e 2]; show 0 * 1024 + 1 * p2.val = _; omega

theorem idx_in1 : ∀ t : Fin cfg0.N, win0_1.index t = ![min ((t.val + 1) / 4) 15, 0, 0] := (by decide +kernel : ∀ t : Fin grid0.N, _)

theorem blk1 (t : Fin cfg0.N) (p1 : Fin 2048) (p2 : Fin 256) : iblk m c 1 t (ix3 0 p1 p2) = X1 m c (ix3 (nextOf t) p1 p2) := by
  unfold iblk
  rw [show V m c (Pipeline.arrRef spec0 1) = _ from V_main_arg1 m c, View.read_apply]
  have e := congrFun (idx_in1 t)
  refine congrArg (X1 m c) (funext fun a => Fin.ext ?_)
  match a with
  | ⟨0, _⟩ => show win0_1.index t 0 * 1 + 1 * 0 = min ((t.val + 1) / 4) 15; rw [e 0]; show min ((t.val + 1) / 4) 15 * 1 + 1 * 0 = _; omega
  | ⟨1, _⟩ => show win0_1.index t 1 * 2048 + 1 * p1.val = p1.val; rw [e 1]; show 0 * 2048 + 1 * p1.val = _; omega
  | ⟨2, _⟩ => show win0_1.index t 2 * 256 + 1 * p2.val = p2.val; rw [e 2]; show 0 * 256 + 1 * p2.val = _; omega

theorem idx_in2 : ∀ t : Fin cfg0.N, win0_2.index t = ![t.val / 4, t.val % 4, 0] := (by decide +kernel : ∀ t : Fin grid0.N, _)

theorem blk2 (t : Fin cfg0.N) (p1 : Fin 512) (p2 : Fin 512) : iblk m c 2 t (ix3 0 p1 p2) = X2 m c (ix3 (bOf t) (row (jOf t) p1) p2) := by
  unfold iblk
  have hV : V m c (Pipeline.arrRef spec0 2) = (truncf .bf16 (X2 m c) bitsLt_bf16_f32 : FVec Ideal S16x2048x512 .bf16) := by
    show StableHlo.after hostOps0 (fun b => m (c, b)) main_v0 = _
    unfold hostOps0
    after_results
    try rfl
  rw [hV, View.read_apply]
  have e := congrFun (idx_in2 t)
  refine congrArg (X2 m c) (funext fun a => Fin.ext ?_)
  match a with
  | ⟨0, _⟩ => show win0_2.index t 0 * 1 + 1 * 0 = t.val / 4; rw [e 0]; show t.val / 4 * 1 + 1 * 0 = _; omega
  | ⟨1, _⟩ => show win0_2.index t 1 * 512 + 1 * p1.val = t.val % 4 * 512 + p1.val; rw [e 1]; show t.val % 4 * 512 + 1 * p1.val = _; omega
  | ⟨2, _⟩ => show win0_2.index t 2 * 512 + 1 * p2.val = p2.val; rw [e 2]; show 0 * 512 + 1 * p2.val = _; omega

theorem idx_in3 : ∀ t : Fin cfg0.N, win0_3.index t = ![t.val / 4, t.val % 4, 0] := (by decide +kernel : ∀ t : Fin grid0.N, _)

theorem blk3 (t : Fin cfg0.N) (p1 : Fin 512) (p2 : Fin 256) : iblk m c 3 t (ix3 0 p1 p2) = X3 m c (ix3 (bOf t) (row (jOf t) p1) p2) := by
  unfold iblk
  have hV : V m c (Pipeline.arrRef spec0 3) = (truncf .bf16 (X3 m c) bitsLt_bf16_f32 : FVec Ideal S16x2048x256 .bf16) := by
    show StableHlo.after hostOps0 (fun b => m (c, b)) main_v1 = _
    unfold hostOps0
    after_results
    try rfl
  rw [hV, View.read_apply]
  have e := congrFun (idx_in3 t)
  refine congrArg (X3 m c) (funext fun a => Fin.ext ?_)
  match a with
  | ⟨0, _⟩ => show win0_3.index t 0 * 1 + 1 * 0 = t.val / 4; rw [e 0]; show t.val / 4 * 1 + 1 * 0 = _; omega
  | ⟨1, _⟩ => show win0_3.index t 1 * 512 + 1 * p1.val = t.val % 4 * 512 + p1.val; rw [e 1]; show t.val % 4 * 512 + 1 * p1.val = _; omega
  | ⟨2, _⟩ => show win0_3.index t 2 * 256 + 1 * p2.val = p2.val; rw [e 2]; show 0 * 256 + 1 * p2.val = _; omega

theorem idx_in4 : ∀ t : Fin cfg0.N, win0_4.index t = ![0, 0] := (by decide +kernel : ∀ t : Fin grid0.N, _)

theorem blk4 (t : Fin cfg0.N) (p0 : Fin 31) (p1 : Fin 256) : iblk m c 4 t (ix2 p0 p1) = X4 m c (ix2 p0 p1) := by
  unfold iblk
  rw [show V m c (Pipeline.arrRef spec0 4) = _ from V_main_arg4 m c, View.read_apply]
  have e := congrFun (idx_in4 t)
  refine congrArg (X4 m c) (funext fun a => Fin.ext ?_)
  match a with
  | ⟨0, _⟩ => show win0_4.index t 0 * 31 + 1 * p0.val = p0.val; rw [e 0]; show 0 * 31 + 1 * p0.val = _; omega
  | ⟨1, _⟩ => show win0_4.index t 1 * 256 + 1 * p1.val = p1.val; rw [e 1]; show 0 * 256 + 1 * p1.val = _; omega

theorem idx_in5 : ∀ t : Fin cfg0.N, win0_5.index t = ![0, 0] := (by decide +kernel : ∀ t : Fin grid0.N, _)

theorem blk5 (t : Fin cfg0.N) (p1 : Fin 256) : iblk m c 5 t (ix2 0 p1) = X5 m c (ix1 p1) := by
  unfold iblk
  have hV : V m c (Pipeline.arrRef spec0 5) = shapeCast S1x256 (X5 m c) shapeCasts_S256_S1x256 := by
    show StableHlo.after hostOps0 (fun b => m (c, b)) main_v10 = _
    unfold hostOps0
    after_results
    try rfl
  rw [hV, View.read_apply]
  have e := congrFun (idx_in5 t)
  refine (congrArg (shapeCast S1x256 (X5 m c) shapeCasts_S256_S1x256) (funext fun a => Fin.ext ?_ : _ = ix2 0 p1)).trans ?_
  · match a with
    | ⟨0, _⟩ => show win0_5.index t 0 * 1 + 1 * 0 = 0; rw [e 0]; show 0 * 1 + 1 * 0 = _; omega
    | ⟨1, _⟩ => show win0_5.index t 1 * 256 + 1 * p1.val = p1.val; rw [e 1]; show 0 * 256 + 1 * p1.val = _; omega
  · pointwise

theorem idx_in6 : ∀ t : Fin cfg0.N, win0_6.index t = ![0, 0] := (by decide +kernel : ∀ t : Fin grid0.N, _)

theorem blk6 (t : Fin cfg0.N) (p1 : Fin 256) : iblk m c 6 t (ix2 0 p1) = X6 m c (ix1 p1) := by
  unfold iblk
  have hV : V m c (Pipeline.arrRef spec0 6) = shapeCast S1x256 (X6 m c) shapeCasts_S256_S1x256 := by
    show StableHlo.after hostOps0 (fun b => m (c, b)) main_v11 = _
    unfold hostOps0
    after_results
    try rfl
  rw [hV, View.read_apply]
  have e := congrFun (idx_in6 t)
  refine (congrArg (shapeCast S1x256 (X6 m c) shapeCasts_S256_S1x256) (funext fun a => Fin.ext ?_ : _ = ix2 0 p1)).trans ?_
  · match a with
    | ⟨0, _⟩ => show win0_6.index t 0 * 1 + 1 * 0 = 0; rw [e 0]; show 0 * 1 + 1 * 0 = _; omega
    | ⟨1, _⟩ => show win0_6.index t 1 * 256 + 1 * p1.val = p1.val; rw [e 1]; show 0 * 256 + 1 * p1.val = _; omega
  · pointwise

theorem idx_in7 : ∀ t : Fin cfg0.N, win0_7.index t = ![0, 0] := (by decide +kernel : ∀ t : Fin grid0.N, _)

theorem blk7 (t : Fin cfg0.N) (p1 : Fin 256) : iblk m c 7 t (ix2 0 p1) = X7 m c (ix1 p1) := by
  unfold iblk
  have hV : V m c (Pipeline.arrRef spec0 7) = shapeCast S1x256 (X7 m c) shapeCasts_S256_S1x256 := by
    show StableHlo.after hostOps0 (fun b => m (c, b)) main_v12 = _
    unfold hostOps0
    after_results
    try rfl
  rw [hV, View.read_apply]
  have e := congrFun (idx_in7 t)
  refine (congrArg (shapeCast S1x256 (X7 m c) shapeCasts_S256_S1x256) (funext fun a => Fin.ext ?_ : _ = ix2 0 p1)).trans ?_
  · match a with
    | ⟨0, _⟩ => show win0_7.index t 0 * 1 + 1 * 0 = 0; rw [e 0]; show 0 * 1 + 1 * 0 = _; omega
    | ⟨1, _⟩ => show win0_7.index t 1 * 256 + 1 * p1.val = p1.val; rw [e 1]; show 0 * 256 + 1 * p1.val = _; omega
  · pointwise

theorem idx_in8 : ∀ t : Fin cfg0.N, win0_8.index t = ![t.val / 4, 0, 0] := (by decide +kernel : ∀ t : Fin grid0.N, _)

theorem blk8 (t : Fin cfg0.N) (p1 : Fin 6) (p2 : Fin 1024) : iblk m c 8 t (ix3 0 p1 p2) = X8 m c (ix3 (bOf t) p1 p2) := by
  unfold iblk
  rw [show V m c (Pipeline.arrRef spec0 8) = _ from V_main_arg8 m c, View.read_apply]
  have e := congrFun (idx_in8 t)
  refine congrArg (X8 m c) (funext fun a => Fin.ext ?_)
  match a with
  | ⟨0, _⟩ => show win0_8.index t 0 * 1 + 1 * 0 = t.val / 4; rw [e 0]; show t.val / 4 * 1 + 1 * 0 = _; omega
  | ⟨1, _⟩ => show win0_8.index t 1 * 6 + 1 * p1.val = p1.val; rw [e 1]; show 0 * 6 + 1 * p1.val = _; omega
  | ⟨2, _⟩ => show win0_8.index t 2 * 1024 + 1 * p2.val = p2.val; rw [e 2]; show 0 * 1024 + 1 * p2.val = _; omega

theorem idx_in9 : ∀ t : Fin cfg0.N, win0_9.index t = ![0, 0] := (by decide +kernel : ∀ t : Fin grid0.N, _)

theorem blk9 (t : Fin cfg0.N) (p1 : Fin 1024) : iblk m c 9 t (ix2 0 p1) = X9 m c (ix1 p1) := by
  unfold iblk
  have hV : V m c (Pipeline.arrRef spec0 9) = shapeCast S1x1024 (X9 m c) shapeCasts_S1024_S1x1024 := by
    show StableHlo.after hostOps0 (fun b => m (c, b)) main_v2 = _
    unfold hostOps0
    after_results
    try rfl
  rw [hV, View.read_apply]
  have e := congrFun (idx_in9 t)
  refine (congrArg (shapeCast S1x1024 (X9 m c) shapeCasts_S1024_S1x1024) (funext fun a => Fin.ext ?_ : _ = ix2 0 p1)).trans ?_
  · match a with
    | ⟨0, _⟩ => show win0_9.index t 0 * 1 + 1 * 0 = 0; rw [e 0]; show 0 * 1 + 1 * 0 = _; omega
    | ⟨1, _⟩ => show win0_9.index t 1 * 1024 + 1 * p1.val = p1.val; rw [e 1]; show 0 * 1024 + 1 * p1.val = _; omega
  · pointwise

theorem idx_in10 : ∀ t : Fin cfg0.N, win0_10.index t = ![0, 0] := (by decide +kernel : ∀ t : Fin grid0.N, _)

theorem blk10 (t : Fin cfg0.N) (p1 : Fin 1024) : iblk m c 10 t (ix2 0 p1) = X10 m c (ix1 p1) := by
  unfold iblk
  have hV : V m c (Pipeline.arrRef spec0 10) = shapeCast S1x1024 (X10 m c) shapeCasts_S1024_S1x1024 := by
    show StableHlo.after hostOps0 (fun b => m (c, b)) main_v3 = _
    unfold hostOps0
    after_results
    try rfl
  rw [hV, View.read_apply]
  have e := congrFun (idx_in10 t)
  refine (congrArg (shapeCast S1x1024 (X10 m c) shapeCasts_S1024_S1x1024) (funext fun a => Fin.ext ?_ : _ = ix2 0 p1)).trans ?_
  · match a with
    | ⟨0, _⟩ => show win0_10.index t 0 * 1 + 1 * 0 = 0; rw [e 0]; show 0 * 1 + 1 * 0 = _; omega
    | ⟨1, _⟩ => show win0_10.index t 1 * 1024 + 1 * p1.val = p1.val; rw [e 1]; show 0 * 1024 + 1 * p1.val = _; omega
  · pointwise

theorem idx_in11 : ∀ t : Fin cfg0.N, win0_11.index t = ![0, 0, 0] := (by decide +kernel : ∀ t : Fin grid0.N, _)

theorem blk11 (t : Fin cfg0.N) (p1 : Fin 1024) (p2 : Fin 1024) : iblk m c 11 t (ix3 0 p1 p2) = X11 m c (ix2 p1 p2) := by
  unfold iblk
  have hV : V m c (Pipeline.arrRef spec0 11) = broadcastInDim S1x1024x1024 ![1, 2] bcast_S1024x1024_S1x1024x1024_1_2 (truncf .bf16 (X11 m c) bitsLt_bf16_f32) := by
    show StableHlo.after hostOps0 (fun b => m (c, b)) main_v5 = _
    unfold hostOps0
    after_results
    try rfl
  rw [hV, View.read_apply]
  have e := congrFun (idx_in11 t)
  refine (congrArg (broadcastInDim S1x1024x1024 ![1, 2] bcast_S1024x1024_S1x1024x1024_1_2 (truncf .bf16 (X11 m c) bitsLt_bf16_f32)) (funext fun a => Fin.ext ?_ : _ = ix3 0 p1 p2)).trans ?_
  · match a with
    | ⟨0, _⟩ => show win0_11.index t 0 * 1 + 1 * 0 = 0; rw [e 0]; show 0 * 1 + 1 * 0 = _; omega
    | ⟨1, _⟩ => show win0_11.index t 1 * 1024 + 1 * p1.val = p1.val; rw [e 1]; show 0 * 1024 + 1 * p1.val = _; omega
    | ⟨2, _⟩ => show win0_11.index t 2 * 1024 + 1 * p2.val = p2.val; rw [e 2]; show 0 * 1024 + 1 * p2.val = _; omega
  · pointwise

theorem idx_in12 : ∀ t : Fin cfg0.N, win0_12.index t = ![0, 0, 0] := (by decide +kernel : ∀ t : Fin grid0.N, _)

theorem blk12 (t : Fin cfg0.N) (p1 : Fin 1024) (p2 : Fin 4096) : iblk m c 12 t (ix3 0 p1 p2) = X12 m c (ix2 p1 p2) := by
  unfold iblk
  have hV : V m c (Pipeline.arrRef spec0 12) = broadcastInDim S1x1024x4096 ![1, 2] bcast_S1024x4096_S1x1024x4096_1_2 (truncf .bf16 (X12 m c) bitsLt_bf16_f32) := by
    show StableHlo.after hostOps0 (fun b => m (c, b)) main_v7 = _
    unfold hostOps0
    after_results
    try rfl
  rw [hV, View.read_apply]
  have e := congrFun (idx_in12 t)
  refine (congrArg (broadcastInDim S1x1024x4096 ![1, 2] bcast_S1024x4096_S1x1024x4096_1_2 (truncf .bf16 (X12 m c) bitsLt_bf16_f32)) (funext fun a => Fin.ext ?_ : _ = ix3 0 p1 p2)).trans ?_
  · match a with
    | ⟨0, _⟩ => show win0_12.index t 0 * 1 + 1 * 0 = 0; rw [e 0]; show 0 * 1 + 1 * 0 = _; omega
    | ⟨1, _⟩ => show win0_12.index t 1 * 1024 + 1 * p1.val = p1.val; rw [e 1]; show 0 * 1024 + 1 * p1.val = _; omega
    | ⟨2, _⟩ => show win0_12.index t 2 * 4096 + 1 * p2.val = p2.val; rw [e 2]; show 0 * 4096 + 1 * p2.val = _; omega
  · pointwise

theorem idx_in13 : ∀ t : Fin cfg0.N, win0_13.index t = ![0, 0, 0] := (by decide +kernel : ∀ t : Fin grid0.N, _)

theorem blk13 (t : Fin cfg0.N) (p1 : Fin 4096) (p2 : Fin 1024) : iblk m c 13 t (ix3 0 p1 p2) = X13 m c (ix2 p1 p2) := by
  unfold iblk
  have hV : V m c (Pipeline.arrRef spec0 13) = broadcastInDim S1x4096x1024 ![1, 2] bcast_S4096x1024_S1x4096x1024_1_2 (truncf .bf16 (X13 m c) bitsLt_bf16_f32) := by
    show StableHlo.after hostOps0 (fun b => m (c, b)) main_v9 = _
    unfold hostOps0
    after_results
    try rfl
  rw [hV, View.read_apply]
  have e := congrFun (idx_in13 t)
  refine (congrArg (broadcastInDim S1x4096x1024 ![1, 2] bcast_S4096x1024_S1x4096x1024_1_2 (truncf .bf16 (X13 m c) bitsLt_bf16_f32)) (funext fun a => Fin.ext ?_ : _ = ix3 0 p1 p2)).trans ?_
  · match a with
    | ⟨0, _⟩ => show win0_13.index t 0 * 1 + 1 * 0 = 0; rw [e 0]; show 0 * 1 + 1 * 0 = _; omega
    | ⟨1, _⟩ => show win0_13.index t 1 * 4096 + 1 * p1.val = p1.val; rw [e 1]; show 0 * 4096 + 1 * p1.val = _; omega
    | ⟨2, _⟩ => show win0_13.index t 2 * 1024 + 1 * p2.val = p2.val; rw [e 2]; show 0 * 1024 + 1 * p2.val = _; omega
  · pointwise

/-- The tile a grid point prepares holds the reference's conformer rows of the next point. -/
theorem nextYA_apply (t : Fin cfg0.N) (y : Fin 512) (l : Fin 256) : nextYA m c t (ix3 0 y l)
    = val_main_v248 (F := Ideal) (X1 m c) (X4 m c) (X5 m c) (X6 m c) (X7 m c) (ix3 (nextOf t) ⟨(t.val + 1) % 4 * 512 + y.val, by omega⟩ l) :=
  yaOf_apply _ (iblk m c 1 t) _ _ _ _ _ _ _ _ _ (nextOf t) ⟨(t.val + 1) % 4, by omega⟩
    (fun b q hb hq s l => (winB_apply _ _ b q hb hq s l).trans (congrArg (fun T => rowAt (iblk m c 1 t) (512 * T + 32 * b + 8 * q + s.val) l) (coords_eq t)))
    (blk1 m c t) (blk4 m c t) (blk5 m c t) (blk6 m c t) (blk7 m c t) y l

/-- The tile a grid point reads holds the reference's conformer rows of that point. -/
theorem curYA_apply (t : Fin cfg0.N) (y : Fin 512) (l : Fin 256) : curYA m c t.val t.isLt (ix3 0 y l)
    = val_main_v248 (F := Ideal) (X1 m c) (X4 m c) (X5 m c) (X6 m c) (X7 m c) (ix3 (bOf t) (row (jOf t) y) l) := by
  obtain ⟨n, hn⟩ := t
  cases n with
  | zero =>
    refine (yaOf_apply _ (iblk m c 1 ⟨0, hn⟩) _ _ _ _ _ _ _ _ _ (nextOf ⟨0, hn⟩) 0
      (fun b q hb hq s l => (winA_apply _ b q hb hq s l).trans (congrArg (fun p => rowAt (iblk m c 1 ⟨0, hn⟩) p l) (by show _ = 512 * 0 + _ + _ + _; omega)))
      (blk1 m c _) (blk4 m c ⟨0, hn⟩) (blk5 m c ⟨0, hn⟩) (blk6 m c ⟨0, hn⟩) (blk7 m c ⟨0, hn⟩) y l).trans ?_
    refine congrArg (val_main_v248 (F := Ideal) (X1 m c) (X4 m c) (X5 m c) (X6 m c) (X7 m c)) (funext fun a => Fin.ext ?_)
    match a with
    | ⟨0, _⟩ => show min ((0 + 1) / 4) 15 = 0 / 4; omega
    | ⟨1, _⟩ => rfl
    | ⟨2, _⟩ => rfl
  | succ n =>
    refine (nextYA_apply m c ⟨n, (Nat.lt_succ_self n).trans hn⟩ y l).trans ?_
    have hN : cfg0.N = 64 := N_0
    refine congrArg (val_main_v248 (F := Ideal) (X1 m c) (X4 m c) (X5 m c) (X6 m c) (X7 m c)) (funext fun a => Fin.ext ?_)
    match a with
    | ⟨0, _⟩ => show min ((n + 1) / 4) 15 = (n + 1) / 4; omega
    | ⟨1, _⟩ => rfl
    | ⟨2, _⟩ => rfl

/-- The reference's result. -/
abbrev result : FVec Ideal S16x2048x1024 .f32 := val_main_v279 (F := Ideal) (X0 m c) (X1 m c) (X2 m c) (X3 m c) (X4 m c) (X5 m c) (X6 m c) (X7 m c) (X8 m c) (X9 m c) (X11 m c) (X12 m c) (X13 m c)

theorem outBlk_apply (t : Fin cfg0.N) (r : Fin 512) (n : Fin 1024) : outBlk m c t (ix3 0 r n) = result m c (ix3 (bOf t) (row (jOf t) r) n) :=
  mlpOut_apply ⟨curYA_apply m c t, blk0 m c t, blk2 m c t, blk3 m c t, blk8 m c t, blk9 m c t, blk10 m c t, blk11 m c t, blk12 m c t, blk13 m c t⟩ r n

theorem idx_out : ∀ t : Fin cfg0.N, win0_14.index t = ![t.val / 4, t.val % 4, 0] := (by decide +kernel : ∀ t : Fin grid0.N, _)

/-- What point `t` writes back is that block of the reference's result. -/
theorem flushed_eq (t : Fin cfg0.N) : (dats m 0 c).flushed 14 t = ((cfg0.win 14).blk t).view.read (Elt Ideal) (result m c) := by
  show (cfg0.win 14).cut (grid0.coords t) ((dats m 0 c).after 14 t) = _
  rw [after0_14]
  refine funext fun (y : S1x512x1024.Idx) => ?_
  idx_vars y
  obtain rfl : y0 = 0 := Fin.ext (by omega)
  show outBlk m c t (ix3 0 y1 y2) = _
  rw [outBlk_apply, View.read_apply]
  refine congrArg (result m c) (funext fun a => Fin.ext ?_)
  have e := congrFun (idx_out t)
  match a with
  | ⟨0, _⟩ => show t.val / 4 = win0_14.index t 0 * 1 + 1 * 0; rw [e 0]; show _ = t.val / 4 * 1 + 1 * 0; omega
  | ⟨1, _⟩ => show t.val % 4 * 512 + y1.val = win0_14.index t 1 * 512 + 1 * y1.val; rw [e 1]; show _ = t.val % 4 * 512 + 1 * y1.val; omega
  | ⟨2, _⟩ => show y2.val = win0_14.index t 2 * 1024 + 1 * y2.val; rw [e 2]; show _ = 0 * 1024 + 1 * y2.val; omega

/-- The blocks cover the output. -/
theorem cover (i : S16x2048x1024.Idx) : ∃ t : Fin cfg0.N, (cfg0.win 14).flush t = true ∧ i ∈ ((cfg0.win 14).blk t).view.set := by
  idx_vars i
  have hN : cfg0.N = 64 := N_0
  refine ⟨⟨i0.val * 4 + i1.val / 512, by omega⟩, flush0_14 _, ?_⟩
  have e := congrFun (idx_out ⟨i0.val * 4 + i1.val / 512, by omega⟩)
  generalize hx : (⟨i0.val * 4 + i1.val / 512, by omega⟩ : Fin cfg0.N) = t at *
  have hv : t.val = i0.val * 4 + i1.val / 512 := by rw [← hx]
  show ix3 i0 i1 i2 ∈ ((View.whole main_v13).slice (win0_14.rect t)).set
  rw [View.set_slice_whole, Rect.mem_set_unit]
  intro a
  match a with
  | ⟨0, _⟩ => show win0_14.index t 0 * 1 ≤ i0.val ∧ i0.val < win0_14.index t 0 * 1 + 1; rw [e 0]; show t.val / 4 * 1 ≤ i0.val ∧ i0.val < t.val / 4 * 1 + 1; omega
  | ⟨1, _⟩ => show win0_14.index t 1 * 512 ≤ i1.val ∧ i1.val < win0_14.index t 1 * 512 + 512; rw [e 1]; show t.val % 4 * 512 ≤ i1.val ∧ i1.val < t.val % 4 * 512 + 512; omega
  | ⟨2, _⟩ => show win0_14.index t 2 * 1024 ≤ i2.val ∧ i2.val < win0_14.index t 2 * 1024 + 1024; rw [e 2]; show 0 * 1024 ≤ i2.val ∧ i2.val < 0 * 1024 + 1024; omega

theorem final : (dats m 0 c).arrAt 14 cfg0.N = result m c :=
  (dats m 0 c).arrAt_eq_of_cover 14 _ (fun t _ => flushed_eq m c t) cover

/-- The kernel's run: its result at the reference's value of its arguments, the arguments as they were. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨((h.1 c).1 14).trans (final m c), h.2.1 c⟩) (θ_run_and (run_main m ρ) (frame m ρ))

end Cert.Proof.First.ConvOut

end
-- ==== Proof.FirstSameText.lean ====
/- The kernel read over the float semantics and over the exact one is one text: its two tables of bodies are equal, so
   the run over the exact one is the run over both. -/
module
public import proofs.«01_k».proof.Proof.FirstConvOut
public import proofs.«01_k».proof.Proof.Gen.Kernel7.Frame
@[expose] public section

set_option maxRecDepth 65536
set_option maxHeartbeats 2000000

noncomputable section

namespace Cert.Proof.First.SameText

open Idealize.ShloMosaic Idealize.SL.Sem

variable {F : FTy → Type} [FloatOps F]

/-- The two programs have one text, so one body. -/
theorem body_eq : @Cert.Kernel7.cc0_conv_out_proj_mlp F _ Cert.Kernel7.Gen.facts = @Cert.Kernel7Ideal.cc0_conv_out_proj_mlp F _ Cert.Kernel7Ideal.Gen.facts := rfl

theorem calls_eq : @Cert.Kernel7.defs₀ F _ Cert.Kernel7.Gen.facts = @Cert.Kernel7Ideal.defs₀ F _ Cert.Kernel7Ideal.Gen.facts := by
  unfold Cert.Kernel7.defs₀ Cert.Kernel7Ideal.defs₀
  congr 1
  funext l x
  match l, x with
  | 0, (t, s) => rfl

theorem defs_eq : @Cert.Kernel7Ideal.defs F _ Cert.Kernel7Ideal.Gen.facts = @Cert.Kernel7.defs F _ Cert.Kernel7.Gen.facts :=
  congrArg (Pipeline.defs Cert.Kernel7Ideal.pcfgs) calls_eq.symm

end Cert.Proof.First.SameText

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.ConvOut
public import proofs.«01_k».proof.Proof.SameText
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.InProj
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite_scores
public import proofs.«01_k».proof.Proof.Ctx
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.MlpCtx
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.InProjCtx
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Modulation
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.FirstConvOut
public import proofs.«01_k».proof.Proof.FirstSameText

public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The end of the layer over the float semantics: the same text as the ideal program's, so the same run. -/
theorem quiescent_Kernel : quiescent_Kernel := fun m ρ _ => by
  have h := Cert.KernelIdeal.Gen.frame (F := Bits) m ρ
  rw [SameText.defs_eq] at h
  exact h

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The end of the layer computes the reference's result. -/
theorem algebraic_KernelIdeal_ReferenceIdeal : algebraic_KernelIdeal_ReferenceIdeal := by
  intro m ρ m' ρ' _ hagree
  refine ⟨_, ConvOut.run m ρ, ?_⟩
  refine (θ_run Cert.ReferenceIdeal.defs _ _).mono (fun _ h c => ?_) (Cert.ReferenceIdeal.Value.run (F := Ideal) m' ρ')
  obtain ⟨h0, hargs⟩ := h c
  obtain ⟨e0, e1, e2, e3, e4, e5, e6, e7, e8, e9, e10, e11, e12, e13⟩ := hagree c
  rw [Cert.ReferenceIdeal.Read.val_main_v292_eq] at h0
  change _ = Cert.ReferenceIdeal.Read.val_main_v292 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13)) at h0
  rw [e0, e1, e2, e3, e4, e5, e6, e7, e8, e9, e10, e11, e12, e13] at h0
  exact ⟨h0, hargs⟩

theorem quiescent_Reference2Ideal : quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

/-- The input projection computes the reference's seven projections, the gated convolution input among them. -/
theorem algebraic_Kernel2Ideal_Reference2Ideal : algebraic_Kernel2Ideal_Reference2Ideal := by
  intro m ρ m' ρ' _ hagree
  refine ⟨_, _, _, _, _, _, InProj.run m ρ, ?_⟩
  refine (θ_run Cert.Reference2Ideal.defs _ _).mono (fun _ h c => ?_) (Cert.Reference2Ideal.Value.run (F := Ideal) m' ρ')
  obtain ⟨h0, h1, h2, h3, h4, h5, hargs⟩ := h c
  obtain ⟨e0, e1, e2, e3⟩ := hagree c
  rw [Cert.Reference2Ideal.Read.val_main_v35_eq, e0, e1, e2, e3] at h0
  rw [Cert.Reference2Ideal.Read.val_main_v38_eq, e0, e1, e2, e3] at h1
  rw [Cert.Reference2Ideal.Read.val_main_v39_eq, e0, e1, e2, e3] at h2
  rw [Cert.Reference2Ideal.Read.val_main_v40_eq, e0, e1, e2, e3] at h3
  rw [Cert.Reference2Ideal.Read.val_main_v27_eq, e0, e1, e2, e3] at h4
  rw [Cert.Reference2Ideal.Read.val_main_v28_eq, e0, e1, e2, e3] at h5
  exact ⟨h0, h1, h2, h3, h4, h5, hargs⟩

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The attention among the context's tokens computes the reference's, at finite queries and keys. -/
theorem algebraic_Kernel3Ideal_Reference3Ideal : algebraic_Kernel3Ideal_Reference3Ideal_pre_finite_scores := by
  intro m ρ m' ρ' hpre hagree
  refine ⟨_, Ctx.run m ρ (fun c => Ctx.finite_of _ _ _ (Shape.Idx.first Cert.Pre_finite_scores.Gen.h_S_) (by rw [hpre c])), ?_⟩
  refine (θ_run Cert.Reference3Ideal.defs _ _).mono (fun _ h c => ?_) (Cert.Reference3Ideal.Value.run (F := Ideal) m' ρ')
  obtain ⟨h0, hargs⟩ := h c
  obtain ⟨e0, e1, e2⟩ := hagree c
  rw [Cert.Reference3Ideal.Read.val_main_v23_eq, e0, e1, e2] at h0
  exact ⟨h0, hargs⟩

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The end of the layer on the context's tokens computes the reference's result. -/
theorem algebraic_Kernel4Ideal_Reference4Ideal : algebraic_Kernel4Ideal_Reference4Ideal := by
  intro m ρ m' ρ' _ hagree
  refine ⟨_, MlpCtx.run m ρ, ?_⟩
  refine (θ_run Cert.Reference4Ideal.defs _ _).mono (fun _ h c => ?_) (Cert.Reference4Ideal.Value.run (F := Ideal) m' ρ')
  obtain ⟨h0, hargs⟩ := h c
  obtain ⟨e0, e1, e2, e3, e4, e5, e6, e7, e8, e9⟩ := hagree c
  rw [Cert.Reference4Ideal.Read.val_main_v42_eq, e0, e1, e2, e3, e4, e5, e7, e8, e9] at h0
  exact ⟨h0, hargs⟩

theorem quiescent_Reference5Ideal : quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

/-- The input projection of the context's tokens computes the reference's seven projections. -/
theorem algebraic_Kernel5Ideal_Reference5Ideal : algebraic_Kernel5Ideal_Reference5Ideal := by
  intro m ρ m' ρ' _ hagree
  refine ⟨_, _, _, _, _, _, InProjCtx.run m ρ, ?_⟩
  refine (θ_run Cert.Reference5Ideal.defs _ _).mono (fun _ h c => ?_) (Cert.Reference5Ideal.Value.run (F := Ideal) m' ρ')
  obtain ⟨h0, h1, h2, h3, h4, h5, hargs⟩ := h c
  obtain ⟨e0, e1, e2, e3⟩ := hagree c
  rw [Cert.Reference5Ideal.Read.val_main_v39_eq, e0, e1, e2, e3] at h0
  rw [Cert.Reference5Ideal.Read.val_main_v42_eq, e0, e1, e2, e3] at h1
  rw [Cert.Reference5Ideal.Read.val_main_v43_eq, e0, e1, e2, e3] at h2
  rw [Cert.Reference5Ideal.Read.val_main_v44_eq, e0, e1, e2, e3] at h3
  rw [Cert.Reference5Ideal.Read.val_main_v31_eq, e0, e1, e2, e3] at h4
  rw [Cert.Reference5Ideal.Read.val_main_v32_eq, e0, e1, e2, e3] at h5
  exact ⟨h0, h1, h2, h3, h4, h5, hargs⟩

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The call of the modulation vectors computes the reference's result. -/
theorem algebraic_Kernel6Ideal_Reference6Ideal : algebraic_Kernel6Ideal_Reference6Ideal := by
  intro m ρ m' ρ' _ hagree
  refine ⟨_, Modulation.run m ρ, ?_⟩
  refine (θ_run Cert.Reference6Ideal.defs _ _).mono (fun _ h c => ?_) (Cert.Reference6Ideal.Value.run (F := Ideal) m' ρ')
  obtain ⟨h0, hargs⟩ := h c
  obtain ⟨e0, e1, e2⟩ := hagree c
  rw [Cert.Reference6Ideal.Read.val_main_v20_eq, e0, e1, e2] at h0
  exact ⟨h0, hargs⟩

/-- The end of the first layer over the float semantics: the same text as the ideal program's, so the same run. -/
theorem quiescent_Kernel7 : quiescent_Kernel7 := fun m ρ _ => by
  have h := Cert.Kernel7Ideal.Gen.frame (F := Bits) m ρ
  rw [First.SameText.defs_eq] at h
  exact h

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The end of the first layer computes the reference's result. -/
theorem algebraic_Kernel7Ideal_Reference7Ideal : algebraic_Kernel7Ideal_Reference7Ideal := by
  intro m ρ m' ρ' _ hagree
  refine ⟨_, First.ConvOut.run m ρ, ?_⟩
  refine (θ_run Cert.Reference7Ideal.defs _ _).mono (fun _ h c => ?_) (Cert.Reference7Ideal.Value.run (F := Ideal) m' ρ')
  obtain ⟨h0, hargs⟩ := h c
  obtain ⟨e0, e1, e2, e3, e4, e5, e6, e7, e8, e9, e10, e11, e12, e13⟩ := hagree c
  rw [Cert.Reference7Ideal.Read.val_main_v279_eq] at h0
  change _ = Cert.Reference7Ideal.Read.val_main_v279 (F := Ideal)
      (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2))
      (m' ((c.tc : Thread Cert.Reference7Ideal.nD Cert.Reference7Ideal.τ).loc Cert.Reference7Ideal.main_arg3))
      (m' ((c.tc : Thread Cert.Reference7Ideal.nD Cert.Reference7Ideal.τ).loc Cert.Reference7Ideal.main_arg4))
      (m' ((c.tc : Thread Cert.Reference7Ideal.nD Cert.Reference7Ideal.τ).loc Cert.Reference7Ideal.main_arg5))
      (m' ((c.tc : Thread Cert.Reference7Ideal.nD Cert.Reference7Ideal.τ).loc Cert.Reference7Ideal.main_arg6))
      (m' ((c.tc : Thread Cert.Reference7Ideal.nD Cert.Reference7Ideal.τ).loc Cert.Reference7Ideal.main_arg7))
      (m' ((c.tc : Thread Cert.Reference7Ideal.nD Cert.Reference7Ideal.τ).loc Cert.Reference7Ideal.main_arg8))
      (m' ((c.tc : Thread Cert.Reference7Ideal.nD Cert.Reference7Ideal.τ).loc Cert.Reference7Ideal.main_arg9))
      (m' ((c.tc : Thread Cert.Reference7Ideal.nD Cert.Reference7Ideal.τ).loc Cert.Reference7Ideal.main_arg11))
      (m' ((c.tc : Thread Cert.Reference7Ideal.nD Cert.Reference7Ideal.τ).loc Cert.Reference7Ideal.main_arg12))
      (m' ((c.tc : Thread Cert.Reference7Ideal.nD Cert.Reference7Ideal.τ).loc Cert.Reference7Ideal.main_arg13)) at h0
  rw [e0, e1, e2, e3, e4, e5, e6, e7, e8, e9, e11, e12, e13] at h0
  exact ⟨h0, hargs⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite_scores.Gen.facts,
  quiescent_Kernel, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, fun m ρ _ => Cert.Kernel3Ideal.Gen.frame m ρ,
  quiescent_Reference3Ideal, fun m ρ _ => quiescent_Reference3Ideal m ρ trivial,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  quiescent_Kernel7, fun m ρ _ => Cert.Kernel7Ideal.Gen.frame m ρ, quiescent_Reference7Ideal,
  trivial, algebraic_KernelIdeal_ReferenceIdeal, trivial, algebraic_Kernel2Ideal_Reference2Ideal,
  trivial, algebraic_Kernel3Ideal_Reference3Ideal, trivial, algebraic_Kernel4Ideal_Reference4Ideal,
  trivial, algebraic_Kernel5Ideal_Reference5Ideal, trivial, algebraic_Kernel6Ideal_Reference6Ideal,
  trivial, algebraic_Kernel7Ideal_Reference7Ideal⟩

end Cert.Proof

end
